-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_KvCtx (m : (ℓ : Loc Cert.KvCtx.nD Cert.KvCtx.τ Cert.KvCtx.sig) → Buf (Elt Bits) ℓ) : Prop :=
  True

def Pre_KvCtxIdeal (m : (ℓ : Loc Cert.KvCtxIdeal.nD Cert.KvCtxIdeal.τ Cert.KvCtxIdeal.sig) → Buf (Elt Ideal) ℓ) : Prop :=
  True

def Pre_KvCtxRefIdeal (m : (ℓ : Loc Cert.KvCtxRefIdeal.nD Cert.KvCtxRefIdeal.τ Cert.KvCtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def Pre_DftFold (m : (ℓ : Loc Cert.DftFold.nD Cert.DftFold.τ Cert.DftFold.sig) → Buf (Elt Bits) ℓ) : Prop :=
  True

def Pre_DftFoldIdeal (m : (ℓ : Loc Cert.DftFoldIdeal.nD Cert.DftFoldIdeal.τ Cert.DftFoldIdeal.sig) → Buf (Elt Ideal) ℓ) : Prop :=
  True

def Pre_DftFoldRefIdeal (m : (ℓ : Loc Cert.DftFoldRefIdeal.nD Cert.DftFoldRefIdeal.τ Cert.DftFoldRefIdeal.sig) → Buf (Elt Ideal) ℓ) : Prop :=
  True

def Pre_DftSeq (m : (ℓ : Loc Cert.DftSeq.nD Cert.DftSeq.τ Cert.DftSeq.sig) → Buf (Elt Bits) ℓ) : Prop :=
  True

def Pre_DftSeqIdeal (m : (ℓ : Loc Cert.DftSeqIdeal.nD Cert.DftSeqIdeal.τ Cert.DftSeqIdeal.sig) → Buf (Elt Ideal) ℓ) : Prop :=
  True

def Pre_DftSeqRefIdeal (m : (ℓ : Loc Cert.DftSeqRefIdeal.nD Cert.DftSeqRefIdeal.τ Cert.DftSeqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_KvCtx [hKvCtx : Cert.KvCtx.Facts] : Prop :=
  ∀ (m : (ℓ : Loc Cert.KvCtx.nD Cert.KvCtx.τ Cert.KvCtx.sig) → Buf (Elt Bits) ℓ) (g : Dev Cert.KvCtx.nD → PrngReg), Pre_KvCtx m →
    θ_run (Cert.KvCtx.defs (F := Bits)) (onTc (τ := Cert.KvCtx.τ) (Cert.KvCtx.main (F := Bits))) ⟨m, fun _ => 0, g⟩ (fun r => (∀ c : Dev Cert.KvCtx.nD,
      r.2.mem ((c.tc : Thread Cert.KvCtx.nD Cert.KvCtx.τ).loc Cert.KvCtx.main_arg0) = m ((c.tc : Thread Cert.KvCtx.nD Cert.KvCtx.τ).loc Cert.KvCtx.main_arg0)
      ∧ r.2.mem ((c.tc : Thread Cert.KvCtx.nD Cert.KvCtx.τ).loc Cert.KvCtx.main_arg1) = m ((c.tc : Thread Cert.KvCtx.nD Cert.KvCtx.τ).loc Cert.KvCtx.main_arg1)
      ∧ r.2.mem ((c.tc : Thread Cert.KvCtx.nD Cert.KvCtx.τ).loc Cert.KvCtx.main_arg2) = m ((c.tc : Thread Cert.KvCtx.nD Cert.KvCtx.τ).loc Cert.KvCtx.main_arg2)
      ∧ r.2.mem ((c.tc : Thread Cert.KvCtx.nD Cert.KvCtx.τ).loc Cert.KvCtx.main_arg3) = m ((c.tc : Thread Cert.KvCtx.nD Cert.KvCtx.τ).loc Cert.KvCtx.main_arg3))
      ∧ r.2.sem = fun _ => 0)

def quiescent_KvCtxIdeal [hKvCtxIdeal : Cert.KvCtxIdeal.Facts] : Prop :=
  ∀ (m : (ℓ : Loc Cert.KvCtxIdeal.nD Cert.KvCtxIdeal.τ Cert.KvCtxIdeal.sig) → Buf (Elt Ideal) ℓ) (g : Dev Cert.KvCtxIdeal.nD → PrngReg), Pre_KvCtxIdeal m →
    θ_run (Cert.KvCtxIdeal.defs (F := Ideal)) (onTc (τ := Cert.KvCtxIdeal.τ) (Cert.KvCtxIdeal.main (F := Ideal))) ⟨m, fun _ => 0, g⟩ (fun r => (∀ c : Dev Cert.KvCtxIdeal.nD,
      r.2.mem ((c.tc : Thread Cert.KvCtxIdeal.nD Cert.KvCtxIdeal.τ).loc Cert.KvCtxIdeal.main_arg0) = m ((c.tc : Thread Cert.KvCtxIdeal.nD Cert.KvCtxIdeal.τ).loc Cert.KvCtxIdeal.main_arg0)
      ∧ r.2.mem ((c.tc : Thread Cert.KvCtxIdeal.nD Cert.KvCtxIdeal.τ).loc Cert.KvCtxIdeal.main_arg1) = m ((c.tc : Thread Cert.KvCtxIdeal.nD Cert.KvCtxIdeal.τ).loc Cert.KvCtxIdeal.main_arg1)
      ∧ r.2.mem ((c.tc : Thread Cert.KvCtxIdeal.nD Cert.KvCtxIdeal.τ).loc Cert.KvCtxIdeal.main_arg2) = m ((c.tc : Thread Cert.KvCtxIdeal.nD Cert.KvCtxIdeal.τ).loc Cert.KvCtxIdeal.main_arg2)
      ∧ r.2.mem ((c.tc : Thread Cert.KvCtxIdeal.nD Cert.KvCtxIdeal.τ).loc Cert.KvCtxIdeal.main_arg3) = m ((c.tc : Thread Cert.KvCtxIdeal.nD Cert.KvCtxIdeal.τ).loc Cert.KvCtxIdeal.main_arg3))
      ∧ r.2.sem = fun _ => 0)

def quiescent_KvCtxRefIdeal [hKvCtxRefIdeal : Cert.KvCtxRefIdeal.Facts] : Prop :=
  ∀ (m : (ℓ : Loc Cert.KvCtxRefIdeal.nD Cert.KvCtxRefIdeal.τ Cert.KvCtxRefIdeal.sig) → Buf (Elt Ideal) ℓ) (g : Dev Cert.KvCtxRefIdeal.nD → PrngReg), Pre_KvCtxRefIdeal m →
    θ_run (Cert.KvCtxRefIdeal.defs (F := Ideal)) (onTc (τ := Cert.KvCtxRefIdeal.τ) (Cert.KvCtxRefIdeal.main (F := Ideal))) ⟨m, fun _ => 0, g⟩ (fun r => (∀ c : Dev Cert.KvCtxRefIdeal.nD,
      r.2.mem ((c.tc : Thread Cert.KvCtxRefIdeal.nD Cert.KvCtxRefIdeal.τ).loc Cert.KvCtxRefIdeal.main_arg0) = m ((c.tc : Thread Cert.KvCtxRefIdeal.nD Cert.KvCtxRefIdeal.τ).loc Cert.KvCtxRefIdeal.main_arg0)
      ∧ r.2.mem ((c.tc : Thread Cert.KvCtxRefIdeal.nD Cert.KvCtxRefIdeal.τ).loc Cert.KvCtxRefIdeal.main_arg1) = m ((c.tc : Thread Cert.KvCtxRefIdeal.nD Cert.KvCtxRefIdeal.τ).loc Cert.KvCtxRefIdeal.main_arg1)
      ∧ r.2.mem ((c.tc : Thread Cert.KvCtxRefIdeal.nD Cert.KvCtxRefIdeal.τ).loc Cert.KvCtxRefIdeal.main_arg2) = m ((c.tc : Thread Cert.KvCtxRefIdeal.nD Cert.KvCtxRefIdeal.τ).loc Cert.KvCtxRefIdeal.main_arg2)
      ∧ r.2.mem ((c.tc : Thread Cert.KvCtxRefIdeal.nD Cert.KvCtxRefIdeal.τ).loc Cert.KvCtxRefIdeal.main_arg3) = m ((c.tc : Thread Cert.KvCtxRefIdeal.nD Cert.KvCtxRefIdeal.τ).loc Cert.KvCtxRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4)
      ∧ r.2.mem ((c.tc : Thread Cert.FfnCtxRefIdeal.nD Cert.FfnCtxRefIdeal.τ).loc Cert.FfnCtxRefIdeal.main_arg5) = m ((c.tc : Thread Cert.FfnCtxRefIdeal.nD Cert.FfnCtxRefIdeal.τ).loc Cert.FfnCtxRefIdeal.main_arg5))
      ∧ r.2.sem = fun _ => 0)

def quiescent_DftFold [hDftFold : Cert.DftFold.Facts] : Prop :=
  ∀ (m : (ℓ : Loc Cert.DftFold.nD Cert.DftFold.τ Cert.DftFold.sig) → Buf (Elt Bits) ℓ) (g : Dev Cert.DftFold.nD → PrngReg), Pre_DftFold m →
    θ_run (Cert.DftFold.defs (F := Bits)) (onTc (τ := Cert.DftFold.τ) (Cert.DftFold.main (F := Bits))) ⟨m, fun _ => 0, g⟩ (fun r => (∀ c : Dev Cert.DftFold.nD,
      r.2.mem ((c.tc : Thread Cert.DftFold.nD Cert.DftFold.τ).loc Cert.DftFold.main_arg0) = m ((c.tc : Thread Cert.DftFold.nD Cert.DftFold.τ).loc Cert.DftFold.main_arg0)
      ∧ r.2.mem ((c.tc : Thread Cert.DftFold.nD Cert.DftFold.τ).loc Cert.DftFold.main_arg1) = m ((c.tc : Thread Cert.DftFold.nD Cert.DftFold.τ).loc Cert.DftFold.main_arg1)
      ∧ r.2.mem ((c.tc : Thread Cert.DftFold.nD Cert.DftFold.τ).loc Cert.DftFold.main_arg2) = m ((c.tc : Thread Cert.DftFold.nD Cert.DftFold.τ).loc Cert.DftFold.main_arg2)
      ∧ r.2.mem ((c.tc : Thread Cert.DftFold.nD Cert.DftFold.τ).loc Cert.DftFold.main_arg3) = m ((c.tc : Thread Cert.DftFold.nD Cert.DftFold.τ).loc Cert.DftFold.main_arg3))
      ∧ r.2.sem = fun _ => 0)

def quiescent_DftFoldIdeal [hDftFoldIdeal : Cert.DftFoldIdeal.Facts] : Prop :=
  ∀ (m : (ℓ : Loc Cert.DftFoldIdeal.nD Cert.DftFoldIdeal.τ Cert.DftFoldIdeal.sig) → Buf (Elt Ideal) ℓ) (g : Dev Cert.DftFoldIdeal.nD → PrngReg), Pre_DftFoldIdeal m →
    θ_run (Cert.DftFoldIdeal.defs (F := Ideal)) (onTc (τ := Cert.DftFoldIdeal.τ) (Cert.DftFoldIdeal.main (F := Ideal))) ⟨m, fun _ => 0, g⟩ (fun r => (∀ c : Dev Cert.DftFoldIdeal.nD,
      r.2.mem ((c.tc : Thread Cert.DftFoldIdeal.nD Cert.DftFoldIdeal.τ).loc Cert.DftFoldIdeal.main_arg0) = m ((c.tc : Thread Cert.DftFoldIdeal.nD Cert.DftFoldIdeal.τ).loc Cert.DftFoldIdeal.main_arg0)
      ∧ r.2.mem ((c.tc : Thread Cert.DftFoldIdeal.nD Cert.DftFoldIdeal.τ).loc Cert.DftFoldIdeal.main_arg1) = m ((c.tc : Thread Cert.DftFoldIdeal.nD Cert.DftFoldIdeal.τ).loc Cert.DftFoldIdeal.main_arg1)
      ∧ r.2.mem ((c.tc : Thread Cert.DftFoldIdeal.nD Cert.DftFoldIdeal.τ).loc Cert.DftFoldIdeal.main_arg2) = m ((c.tc : Thread Cert.DftFoldIdeal.nD Cert.DftFoldIdeal.τ).loc Cert.DftFoldIdeal.main_arg2)
      ∧ r.2.mem ((c.tc : Thread Cert.DftFoldIdeal.nD Cert.DftFoldIdeal.τ).loc Cert.DftFoldIdeal.main_arg3) = m ((c.tc : Thread Cert.DftFoldIdeal.nD Cert.DftFoldIdeal.τ).loc Cert.DftFoldIdeal.main_arg3))
      ∧ r.2.sem = fun _ => 0)

def quiescent_DftFoldRefIdeal [hDftFoldRefIdeal : Cert.DftFoldRefIdeal.Facts] : Prop :=
  ∀ (m : (ℓ : Loc Cert.DftFoldRefIdeal.nD Cert.DftFoldRefIdeal.τ Cert.DftFoldRefIdeal.sig) → Buf (Elt Ideal) ℓ) (g : Dev Cert.DftFoldRefIdeal.nD → PrngReg), Pre_DftFoldRefIdeal m →
    θ_run (Cert.DftFoldRefIdeal.defs (F := Ideal)) (onTc (τ := Cert.DftFoldRefIdeal.τ) (Cert.DftFoldRefIdeal.main (F := Ideal))) ⟨m, fun _ => 0, g⟩ (fun r => (∀ c : Dev Cert.DftFoldRefIdeal.nD,
      r.2.mem ((c.tc : Thread Cert.DftFoldRefIdeal.nD Cert.DftFoldRefIdeal.τ).loc Cert.DftFoldRefIdeal.main_arg0) = m ((c.tc : Thread Cert.DftFoldRefIdeal.nD Cert.DftFoldRefIdeal.τ).loc Cert.DftFoldRefIdeal.main_arg0)
      ∧ r.2.mem ((c.tc : Thread Cert.DftFoldRefIdeal.nD Cert.DftFoldRefIdeal.τ).loc Cert.DftFoldRefIdeal.main_arg1) = m ((c.tc : Thread Cert.DftFoldRefIdeal.nD Cert.DftFoldRefIdeal.τ).loc Cert.DftFoldRefIdeal.main_arg1)
      ∧ r.2.mem ((c.tc : Thread Cert.DftFoldRefIdeal.nD Cert.DftFoldRefIdeal.τ).loc Cert.DftFoldRefIdeal.main_arg2) = m ((c.tc : Thread Cert.DftFoldRefIdeal.nD Cert.DftFoldRefIdeal.τ).loc Cert.DftFoldRefIdeal.main_arg2)
      ∧ r.2.mem ((c.tc : Thread Cert.DftFoldRefIdeal.nD Cert.DftFoldRefIdeal.τ).loc Cert.DftFoldRefIdeal.main_arg3) = m ((c.tc : Thread Cert.DftFoldRefIdeal.nD Cert.DftFoldRefIdeal.τ).loc Cert.DftFoldRefIdeal.main_arg3))
      ∧ r.2.sem = fun _ => 0)

def quiescent_DftSeq [hDftSeq : Cert.DftSeq.Facts] : Prop :=
  ∀ (m : (ℓ : Loc Cert.DftSeq.nD Cert.DftSeq.τ Cert.DftSeq.sig) → Buf (Elt Bits) ℓ) (g : Dev Cert.DftSeq.nD → PrngReg), Pre_DftSeq m →
    θ_run (Cert.DftSeq.defs (F := Bits)) (onTc (τ := Cert.DftSeq.τ) (Cert.DftSeq.main (F := Bits))) ⟨m, fun _ => 0, g⟩ (fun r => (∀ c : Dev Cert.DftSeq.nD,
      r.2.mem ((c.tc : Thread Cert.DftSeq.nD Cert.DftSeq.τ).loc Cert.DftSeq.main_arg0) = m ((c.tc : Thread Cert.DftSeq.nD Cert.DftSeq.τ).loc Cert.DftSeq.main_arg0)
      ∧ r.2.mem ((c.tc : Thread Cert.DftSeq.nD Cert.DftSeq.τ).loc Cert.DftSeq.main_arg1) = m ((c.tc : Thread Cert.DftSeq.nD Cert.DftSeq.τ).loc Cert.DftSeq.main_arg1)
      ∧ r.2.mem ((c.tc : Thread Cert.DftSeq.nD Cert.DftSeq.τ).loc Cert.DftSeq.main_arg2) = m ((c.tc : Thread Cert.DftSeq.nD Cert.DftSeq.τ).loc Cert.DftSeq.main_arg2)
      ∧ r.2.mem ((c.tc : Thread Cert.DftSeq.nD Cert.DftSeq.τ).loc Cert.DftSeq.main_arg3) = m ((c.tc : Thread Cert.DftSeq.nD Cert.DftSeq.τ).loc Cert.DftSeq.main_arg3)
      ∧ r.2.mem ((c.tc : Thread Cert.DftSeq.nD Cert.DftSeq.τ).loc Cert.DftSeq.main_arg4) = m ((c.tc : Thread Cert.DftSeq.nD Cert.DftSeq.τ).loc Cert.DftSeq.main_arg4)
      ∧ r.2.mem ((c.tc : Thread Cert.DftSeq.nD Cert.DftSeq.τ).loc Cert.DftSeq.main_arg5) = m ((c.tc : Thread Cert.DftSeq.nD Cert.DftSeq.τ).loc Cert.DftSeq.main_arg5)
      ∧ r.2.mem ((c.tc : Thread Cert.DftSeq.nD Cert.DftSeq.τ).loc Cert.DftSeq.main_arg6) = m ((c.tc : Thread Cert.DftSeq.nD Cert.DftSeq.τ).loc Cert.DftSeq.main_arg6)
      ∧ r.2.mem ((c.tc : Thread Cert.DftSeq.nD Cert.DftSeq.τ).loc Cert.DftSeq.main_arg7) = m ((c.tc : Thread Cert.DftSeq.nD Cert.DftSeq.τ).loc Cert.DftSeq.main_arg7)
      ∧ r.2.mem ((c.tc : Thread Cert.DftSeq.nD Cert.DftSeq.τ).loc Cert.DftSeq.main_arg8) = m ((c.tc : Thread Cert.DftSeq.nD Cert.DftSeq.τ).loc Cert.DftSeq.main_arg8)
      ∧ r.2.mem ((c.tc : Thread Cert.DftSeq.nD Cert.DftSeq.τ).loc Cert.DftSeq.main_arg9) = m ((c.tc : Thread Cert.DftSeq.nD Cert.DftSeq.τ).loc Cert.DftSeq.main_arg9))
      ∧ r.2.sem = fun _ => 0)

def quiescent_DftSeqIdeal [hDftSeqIdeal : Cert.DftSeqIdeal.Facts] : Prop :=
  ∀ (m : (ℓ : Loc Cert.DftSeqIdeal.nD Cert.DftSeqIdeal.τ Cert.DftSeqIdeal.sig) → Buf (Elt Ideal) ℓ) (g : Dev Cert.DftSeqIdeal.nD → PrngReg), Pre_DftSeqIdeal m →
    θ_run (Cert.DftSeqIdeal.defs (F := Ideal)) (onTc (τ := Cert.DftSeqIdeal.τ) (Cert.DftSeqIdeal.main (F := Ideal))) ⟨m, fun _ => 0, g⟩ (fun r => (∀ c : Dev Cert.DftSeqIdeal.nD,
      r.2.mem ((c.tc : Thread Cert.DftSeqIdeal.nD Cert.DftSeqIdeal.τ).loc Cert.DftSeqIdeal.main_arg0) = m ((c.tc : Thread Cert.DftSeqIdeal.nD Cert.DftSeqIdeal.τ).loc Cert.DftSeqIdeal.main_arg0)
      ∧ r.2.mem ((c.tc : Thread Cert.DftSeqIdeal.nD Cert.DftSeqIdeal.τ).loc Cert.DftSeqIdeal.main_arg1) = m ((c.tc : Thread Cert.DftSeqIdeal.nD Cert.DftSeqIdeal.τ).loc Cert.DftSeqIdeal.main_arg1)
      ∧ r.2.mem ((c.tc : Thread Cert.DftSeqIdeal.nD Cert.DftSeqIdeal.τ).loc Cert.DftSeqIdeal.main_arg2) = m ((c.tc : Thread Cert.DftSeqIdeal.nD Cert.DftSeqIdeal.τ).loc Cert.DftSeqIdeal.main_arg2)
      ∧ r.2.mem ((c.tc : Thread Cert.DftSeqIdeal.nD Cert.DftSeqIdeal.τ).loc Cert.DftSeqIdeal.main_arg3) = m ((c.tc : Thread Cert.DftSeqIdeal.nD Cert.DftSeqIdeal.τ).loc Cert.DftSeqIdeal.main_arg3)
      ∧ r.2.mem ((c.tc : Thread Cert.DftSeqIdeal.nD Cert.DftSeqIdeal.τ).loc Cert.DftSeqIdeal.main_arg4) = m ((c.tc : Thread Cert.DftSeqIdeal.nD Cert.DftSeqIdeal.τ).loc Cert.DftSeqIdeal.main_arg4)
      ∧ r.2.mem ((c.tc : Thread Cert.DftSeqIdeal.nD Cert.DftSeqIdeal.τ).loc Cert.DftSeqIdeal.main_arg5) = m ((c.tc : Thread Cert.DftSeqIdeal.nD Cert.DftSeqIdeal.τ).loc Cert.DftSeqIdeal.main_arg5)
      ∧ r.2.mem ((c.tc : Thread Cert.DftSeqIdeal.nD Cert.DftSeqIdeal.τ).loc Cert.DftSeqIdeal.main_arg6) = m ((c.tc : Thread Cert.DftSeqIdeal.nD Cert.DftSeqIdeal.τ).loc Cert.DftSeqIdeal.main_arg6)
      ∧ r.2.mem ((c.tc : Thread Cert.DftSeqIdeal.nD Cert.DftSeqIdeal.τ).loc Cert.DftSeqIdeal.main_arg7) = m ((c.tc : Thread Cert.DftSeqIdeal.nD Cert.DftSeqIdeal.τ).loc Cert.DftSeqIdeal.main_arg7)
      ∧ r.2.mem ((c.tc : Thread Cert.DftSeqIdeal.nD Cert.DftSeqIdeal.τ).loc Cert.DftSeqIdeal.main_arg8) = m ((c.tc : Thread Cert.DftSeqIdeal.nD Cert.DftSeqIdeal.τ).loc Cert.DftSeqIdeal.main_arg8)
      ∧ r.2.mem ((c.tc : Thread Cert.DftSeqIdeal.nD Cert.DftSeqIdeal.τ).loc Cert.DftSeqIdeal.main_arg9) = m ((c.tc : Thread Cert.DftSeqIdeal.nD Cert.DftSeqIdeal.τ).loc Cert.DftSeqIdeal.main_arg9))
      ∧ r.2.sem = fun _ => 0)

def quiescent_DftSeqRefIdeal [hDftSeqRefIdeal : Cert.DftSeqRefIdeal.Facts] : Prop :=
  ∀ (m : (ℓ : Loc Cert.DftSeqRefIdeal.nD Cert.DftSeqRefIdeal.τ Cert.DftSeqRefIdeal.sig) → Buf (Elt Ideal) ℓ) (g : Dev Cert.DftSeqRefIdeal.nD → PrngReg), Pre_DftSeqRefIdeal m →
    θ_run (Cert.DftSeqRefIdeal.defs (F := Ideal)) (onTc (τ := Cert.DftSeqRefIdeal.τ) (Cert.DftSeqRefIdeal.main (F := Ideal))) ⟨m, fun _ => 0, g⟩ (fun r => (∀ c : Dev Cert.DftSeqRefIdeal.nD,
      r.2.mem ((c.tc : Thread Cert.DftSeqRefIdeal.nD Cert.DftSeqRefIdeal.τ).loc Cert.DftSeqRefIdeal.main_arg0) = m ((c.tc : Thread Cert.DftSeqRefIdeal.nD Cert.DftSeqRefIdeal.τ).loc Cert.DftSeqRefIdeal.main_arg0)
      ∧ r.2.mem ((c.tc : Thread Cert.DftSeqRefIdeal.nD Cert.DftSeqRefIdeal.τ).loc Cert.DftSeqRefIdeal.main_arg1) = m ((c.tc : Thread Cert.DftSeqRefIdeal.nD Cert.DftSeqRefIdeal.τ).loc Cert.DftSeqRefIdeal.main_arg1)
      ∧ r.2.mem ((c.tc : Thread Cert.DftSeqRefIdeal.nD Cert.DftSeqRefIdeal.τ).loc Cert.DftSeqRefIdeal.main_arg2) = m ((c.tc : Thread Cert.DftSeqRefIdeal.nD Cert.DftSeqRefIdeal.τ).loc Cert.DftSeqRefIdeal.main_arg2)
      ∧ r.2.mem ((c.tc : Thread Cert.DftSeqRefIdeal.nD Cert.DftSeqRefIdeal.τ).loc Cert.DftSeqRefIdeal.main_arg3) = m ((c.tc : Thread Cert.DftSeqRefIdeal.nD Cert.DftSeqRefIdeal.τ).loc Cert.DftSeqRefIdeal.main_arg3)
      ∧ r.2.mem ((c.tc : Thread Cert.DftSeqRefIdeal.nD Cert.DftSeqRefIdeal.τ).loc Cert.DftSeqRefIdeal.main_arg4) = m ((c.tc : Thread Cert.DftSeqRefIdeal.nD Cert.DftSeqRefIdeal.τ).loc Cert.DftSeqRefIdeal.main_arg4)
      ∧ r.2.mem ((c.tc : Thread Cert.DftSeqRefIdeal.nD Cert.DftSeqRefIdeal.τ).loc Cert.DftSeqRefIdeal.main_arg5) = m ((c.tc : Thread Cert.DftSeqRefIdeal.nD Cert.DftSeqRefIdeal.τ).loc Cert.DftSeqRefIdeal.main_arg5)
      ∧ r.2.mem ((c.tc : Thread Cert.DftSeqRefIdeal.nD Cert.DftSeqRefIdeal.τ).loc Cert.DftSeqRefIdeal.main_arg6) = m ((c.tc : Thread Cert.DftSeqRefIdeal.nD Cert.DftSeqRefIdeal.τ).loc Cert.DftSeqRefIdeal.main_arg6)
      ∧ r.2.mem ((c.tc : Thread Cert.DftSeqRefIdeal.nD Cert.DftSeqRefIdeal.τ).loc Cert.DftSeqRefIdeal.main_arg7) = m ((c.tc : Thread Cert.DftSeqRefIdeal.nD Cert.DftSeqRefIdeal.τ).loc Cert.DftSeqRefIdeal.main_arg7)
      ∧ r.2.mem ((c.tc : Thread Cert.DftSeqRefIdeal.nD Cert.DftSeqRefIdeal.τ).loc Cert.DftSeqRefIdeal.main_arg8) = m ((c.tc : Thread Cert.DftSeqRefIdeal.nD Cert.DftSeqRefIdeal.τ).loc Cert.DftSeqRefIdeal.main_arg8)
      ∧ r.2.mem ((c.tc : Thread Cert.DftSeqRefIdeal.nD Cert.DftSeqRefIdeal.τ).loc Cert.DftSeqRefIdeal.main_arg9) = m ((c.tc : Thread Cert.DftSeqRefIdeal.nD Cert.DftSeqRefIdeal.τ).loc Cert.DftSeqRefIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v21_0)) (v1 : (c : Dev Cert.QkvIdeal.nD) → Buf (Elt Ideal) ((c.tc : Thread Cert.QkvIdeal.nD Cert.QkvIdeal.τ).loc Cert.QkvIdeal.main_v21_1)) (v2 : (c : Dev Cert.QkvIdeal.nD) → Buf (Elt Ideal) ((c.tc : Thread Cert.QkvIdeal.nD Cert.QkvIdeal.τ).loc Cert.QkvIdeal.main_v21_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v21_0) = v0 c
          ∧ r.2.mem ((c.tc : Thread Cert.QkvIdeal.nD Cert.QkvIdeal.τ).loc Cert.QkvIdeal.main_v21_1) = v1 c
          ∧ r.2.mem ((c.tc : Thread Cert.QkvIdeal.nD Cert.QkvIdeal.τ).loc Cert.QkvIdeal.main_v21_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v73) = v0 c
          ∧ r.2.mem ((c.tc : Thread Cert.QkvRefIdeal.nD Cert.QkvRefIdeal.τ).loc Cert.QkvRefIdeal.main_v74) = v1 c
          ∧ r.2.mem ((c.tc : Thread Cert.QkvRefIdeal.nD Cert.QkvRefIdeal.τ).loc Cert.QkvRefIdeal.main_v75) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_KvCtx_KvCtxIdeal : Prop :=
  True

def algebraic_KvCtxIdeal_KvCtxRefIdeal [hKvCtxIdeal : Cert.KvCtxIdeal.Facts] [hKvCtxRefIdeal : Cert.KvCtxRefIdeal.Facts] : Prop :=
  ∀ (m : (ℓ : Loc Cert.KvCtxIdeal.nD Cert.KvCtxIdeal.τ Cert.KvCtxIdeal.sig) → Buf (Elt Ideal) ℓ) (g : Dev Cert.KvCtxIdeal.nD → PrngReg)
    (m' : (ℓ : Loc Cert.KvCtxRefIdeal.nD Cert.KvCtxRefIdeal.τ Cert.KvCtxRefIdeal.sig) → Buf (Elt Ideal) ℓ) (g' : Dev Cert.KvCtxRefIdeal.nD → PrngReg), Pre_KvCtxIdeal m →
    (∀ c : Dev Cert.KvCtxIdeal.nD,
      m' ((c.tc : Thread Cert.KvCtxRefIdeal.nD Cert.KvCtxRefIdeal.τ).loc Cert.KvCtxRefIdeal.main_arg0) = m ((c.tc : Thread Cert.KvCtxIdeal.nD Cert.KvCtxIdeal.τ).loc Cert.KvCtxIdeal.main_arg0)
      ∧ m' ((c.tc : Thread Cert.KvCtxRefIdeal.nD Cert.KvCtxRefIdeal.τ).loc Cert.KvCtxRefIdeal.main_arg1) = m ((c.tc : Thread Cert.KvCtxIdeal.nD Cert.KvCtxIdeal.τ).loc Cert.KvCtxIdeal.main_arg1)
      ∧ m' ((c.tc : Thread Cert.KvCtxRefIdeal.nD Cert.KvCtxRefIdeal.τ).loc Cert.KvCtxRefIdeal.main_arg2) = m ((c.tc : Thread Cert.KvCtxIdeal.nD Cert.KvCtxIdeal.τ).loc Cert.KvCtxIdeal.main_arg2)
      ∧ m' ((c.tc : Thread Cert.KvCtxRefIdeal.nD Cert.KvCtxRefIdeal.τ).loc Cert.KvCtxRefIdeal.main_arg3) = m ((c.tc : Thread Cert.KvCtxIdeal.nD Cert.KvCtxIdeal.τ).loc Cert.KvCtxIdeal.main_arg3)) →
    ∃ (v0 : (c : Dev Cert.KvCtxIdeal.nD) → Buf (Elt Ideal) ((c.tc : Thread Cert.KvCtxIdeal.nD Cert.KvCtxIdeal.τ).loc Cert.KvCtxIdeal.main_v4_0)) (v1 : (c : Dev Cert.KvCtxIdeal.nD) → Buf (Elt Ideal) ((c.tc : Thread Cert.KvCtxIdeal.nD Cert.KvCtxIdeal.τ).loc Cert.KvCtxIdeal.main_v4_1)),
      θ_run (Cert.KvCtxIdeal.defs (F := Ideal)) (onTc (τ := Cert.KvCtxIdeal.τ) (Cert.KvCtxIdeal.main (F := Ideal))) ⟨m, fun _ => 0, g⟩ (fun r => ∀ c : Dev Cert.KvCtxIdeal.nD,
          r.2.mem ((c.tc : Thread Cert.KvCtxIdeal.nD Cert.KvCtxIdeal.τ).loc Cert.KvCtxIdeal.main_v4_0) = v0 c
          ∧ r.2.mem ((c.tc : Thread Cert.KvCtxIdeal.nD Cert.KvCtxIdeal.τ).loc Cert.KvCtxIdeal.main_v4_1) = v1 c
          ∧ r.2.mem ((c.tc : Thread Cert.KvCtxIdeal.nD Cert.KvCtxIdeal.τ).loc Cert.KvCtxIdeal.main_arg0) = m ((c.tc : Thread Cert.KvCtxIdeal.nD Cert.KvCtxIdeal.τ).loc Cert.KvCtxIdeal.main_arg0)
          ∧ r.2.mem ((c.tc : Thread Cert.KvCtxIdeal.nD Cert.KvCtxIdeal.τ).loc Cert.KvCtxIdeal.main_arg1) = m ((c.tc : Thread Cert.KvCtxIdeal.nD Cert.KvCtxIdeal.τ).loc Cert.KvCtxIdeal.main_arg1)
          ∧ r.2.mem ((c.tc : Thread Cert.KvCtxIdeal.nD Cert.KvCtxIdeal.τ).loc Cert.KvCtxIdeal.main_arg2) = m ((c.tc : Thread Cert.KvCtxIdeal.nD Cert.KvCtxIdeal.τ).loc Cert.KvCtxIdeal.main_arg2)
          ∧ r.2.mem ((c.tc : Thread Cert.KvCtxIdeal.nD Cert.KvCtxIdeal.τ).loc Cert.KvCtxIdeal.main_arg3) = m ((c.tc : Thread Cert.KvCtxIdeal.nD Cert.KvCtxIdeal.τ).loc Cert.KvCtxIdeal.main_arg3))
      ∧ θ_run (Cert.KvCtxRefIdeal.defs (F := Ideal)) (onTc (τ := Cert.KvCtxRefIdeal.τ) (Cert.KvCtxRefIdeal.main (F := Ideal))) ⟨m', fun _ => 0, g'⟩ (fun r => ∀ c : Dev Cert.KvCtxRefIdeal.nD,
          r.2.mem ((c.tc : Thread Cert.KvCtxRefIdeal.nD Cert.KvCtxRefIdeal.τ).loc Cert.KvCtxRefIdeal.main_v28) = v0 c
          ∧ r.2.mem ((c.tc : Thread Cert.KvCtxRefIdeal.nD Cert.KvCtxRefIdeal.τ).loc Cert.KvCtxRefIdeal.main_v30) = v1 c
          ∧ r.2.mem ((c.tc : Thread Cert.KvCtxRefIdeal.nD Cert.KvCtxRefIdeal.τ).loc Cert.KvCtxRefIdeal.main_arg0) = m' ((c.tc : Thread Cert.KvCtxRefIdeal.nD Cert.KvCtxRefIdeal.τ).loc Cert.KvCtxRefIdeal.main_arg0)
          ∧ r.2.mem ((c.tc : Thread Cert.KvCtxRefIdeal.nD Cert.KvCtxRefIdeal.τ).loc Cert.KvCtxRefIdeal.main_arg1) = m' ((c.tc : Thread Cert.KvCtxRefIdeal.nD Cert.KvCtxRefIdeal.τ).loc Cert.KvCtxRefIdeal.main_arg1)
          ∧ r.2.mem ((c.tc : Thread Cert.KvCtxRefIdeal.nD Cert.KvCtxRefIdeal.τ).loc Cert.KvCtxRefIdeal.main_arg2) = m' ((c.tc : Thread Cert.KvCtxRefIdeal.nD Cert.KvCtxRefIdeal.τ).loc Cert.KvCtxRefIdeal.main_arg2)
          ∧ r.2.mem ((c.tc : Thread Cert.KvCtxRefIdeal.nD Cert.KvCtxRefIdeal.τ).loc Cert.KvCtxRefIdeal.main_arg3) = m' ((c.tc : Thread Cert.KvCtxRefIdeal.nD Cert.KvCtxRefIdeal.τ).loc Cert.KvCtxRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v12)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v12) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v59) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)
      ∧ m' ((c.tc : Thread Cert.FfnCtxRefIdeal.nD Cert.FfnCtxRefIdeal.τ).loc Cert.FfnCtxRefIdeal.main_arg5) = m ((c.tc : Thread Cert.FfnCtxIdeal.nD Cert.FfnCtxIdeal.τ).loc Cert.FfnCtxIdeal.main_arg5)) →
    ∃ (v0 : (c : Dev Cert.FfnCtxIdeal.nD) → Buf (Elt Ideal) ((c.tc : Thread Cert.FfnCtxIdeal.nD Cert.FfnCtxIdeal.τ).loc Cert.FfnCtxIdeal.main_v12)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v12) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v59) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4)
          ∧ r.2.mem ((c.tc : Thread Cert.FfnCtxRefIdeal.nD Cert.FfnCtxRefIdeal.τ).loc Cert.FfnCtxRefIdeal.main_arg5) = m' ((c.tc : Thread Cert.FfnCtxRefIdeal.nD Cert.FfnCtxRefIdeal.τ).loc Cert.FfnCtxRefIdeal.main_arg5))

def preserves_DftFold_DftFoldIdeal : Prop :=
  True

def algebraic_DftFoldIdeal_DftFoldRefIdeal [hDftFoldIdeal : Cert.DftFoldIdeal.Facts] [hDftFoldRefIdeal : Cert.DftFoldRefIdeal.Facts] : Prop :=
  ∀ (m : (ℓ : Loc Cert.DftFoldIdeal.nD Cert.DftFoldIdeal.τ Cert.DftFoldIdeal.sig) → Buf (Elt Ideal) ℓ) (g : Dev Cert.DftFoldIdeal.nD → PrngReg)
    (m' : (ℓ : Loc Cert.DftFoldRefIdeal.nD Cert.DftFoldRefIdeal.τ Cert.DftFoldRefIdeal.sig) → Buf (Elt Ideal) ℓ) (g' : Dev Cert.DftFoldRefIdeal.nD → PrngReg), Pre_DftFoldIdeal m →
    (∀ c : Dev Cert.DftFoldIdeal.nD,
      m' ((c.tc : Thread Cert.DftFoldRefIdeal.nD Cert.DftFoldRefIdeal.τ).loc Cert.DftFoldRefIdeal.main_arg0) = m ((c.tc : Thread Cert.DftFoldIdeal.nD Cert.DftFoldIdeal.τ).loc Cert.DftFoldIdeal.main_arg0)
      ∧ m' ((c.tc : Thread Cert.DftFoldRefIdeal.nD Cert.DftFoldRefIdeal.τ).loc Cert.DftFoldRefIdeal.main_arg1) = m ((c.tc : Thread Cert.DftFoldIdeal.nD Cert.DftFoldIdeal.τ).loc Cert.DftFoldIdeal.main_arg1)
      ∧ m' ((c.tc : Thread Cert.DftFoldRefIdeal.nD Cert.DftFoldRefIdeal.τ).loc Cert.DftFoldRefIdeal.main_arg2) = m ((c.tc : Thread Cert.DftFoldIdeal.nD Cert.DftFoldIdeal.τ).loc Cert.DftFoldIdeal.main_arg2)
      ∧ m' ((c.tc : Thread Cert.DftFoldRefIdeal.nD Cert.DftFoldRefIdeal.τ).loc Cert.DftFoldRefIdeal.main_arg3) = m ((c.tc : Thread Cert.DftFoldIdeal.nD Cert.DftFoldIdeal.τ).loc Cert.DftFoldIdeal.main_arg3)) →
    ∃ (v0 : (c : Dev Cert.DftFoldIdeal.nD) → Buf (Elt Ideal) ((c.tc : Thread Cert.DftFoldIdeal.nD Cert.DftFoldIdeal.τ).loc Cert.DftFoldIdeal.main_v13_0)) (v1 : (c : Dev Cert.DftFoldIdeal.nD) → Buf (Elt Ideal) ((c.tc : Thread Cert.DftFoldIdeal.nD Cert.DftFoldIdeal.τ).loc Cert.DftFoldIdeal.main_v13_1)),
      θ_run (Cert.DftFoldIdeal.defs (F := Ideal)) (onTc (τ := Cert.DftFoldIdeal.τ) (Cert.DftFoldIdeal.main (F := Ideal))) ⟨m, fun _ => 0, g⟩ (fun r => ∀ c : Dev Cert.DftFoldIdeal.nD,
          r.2.mem ((c.tc : Thread Cert.DftFoldIdeal.nD Cert.DftFoldIdeal.τ).loc Cert.DftFoldIdeal.main_v13_0) = v0 c
          ∧ r.2.mem ((c.tc : Thread Cert.DftFoldIdeal.nD Cert.DftFoldIdeal.τ).loc Cert.DftFoldIdeal.main_v13_1) = v1 c
          ∧ r.2.mem ((c.tc : Thread Cert.DftFoldIdeal.nD Cert.DftFoldIdeal.τ).loc Cert.DftFoldIdeal.main_arg0) = m ((c.tc : Thread Cert.DftFoldIdeal.nD Cert.DftFoldIdeal.τ).loc Cert.DftFoldIdeal.main_arg0)
          ∧ r.2.mem ((c.tc : Thread Cert.DftFoldIdeal.nD Cert.DftFoldIdeal.τ).loc Cert.DftFoldIdeal.main_arg1) = m ((c.tc : Thread Cert.DftFoldIdeal.nD Cert.DftFoldIdeal.τ).loc Cert.DftFoldIdeal.main_arg1)
          ∧ r.2.mem ((c.tc : Thread Cert.DftFoldIdeal.nD Cert.DftFoldIdeal.τ).loc Cert.DftFoldIdeal.main_arg2) = m ((c.tc : Thread Cert.DftFoldIdeal.nD Cert.DftFoldIdeal.τ).loc Cert.DftFoldIdeal.main_arg2)
          ∧ r.2.mem ((c.tc : Thread Cert.DftFoldIdeal.nD Cert.DftFoldIdeal.τ).loc Cert.DftFoldIdeal.main_arg3) = m ((c.tc : Thread Cert.DftFoldIdeal.nD Cert.DftFoldIdeal.τ).loc Cert.DftFoldIdeal.main_arg3))
      ∧ θ_run (Cert.DftFoldRefIdeal.defs (F := Ideal)) (onTc (τ := Cert.DftFoldRefIdeal.τ) (Cert.DftFoldRefIdeal.main (F := Ideal))) ⟨m', fun _ => 0, g'⟩ (fun r => ∀ c : Dev Cert.DftFoldRefIdeal.nD,
          r.2.mem ((c.tc : Thread Cert.DftFoldRefIdeal.nD Cert.DftFoldRefIdeal.τ).loc Cert.DftFoldRefIdeal.main_v29) = v0 c
          ∧ r.2.mem ((c.tc : Thread Cert.DftFoldRefIdeal.nD Cert.DftFoldRefIdeal.τ).loc Cert.DftFoldRefIdeal.main_v33) = v1 c
          ∧ r.2.mem ((c.tc : Thread Cert.DftFoldRefIdeal.nD Cert.DftFoldRefIdeal.τ).loc Cert.DftFoldRefIdeal.main_arg0) = m' ((c.tc : Thread Cert.DftFoldRefIdeal.nD Cert.DftFoldRefIdeal.τ).loc Cert.DftFoldRefIdeal.main_arg0)
          ∧ r.2.mem ((c.tc : Thread Cert.DftFoldRefIdeal.nD Cert.DftFoldRefIdeal.τ).loc Cert.DftFoldRefIdeal.main_arg1) = m' ((c.tc : Thread Cert.DftFoldRefIdeal.nD Cert.DftFoldRefIdeal.τ).loc Cert.DftFoldRefIdeal.main_arg1)
          ∧ r.2.mem ((c.tc : Thread Cert.DftFoldRefIdeal.nD Cert.DftFoldRefIdeal.τ).loc Cert.DftFoldRefIdeal.main_arg2) = m' ((c.tc : Thread Cert.DftFoldRefIdeal.nD Cert.DftFoldRefIdeal.τ).loc Cert.DftFoldRefIdeal.main_arg2)
          ∧ r.2.mem ((c.tc : Thread Cert.DftFoldRefIdeal.nD Cert.DftFoldRefIdeal.τ).loc Cert.DftFoldRefIdeal.main_arg3) = m' ((c.tc : Thread Cert.DftFoldRefIdeal.nD Cert.DftFoldRefIdeal.τ).loc Cert.DftFoldRefIdeal.main_arg3))

def preserves_DftSeq_DftSeqIdeal : Prop :=
  True

def algebraic_DftSeqIdeal_DftSeqRefIdeal [hDftSeqIdeal : Cert.DftSeqIdeal.Facts] [hDftSeqRefIdeal : Cert.DftSeqRefIdeal.Facts] : Prop :=
  ∀ (m : (ℓ : Loc Cert.DftSeqIdeal.nD Cert.DftSeqIdeal.τ Cert.DftSeqIdeal.sig) → Buf (Elt Ideal) ℓ) (g : Dev Cert.DftSeqIdeal.nD → PrngReg)
    (m' : (ℓ : Loc Cert.DftSeqRefIdeal.nD Cert.DftSeqRefIdeal.τ Cert.DftSeqRefIdeal.sig) → Buf (Elt Ideal) ℓ) (g' : Dev Cert.DftSeqRefIdeal.nD → PrngReg), Pre_DftSeqIdeal m →
    (∀ c : Dev Cert.DftSeqIdeal.nD,
      m' ((c.tc : Thread Cert.DftSeqRefIdeal.nD Cert.DftSeqRefIdeal.τ).loc Cert.DftSeqRefIdeal.main_arg0) = m ((c.tc : Thread Cert.DftSeqIdeal.nD Cert.DftSeqIdeal.τ).loc Cert.DftSeqIdeal.main_arg0)
      ∧ m' ((c.tc : Thread Cert.DftSeqRefIdeal.nD Cert.DftSeqRefIdeal.τ).loc Cert.DftSeqRefIdeal.main_arg1) = m ((c.tc : Thread Cert.DftSeqIdeal.nD Cert.DftSeqIdeal.τ).loc Cert.DftSeqIdeal.main_arg1)
      ∧ m' ((c.tc : Thread Cert.DftSeqRefIdeal.nD Cert.DftSeqRefIdeal.τ).loc Cert.DftSeqRefIdeal.main_arg2) = m ((c.tc : Thread Cert.DftSeqIdeal.nD Cert.DftSeqIdeal.τ).loc Cert.DftSeqIdeal.main_arg2)
      ∧ m' ((c.tc : Thread Cert.DftSeqRefIdeal.nD Cert.DftSeqRefIdeal.τ).loc Cert.DftSeqRefIdeal.main_arg3) = m ((c.tc : Thread Cert.DftSeqIdeal.nD Cert.DftSeqIdeal.τ).loc Cert.DftSeqIdeal.main_arg3)
      ∧ m' ((c.tc : Thread Cert.DftSeqRefIdeal.nD Cert.DftSeqRefIdeal.τ).loc Cert.DftSeqRefIdeal.main_arg4) = m ((c.tc : Thread Cert.DftSeqIdeal.nD Cert.DftSeqIdeal.τ).loc Cert.DftSeqIdeal.main_arg4)
      ∧ m' ((c.tc : Thread Cert.DftSeqRefIdeal.nD Cert.DftSeqRefIdeal.τ).loc Cert.DftSeqRefIdeal.main_arg5) = m ((c.tc : Thread Cert.DftSeqIdeal.nD Cert.DftSeqIdeal.τ).loc Cert.DftSeqIdeal.main_arg5)
      ∧ m' ((c.tc : Thread Cert.DftSeqRefIdeal.nD Cert.DftSeqRefIdeal.τ).loc Cert.DftSeqRefIdeal.main_arg6) = m ((c.tc : Thread Cert.DftSeqIdeal.nD Cert.DftSeqIdeal.τ).loc Cert.DftSeqIdeal.main_arg6)
      ∧ m' ((c.tc : Thread Cert.DftSeqRefIdeal.nD Cert.DftSeqRefIdeal.τ).loc Cert.DftSeqRefIdeal.main_arg7) = m ((c.tc : Thread Cert.DftSeqIdeal.nD Cert.DftSeqIdeal.τ).loc Cert.DftSeqIdeal.main_arg7)
      ∧ m' ((c.tc : Thread Cert.DftSeqRefIdeal.nD Cert.DftSeqRefIdeal.τ).loc Cert.DftSeqRefIdeal.main_arg8) = m ((c.tc : Thread Cert.DftSeqIdeal.nD Cert.DftSeqIdeal.τ).loc Cert.DftSeqIdeal.main_arg8)
      ∧ m' ((c.tc : Thread Cert.DftSeqRefIdeal.nD Cert.DftSeqRefIdeal.τ).loc Cert.DftSeqRefIdeal.main_arg9) = m ((c.tc : Thread Cert.DftSeqIdeal.nD Cert.DftSeqIdeal.τ).loc Cert.DftSeqIdeal.main_arg9)) →
    ∃ (v0 : (c : Dev Cert.DftSeqIdeal.nD) → Buf (Elt Ideal) ((c.tc : Thread Cert.DftSeqIdeal.nD Cert.DftSeqIdeal.τ).loc Cert.DftSeqIdeal.main_v26)),
      θ_run (Cert.DftSeqIdeal.defs (F := Ideal)) (onTc (τ := Cert.DftSeqIdeal.τ) (Cert.DftSeqIdeal.main (F := Ideal))) ⟨m, fun _ => 0, g⟩ (fun r => ∀ c : Dev Cert.DftSeqIdeal.nD,
          r.2.mem ((c.tc : Thread Cert.DftSeqIdeal.nD Cert.DftSeqIdeal.τ).loc Cert.DftSeqIdeal.main_v26) = v0 c
          ∧ r.2.mem ((c.tc : Thread Cert.DftSeqIdeal.nD Cert.DftSeqIdeal.τ).loc Cert.DftSeqIdeal.main_arg0) = m ((c.tc : Thread Cert.DftSeqIdeal.nD Cert.DftSeqIdeal.τ).loc Cert.DftSeqIdeal.main_arg0)
          ∧ r.2.mem ((c.tc : Thread Cert.DftSeqIdeal.nD Cert.DftSeqIdeal.τ).loc Cert.DftSeqIdeal.main_arg1) = m ((c.tc : Thread Cert.DftSeqIdeal.nD Cert.DftSeqIdeal.τ).loc Cert.DftSeqIdeal.main_arg1)
          ∧ r.2.mem ((c.tc : Thread Cert.DftSeqIdeal.nD Cert.DftSeqIdeal.τ).loc Cert.DftSeqIdeal.main_arg2) = m ((c.tc : Thread Cert.DftSeqIdeal.nD Cert.DftSeqIdeal.τ).loc Cert.DftSeqIdeal.main_arg2)
          ∧ r.2.mem ((c.tc : Thread Cert.DftSeqIdeal.nD Cert.DftSeqIdeal.τ).loc Cert.DftSeqIdeal.main_arg3) = m ((c.tc : Thread Cert.DftSeqIdeal.nD Cert.DftSeqIdeal.τ).loc Cert.DftSeqIdeal.main_arg3)
          ∧ r.2.mem ((c.tc : Thread Cert.DftSeqIdeal.nD Cert.DftSeqIdeal.τ).loc Cert.DftSeqIdeal.main_arg4) = m ((c.tc : Thread Cert.DftSeqIdeal.nD Cert.DftSeqIdeal.τ).loc Cert.DftSeqIdeal.main_arg4)
          ∧ r.2.mem ((c.tc : Thread Cert.DftSeqIdeal.nD Cert.DftSeqIdeal.τ).loc Cert.DftSeqIdeal.main_arg5) = m ((c.tc : Thread Cert.DftSeqIdeal.nD Cert.DftSeqIdeal.τ).loc Cert.DftSeqIdeal.main_arg5)
          ∧ r.2.mem ((c.tc : Thread Cert.DftSeqIdeal.nD Cert.DftSeqIdeal.τ).loc Cert.DftSeqIdeal.main_arg6) = m ((c.tc : Thread Cert.DftSeqIdeal.nD Cert.DftSeqIdeal.τ).loc Cert.DftSeqIdeal.main_arg6)
          ∧ r.2.mem ((c.tc : Thread Cert.DftSeqIdeal.nD Cert.DftSeqIdeal.τ).loc Cert.DftSeqIdeal.main_arg7) = m ((c.tc : Thread Cert.DftSeqIdeal.nD Cert.DftSeqIdeal.τ).loc Cert.DftSeqIdeal.main_arg7)
          ∧ r.2.mem ((c.tc : Thread Cert.DftSeqIdeal.nD Cert.DftSeqIdeal.τ).loc Cert.DftSeqIdeal.main_arg8) = m ((c.tc : Thread Cert.DftSeqIdeal.nD Cert.DftSeqIdeal.τ).loc Cert.DftSeqIdeal.main_arg8)
          ∧ r.2.mem ((c.tc : Thread Cert.DftSeqIdeal.nD Cert.DftSeqIdeal.τ).loc Cert.DftSeqIdeal.main_arg9) = m ((c.tc : Thread Cert.DftSeqIdeal.nD Cert.DftSeqIdeal.τ).loc Cert.DftSeqIdeal.main_arg9))
      ∧ θ_run (Cert.DftSeqRefIdeal.defs (F := Ideal)) (onTc (τ := Cert.DftSeqRefIdeal.τ) (Cert.DftSeqRefIdeal.main (F := Ideal))) ⟨m', fun _ => 0, g'⟩ (fun r => ∀ c : Dev Cert.DftSeqRefIdeal.nD,
          r.2.mem ((c.tc : Thread Cert.DftSeqRefIdeal.nD Cert.DftSeqRefIdeal.τ).loc Cert.DftSeqRefIdeal.main_v78) = v0 c
          ∧ r.2.mem ((c.tc : Thread Cert.DftSeqRefIdeal.nD Cert.DftSeqRefIdeal.τ).loc Cert.DftSeqRefIdeal.main_arg0) = m' ((c.tc : Thread Cert.DftSeqRefIdeal.nD Cert.DftSeqRefIdeal.τ).loc Cert.DftSeqRefIdeal.main_arg0)
          ∧ r.2.mem ((c.tc : Thread Cert.DftSeqRefIdeal.nD Cert.DftSeqRefIdeal.τ).loc Cert.DftSeqRefIdeal.main_arg1) = m' ((c.tc : Thread Cert.DftSeqRefIdeal.nD Cert.DftSeqRefIdeal.τ).loc Cert.DftSeqRefIdeal.main_arg1)
          ∧ r.2.mem ((c.tc : Thread Cert.DftSeqRefIdeal.nD Cert.DftSeqRefIdeal.τ).loc Cert.DftSeqRefIdeal.main_arg2) = m' ((c.tc : Thread Cert.DftSeqRefIdeal.nD Cert.DftSeqRefIdeal.τ).loc Cert.DftSeqRefIdeal.main_arg2)
          ∧ r.2.mem ((c.tc : Thread Cert.DftSeqRefIdeal.nD Cert.DftSeqRefIdeal.τ).loc Cert.DftSeqRefIdeal.main_arg3) = m' ((c.tc : Thread Cert.DftSeqRefIdeal.nD Cert.DftSeqRefIdeal.τ).loc Cert.DftSeqRefIdeal.main_arg3)
          ∧ r.2.mem ((c.tc : Thread Cert.DftSeqRefIdeal.nD Cert.DftSeqRefIdeal.τ).loc Cert.DftSeqRefIdeal.main_arg4) = m' ((c.tc : Thread Cert.DftSeqRefIdeal.nD Cert.DftSeqRefIdeal.τ).loc Cert.DftSeqRefIdeal.main_arg4)
          ∧ r.2.mem ((c.tc : Thread Cert.DftSeqRefIdeal.nD Cert.DftSeqRefIdeal.τ).loc Cert.DftSeqRefIdeal.main_arg5) = m' ((c.tc : Thread Cert.DftSeqRefIdeal.nD Cert.DftSeqRefIdeal.τ).loc Cert.DftSeqRefIdeal.main_arg5)
          ∧ r.2.mem ((c.tc : Thread Cert.DftSeqRefIdeal.nD Cert.DftSeqRefIdeal.τ).loc Cert.DftSeqRefIdeal.main_arg6) = m' ((c.tc : Thread Cert.DftSeqRefIdeal.nD Cert.DftSeqRefIdeal.τ).loc Cert.DftSeqRefIdeal.main_arg6)
          ∧ r.2.mem ((c.tc : Thread Cert.DftSeqRefIdeal.nD Cert.DftSeqRefIdeal.τ).loc Cert.DftSeqRefIdeal.main_arg7) = m' ((c.tc : Thread Cert.DftSeqRefIdeal.nD Cert.DftSeqRefIdeal.τ).loc Cert.DftSeqRefIdeal.main_arg7)
          ∧ r.2.mem ((c.tc : Thread Cert.DftSeqRefIdeal.nD Cert.DftSeqRefIdeal.τ).loc Cert.DftSeqRefIdeal.main_arg8) = m' ((c.tc : Thread Cert.DftSeqRefIdeal.nD Cert.DftSeqRefIdeal.τ).loc Cert.DftSeqRefIdeal.main_arg8)
          ∧ r.2.mem ((c.tc : Thread Cert.DftSeqRefIdeal.nD Cert.DftSeqRefIdeal.τ).loc Cert.DftSeqRefIdeal.main_arg9) = m' ((c.tc : Thread Cert.DftSeqRefIdeal.nD Cert.DftSeqRefIdeal.τ).loc Cert.DftSeqRefIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hKvCtx : Cert.KvCtx.Facts) (hKvCtxIdeal : Cert.KvCtxIdeal.Facts) (hKvCtxRefIdeal : Cert.KvCtxRefIdeal.Facts) (hMod : Cert.Mod.Facts) (hModIdeal : Cert.ModIdeal.Facts) (hModRefIdeal : Cert.ModRefIdeal.Facts) (hFfnFirst : Cert.FfnFirst.Facts) (hFfnFirstIdeal : Cert.FfnFirstIdeal.Facts) (hFfnFirstRefIdeal : Cert.FfnFirstRefIdeal.Facts) (hFfnCtx : Cert.FfnCtx.Facts) (hFfnCtxIdeal : Cert.FfnCtxIdeal.Facts) (hFfnCtxRefIdeal : Cert.FfnCtxRefIdeal.Facts) (hDftFold : Cert.DftFold.Facts) (hDftFoldIdeal : Cert.DftFoldIdeal.Facts) (hDftFoldRefIdeal : Cert.DftFoldRefIdeal.Facts) (hDftSeq : Cert.DftSeq.Facts) (hDftSeqIdeal : Cert.DftSeqIdeal.Facts) (hDftSeqRefIdeal : Cert.DftSeqRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_KvCtx (hKvCtx := hKvCtx)
    ∧ quiescent_KvCtxIdeal (hKvCtxIdeal := hKvCtxIdeal)
    ∧ quiescent_KvCtxRefIdeal (hKvCtxRefIdeal := hKvCtxRefIdeal)
    ∧ quiescent_Mod (hMod := hMod)
    ∧ quiescent_ModIdeal (hModIdeal := hModIdeal)
    ∧ quiescent_ModRefIdeal (hModRefIdeal := hModRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ quiescent_DftFold (hDftFold := hDftFold)
    ∧ quiescent_DftFoldIdeal (hDftFoldIdeal := hDftFoldIdeal)
    ∧ quiescent_DftFoldRefIdeal (hDftFoldRefIdeal := hDftFoldRefIdeal)
    ∧ quiescent_DftSeq (hDftSeq := hDftSeq)
    ∧ quiescent_DftSeqIdeal (hDftSeqIdeal := hDftSeqIdeal)
    ∧ quiescent_DftSeqRefIdeal (hDftSeqRefIdeal := hDftSeqRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_KvCtx_KvCtxIdeal
    ∧ algebraic_KvCtxIdeal_KvCtxRefIdeal (hKvCtxIdeal := hKvCtxIdeal) (hKvCtxRefIdeal := hKvCtxRefIdeal)
    ∧ preserves_Mod_ModIdeal
    ∧ algebraic_ModIdeal_ModRefIdeal (hModIdeal := hModIdeal) (hModRefIdeal := hModRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnCtx_FfnCtxIdeal
    ∧ algebraic_FfnCtxIdeal_FfnCtxRefIdeal (hFfnCtxIdeal := hFfnCtxIdeal) (hFfnCtxRefIdeal := hFfnCtxRefIdeal)
    ∧ preserves_DftFold_DftFoldIdeal
    ∧ algebraic_DftFoldIdeal_DftFoldRefIdeal (hDftFoldIdeal := hDftFoldIdeal) (hDftFoldRefIdeal := hDftFoldRefIdeal)
    ∧ preserves_DftSeq_DftSeqIdeal
    ∧ algebraic_DftSeqIdeal_DftSeqRefIdeal (hDftSeqIdeal := hDftSeqIdeal) (hDftSeqRefIdeal := hDftSeqRefIdeal)
-- ==== Kernel.lean ====
abbrev S16x2048x1024 : Shape := ⟨3, ![16, 2048, 1024]⟩
abbrev S16x2048x256 : Shape := ⟨3, ![16, 2048, 256]⟩
abbrev S16x256x256 : Shape := ⟨3, ![16, 256, 256]⟩
abbrev S16x9x1024 : Shape := ⟨3, ![16, 9, 1024]⟩
abbrev S1024x1024 : Shape := ⟨2, ![1024, 1024]⟩
abbrev S16 : Shape := ⟨1, ![16]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S16x2048x64 : Shape := ⟨3, ![16, 2048, 64]⟩
abbrev S16x2048x512 : Shape := ⟨3, ![16, 2048, 512]⟩
abbrev S16x16x128x512 : Shape := ⟨4, ![16, 16, 128, 512]⟩
abbrev S16x16x512x128 : Shape := ⟨4, ![16, 16, 512, 128]⟩
abbrev S16x256x64 : Shape := ⟨3, ![16, 256, 64]⟩
abbrev S16x256x512 : Shape := ⟨3, ![16, 256, 512]⟩
abbrev S16x512x256 : Shape := ⟨3, ![16, 512, 256]⟩
abbrev S4x1024x5632 : Shape := ⟨3, ![4, 1024, 5632]⟩
abbrev S4x2816x1024 : Shape := ⟨3, ![4, 2816, 1024]⟩
abbrev S1x1024 : Shape := ⟨2, ![1, 1024]⟩
abbrev S3x1024x5632 : Shape := ⟨3, ![3, 1024, 5632]⟩
abbrev S3x2816x1024 : Shape := ⟨3, ![3, 2816, 1024]⟩
abbrev S1x512x1024 : Shape := ⟨3, ![1, 512, 1024]⟩
abbrev S1x2048x512 : Shape := ⟨3, ![1, 2048, 512]⟩
abbrev S1x16x512x128 : Shape := ⟨4, ![1, 16, 512, 128]⟩
abbrev S1x256x512 : Shape := ⟨3, ![1, 256, 512]⟩
abbrev S1x512x256 : Shape := ⟨3, ![1, 512, 256]⟩
abbrev S1x9x1024 : Shape := ⟨3, ![1, 9, 1024]⟩
abbrev S1x1024x512 : Shape := ⟨3, ![1, 1024, 512]⟩
abbrev S1x256x1024 : Shape := ⟨3, ![1, 256, 1024]⟩
abbrev S512x1024 : Shape := ⟨2, ![512, 1024]⟩
abbrev S1024x512 : Shape := ⟨2, ![1024, 512]⟩
abbrev S256x1024 : Shape := ⟨2, ![256, 1024]⟩
abbrev S128x256 : Shape := ⟨2, ![128, 256]⟩
abbrev S1x256 : Shape := ⟨2, ![1, 256]⟩
abbrev S256x128 : Shape := ⟨2, ![256, 128]⟩
abbrev S128x1 : Shape := ⟨2, ![128, 1]⟩
abbrev S1x128x128 : Shape := ⟨3, ![1, 128, 128]⟩
abbrev S128x128 : Shape := ⟨2, ![128, 128]⟩
abbrev S1x256x128 : Shape := ⟨3, ![1, 256, 128]⟩
abbrev S640x128 : Shape := ⟨2, ![640, 128]⟩
abbrev S640x256 : Shape := ⟨2, ![640, 256]⟩
abbrev S1 : Shape := ⟨1, ![1]⟩
abbrev S256 : Shape := ⟨1, ![256]⟩
abbrev S1x1x128x128 : Shape := ⟨4, ![1, 1, 128, 128]⟩
abbrev S1x128x256 : Shape := ⟨3, ![1, 128, 256]⟩
abbrev S128x640 : Shape := ⟨2, ![128, 640]⟩
abbrev S1x1x1024 : Shape := ⟨3, ![1, 1, 1024]⟩
abbrev S512 : Shape := ⟨1, ![512]⟩
abbrev S512x1 : Shape := ⟨2, ![512, 1]⟩

abbrev nBuf : Space → Nat
  | .hbm => 68
  | .vmem => 28
  | .smem => 1
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x256x256, .f32⟩
  | .hbm, ⟨4, _⟩ => ⟨S16x256x256, .f32⟩
  | .hbm, ⟨5, _⟩ => ⟨S16x2048x1024, .f32⟩
  | .hbm, ⟨6, _⟩ => ⟨S16x9x1024, .f32⟩
  | .hbm, ⟨7, _⟩ => ⟨S1024x1024, .f32⟩
  | .hbm, ⟨8, _⟩ => ⟨S16, .f32⟩
  | .hbm, ⟨9, _⟩ => ⟨S1024, .f32⟩
  | .hbm, ⟨10, _⟩ => ⟨S1024, .f32⟩
  | .hbm, ⟨11, _⟩ => ⟨S2x2x1024x5632, .f32⟩
  | .hbm, ⟨12, _⟩ => ⟨S2x2x2816x1024, .f32⟩
  | .hbm, ⟨13, _⟩ => ⟨S_, .f32⟩
  | .hbm, ⟨14, _⟩ => ⟨S16x2048x1024, .f32⟩
  | .hbm, ⟨15, _⟩ => ⟨S16x2048x1024, .f32⟩
  | .hbm, ⟨16, _⟩ => ⟨S16x2048x1024, .bf16⟩
  | .hbm, ⟨17, _⟩ => ⟨S16x2048x64, .f32⟩
  | .hbm, ⟨18, _⟩ => ⟨S16x2048x64, .f32⟩
  | .hbm, ⟨19, _⟩ => ⟨S16x2048x64, .f32⟩
  | .hbm, ⟨20, _⟩ => ⟨S16x2048x64, .f32⟩
  | .hbm, ⟨21, _⟩ => ⟨S16x2048x64, .f32⟩
  | .hbm, ⟨22, _⟩ => ⟨S16x2048x64, .f32⟩
  | .hbm, ⟨23, _⟩ => ⟨S16x2048x64, .f32⟩
  | .hbm, ⟨24, _⟩ => ⟨S16x2048x64, .f32⟩
  | .hbm, ⟨25, _⟩ => ⟨S16x2048x512, .f32⟩
  | .hbm, ⟨26, _⟩ => ⟨S16x2048x512, .bf16⟩
  | .hbm, ⟨27, _⟩ => ⟨S16x2048x64, .f32⟩
  | .hbm, ⟨28, _⟩ => ⟨S16x2048x64, .f32⟩
  | .hbm, ⟨29, _⟩ => ⟨S16x2048x64, .f32⟩
  | .hbm, ⟨30, _⟩ => ⟨S16x2048x64, .f32⟩
  | .hbm, ⟨31, _⟩ => ⟨S16x2048x64, .f32⟩
  | .hbm, ⟨32, _⟩ => ⟨S16x2048x64, .f32⟩
  | .hbm, ⟨33, _⟩ => ⟨S16x2048x64, .f32⟩
  | .hbm, ⟨34, _⟩ => ⟨S16x2048x64, .f32⟩
  | .hbm, ⟨35, _⟩ => ⟨S16x2048x512, .f32⟩
  | .hbm, ⟨36, _⟩ => ⟨S16x16x128x512, .f32⟩
  | .hbm, ⟨37, _⟩ => ⟨S16x16x512x128, .f32⟩
  | .hbm, ⟨38, _⟩ => ⟨S16x16x512x128, .bf16⟩
  | .hbm, ⟨39, _⟩ => ⟨S16x256x64, .f32⟩
  | .hbm, ⟨40, _⟩ => ⟨S16x256x64, .f32⟩
  | .hbm, ⟨41, _⟩ => ⟨S16x256x64, .f32⟩
  | .hbm, ⟨42, _⟩ => ⟨S16x256x64, .f32⟩
  | .hbm, ⟨43, _⟩ => ⟨S16x256x64, .f32⟩
  | .hbm, ⟨44, _⟩ => ⟨S16x256x64, .f32⟩
  | .hbm, ⟨45, _⟩ => ⟨S16x256x64, .f32⟩
  | .hbm, ⟨46, _⟩ => ⟨S16x256x64, .f32⟩
  | .hbm, ⟨47, _⟩ => ⟨S16x256x512, .f32⟩
  | .hbm, ⟨48, _⟩ => ⟨S16x256x512, .bf16⟩
  | .hbm, ⟨49, _⟩ => ⟨S16x256x64, .f32⟩
  | .hbm, ⟨50, _⟩ => ⟨S16x256x64, .f32⟩
  | .hbm, ⟨51, _⟩ => ⟨S16x256x64, .f32⟩
  | .hbm, ⟨52, _⟩ => ⟨S16x256x64, .f32⟩
  | .hbm, ⟨53, _⟩ => ⟨S16x256x64, .f32⟩
  | .hbm, ⟨54, _⟩ => ⟨S16x256x64, .f32⟩
  | .hbm, ⟨55, _⟩ => ⟨S16x256x64, .f32⟩
  | .hbm, ⟨56, _⟩ => ⟨S16x256x64, .f32⟩
  | .hbm, ⟨57, _⟩ => ⟨S16x256x512, .f32⟩
  | .hbm, ⟨58, _⟩ => ⟨S16x512x256, .f32⟩
  | .hbm, ⟨59, _⟩ => ⟨S16x512x256, .bf16⟩
  | .hbm, ⟨60, _⟩ => ⟨S4x1024x5632, .f32⟩
  | .hbm, ⟨61, _⟩ => ⟨S4x2816x1024, .f32⟩
  | .hbm, ⟨62, _⟩ => ⟨S1024x1024, .bf16⟩
  | .hbm, ⟨63, _⟩ => ⟨S1x1024, .f32⟩
  | .hbm, ⟨64, _⟩ => ⟨S1x1024, .f32⟩
  | .hbm, ⟨65, _⟩ => ⟨S16x2048x1024, .f32⟩
  | .hbm, ⟨66, _⟩ => ⟨S3x1024x5632, .bf16⟩
  | .hbm, ⟨67, _⟩ => ⟨S3x2816x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x16x512x128, .bf16⟩
  | .local _ .vmem, ⟨5, _⟩ => ⟨S1x16x512x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x1024, .f32⟩
  | .local _ .vmem, ⟨11, _⟩ => ⟨S1x512x1024, .f32⟩
  | .local _ .vmem, ⟨12, _⟩ => ⟨S1x9x1024, .f32⟩
  | .local _ .vmem, ⟨13, _⟩ => ⟨S1x9x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024x512, .f32⟩
  | .local _ .vmem, ⟨18, _⟩ => ⟨S1x1024x512, .f32⟩
  | .local _ .vmem, ⟨19, _⟩ => ⟨S1x256x1024, .f32⟩
  | .local _ .vmem, ⟨20, _⟩ => ⟨S1x256x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x1024x512, .bf16⟩
  | .local _ .vmem, ⟨24, _⟩ => ⟨S1x1024x512, .bf16⟩
  | .local _ .vmem, ⟨25, _⟩ => ⟨S1x256x1024, .bf16⟩
  | .local _ .vmem, ⟨26, _⟩ => ⟨S1x256x1024, .bf16⟩
  | .local _ .vmem, ⟨27, _⟩ => ⟨S512x1024, .bf16⟩
  | .local _ .smem, ⟨0, _⟩ => ⟨S16, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51_0 : Ref sig .tc := ⟨.hbm, 65, rfl⟩
abbrev main_v51_1 : Ref sig .tc := ⟨.hbm, 66, rfl⟩
abbrev main_v51_2 : Ref sig .tc := ⟨.hbm, 67, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let c15_i32 : BitVec 32 := 15#32
  let c0_i32_30 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_29 : BitVec 32 := 0#32
  let v53 : BitVec 32 := Scalar.addi v32 c0_i32_29
  let c_m1_i32 : BitVec 32 := 4294967295#32
  let v54 : BitVec 32 := Scalar.addi v53 c_m1_i32
  let v55 : BitVec 32 := Scalar.maxsi c0_i32_30 v54
  let v56 : BitVec 32 := Scalar.minsi c15_i32 v55
  let c128_i32_39 : BitVec 32 := 128#32
  let v65 : BitVec 32 := Scalar.muli v56 c128_i32_39
  v65
def k0_off1 (i : grid0.Coords) (c0_i32_29 : BitVec 32) (c_m1_i32 : BitVec 32) : Fin 3 → Nat :=
  let c0_40 : Index := 0#32
  let c15_i32 : BitVec 32 := 15#32
  let c0_i32_30 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v53 : BitVec 32 := Scalar.addi v32 c0_i32_29
  let v54 : BitVec 32 := Scalar.addi v53 c_m1_i32
  let v55 : BitVec 32 := Scalar.maxsi c0_i32_30 v54
  let v56 : BitVec 32 := Scalar.minsi c15_i32 v55
  let c128_i32_39 : BitVec 32 := 128#32
  let v65 : BitVec 32 := Scalar.muli v56 c128_i32_39
  let v66 : BitVec 32 := v65
  let v67 : Index := Scalar.indexCast v66
  let c0_41 : Index := 0#32
  ![0, v67.toNat, 0]
def k0_off1_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult2 (i : grid0.Coords) : BitVec 32 :=
  let c15_i32_34 : BitVec 32 := 15#32
  let c0_i32_33 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_31 : BitVec 32 := 0#32
  let v57 : BitVec 32 := Scalar.addi v32 c0_i32_31
  let c0_i32_32 : BitVec 32 := 0#32
  let v58 : BitVec 32 := Scalar.addi v57 c0_i32_32
  let v59 : BitVec 32 := Scalar.maxsi c0_i32_33 v58
  let v60 : BitVec 32 := Scalar.minsi c15_i32_34 v59
  let c128_i32_42 : BitVec 32 := 128#32
  let v70 : BitVec 32 := Scalar.muli v60 c128_i32_42
  v70
def k0_mult3 (i : grid0.Coords) : BitVec 32 :=
  let c15_i32_38 : BitVec 32 := 15#32
  let c0_i32_37 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_35 : BitVec 32 := 0#32
  let v61 : BitVec 32 := Scalar.addi v32 c0_i32_35
  let c1_i32_36 : BitVec 32 := 1#32
  let v62 : BitVec 32 := Scalar.addi v61 c1_i32_36
  let v63 : BitVec 32 := Scalar.maxsi c0_i32_37 v62
  let v64 : BitVec 32 := Scalar.minsi c15_i32_38 v63
  let c128_i32_45 : BitVec 32 := 128#32
  let v75 : BitVec 32 := Scalar.muli v64 c128_i32_45
  v75
def k0_mult4 (i : grid0.Coords) : BitVec 32 :=
  let c15_i32_63 : BitVec 32 := 15#32
  let c0_i32_62 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_60 : BitVec 32 := 0#32
  let v92 : BitVec 32 := Scalar.addi v32 c0_i32_60
  let c_m1_i32_61 : BitVec 32 := 4294967295#32
  let v93 : BitVec 32 := Scalar.addi v92 c_m1_i32_61
  let v94 : BitVec 32 := Scalar.maxsi c0_i32_62 v93
  let v95 : BitVec 32 := Scalar.minsi c15_i32_63 v94
  let c128_i32_72 : BitVec 32 := 128#32
  let v104 : BitVec 32 := Scalar.muli v95 c128_i32_72
  v104
def k0_mult5 (i : grid0.Coords) : BitVec 32 :=
  let c15_i32_67 : BitVec 32 := 15#32
  let c0_i32_66 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_64 : BitVec 32 := 0#32
  let v96 : BitVec 32 := Scalar.addi v32 c0_i32_64
  let c0_i32_65 : BitVec 32 := 0#32
  let v97 : BitVec 32 := Scalar.addi v96 c0_i32_65
  let v98 : BitVec 32 := Scalar.maxsi c0_i32_66 v97
  let v99 : BitVec 32 := Scalar.minsi c15_i32_67 v98
  let c128_i32_75 : BitVec 32 := 128#32
  let v109 : BitVec 32 := Scalar.muli v99 c128_i32_75
  v109
def k0_mult6 (i : grid0.Coords) : BitVec 32 :=
  let c15_i32_71 : BitVec 32 := 15#32
  let c0_i32_70 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_68 : BitVec 32 := 0#32
  let v100 : BitVec 32 := Scalar.addi v32 c0_i32_68
  let c1_i32_69 : BitVec 32 := 1#32
  let v101 : BitVec 32 := Scalar.addi v100 c1_i32_69
  let v102 : BitVec 32 := Scalar.maxsi c0_i32_70 v101
  let v103 : BitVec 32 := Scalar.minsi c15_i32_71 v102
  let c128_i32_78 : BitVec 32 := 128#32
  let v114 : BitVec 32 := Scalar.muli v103 c128_i32_78
  v114
def k0_mult7 (i : grid0.Coords) : BitVec 32 :=
  let c15_i32_104 : BitVec 32 := 15#32
  let c0_i32_103 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_101 : BitVec 32 := 0#32
  let v191 : BitVec 32 := Scalar.addi v32 c0_i32_101
  let c_m1_i32_102 : BitVec 32 := 4294967295#32
  let v192 : BitVec 32 := Scalar.addi v191 c_m1_i32_102
  let v193 : BitVec 32 := Scalar.maxsi c0_i32_103 v192
  let v194 : BitVec 32 := Scalar.minsi c15_i32_104 v193
  let c128_i32_113 : BitVec 32 := 128#32
  let v203 : BitVec 32 := Scalar.muli v194 c128_i32_113
  v203
def k0_off2 (i : grid0.Coords) (c0_i32_101 : BitVec 32) (c_m1_i32_102 : BitVec 32) : Fin 3 → Nat :=
  let c0_114 : Index := 0#32
  let c15_i32_104 : BitVec 32 := 15#32
  let c0_i32_103 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v191 : BitVec 32 := Scalar.addi v32 c0_i32_101
  let v192 : BitVec 32 := Scalar.addi v191 c_m1_i32_102
  let v193 : BitVec 32 := Scalar.maxsi c0_i32_103 v192
  let v194 : BitVec 32 := Scalar.minsi c15_i32_104 v193
  let c128_i32_113 : BitVec 32 := 128#32
  let v203 : BitVec 32 := Scalar.muli v194 c128_i32_113
  let v204 : BitVec 32 := v203
  let v205 : Index := Scalar.indexCast v204
  let c128_115 : Index := 128#32
  ![0, v205.toNat, 128]
def k0_off2_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult8 (i : grid0.Coords) : BitVec 32 :=
  let c15_i32_108 : BitVec 32 := 15#32
  let c0_i32_107 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_105 : BitVec 32 := 0#32
  let v195 : BitVec 32 := Scalar.addi v32 c0_i32_105
  let c0_i32_106 : BitVec 32 := 0#32
  let v196 : BitVec 32 := Scalar.addi v195 c0_i32_106
  let v197 : BitVec 32 := Scalar.maxsi c0_i32_107 v196
  let v198 : BitVec 32 := Scalar.minsi c15_i32_108 v197
  let c128_i32_116 : BitVec 32 := 128#32
  let v208 : BitVec 32 := Scalar.muli v198 c128_i32_116
  v208
def k0_mult9 (i : grid0.Coords) : BitVec 32 :=
  let c15_i32_112 : BitVec 32 := 15#32
  let c0_i32_111 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_109 : BitVec 32 := 0#32
  let v199 : BitVec 32 := Scalar.addi v32 c0_i32_109
  let c1_i32_110 : BitVec 32 := 1#32
  let v200 : BitVec 32 := Scalar.addi v199 c1_i32_110
  let v201 : BitVec 32 := Scalar.maxsi c0_i32_111 v200
  let v202 : BitVec 32 := Scalar.minsi c15_i32_112 v201
  let c128_i32_119 : BitVec 32 := 128#32
  let v213 : BitVec 32 := Scalar.muli v202 c128_i32_119
  v213
def k0_mult10 (i : grid0.Coords) : BitVec 32 :=
  let c15_i32_147 : BitVec 32 := 15#32
  let c0_i32_146 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_144 : BitVec 32 := 0#32
  let v291 : BitVec 32 := Scalar.addi v32 c0_i32_144
  let c_m1_i32_145 : BitVec 32 := 4294967295#32
  let v292 : BitVec 32 := Scalar.addi v291 c_m1_i32_145
  let v293 : BitVec 32 := Scalar.maxsi c0_i32_146 v292
  let v294 : BitVec 32 := Scalar.minsi c15_i32_147 v293
  let c128_i32_156 : BitVec 32 := 128#32
  let v303 : BitVec 32 := Scalar.muli v294 c128_i32_156
  v303
def k0_mult11 (i : grid0.Coords) : BitVec 32 :=
  let c15_i32_151 : BitVec 32 := 15#32
  let c0_i32_150 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_148 : BitVec 32 := 0#32
  let v295 : BitVec 32 := Scalar.addi v32 c0_i32_148
  let c0_i32_149 : BitVec 32 := 0#32
  let v296 : BitVec 32 := Scalar.addi v295 c0_i32_149
  let v297 : BitVec 32 := Scalar.maxsi c0_i32_150 v296
  let v298 : BitVec 32 := Scalar.minsi c15_i32_151 v297
  let c128_i32_159 : BitVec 32 := 128#32
  let v308 : BitVec 32 := Scalar.muli v298 c128_i32_159
  v308
def k0_mult12 (i : grid0.Coords) : BitVec 32 :=
  let c15_i32_155 : BitVec 32 := 15#32
  let c0_i32_154 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_152 : BitVec 32 := 0#32
  let v299 : BitVec 32 := Scalar.addi v32 c0_i32_152
  let c1_i32_153 : BitVec 32 := 1#32
  let v300 : BitVec 32 := Scalar.addi v299 c1_i32_153
  let v301 : BitVec 32 := Scalar.maxsi c0_i32_154 v300
  let v302 : BitVec 32 := Scalar.minsi c15_i32_155 v301
  let c128_i32_162 : BitVec 32 := 128#32
  let v313 : BitVec 32 := Scalar.muli v302 c128_i32_162
  v313
def k0_off3 (i : grid0.Coords) (c0_i32_179 : BitVec 32) (c_m1_i32_180 : BitVec 32) : Fin 4 → Nat :=
  let c0_191 : Index := 0#32
  let c15_i32_182 : BitVec 32 := 15#32
  let c0_i32_181 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v383 : BitVec 32 := Scalar.addi v32 c0_i32_179
  let v384 : BitVec 32 := Scalar.addi v383 c_m1_i32_180
  let v385 : BitVec 32 := Scalar.maxsi c0_i32_181 v384
  let v386 : BitVec 32 := Scalar.minsi c15_i32_182 v385
  let v395 : Index := Scalar.indexCast v386
  let c0_192 : Index := 0#32
  let c0_193 : Index := 0#32
  ![0, v395.toNat, 0, 0]
def k0_off3_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult13 (i : grid0.Coords) : BitVec 32 :=
  let c15_i32_219 : BitVec 32 := 15#32
  let c0_i32_218 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_216 : BitVec 32 := 0#32
  let v443 : BitVec 32 := Scalar.addi v32 c0_i32_216
  let c_m1_i32_217 : BitVec 32 := 4294967295#32
  let v444 : BitVec 32 := Scalar.addi v443 c_m1_i32_217
  let v445 : BitVec 32 := Scalar.maxsi c0_i32_218 v444
  let v446 : BitVec 32 := Scalar.minsi c15_i32_219 v445
  let c128_i32_228 : BitVec 32 := 128#32
  let v455 : BitVec 32 := Scalar.muli v446 c128_i32_228
  v455
def k0_off4 (i : grid0.Coords) (c0_i32_216 : BitVec 32) (c_m1_i32_217 : BitVec 32) : Fin 3 → Nat :=
  let c0_229 : Index := 0#32
  let c15_i32_219 : BitVec 32 := 15#32
  let c0_i32_218 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v443 : BitVec 32 := Scalar.addi v32 c0_i32_216
  let v444 : BitVec 32 := Scalar.addi v443 c_m1_i32_217
  let v445 : BitVec 32 := Scalar.maxsi c0_i32_218 v444
  let v446 : BitVec 32 := Scalar.minsi c15_i32_219 v445
  let c128_i32_228 : BitVec 32 := 128#32
  let v455 : BitVec 32 := Scalar.muli v446 c128_i32_228
  let v456 : BitVec 32 := v455
  let v457 : Index := Scalar.indexCast v456
  let c256_230 : Index := 256#32
  ![0, v457.toNat, 256]
def k0_off4_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult14 (i : grid0.Coords) : BitVec 32 :=
  let c15_i32_223 : BitVec 32 := 15#32
  let c0_i32_222 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_220 : BitVec 32 := 0#32
  let v447 : BitVec 32 := Scalar.addi v32 c0_i32_220
  let c0_i32_221 : BitVec 32 := 0#32
  let v448 : BitVec 32 := Scalar.addi v447 c0_i32_221
  let v449 : BitVec 32 := Scalar.maxsi c0_i32_222 v448
  let v450 : BitVec 32 := Scalar.minsi c15_i32_223 v449
  let c128_i32_231 : BitVec 32 := 128#32
  let v460 : BitVec 32 := Scalar.muli v450 c128_i32_231
  v460
def k0_mult15 (i : grid0.Coords) : BitVec 32 :=
  let c15_i32_227 : BitVec 32 := 15#32
  let c0_i32_226 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_224 : BitVec 32 := 0#32
  let v451 : BitVec 32 := Scalar.addi v32 c0_i32_224
  let c1_i32_225 : BitVec 32 := 1#32
  let v452 : BitVec 32 := Scalar.addi v451 c1_i32_225
  let v453 : BitVec 32 := Scalar.maxsi c0_i32_226 v452
  let v454 : BitVec 32 := Scalar.minsi c15_i32_227 v453
  let c128_i32_234 : BitVec 32 := 128#32
  let v465 : BitVec 32 := Scalar.muli v454 c128_i32_234
  v465
def k0_mult16 (i : grid0.Coords) : BitVec 32 :=
  let c15_i32_262 : BitVec 32 := 15#32
  let c0_i32_261 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_259 : BitVec 32 := 0#32
  let v543 : BitVec 32 := Scalar.addi v32 c0_i32_259
  let c_m1_i32_260 : BitVec 32 := 4294967295#32
  let v544 : BitVec 32 := Scalar.addi v543 c_m1_i32_260
  let v545 : BitVec 32 := Scalar.maxsi c0_i32_261 v544
  let v546 : BitVec 32 := Scalar.minsi c15_i32_262 v545
  let c128_i32_271 : BitVec 32 := 128#32
  let v555 : BitVec 32 := Scalar.muli v546 c128_i32_271
  v555
def k0_mult17 (i : grid0.Coords) : BitVec 32 :=
  let c15_i32_266 : BitVec 32 := 15#32
  let c0_i32_265 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_263 : BitVec 32 := 0#32
  let v547 : BitVec 32 := Scalar.addi v32 c0_i32_263
  let c0_i32_264 : BitVec 32 := 0#32
  let v548 : BitVec 32 := Scalar.addi v547 c0_i32_264
  let v549 : BitVec 32 := Scalar.maxsi c0_i32_265 v548
  let v550 : BitVec 32 := Scalar.minsi c15_i32_266 v549
  let c128_i32_274 : BitVec 32 := 128#32
  let v560 : BitVec 32 := Scalar.muli v550 c128_i32_274
  v560
def k0_mult18 (i : grid0.Coords) : BitVec 32 :=
  let c15_i32_270 : BitVec 32 := 15#32
  let c0_i32_269 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_267 : BitVec 32 := 0#32
  let v551 : BitVec 32 := Scalar.addi v32 c0_i32_267
  let c1_i32_268 : BitVec 32 := 1#32
  let v552 : BitVec 32 := Scalar.addi v551 c1_i32_268
  let v553 : BitVec 32 := Scalar.maxsi c0_i32_269 v552
  let v554 : BitVec 32 := Scalar.minsi c15_i32_270 v553
  let c128_i32_277 : BitVec 32 := 128#32
  let v565 : BitVec 32 := Scalar.muli v554 c128_i32_277
  v565
def k0_off5 (i : grid0.Coords) (c0_i32_294 : BitVec 32) (c_m1_i32_295 : BitVec 32) : Fin 4 → Nat :=
  let c0_306 : Index := 0#32
  let c15_i32_297 : BitVec 32 := 15#32
  let c0_i32_296 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v635 : BitVec 32 := Scalar.addi v32 c0_i32_294
  let v636 : BitVec 32 := Scalar.addi v635 c_m1_i32_295
  let v637 : BitVec 32 := Scalar.maxsi c0_i32_296 v636
  let v638 : BitVec 32 := Scalar.minsi c15_i32_297 v637
  let v647 : Index := Scalar.indexCast v638
  let c128_307 : Index := 128#32
  let c0_308 : Index := 0#32
  ![0, v647.toNat, 128, 0]
def k0_off5_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult19 (i : grid0.Coords) : BitVec 32 :=
  let c15_i32_334 : BitVec 32 := 15#32
  let c0_i32_333 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_331 : BitVec 32 := 0#32
  let v695 : BitVec 32 := Scalar.addi v32 c0_i32_331
  let c_m1_i32_332 : BitVec 32 := 4294967295#32
  let v696 : BitVec 32 := Scalar.addi v695 c_m1_i32_332
  let v697 : BitVec 32 := Scalar.maxsi c0_i32_333 v696
  let v698 : BitVec 32 := Scalar.minsi c15_i32_334 v697
  let c128_i32_343 : BitVec 32 := 128#32
  let v707 : BitVec 32 := Scalar.muli v698 c128_i32_343
  v707
def k0_off6 (i : grid0.Coords) (c0_i32_331 : BitVec 32) (c_m1_i32_332 : BitVec 32) : Fin 3 → Nat :=
  let c0_344 : Index := 0#32
  let c15_i32_334 : BitVec 32 := 15#32
  let c0_i32_333 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v695 : BitVec 32 := Scalar.addi v32 c0_i32_331
  let v696 : BitVec 32 := Scalar.addi v695 c_m1_i32_332
  let v697 : BitVec 32 := Scalar.maxsi c0_i32_333 v696
  let v698 : BitVec 32 := Scalar.minsi c15_i32_334 v697
  let c128_i32_343 : BitVec 32 := 128#32
  let v707 : BitVec 32 := Scalar.muli v698 c128_i32_343
  let v708 : BitVec 32 := v707
  let v709 : Index := Scalar.indexCast v708
  let c384_345 : Index := 384#32
  ![0, v709.toNat, 384]
def k0_off6_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult20 (i : grid0.Coords) : BitVec 32 :=
  let c15_i32_338 : BitVec 32 := 15#32
  let c0_i32_337 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_335 : BitVec 32 := 0#32
  let v699 : BitVec 32 := Scalar.addi v32 c0_i32_335
  let c0_i32_336 : BitVec 32 := 0#32
  let v700 : BitVec 32 := Scalar.addi v699 c0_i32_336
  let v701 : BitVec 32 := Scalar.maxsi c0_i32_337 v700
  let v702 : BitVec 32 := Scalar.minsi c15_i32_338 v701
  let c128_i32_346 : BitVec 32 := 128#32
  let v712 : BitVec 32 := Scalar.muli v702 c128_i32_346
  v712
def k0_mult21 (i : grid0.Coords) : BitVec 32 :=
  let c15_i32_342 : BitVec 32 := 15#32
  let c0_i32_341 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_339 : BitVec 32 := 0#32
  let v703 : BitVec 32 := Scalar.addi v32 c0_i32_339
  let c1_i32_340 : BitVec 32 := 1#32
  let v704 : BitVec 32 := Scalar.addi v703 c1_i32_340
  let v705 : BitVec 32 := Scalar.maxsi c0_i32_341 v704
  let v706 : BitVec 32 := Scalar.minsi c15_i32_342 v705
  let c128_i32_349 : BitVec 32 := 128#32
  let v717 : BitVec 32 := Scalar.muli v706 c128_i32_349
  v717
def k0_mult22 (i : grid0.Coords) : BitVec 32 :=
  let c15_i32_377 : BitVec 32 := 15#32
  let c0_i32_376 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_374 : BitVec 32 := 0#32
  let v795 : BitVec 32 := Scalar.addi v32 c0_i32_374
  let c_m1_i32_375 : BitVec 32 := 4294967295#32
  let v796 : BitVec 32 := Scalar.addi v795 c_m1_i32_375
  let v797 : BitVec 32 := Scalar.maxsi c0_i32_376 v796
  let v798 : BitVec 32 := Scalar.minsi c15_i32_377 v797
  let c128_i32_386 : BitVec 32 := 128#32
  let v807 : BitVec 32 := Scalar.muli v798 c128_i32_386
  v807
def k0_mult23 (i : grid0.Coords) : BitVec 32 :=
  let c15_i32_381 : BitVec 32 := 15#32
  let c0_i32_380 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_378 : BitVec 32 := 0#32
  let v799 : BitVec 32 := Scalar.addi v32 c0_i32_378
  let c0_i32_379 : BitVec 32 := 0#32
  let v800 : BitVec 32 := Scalar.addi v799 c0_i32_379
  let v801 : BitVec 32 := Scalar.maxsi c0_i32_380 v800
  let v802 : BitVec 32 := Scalar.minsi c15_i32_381 v801
  let c128_i32_389 : BitVec 32 := 128#32
  let v812 : BitVec 32 := Scalar.muli v802 c128_i32_389
  v812
def k0_mult24 (i : grid0.Coords) : BitVec 32 :=
  let c15_i32_385 : BitVec 32 := 15#32
  let c0_i32_384 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c0_i32_382 : BitVec 32 := 0#32
  let v803 : BitVec 32 := Scalar.addi v32 c0_i32_382
  let c1_i32_383 : BitVec 32 := 1#32
  let v804 : BitVec 32 := Scalar.addi v803 c1_i32_383
  let v805 : BitVec 32 := Scalar.maxsi c0_i32_384 v804
  let v806 : BitVec 32 := Scalar.minsi c15_i32_385 v805
  let c128_i32_392 : BitVec 32 := 128#32
  let v817 : BitVec 32 := Scalar.muli v806 c128_i32_392
  v817
def k0_off7 (i : grid0.Coords) (c0_i32_409 : BitVec 32) (c_m1_i32_410 : BitVec 32) : Fin 4 → Nat :=
  let c0_421 : Index := 0#32
  let c15_i32_412 : BitVec 32 := 15#32
  let c0_i32_411 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v887 : BitVec 32 := Scalar.addi v32 c0_i32_409
  let v888 : BitVec 32 := Scalar.addi v887 c_m1_i32_410
  let v889 : BitVec 32 := Scalar.maxsi c0_i32_411 v888
  let v890 : BitVec 32 := Scalar.minsi c15_i32_412 v889
  let v899 : Index := Scalar.indexCast v890
  let c256_422 : Index := 256#32
  let c0_423 : Index := 0#32
  ![0, v899.toNat, 256, 0]
def k0_off7_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult25 (i : grid0.Coords) : BitVec 32 :=
  let c15_i32_451 : BitVec 32 := 15#32
  let c0_i32_450 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_448 : BitVec 32 := 1#32
  let v947 : BitVec 32 := Scalar.addi v32 c1_i32_448
  let c_m1_i32_449 : BitVec 32 := 4294967295#32
  let v948 : BitVec 32 := Scalar.addi v947 c_m1_i32_449
  let v949 : BitVec 32 := Scalar.maxsi c0_i32_450 v948
  let v950 : BitVec 32 := Scalar.minsi c15_i32_451 v949
  let c128_i32_460 : BitVec 32 := 128#32
  let v959 : BitVec 32 := Scalar.muli v950 c128_i32_460
  v959
def k0_mult26 (i : grid0.Coords) : BitVec 32 :=
  let c15_i32_455 : BitVec 32 := 15#32
  let c0_i32_454 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_452 : BitVec 32 := 1#32
  let v951 : BitVec 32 := Scalar.addi v32 c1_i32_452
  let c0_i32_453 : BitVec 32 := 0#32
  let v952 : BitVec 32 := Scalar.addi v951 c0_i32_453
  let v953 : BitVec 32 := Scalar.maxsi c0_i32_454 v952
  let v954 : BitVec 32 := Scalar.minsi c15_i32_455 v953
  let c128_i32_463 : BitVec 32 := 128#32
  let v964 : BitVec 32 := Scalar.muli v954 c128_i32_463
  v964
def k0_mult27 (i : grid0.Coords) : BitVec 32 :=
  let c15_i32_459 : BitVec 32 := 15#32
  let c0_i32_458 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_456 : BitVec 32 := 1#32
  let v955 : BitVec 32 := Scalar.addi v32 c1_i32_456
  let c1_i32_457 : BitVec 32 := 1#32
  let v956 : BitVec 32 := Scalar.addi v955 c1_i32_457
  let v957 : BitVec 32 := Scalar.maxsi c0_i32_458 v956
  let v958 : BitVec 32 := Scalar.minsi c15_i32_459 v957
  let c128_i32_466 : BitVec 32 := 128#32
  let v969 : BitVec 32 := Scalar.muli v958 c128_i32_466
  v969
def k0_mult28 (i : grid0.Coords) : BitVec 32 :=
  let c15_i32_494 : BitVec 32 := 15#32
  let c0_i32_493 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_491 : BitVec 32 := 1#32
  let v1047 : BitVec 32 := Scalar.addi v32 c1_i32_491
  let c_m1_i32_492 : BitVec 32 := 4294967295#32
  let v1048 : BitVec 32 := Scalar.addi v1047 c_m1_i32_492
  let v1049 : BitVec 32 := Scalar.maxsi c0_i32_493 v1048
  let v1050 : BitVec 32 := Scalar.minsi c15_i32_494 v1049
  let c128_i32_503 : BitVec 32 := 128#32
  let v1059 : BitVec 32 := Scalar.muli v1050 c128_i32_503
  v1059
def k0_mult29 (i : grid0.Coords) : BitVec 32 :=
  let c15_i32_498 : BitVec 32 := 15#32
  let c0_i32_497 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_495 : BitVec 32 := 1#32
  let v1051 : BitVec 32 := Scalar.addi v32 c1_i32_495
  let c0_i32_496 : BitVec 32 := 0#32
  let v1052 : BitVec 32 := Scalar.addi v1051 c0_i32_496
  let v1053 : BitVec 32 := Scalar.maxsi c0_i32_497 v1052
  let v1054 : BitVec 32 := Scalar.minsi c15_i32_498 v1053
  let c128_i32_506 : BitVec 32 := 128#32
  let v1064 : BitVec 32 := Scalar.muli v1054 c128_i32_506
  v1064
def k0_mult30 (i : grid0.Coords) : BitVec 32 :=
  let c15_i32_502 : BitVec 32 := 15#32
  let c0_i32_501 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_499 : BitVec 32 := 1#32
  let v1055 : BitVec 32 := Scalar.addi v32 c1_i32_499
  let c1_i32_500 : BitVec 32 := 1#32
  let v1056 : BitVec 32 := Scalar.addi v1055 c1_i32_500
  let v1057 : BitVec 32 := Scalar.maxsi c0_i32_501 v1056
  let v1058 : BitVec 32 := Scalar.minsi c15_i32_502 v1057
  let c128_i32_509 : BitVec 32 := 128#32
  let v1069 : BitVec 32 := Scalar.muli v1058 c128_i32_509
  v1069
def k0_off8 (i : grid0.Coords) (c0_i32_528 : BitVec 32) (c_m1_i32_529 : BitVec 32) : Fin 4 → Nat :=
  let c0_540 : Index := 0#32
  let c15_i32_531 : BitVec 32 := 15#32
  let c0_i32_530 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let v1139 : BitVec 32 := Scalar.addi v32 c0_i32_528
  let v1140 : BitVec 32 := Scalar.addi v1139 c_m1_i32_529
  let v1141 : BitVec 32 := Scalar.maxsi c0_i32_530 v1140
  let v1142 : BitVec 32 := Scalar.minsi c15_i32_531 v1141
  let v1151 : Index := Scalar.indexCast v1142
  let c384_541 : Index := 384#32
  let c0_542 : Index := 0#32
  ![0, v1151.toNat, 384, 0]
def k0_off8_at (r : Fin 12) : BitVec 32 × BitVec 32 :=
  if r.val < 6 then
    if r.val < 3 then
      if r.val < 1 then
        (0#32, 4294967295#32)
      else
        if r.val < 2 then
          (0#32, 0#32)
        else
          (0#32, 1#32)
    else
      if r.val < 4 then
        (1#32, 4294967295#32)
      else
        if r.val < 5 then
          (1#32, 0#32)
        else
          (1#32, 1#32)
  else
    if r.val < 9 then
      if r.val < 7 then
        (2#32, 4294967295#32)
      else
        if r.val < 8 then
          (2#32, 0#32)
        else
          (2#32, 1#32)
    else
      if r.val < 10 then
        (3#32, 4294967295#32)
      else
        if r.val < 11 then
          (3#32, 0#32)
        else
          (3#32, 1#32)
def k0_mult31 (i : grid0.Coords) : BitVec 32 :=
  let c15_i32_570 : BitVec 32 := 15#32
  let c0_i32_569 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_567 : BitVec 32 := 1#32
  let v1199 : BitVec 32 := Scalar.addi v32 c1_i32_567
  let c_m1_i32_568 : BitVec 32 := 4294967295#32
  let v1200 : BitVec 32 := Scalar.addi v1199 c_m1_i32_568
  let v1201 : BitVec 32 := Scalar.maxsi c0_i32_569 v1200
  let v1202 : BitVec 32 := Scalar.minsi c15_i32_570 v1201
  let c128_i32_579 : BitVec 32 := 128#32
  let v1211 : BitVec 32 := Scalar.muli v1202 c128_i32_579
  v1211
def k0_mult32 (i : grid0.Coords) : BitVec 32 :=
  let c15_i32_574 : BitVec 32 := 15#32
  let c0_i32_573 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_571 : BitVec 32 := 1#32
  let v1203 : BitVec 32 := Scalar.addi v32 c1_i32_571
  let c0_i32_572 : BitVec 32 := 0#32
  let v1204 : BitVec 32 := Scalar.addi v1203 c0_i32_572
  let v1205 : BitVec 32 := Scalar.maxsi c0_i32_573 v1204
  let v1206 : BitVec 32 := Scalar.minsi c15_i32_574 v1205
  let c128_i32_582 : BitVec 32 := 128#32
  let v1216 : BitVec 32 := Scalar.muli v1206 c128_i32_582
  v1216
def k0_mult33 (i : grid0.Coords) : BitVec 32 :=
  let c15_i32_578 : BitVec 32 := 15#32
  let c0_i32_577 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_575 : BitVec 32 := 1#32
  let v1207 : BitVec 32 := Scalar.addi v32 c1_i32_575
  let c1_i32_576 : BitVec 32 := 1#32
  let v1208 : BitVec 32 := Scalar.addi v1207 c1_i32_576
  let v1209 : BitVec 32 := Scalar.maxsi c0_i32_577 v1208
  let v1210 : BitVec 32 := Scalar.minsi c15_i32_578 v1209
  let c128_i32_585 : BitVec 32 := 128#32
  let v1221 : BitVec 32 := Scalar.muli v1210 c128_i32_585
  v1221
def k0_mult34 (i : grid0.Coords) : BitVec 32 :=
  let c15_i32_618 : BitVec 32 := 15#32
  let c0_i32_617 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_615 : BitVec 32 := 1#32
  let v1302 : BitVec 32 := Scalar.addi v32 c1_i32_615
  let c_m1_i32_616 : BitVec 32 := 4294967295#32
  let v1303 : BitVec 32 := Scalar.addi v1302 c_m1_i32_616
  let v1304 : BitVec 32 := Scalar.maxsi c0_i32_617 v1303
  let v1305 : BitVec 32 := Scalar.minsi c15_i32_618 v1304
  let c128_i32_627 : BitVec 32 := 128#32
  let v1314 : BitVec 32 := Scalar.muli v1305 c128_i32_627
  v1314
def k0_mult35 (i : grid0.Coords) : BitVec 32 :=
  let c15_i32_622 : BitVec 32 := 15#32
  let c0_i32_621 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_619 : BitVec 32 := 1#32
  let v1306 : BitVec 32 := Scalar.addi v32 c1_i32_619
  let c0_i32_620 : BitVec 32 := 0#32
  let v1307 : BitVec 32 := Scalar.addi v1306 c0_i32_620
  let v1308 : BitVec 32 := Scalar.maxsi c0_i32_621 v1307
  let v1309 : BitVec 32 := Scalar.minsi c15_i32_622 v1308
  let c128_i32_630 : BitVec 32 := 128#32
  let v1319 : BitVec 32 := Scalar.muli v1309 c128_i32_630
  v1319
def k0_mult36 (i : grid0.Coords) : BitVec 32 :=
  let c15_i32_626 : BitVec 32 := 15#32
  let c0_i32_625 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_623 : BitVec 32 := 1#32
  let v1310 : BitVec 32 := Scalar.addi v32 c1_i32_623
  let c1_i32_624 : BitVec 32 := 1#32
  let v1311 : BitVec 32 := Scalar.addi v1310 c1_i32_624
  let v1312 : BitVec 32 := Scalar.maxsi c0_i32_625 v1311
  let v1313 : BitVec 32 := Scalar.minsi c15_i32_626 v1312
  let c128_i32_633 : BitVec 32 := 128#32
  let v1324 : BitVec 32 := Scalar.muli v1313 c128_i32_633
  v1324
def k0_mult37 (i : grid0.Coords) : BitVec 32 :=
  let c15_i32_694 : BitVec 32 := 15#32
  let c0_i32_693 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_691 : BitVec 32 := 1#32
  let v1454 : BitVec 32 := Scalar.addi v32 c1_i32_691
  let c_m1_i32_692 : BitVec 32 := 4294967295#32
  let v1455 : BitVec 32 := Scalar.addi v1454 c_m1_i32_692
  let v1456 : BitVec 32 := Scalar.maxsi c0_i32_693 v1455
  let v1457 : BitVec 32 := Scalar.minsi c15_i32_694 v1456
  let c128_i32_703 : BitVec 32 := 128#32
  let v1466 : BitVec 32 := Scalar.muli v1457 c128_i32_703
  v1466
def k0_mult38 (i : grid0.Coords) : BitVec 32 :=
  let c15_i32_698 : BitVec 32 := 15#32
  let c0_i32_697 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_695 : BitVec 32 := 1#32
  let v1458 : BitVec 32 := Scalar.addi v32 c1_i32_695
  let c0_i32_696 : BitVec 32 := 0#32
  let v1459 : BitVec 32 := Scalar.addi v1458 c0_i32_696
  let v1460 : BitVec 32 := Scalar.maxsi c0_i32_697 v1459
  let v1461 : BitVec 32 := Scalar.minsi c15_i32_698 v1460
  let c128_i32_706 : BitVec 32 := 128#32
  let v1471 : BitVec 32 := Scalar.muli v1461 c128_i32_706
  v1471
def k0_mult39 (i : grid0.Coords) : BitVec 32 :=
  let c15_i32_702 : BitVec 32 := 15#32
  let c0_i32_701 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_699 : BitVec 32 := 1#32
  let v1462 : BitVec 32 := Scalar.addi v32 c1_i32_699
  let c1_i32_700 : BitVec 32 := 1#32
  let v1463 : BitVec 32 := Scalar.addi v1462 c1_i32_700
  let v1464 : BitVec 32 := Scalar.maxsi c0_i32_701 v1463
  let v1465 : BitVec 32 := Scalar.minsi c15_i32_702 v1464
  let c128_i32_709 : BitVec 32 := 128#32
  let v1476 : BitVec 32 := Scalar.muli v1465 c128_i32_709
  v1476
def k0_mult40 (i : grid0.Coords) : BitVec 32 :=
  let c15_i32_739 : BitVec 32 := 15#32
  let c0_i32_738 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_736 : BitVec 32 := 1#32
  let v1554 : BitVec 32 := Scalar.addi v32 c1_i32_736
  let c_m1_i32_737 : BitVec 32 := 4294967295#32
  let v1555 : BitVec 32 := Scalar.addi v1554 c_m1_i32_737
  let v1556 : BitVec 32 := Scalar.maxsi c0_i32_738 v1555
  let v1557 : BitVec 32 := Scalar.minsi c15_i32_739 v1556
  let c128_i32_748 : BitVec 32 := 128#32
  let v1566 : BitVec 32 := Scalar.muli v1557 c128_i32_748
  v1566
def k0_mult41 (i : grid0.Coords) : BitVec 32 :=
  let c15_i32_743 : BitVec 32 := 15#32
  let c0_i32_742 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_740 : BitVec 32 := 1#32
  let v1558 : BitVec 32 := Scalar.addi v32 c1_i32_740
  let c0_i32_741 : BitVec 32 := 0#32
  let v1559 : BitVec 32 := Scalar.addi v1558 c0_i32_741
  let v1560 : BitVec 32 := Scalar.maxsi c0_i32_742 v1559
  let v1561 : BitVec 32 := Scalar.minsi c15_i32_743 v1560
  let c128_i32_751 : BitVec 32 := 128#32
  let v1571 : BitVec 32 := Scalar.muli v1561 c128_i32_751
  v1571
def k0_mult42 (i : grid0.Coords) : BitVec 32 :=
  let c15_i32_747 : BitVec 32 := 15#32
  let c0_i32_746 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_744 : BitVec 32 := 1#32
  let v1562 : BitVec 32 := Scalar.addi v32 c1_i32_744
  let c1_i32_745 : BitVec 32 := 1#32
  let v1563 : BitVec 32 := Scalar.addi v1562 c1_i32_745
  let v1564 : BitVec 32 := Scalar.maxsi c0_i32_746 v1563
  let v1565 : BitVec 32 := Scalar.minsi c15_i32_747 v1564
  let c128_i32_754 : BitVec 32 := 128#32
  let v1576 : BitVec 32 := Scalar.muli v1565 c128_i32_754
  v1576
def k0_mult43 (i : grid0.Coords) : BitVec 32 :=
  let c15_i32_815 : BitVec 32 := 15#32
  let c0_i32_814 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_812 : BitVec 32 := 1#32
  let v1706 : BitVec 32 := Scalar.addi v32 c1_i32_812
  let c_m1_i32_813 : BitVec 32 := 4294967295#32
  let v1707 : BitVec 32 := Scalar.addi v1706 c_m1_i32_813
  let v1708 : BitVec 32 := Scalar.maxsi c0_i32_814 v1707
  let v1709 : BitVec 32 := Scalar.minsi c15_i32_815 v1708
  let c128_i32_824 : BitVec 32 := 128#32
  let v1718 : BitVec 32 := Scalar.muli v1709 c128_i32_824
  v1718
def k0_mult44 (i : grid0.Coords) : BitVec 32 :=
  let c15_i32_819 : BitVec 32 := 15#32
  let c0_i32_818 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_816 : BitVec 32 := 1#32
  let v1710 : BitVec 32 := Scalar.addi v32 c1_i32_816
  let c0_i32_817 : BitVec 32 := 0#32
  let v1711 : BitVec 32 := Scalar.addi v1710 c0_i32_817
  let v1712 : BitVec 32 := Scalar.maxsi c0_i32_818 v1711
  let v1713 : BitVec 32 := Scalar.minsi c15_i32_819 v1712
  let c128_i32_827 : BitVec 32 := 128#32
  let v1723 : BitVec 32 := Scalar.muli v1713 c128_i32_827
  v1723
def k0_mult45 (i : grid0.Coords) : BitVec 32 :=
  let c15_i32_823 : BitVec 32 := 15#32
  let c0_i32_822 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_820 : BitVec 32 := 1#32
  let v1714 : BitVec 32 := Scalar.addi v32 c1_i32_820
  let c1_i32_821 : BitVec 32 := 1#32
  let v1715 : BitVec 32 := Scalar.addi v1714 c1_i32_821
  let v1716 : BitVec 32 := Scalar.maxsi c0_i32_822 v1715
  let v1717 : BitVec 32 := Scalar.minsi c15_i32_823 v1716
  let c128_i32_830 : BitVec 32 := 128#32
  let v1728 : BitVec 32 := Scalar.muli v1717 c128_i32_830
  v1728
def k0_mult46 (i : grid0.Coords) : BitVec 32 :=
  let c15_i32_860 : BitVec 32 := 15#32
  let c0_i32_859 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_857 : BitVec 32 := 1#32
  let v1806 : BitVec 32 := Scalar.addi v32 c1_i32_857
  let c_m1_i32_858 : BitVec 32 := 4294967295#32
  let v1807 : BitVec 32 := Scalar.addi v1806 c_m1_i32_858
  let v1808 : BitVec 32 := Scalar.maxsi c0_i32_859 v1807
  let v1809 : BitVec 32 := Scalar.minsi c15_i32_860 v1808
  let c128_i32_869 : BitVec 32 := 128#32
  let v1818 : BitVec 32 := Scalar.muli v1809 c128_i32_869
  v1818
def k0_mult47 (i : grid0.Coords) : BitVec 32 :=
  let c15_i32_864 : BitVec 32 := 15#32
  let c0_i32_863 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_861 : BitVec 32 := 1#32
  let v1810 : BitVec 32 := Scalar.addi v32 c1_i32_861
  let c0_i32_862 : BitVec 32 := 0#32
  let v1811 : BitVec 32 := Scalar.addi v1810 c0_i32_862
  let v1812 : BitVec 32 := Scalar.maxsi c0_i32_863 v1811
  let v1813 : BitVec 32 := Scalar.minsi c15_i32_864 v1812
  let c128_i32_872 : BitVec 32 := 128#32
  let v1823 : BitVec 32 := Scalar.muli v1813 c128_i32_872
  v1823
def k0_mult48 (i : grid0.Coords) : BitVec 32 :=
  let c15_i32_868 : BitVec 32 := 15#32
  let c0_i32_867 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c1_i32_865 : BitVec 32 := 1#32
  let v1814 : BitVec 32 := Scalar.addi v32 c1_i32_865
  let c1_i32_866 : BitVec 32 := 1#32
  let v1815 : BitVec 32 := Scalar.addi v1814 c1_i32_866
  let v1816 : BitVec 32 := Scalar.maxsi c0_i32_867 v1815
  let v1817 : BitVec 32 := Scalar.minsi c15_i32_868 v1816
  let c128_i32_875 : BitVec 32 := 128#32
  let v1828 : BitVec 32 := Scalar.muli v1817 c128_i32_875
  v1828
def k0_mult49 (i : grid0.Coords) : BitVec 32 :=
  let c15_i32_935 : BitVec 32 := 15#32
  let c0_i32_934 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32 : BitVec 32 := 2#32
  let v1958 : BitVec 32 := Scalar.addi v32 c2_i32
  let c_m1_i32_933 : BitVec 32 := 4294967295#32
  let v1959 : BitVec 32 := Scalar.addi v1958 c_m1_i32_933
  let v1960 : BitVec 32 := Scalar.maxsi c0_i32_934 v1959
  let v1961 : BitVec 32 := Scalar.minsi c15_i32_935 v1960
  let c128_i32_944 : BitVec 32 := 128#32
  let v1970 : BitVec 32 := Scalar.muli v1961 c128_i32_944
  v1970
def k0_mult50 (i : grid0.Coords) : BitVec 32 :=
  let c15_i32_939 : BitVec 32 := 15#32
  let c0_i32_938 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_936 : BitVec 32 := 2#32
  let v1962 : BitVec 32 := Scalar.addi v32 c2_i32_936
  let c0_i32_937 : BitVec 32 := 0#32
  let v1963 : BitVec 32 := Scalar.addi v1962 c0_i32_937
  let v1964 : BitVec 32 := Scalar.maxsi c0_i32_938 v1963
  let v1965 : BitVec 32 := Scalar.minsi c15_i32_939 v1964
  let c128_i32_947 : BitVec 32 := 128#32
  let v1975 : BitVec 32 := Scalar.muli v1965 c128_i32_947
  v1975
def k0_mult51 (i : grid0.Coords) : BitVec 32 :=
  let c15_i32_943 : BitVec 32 := 15#32
  let c0_i32_942 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_940 : BitVec 32 := 2#32
  let v1966 : BitVec 32 := Scalar.addi v32 c2_i32_940
  let c1_i32_941 : BitVec 32 := 1#32
  let v1967 : BitVec 32 := Scalar.addi v1966 c1_i32_941
  let v1968 : BitVec 32 := Scalar.maxsi c0_i32_942 v1967
  let v1969 : BitVec 32 := Scalar.minsi c15_i32_943 v1968
  let c128_i32_950 : BitVec 32 := 128#32
  let v1980 : BitVec 32 := Scalar.muli v1969 c128_i32_950
  v1980
def k0_mult52 (i : grid0.Coords) : BitVec 32 :=
  let c15_i32_980 : BitVec 32 := 15#32
  let c0_i32_979 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_977 : BitVec 32 := 2#32
  let v2058 : BitVec 32 := Scalar.addi v32 c2_i32_977
  let c_m1_i32_978 : BitVec 32 := 4294967295#32
  let v2059 : BitVec 32 := Scalar.addi v2058 c_m1_i32_978
  let v2060 : BitVec 32 := Scalar.maxsi c0_i32_979 v2059
  let v2061 : BitVec 32 := Scalar.minsi c15_i32_980 v2060
  let c128_i32_989 : BitVec 32 := 128#32
  let v2070 : BitVec 32 := Scalar.muli v2061 c128_i32_989
  v2070
def k0_mult53 (i : grid0.Coords) : BitVec 32 :=
  let c15_i32_984 : BitVec 32 := 15#32
  let c0_i32_983 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_981 : BitVec 32 := 2#32
  let v2062 : BitVec 32 := Scalar.addi v32 c2_i32_981
  let c0_i32_982 : BitVec 32 := 0#32
  let v2063 : BitVec 32 := Scalar.addi v2062 c0_i32_982
  let v2064 : BitVec 32 := Scalar.maxsi c0_i32_983 v2063
  let v2065 : BitVec 32 := Scalar.minsi c15_i32_984 v2064
  let c128_i32_992 : BitVec 32 := 128#32
  let v2075 : BitVec 32 := Scalar.muli v2065 c128_i32_992
  v2075
def k0_mult54 (i : grid0.Coords) : BitVec 32 :=
  let c15_i32_988 : BitVec 32 := 15#32
  let c0_i32_987 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_985 : BitVec 32 := 2#32
  let v2066 : BitVec 32 := Scalar.addi v32 c2_i32_985
  let c1_i32_986 : BitVec 32 := 1#32
  let v2067 : BitVec 32 := Scalar.addi v2066 c1_i32_986
  let v2068 : BitVec 32 := Scalar.maxsi c0_i32_987 v2067
  let v2069 : BitVec 32 := Scalar.minsi c15_i32_988 v2068
  let c128_i32_995 : BitVec 32 := 128#32
  let v2080 : BitVec 32 := Scalar.muli v2069 c128_i32_995
  v2080
def k0_mult55 (i : grid0.Coords) : BitVec 32 :=
  let c15_i32_1056 : BitVec 32 := 15#32
  let c0_i32_1055 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1053 : BitVec 32 := 2#32
  let v2210 : BitVec 32 := Scalar.addi v32 c2_i32_1053
  let c_m1_i32_1054 : BitVec 32 := 4294967295#32
  let v2211 : BitVec 32 := Scalar.addi v2210 c_m1_i32_1054
  let v2212 : BitVec 32 := Scalar.maxsi c0_i32_1055 v2211
  let v2213 : BitVec 32 := Scalar.minsi c15_i32_1056 v2212
  let c128_i32_1065 : BitVec 32 := 128#32
  let v2222 : BitVec 32 := Scalar.muli v2213 c128_i32_1065
  v2222
def k0_mult56 (i : grid0.Coords) : BitVec 32 :=
  let c15_i32_1060 : BitVec 32 := 15#32
  let c0_i32_1059 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1057 : BitVec 32 := 2#32
  let v2214 : BitVec 32 := Scalar.addi v32 c2_i32_1057
  let c0_i32_1058 : BitVec 32 := 0#32
  let v2215 : BitVec 32 := Scalar.addi v2214 c0_i32_1058
  let v2216 : BitVec 32 := Scalar.maxsi c0_i32_1059 v2215
  let v2217 : BitVec 32 := Scalar.minsi c15_i32_1060 v2216
  let c128_i32_1068 : BitVec 32 := 128#32
  let v2227 : BitVec 32 := Scalar.muli v2217 c128_i32_1068
  v2227
def k0_mult57 (i : grid0.Coords) : BitVec 32 :=
  let c15_i32_1064 : BitVec 32 := 15#32
  let c0_i32_1063 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1061 : BitVec 32 := 2#32
  let v2218 : BitVec 32 := Scalar.addi v32 c2_i32_1061
  let c1_i32_1062 : BitVec 32 := 1#32
  let v2219 : BitVec 32 := Scalar.addi v2218 c1_i32_1062
  let v2220 : BitVec 32 := Scalar.maxsi c0_i32_1063 v2219
  let v2221 : BitVec 32 := Scalar.minsi c15_i32_1064 v2220
  let c128_i32_1071 : BitVec 32 := 128#32
  let v2232 : BitVec 32 := Scalar.muli v2221 c128_i32_1071
  v2232
def k0_mult58 (i : grid0.Coords) : BitVec 32 :=
  let c15_i32_1101 : BitVec 32 := 15#32
  let c0_i32_1100 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1098 : BitVec 32 := 2#32
  let v2310 : BitVec 32 := Scalar.addi v32 c2_i32_1098
  let c_m1_i32_1099 : BitVec 32 := 4294967295#32
  let v2311 : BitVec 32 := Scalar.addi v2310 c_m1_i32_1099
  let v2312 : BitVec 32 := Scalar.maxsi c0_i32_1100 v2311
  let v2313 : BitVec 32 := Scalar.minsi c15_i32_1101 v2312
  let c128_i32_1110 : BitVec 32 := 128#32
  let v2322 : BitVec 32 := Scalar.muli v2313 c128_i32_1110
  v2322
def k0_mult59 (i : grid0.Coords) : BitVec 32 :=
  let c15_i32_1105 : BitVec 32 := 15#32
  let c0_i32_1104 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1102 : BitVec 32 := 2#32
  let v2314 : BitVec 32 := Scalar.addi v32 c2_i32_1102
  let c0_i32_1103 : BitVec 32 := 0#32
  let v2315 : BitVec 32 := Scalar.addi v2314 c0_i32_1103
  let v2316 : BitVec 32 := Scalar.maxsi c0_i32_1104 v2315
  let v2317 : BitVec 32 := Scalar.minsi c15_i32_1105 v2316
  let c128_i32_1113 : BitVec 32 := 128#32
  let v2327 : BitVec 32 := Scalar.muli v2317 c128_i32_1113
  v2327
def k0_mult60 (i : grid0.Coords) : BitVec 32 :=
  let c15_i32_1109 : BitVec 32 := 15#32
  let c0_i32_1108 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1106 : BitVec 32 := 2#32
  let v2318 : BitVec 32 := Scalar.addi v32 c2_i32_1106
  let c1_i32_1107 : BitVec 32 := 1#32
  let v2319 : BitVec 32 := Scalar.addi v2318 c1_i32_1107
  let v2320 : BitVec 32 := Scalar.maxsi c0_i32_1108 v2319
  let v2321 : BitVec 32 := Scalar.minsi c15_i32_1109 v2320
  let c128_i32_1116 : BitVec 32 := 128#32
  let v2332 : BitVec 32 := Scalar.muli v2321 c128_i32_1116
  v2332
def k0_mult61 (i : grid0.Coords) : BitVec 32 :=
  let c15_i32_1177 : BitVec 32 := 15#32
  let c0_i32_1176 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1174 : BitVec 32 := 2#32
  let v2462 : BitVec 32 := Scalar.addi v32 c2_i32_1174
  let c_m1_i32_1175 : BitVec 32 := 4294967295#32
  let v2463 : BitVec 32 := Scalar.addi v2462 c_m1_i32_1175
  let v2464 : BitVec 32 := Scalar.maxsi c0_i32_1176 v2463
  let v2465 : BitVec 32 := Scalar.minsi c15_i32_1177 v2464
  let c128_i32_1186 : BitVec 32 := 128#32
  let v2474 : BitVec 32 := Scalar.muli v2465 c128_i32_1186
  v2474
def k0_mult62 (i : grid0.Coords) : BitVec 32 :=
  let c15_i32_1181 : BitVec 32 := 15#32
  let c0_i32_1180 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1178 : BitVec 32 := 2#32
  let v2466 : BitVec 32 := Scalar.addi v32 c2_i32_1178
  let c0_i32_1179 : BitVec 32 := 0#32
  let v2467 : BitVec 32 := Scalar.addi v2466 c0_i32_1179
  let v2468 : BitVec 32 := Scalar.maxsi c0_i32_1180 v2467
  let v2469 : BitVec 32 := Scalar.minsi c15_i32_1181 v2468
  let c128_i32_1189 : BitVec 32 := 128#32
  let v2479 : BitVec 32 := Scalar.muli v2469 c128_i32_1189
  v2479
def k0_mult63 (i : grid0.Coords) : BitVec 32 :=
  let c15_i32_1185 : BitVec 32 := 15#32
  let c0_i32_1184 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1182 : BitVec 32 := 2#32
  let v2470 : BitVec 32 := Scalar.addi v32 c2_i32_1182
  let c1_i32_1183 : BitVec 32 := 1#32
  let v2471 : BitVec 32 := Scalar.addi v2470 c1_i32_1183
  let v2472 : BitVec 32 := Scalar.maxsi c0_i32_1184 v2471
  let v2473 : BitVec 32 := Scalar.minsi c15_i32_1185 v2472
  let c128_i32_1192 : BitVec 32 := 128#32
  let v2484 : BitVec 32 := Scalar.muli v2473 c128_i32_1192
  v2484
def k0_mult64 (i : grid0.Coords) : BitVec 32 :=
  let c15_i32_1222 : BitVec 32 := 15#32
  let c0_i32_1221 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1219 : BitVec 32 := 2#32
  let v2562 : BitVec 32 := Scalar.addi v32 c2_i32_1219
  let c_m1_i32_1220 : BitVec 32 := 4294967295#32
  let v2563 : BitVec 32 := Scalar.addi v2562 c_m1_i32_1220
  let v2564 : BitVec 32 := Scalar.maxsi c0_i32_1221 v2563
  let v2565 : BitVec 32 := Scalar.minsi c15_i32_1222 v2564
  let c128_i32_1231 : BitVec 32 := 128#32
  let v2574 : BitVec 32 := Scalar.muli v2565 c128_i32_1231
  v2574
def k0_mult65 (i : grid0.Coords) : BitVec 32 :=
  let c15_i32_1226 : BitVec 32 := 15#32
  let c0_i32_1225 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1223 : BitVec 32 := 2#32
  let v2566 : BitVec 32 := Scalar.addi v32 c2_i32_1223
  let c0_i32_1224 : BitVec 32 := 0#32
  let v2567 : BitVec 32 := Scalar.addi v2566 c0_i32_1224
  let v2568 : BitVec 32 := Scalar.maxsi c0_i32_1225 v2567
  let v2569 : BitVec 32 := Scalar.minsi c15_i32_1226 v2568
  let c128_i32_1234 : BitVec 32 := 128#32
  let v2579 : BitVec 32 := Scalar.muli v2569 c128_i32_1234
  v2579
def k0_mult66 (i : grid0.Coords) : BitVec 32 :=
  let c15_i32_1230 : BitVec 32 := 15#32
  let c0_i32_1229 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1227 : BitVec 32 := 2#32
  let v2570 : BitVec 32 := Scalar.addi v32 c2_i32_1227
  let c1_i32_1228 : BitVec 32 := 1#32
  let v2571 : BitVec 32 := Scalar.addi v2570 c1_i32_1228
  let v2572 : BitVec 32 := Scalar.maxsi c0_i32_1229 v2571
  let v2573 : BitVec 32 := Scalar.minsi c15_i32_1230 v2572
  let c128_i32_1237 : BitVec 32 := 128#32
  let v2584 : BitVec 32 := Scalar.muli v2573 c128_i32_1237
  v2584
def k0_mult67 (i : grid0.Coords) : BitVec 32 :=
  let c15_i32_1298 : BitVec 32 := 15#32
  let c0_i32_1297 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1295 : BitVec 32 := 2#32
  let v2714 : BitVec 32 := Scalar.addi v32 c2_i32_1295
  let c_m1_i32_1296 : BitVec 32 := 4294967295#32
  let v2715 : BitVec 32 := Scalar.addi v2714 c_m1_i32_1296
  let v2716 : BitVec 32 := Scalar.maxsi c0_i32_1297 v2715
  let v2717 : BitVec 32 := Scalar.minsi c15_i32_1298 v2716
  let c128_i32_1307 : BitVec 32 := 128#32
  let v2726 : BitVec 32 := Scalar.muli v2717 c128_i32_1307
  v2726
def k0_mult68 (i : grid0.Coords) : BitVec 32 :=
  let c15_i32_1302 : BitVec 32 := 15#32
  let c0_i32_1301 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1299 : BitVec 32 := 2#32
  let v2718 : BitVec 32 := Scalar.addi v32 c2_i32_1299
  let c0_i32_1300 : BitVec 32 := 0#32
  let v2719 : BitVec 32 := Scalar.addi v2718 c0_i32_1300
  let v2720 : BitVec 32 := Scalar.maxsi c0_i32_1301 v2719
  let v2721 : BitVec 32 := Scalar.minsi c15_i32_1302 v2720
  let c128_i32_1310 : BitVec 32 := 128#32
  let v2731 : BitVec 32 := Scalar.muli v2721 c128_i32_1310
  v2731
def k0_mult69 (i : grid0.Coords) : BitVec 32 :=
  let c15_i32_1306 : BitVec 32 := 15#32
  let c0_i32_1305 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1303 : BitVec 32 := 2#32
  let v2722 : BitVec 32 := Scalar.addi v32 c2_i32_1303
  let c1_i32_1304 : BitVec 32 := 1#32
  let v2723 : BitVec 32 := Scalar.addi v2722 c1_i32_1304
  let v2724 : BitVec 32 := Scalar.maxsi c0_i32_1305 v2723
  let v2725 : BitVec 32 := Scalar.minsi c15_i32_1306 v2724
  let c128_i32_1313 : BitVec 32 := 128#32
  let v2736 : BitVec 32 := Scalar.muli v2725 c128_i32_1313
  v2736
def k0_mult70 (i : grid0.Coords) : BitVec 32 :=
  let c15_i32_1362 : BitVec 32 := 15#32
  let c0_i32_1361 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1359 : BitVec 32 := 2#32
  let v2850 : BitVec 32 := Scalar.addi v32 c2_i32_1359
  let c_m1_i32_1360 : BitVec 32 := 4294967295#32
  let v2851 : BitVec 32 := Scalar.addi v2850 c_m1_i32_1360
  let v2852 : BitVec 32 := Scalar.maxsi c0_i32_1361 v2851
  let v2853 : BitVec 32 := Scalar.minsi c15_i32_1362 v2852
  let c128_i32_1371 : BitVec 32 := 128#32
  let v2862 : BitVec 32 := Scalar.muli v2853 c128_i32_1371
  v2862
def k0_mult71 (i : grid0.Coords) : BitVec 32 :=
  let c15_i32_1366 : BitVec 32 := 15#32
  let c0_i32_1365 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1363 : BitVec 32 := 2#32
  let v2854 : BitVec 32 := Scalar.addi v32 c2_i32_1363
  let c0_i32_1364 : BitVec 32 := 0#32
  let v2855 : BitVec 32 := Scalar.addi v2854 c0_i32_1364
  let v2856 : BitVec 32 := Scalar.maxsi c0_i32_1365 v2855
  let v2857 : BitVec 32 := Scalar.minsi c15_i32_1366 v2856
  let c128_i32_1374 : BitVec 32 := 128#32
  let v2867 : BitVec 32 := Scalar.muli v2857 c128_i32_1374
  v2867
def k0_mult72 (i : grid0.Coords) : BitVec 32 :=
  let c15_i32_1370 : BitVec 32 := 15#32
  let c0_i32_1369 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c2_i32_1367 : BitVec 32 := 2#32
  let v2858 : BitVec 32 := Scalar.addi v32 c2_i32_1367
  let c1_i32_1368 : BitVec 32 := 1#32
  let v2859 : BitVec 32 := Scalar.addi v2858 c1_i32_1368
  let v2860 : BitVec 32 := Scalar.maxsi c0_i32_1369 v2859
  let v2861 : BitVec 32 := Scalar.minsi c15_i32_1370 v2860
  let c128_i32_1377 : BitVec 32 := 128#32
  let v2872 : BitVec 32 := Scalar.muli v2861 c128_i32_1377
  v2872
def k0_mult73 (i : grid0.Coords) : BitVec 32 :=
  let c15_i32_1437 : BitVec 32 := 15#32
  let c0_i32_1436 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32 : BitVec 32 := 3#32
  let v3002 : BitVec 32 := Scalar.addi v32 c3_i32
  let c_m1_i32_1435 : BitVec 32 := 4294967295#32
  let v3003 : BitVec 32 := Scalar.addi v3002 c_m1_i32_1435
  let v3004 : BitVec 32 := Scalar.maxsi c0_i32_1436 v3003
  let v3005 : BitVec 32 := Scalar.minsi c15_i32_1437 v3004
  let c128_i32_1446 : BitVec 32 := 128#32
  let v3014 : BitVec 32 := Scalar.muli v3005 c128_i32_1446
  v3014
def k0_mult74 (i : grid0.Coords) : BitVec 32 :=
  let c15_i32_1441 : BitVec 32 := 15#32
  let c0_i32_1440 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1438 : BitVec 32 := 3#32
  let v3006 : BitVec 32 := Scalar.addi v32 c3_i32_1438
  let c0_i32_1439 : BitVec 32 := 0#32
  let v3007 : BitVec 32 := Scalar.addi v3006 c0_i32_1439
  let v3008 : BitVec 32 := Scalar.maxsi c0_i32_1440 v3007
  let v3009 : BitVec 32 := Scalar.minsi c15_i32_1441 v3008
  let c128_i32_1449 : BitVec 32 := 128#32
  let v3019 : BitVec 32 := Scalar.muli v3009 c128_i32_1449
  v3019
def k0_mult75 (i : grid0.Coords) : BitVec 32 :=
  let c15_i32_1445 : BitVec 32 := 15#32
  let c0_i32_1444 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1442 : BitVec 32 := 3#32
  let v3010 : BitVec 32 := Scalar.addi v32 c3_i32_1442
  let c1_i32_1443 : BitVec 32 := 1#32
  let v3011 : BitVec 32 := Scalar.addi v3010 c1_i32_1443
  let v3012 : BitVec 32 := Scalar.maxsi c0_i32_1444 v3011
  let v3013 : BitVec 32 := Scalar.minsi c15_i32_1445 v3012
  let c128_i32_1452 : BitVec 32 := 128#32
  let v3024 : BitVec 32 := Scalar.muli v3013 c128_i32_1452
  v3024
def k0_mult76 (i : grid0.Coords) : BitVec 32 :=
  let c15_i32_1482 : BitVec 32 := 15#32
  let c0_i32_1481 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1479 : BitVec 32 := 3#32
  let v3102 : BitVec 32 := Scalar.addi v32 c3_i32_1479
  let c_m1_i32_1480 : BitVec 32 := 4294967295#32
  let v3103 : BitVec 32 := Scalar.addi v3102 c_m1_i32_1480
  let v3104 : BitVec 32 := Scalar.maxsi c0_i32_1481 v3103
  let v3105 : BitVec 32 := Scalar.minsi c15_i32_1482 v3104
  let c128_i32_1491 : BitVec 32 := 128#32
  let v3114 : BitVec 32 := Scalar.muli v3105 c128_i32_1491
  v3114
def k0_mult77 (i : grid0.Coords) : BitVec 32 :=
  let c15_i32_1486 : BitVec 32 := 15#32
  let c0_i32_1485 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1483 : BitVec 32 := 3#32
  let v3106 : BitVec 32 := Scalar.addi v32 c3_i32_1483
  let c0_i32_1484 : BitVec 32 := 0#32
  let v3107 : BitVec 32 := Scalar.addi v3106 c0_i32_1484
  let v3108 : BitVec 32 := Scalar.maxsi c0_i32_1485 v3107
  let v3109 : BitVec 32 := Scalar.minsi c15_i32_1486 v3108
  let c128_i32_1494 : BitVec 32 := 128#32
  let v3119 : BitVec 32 := Scalar.muli v3109 c128_i32_1494
  v3119
def k0_mult78 (i : grid0.Coords) : BitVec 32 :=
  let c15_i32_1490 : BitVec 32 := 15#32
  let c0_i32_1489 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1487 : BitVec 32 := 3#32
  let v3110 : BitVec 32 := Scalar.addi v32 c3_i32_1487
  let c1_i32_1488 : BitVec 32 := 1#32
  let v3111 : BitVec 32 := Scalar.addi v3110 c1_i32_1488
  let v3112 : BitVec 32 := Scalar.maxsi c0_i32_1489 v3111
  let v3113 : BitVec 32 := Scalar.minsi c15_i32_1490 v3112
  let c128_i32_1497 : BitVec 32 := 128#32
  let v3124 : BitVec 32 := Scalar.muli v3113 c128_i32_1497
  v3124
def k0_mult79 (i : grid0.Coords) : BitVec 32 :=
  let c15_i32_1558 : BitVec 32 := 15#32
  let c0_i32_1557 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1555 : BitVec 32 := 3#32
  let v3254 : BitVec 32 := Scalar.addi v32 c3_i32_1555
  let c_m1_i32_1556 : BitVec 32 := 4294967295#32
  let v3255 : BitVec 32 := Scalar.addi v3254 c_m1_i32_1556
  let v3256 : BitVec 32 := Scalar.maxsi c0_i32_1557 v3255
  let v3257 : BitVec 32 := Scalar.minsi c15_i32_1558 v3256
  let c128_i32_1567 : BitVec 32 := 128#32
  let v3266 : BitVec 32 := Scalar.muli v3257 c128_i32_1567
  v3266
def k0_mult80 (i : grid0.Coords) : BitVec 32 :=
  let c15_i32_1562 : BitVec 32 := 15#32
  let c0_i32_1561 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1559 : BitVec 32 := 3#32
  let v3258 : BitVec 32 := Scalar.addi v32 c3_i32_1559
  let c0_i32_1560 : BitVec 32 := 0#32
  let v3259 : BitVec 32 := Scalar.addi v3258 c0_i32_1560
  let v3260 : BitVec 32 := Scalar.maxsi c0_i32_1561 v3259
  let v3261 : BitVec 32 := Scalar.minsi c15_i32_1562 v3260
  let c128_i32_1570 : BitVec 32 := 128#32
  let v3271 : BitVec 32 := Scalar.muli v3261 c128_i32_1570
  v3271
def k0_mult81 (i : grid0.Coords) : BitVec 32 :=
  let c15_i32_1566 : BitVec 32 := 15#32
  let c0_i32_1565 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1563 : BitVec 32 := 3#32
  let v3262 : BitVec 32 := Scalar.addi v32 c3_i32_1563
  let c1_i32_1564 : BitVec 32 := 1#32
  let v3263 : BitVec 32 := Scalar.addi v3262 c1_i32_1564
  let v3264 : BitVec 32 := Scalar.maxsi c0_i32_1565 v3263
  let v3265 : BitVec 32 := Scalar.minsi c15_i32_1566 v3264
  let c128_i32_1573 : BitVec 32 := 128#32
  let v3276 : BitVec 32 := Scalar.muli v3265 c128_i32_1573
  v3276
def k0_mult82 (i : grid0.Coords) : BitVec 32 :=
  let c15_i32_1603 : BitVec 32 := 15#32
  let c0_i32_1602 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1600 : BitVec 32 := 3#32
  let v3354 : BitVec 32 := Scalar.addi v32 c3_i32_1600
  let c_m1_i32_1601 : BitVec 32 := 4294967295#32
  let v3355 : BitVec 32 := Scalar.addi v3354 c_m1_i32_1601
  let v3356 : BitVec 32 := Scalar.maxsi c0_i32_1602 v3355
  let v3357 : BitVec 32 := Scalar.minsi c15_i32_1603 v3356
  let c128_i32_1612 : BitVec 32 := 128#32
  let v3366 : BitVec 32 := Scalar.muli v3357 c128_i32_1612
  v3366
def k0_mult83 (i : grid0.Coords) : BitVec 32 :=
  let c15_i32_1607 : BitVec 32 := 15#32
  let c0_i32_1606 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1604 : BitVec 32 := 3#32
  let v3358 : BitVec 32 := Scalar.addi v32 c3_i32_1604
  let c0_i32_1605 : BitVec 32 := 0#32
  let v3359 : BitVec 32 := Scalar.addi v3358 c0_i32_1605
  let v3360 : BitVec 32 := Scalar.maxsi c0_i32_1606 v3359
  let v3361 : BitVec 32 := Scalar.minsi c15_i32_1607 v3360
  let c128_i32_1615 : BitVec 32 := 128#32
  let v3371 : BitVec 32 := Scalar.muli v3361 c128_i32_1615
  v3371
def k0_mult84 (i : grid0.Coords) : BitVec 32 :=
  let c15_i32_1611 : BitVec 32 := 15#32
  let c0_i32_1610 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1608 : BitVec 32 := 3#32
  let v3362 : BitVec 32 := Scalar.addi v32 c3_i32_1608
  let c1_i32_1609 : BitVec 32 := 1#32
  let v3363 : BitVec 32 := Scalar.addi v3362 c1_i32_1609
  let v3364 : BitVec 32 := Scalar.maxsi c0_i32_1610 v3363
  let v3365 : BitVec 32 := Scalar.minsi c15_i32_1611 v3364
  let c128_i32_1618 : BitVec 32 := 128#32
  let v3376 : BitVec 32 := Scalar.muli v3365 c128_i32_1618
  v3376
def k0_mult85 (i : grid0.Coords) : BitVec 32 :=
  let c15_i32_1679 : BitVec 32 := 15#32
  let c0_i32_1678 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1676 : BitVec 32 := 3#32
  let v3506 : BitVec 32 := Scalar.addi v32 c3_i32_1676
  let c_m1_i32_1677 : BitVec 32 := 4294967295#32
  let v3507 : BitVec 32 := Scalar.addi v3506 c_m1_i32_1677
  let v3508 : BitVec 32 := Scalar.maxsi c0_i32_1678 v3507
  let v3509 : BitVec 32 := Scalar.minsi c15_i32_1679 v3508
  let c128_i32_1688 : BitVec 32 := 128#32
  let v3518 : BitVec 32 := Scalar.muli v3509 c128_i32_1688
  v3518
def k0_mult86 (i : grid0.Coords) : BitVec 32 :=
  let c15_i32_1683 : BitVec 32 := 15#32
  let c0_i32_1682 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1680 : BitVec 32 := 3#32
  let v3510 : BitVec 32 := Scalar.addi v32 c3_i32_1680
  let c0_i32_1681 : BitVec 32 := 0#32
  let v3511 : BitVec 32 := Scalar.addi v3510 c0_i32_1681
  let v3512 : BitVec 32 := Scalar.maxsi c0_i32_1682 v3511
  let v3513 : BitVec 32 := Scalar.minsi c15_i32_1683 v3512
  let c128_i32_1691 : BitVec 32 := 128#32
  let v3523 : BitVec 32 := Scalar.muli v3513 c128_i32_1691
  v3523
def k0_mult87 (i : grid0.Coords) : BitVec 32 :=
  let c15_i32_1687 : BitVec 32 := 15#32
  let c0_i32_1686 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1684 : BitVec 32 := 3#32
  let v3514 : BitVec 32 := Scalar.addi v32 c3_i32_1684
  let c1_i32_1685 : BitVec 32 := 1#32
  let v3515 : BitVec 32 := Scalar.addi v3514 c1_i32_1685
  let v3516 : BitVec 32 := Scalar.maxsi c0_i32_1686 v3515
  let v3517 : BitVec 32 := Scalar.minsi c15_i32_1687 v3516
  let c128_i32_1694 : BitVec 32 := 128#32
  let v3528 : BitVec 32 := Scalar.muli v3517 c128_i32_1694
  v3528
def k0_mult88 (i : grid0.Coords) : BitVec 32 :=
  let c15_i32_1724 : BitVec 32 := 15#32
  let c0_i32_1723 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1721 : BitVec 32 := 3#32
  let v3606 : BitVec 32 := Scalar.addi v32 c3_i32_1721
  let c_m1_i32_1722 : BitVec 32 := 4294967295#32
  let v3607 : BitVec 32 := Scalar.addi v3606 c_m1_i32_1722
  let v3608 : BitVec 32 := Scalar.maxsi c0_i32_1723 v3607
  let v3609 : BitVec 32 := Scalar.minsi c15_i32_1724 v3608
  let c128_i32_1733 : BitVec 32 := 128#32
  let v3618 : BitVec 32 := Scalar.muli v3609 c128_i32_1733
  v3618
def k0_mult89 (i : grid0.Coords) : BitVec 32 :=
  let c15_i32_1728 : BitVec 32 := 15#32
  let c0_i32_1727 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1725 : BitVec 32 := 3#32
  let v3610 : BitVec 32 := Scalar.addi v32 c3_i32_1725
  let c0_i32_1726 : BitVec 32 := 0#32
  let v3611 : BitVec 32 := Scalar.addi v3610 c0_i32_1726
  let v3612 : BitVec 32 := Scalar.maxsi c0_i32_1727 v3611
  let v3613 : BitVec 32 := Scalar.minsi c15_i32_1728 v3612
  let c128_i32_1736 : BitVec 32 := 128#32
  let v3623 : BitVec 32 := Scalar.muli v3613 c128_i32_1736
  v3623
def k0_mult90 (i : grid0.Coords) : BitVec 32 :=
  let c15_i32_1732 : BitVec 32 := 15#32
  let c0_i32_1731 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1729 : BitVec 32 := 3#32
  let v3614 : BitVec 32 := Scalar.addi v32 c3_i32_1729
  let c1_i32_1730 : BitVec 32 := 1#32
  let v3615 : BitVec 32 := Scalar.addi v3614 c1_i32_1730
  let v3616 : BitVec 32 := Scalar.maxsi c0_i32_1731 v3615
  let v3617 : BitVec 32 := Scalar.minsi c15_i32_1732 v3616
  let c128_i32_1739 : BitVec 32 := 128#32
  let v3628 : BitVec 32 := Scalar.muli v3617 c128_i32_1739
  v3628
def k0_mult91 (i : grid0.Coords) : BitVec 32 :=
  let c15_i32_1800 : BitVec 32 := 15#32
  let c0_i32_1799 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1797 : BitVec 32 := 3#32
  let v3758 : BitVec 32 := Scalar.addi v32 c3_i32_1797
  let c_m1_i32_1798 : BitVec 32 := 4294967295#32
  let v3759 : BitVec 32 := Scalar.addi v3758 c_m1_i32_1798
  let v3760 : BitVec 32 := Scalar.maxsi c0_i32_1799 v3759
  let v3761 : BitVec 32 := Scalar.minsi c15_i32_1800 v3760
  let c128_i32_1809 : BitVec 32 := 128#32
  let v3770 : BitVec 32 := Scalar.muli v3761 c128_i32_1809
  v3770
def k0_mult92 (i : grid0.Coords) : BitVec 32 :=
  let c15_i32_1804 : BitVec 32 := 15#32
  let c0_i32_1803 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1801 : BitVec 32 := 3#32
  let v3762 : BitVec 32 := Scalar.addi v32 c3_i32_1801
  let c0_i32_1802 : BitVec 32 := 0#32
  let v3763 : BitVec 32 := Scalar.addi v3762 c0_i32_1802
  let v3764 : BitVec 32 := Scalar.maxsi c0_i32_1803 v3763
  let v3765 : BitVec 32 := Scalar.minsi c15_i32_1804 v3764
  let c128_i32_1812 : BitVec 32 := 128#32
  let v3775 : BitVec 32 := Scalar.muli v3765 c128_i32_1812
  v3775
def k0_mult93 (i : grid0.Coords) : BitVec 32 :=
  let c15_i32_1808 : BitVec 32 := 15#32
  let c0_i32_1807 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1805 : BitVec 32 := 3#32
  let v3766 : BitVec 32 := Scalar.addi v32 c3_i32_1805
  let c1_i32_1806 : BitVec 32 := 1#32
  let v3767 : BitVec 32 := Scalar.addi v3766 c1_i32_1806
  let v3768 : BitVec 32 := Scalar.maxsi c0_i32_1807 v3767
  let v3769 : BitVec 32 := Scalar.minsi c15_i32_1808 v3768
  let c128_i32_1815 : BitVec 32 := 128#32
  let v3780 : BitVec 32 := Scalar.muli v3769 c128_i32_1815
  v3780
def k0_mult94 (i : grid0.Coords) : BitVec 32 :=
  let c15_i32_1845 : BitVec 32 := 15#32
  let c0_i32_1844 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1842 : BitVec 32 := 3#32
  let v3858 : BitVec 32 := Scalar.addi v32 c3_i32_1842
  let c_m1_i32_1843 : BitVec 32 := 4294967295#32
  let v3859 : BitVec 32 := Scalar.addi v3858 c_m1_i32_1843
  let v3860 : BitVec 32 := Scalar.maxsi c0_i32_1844 v3859
  let v3861 : BitVec 32 := Scalar.minsi c15_i32_1845 v3860
  let c128_i32_1854 : BitVec 32 := 128#32
  let v3870 : BitVec 32 := Scalar.muli v3861 c128_i32_1854
  v3870
def k0_mult95 (i : grid0.Coords) : BitVec 32 :=
  let c15_i32_1849 : BitVec 32 := 15#32
  let c0_i32_1848 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1846 : BitVec 32 := 3#32
  let v3862 : BitVec 32 := Scalar.addi v32 c3_i32_1846
  let c0_i32_1847 : BitVec 32 := 0#32
  let v3863 : BitVec 32 := Scalar.addi v3862 c0_i32_1847
  let v3864 : BitVec 32 := Scalar.maxsi c0_i32_1848 v3863
  let v3865 : BitVec 32 := Scalar.minsi c15_i32_1849 v3864
  let c128_i32_1857 : BitVec 32 := 128#32
  let v3875 : BitVec 32 := Scalar.muli v3865 c128_i32_1857
  v3875
def k0_mult96 (i : grid0.Coords) : BitVec 32 :=
  let c15_i32_1853 : BitVec 32 := 15#32
  let c0_i32_1852 : BitVec 32 := 0#32
  let arg0 : BitVec 32 := BitVec.ofNat 32 (i 0).val
  let c4_i32 : BitVec 32 := 4#32
  let c0_i32_17 : BitVec 32 := 0#32
  let v22 : BitVec 1 := Scalar.cmpi .eq c4_i32 c0_i32_17
  let c1_i32 : BitVec 32 := 1#32
  let v23 : BitVec 32 := Scalar.select v22 c1_i32 c4_i32
  let v24 : BitVec 32 := Scalar.remsi arg0 v23
  let c0_i32_19 : BitVec 32 := 0#32
  let v26 : BitVec 1 := Scalar.cmpi .slt v24 c0_i32_19
  let c0_i32_20 : BitVec 32 := 0#32
  let v27 : BitVec 1 := Scalar.cmpi .slt v23 c0_i32_20
  let v28 : BitVec 1 := Scalar.xori v26 v27
  let c0_i32_18 : BitVec 32 := 0#32
  let v25 : BitVec 1 := Scalar.cmpi .ne v24 c0_i32_18
  let v29 : BitVec 1 := Scalar.andi v28 v25
  let v30 : BitVec 32 := Scalar.addi v24 v23
  let v31 : BitVec 32 := Scalar.select v29 v30 v24
  let c4_i32_21 : BitVec 32 := 4#32
  let v32 : BitVec 32 := Scalar.muli v31 c4_i32_21
  let c3_i32_1850 : BitVec 32 := 3#32
  let v3866 : BitVec 32 := Scalar.addi v32 c3_i32_1850
  let c1_i32_1851 : BitVec 32 := 1#32
  let v3867 : BitVec 32 := Scalar.addi v3866 c1_i32_1851
  let v3868 : BitVec 32 := Scalar.maxsi c0_i32_1852 v3867
  let v3869 : BitVec 32 := Scalar.minsi c15_i32_1853 v3868
  let c128_i32_1860 : BitVec 32 := 128#32
  let v3880 : BitVec 32 := Scalar.muli v3869 c128_i32_1860
  v3880
def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 4 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c32_i32 : BitVec 32 := 32#32
  let v0 : BitVec 32 := Scalar.minsi arg0 c32_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c32_i32_5 : BitVec 32 := 32#32
  let v19 : BitVec 32 := Scalar.minsi arg0 c32_i32_5
  let c11_i32_6 : BitVec 32 := 11#32
  let c0_i32_7 : BitVec 32 := 0#32
  let v20 : BitVec 1 := Scalar.cmpi .eq c11_i32_6 c0_i32_7
  let c1_i32_8 : BitVec 32 := 1#32
  let v21 : BitVec 32 := Scalar.select v20 c1_i32_8 c11_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v18.toNat, c0_i32_12.toNat, v29.toNat]

def cc0_transform_12 (i : grid0.Coords) : Fin 3 → Nat :=
  let arg0 : BitVec 32 := BitVec.ofNat 32 (i 0).val
  let c32_i32 : BitVec 32 := 32#32
  let v0 : BitVec 32 := Scalar.minsi arg0 c32_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c32_i32_5 : BitVec 32 := 32#32
  let v19 : BitVec 32 := Scalar.minsi arg0 c32_i32_5
  let c11_i32_6 : BitVec 32 := 11#32
  let c0_i32_7 : BitVec 32 := 0#32
  let v20 : BitVec 1 := Scalar.cmpi .eq c11_i32_6 c0_i32_7
  let c1_i32_8 : BitVec 32 := 1#32
  let v21 : BitVec 32 := Scalar.select v20 c1_i32_8 c11_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v18.toNat, v29.toNat, c0_i32_12.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_14 (i : grid0.Coords) : Fin 3 → Nat :=
  let arg0 : BitVec 32 := BitVec.ofNat 32 (i 0).val
  let c32_i32 : BitVec 32 := 32#32
  let v0 : BitVec 32 := Scalar.minsi arg0 c32_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.minsi arg0 c32_i32_4
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_15 (i : grid0.Coords) : Fin 3 → Nat :=
  let arg0 : BitVec 32 := BitVec.ofNat 32 (i 0).val
  let c32_i32 : BitVec 32 := 32#32
  let v0 : BitVec 32 := Scalar.minsi arg0 c32_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.minsi arg0 c32_i32_4
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x1024 : Shape := ⟨3, ![16, 2048, 1024]⟩
abbrev S16x2048x256 : Shape := ⟨3, ![16, 2048, 256]⟩
abbrev S16x256x256 : Shape := ⟨3, ![16, 256, 256]⟩
abbrev S16x9x1024 : Shape := ⟨3, ![16, 9, 1024]⟩
abbrev S1024x1024 : Shape := ⟨2, ![1024, 1024]⟩
abbrev S16 : Shape := ⟨1, ![16]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S16x2048x4x4x64 : Shape := ⟨5, ![16, 2048, 4, 4, 64]⟩
abbrev S16x2048x4x64 : Shape := ⟨4, ![16, 2048, 4, 64]⟩
abbrev S16x256x4x64 : Shape := ⟨4, ![16, 256, 4, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x4x2048x2048x4 : Shape := ⟨5, ![16, 4, 2048, 2048, 4]⟩
abbrev S16x4x4x2048x2048 : Shape := ⟨5, ![16, 4, 4, 2048, 2048]⟩
abbrev S16x4x256x2048x4 : Shape := ⟨5, ![16, 4, 256, 2048, 4]⟩
abbrev S16x4x4x2048x256 : Shape := ⟨5, ![16, 4, 4, 2048, 256]⟩
abbrev S1x4x4x1x1 : Shape := ⟨5, ![1, 4, 4, 1, 1]⟩
abbrev S16x4x4x2048x1 : Shape := ⟨5, ![16, 4, 4, 2048, 1]⟩
abbrev S16x4x4x2048x2305 : Shape := ⟨5, ![16, 4, 4, 2048, 2305]⟩
abbrev S16x4x4x2048 : Shape := ⟨4, ![16, 4, 4, 2048]⟩
abbrev S16x4x64x4x2048 : Shape := ⟨5, ![16, 4, 64, 4, 2048]⟩
abbrev S16x1x1024 : Shape := ⟨3, ![16, 1, 1024]⟩
abbrev S16x1024 : Shape := ⟨2, ![16, 1024]⟩
abbrev S16x2048 : Shape := ⟨2, ![16, 2048]⟩
abbrev S16x2048x1 : Shape := ⟨3, ![16, 2048, 1]⟩
abbrev S1x1x1024 : Shape := ⟨3, ![1, 1, 1024]⟩
abbrev S4x1024x5632 : Shape := ⟨3, ![4, 1024, 5632]⟩
abbrev S3x1024x5632 : Shape := ⟨3, ![3, 1024, 5632]⟩
abbrev S4x2816x1024 : Shape := ⟨3, ![4, 2816, 1024]⟩
abbrev S3x2816x1024 : Shape := ⟨3, ![3, 2816, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x256x256, .f32⟩
  | .hbm, ⟨4, _⟩ => ⟨S16x256x256, .f32⟩
  | .hbm, ⟨5, _⟩ => ⟨S16x2048x1024, .f32⟩
  | .hbm, ⟨6, _⟩ => ⟨S16x9x1024, .f32⟩
  | .hbm, ⟨7, _⟩ => ⟨S1024x1024, .f32⟩
  | .hbm, ⟨8, _⟩ => ⟨S16, .f32⟩
  | .hbm, ⟨9, _⟩ => ⟨S1024, .f32⟩
  | .hbm, ⟨10, _⟩ => ⟨S1024, .f32⟩
  | .hbm, ⟨11, _⟩ => ⟨S2x2x1024x5632, .f32⟩
  | .hbm, ⟨12, _⟩ => ⟨S2x2x2816x1024, .f32⟩
  | .hbm, ⟨13, _⟩ => ⟨S16x2048x4x4x64, .f32⟩
  | .hbm, ⟨14, _⟩ => ⟨S16x2048x4x64, .f32⟩
  | .hbm, ⟨15, _⟩ => ⟨S16x2048x4x64, .f32⟩
  | .hbm, ⟨16, _⟩ => ⟨S16x256x4x64, .f32⟩
  | .hbm, ⟨17, _⟩ => ⟨S16x256x4x64, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S16x4x2048x2048x4, .f32⟩
  | .hbm, ⟨29, _⟩ => ⟨S16x4x4x2048x2048, .f32⟩
  | .hbm, ⟨30, _⟩ => ⟨S_, .f32⟩
  | .hbm, ⟨31, _⟩ => ⟨S_, .f32⟩
  | .hbm, ⟨32, _⟩ => ⟨S16x4x4x2048x2048, .i1⟩
  | .hbm, ⟨33, _⟩ => ⟨S16x4x4x2048x2048, .f32⟩
  | .hbm, ⟨34, _⟩ => ⟨S16x4x4x2048x2048, .f32⟩
  | .hbm, ⟨35, _⟩ => ⟨S16x4x256x2048x4, .f32⟩
  | .hbm, ⟨36, _⟩ => ⟨S16x4x4x2048x256, .f32⟩
  | .hbm, ⟨37, _⟩ => ⟨S1x4x4x1x1, .f32⟩
  | .hbm, ⟨38, _⟩ => ⟨S16x4x4x2048x1, .f32⟩
  | .hbm, ⟨39, _⟩ => ⟨S16x4x4x2048x2305, .f32⟩
  | .hbm, ⟨40, _⟩ => ⟨S_, .f32⟩
  | .hbm, ⟨41, _⟩ => ⟨S16x4x4x2048, .f32⟩
  | .hbm, ⟨42, _⟩ => ⟨S_, .f32⟩
  | .hbm, ⟨43, _⟩ => ⟨S16x4x4x2048, .f32⟩
  | .hbm, ⟨44, _⟩ => ⟨S16x4x4x2048, .f32⟩
  | .hbm, ⟨45, _⟩ => ⟨S16x4x4x2048x1, .f32⟩
  | .hbm, ⟨46, _⟩ => ⟨S16x4x4x2048x2305, .f32⟩
  | .hbm, ⟨47, _⟩ => ⟨S16x4x4x2048x2305, .f32⟩
  | .hbm, ⟨48, _⟩ => ⟨S16x4x4x2048x2305, .f32⟩
  | .hbm, ⟨49, _⟩ => ⟨S_, .f32⟩
  | .hbm, ⟨50, _⟩ => ⟨S16x4x4x2048, .f32⟩
  | .hbm, ⟨51, _⟩ => ⟨S16x4x4x2048x1, .f32⟩
  | .hbm, ⟨52, _⟩ => ⟨S16x4x4x2048x2305, .f32⟩
  | .hbm, ⟨53, _⟩ => ⟨S16x4x4x2048x2305, .f32⟩
  | .hbm, ⟨54, _⟩ => ⟨S16x4x4x2048x2048, .f32⟩
  | .hbm, ⟨55, _⟩ => ⟨S16x4x64x4x2048, .f32⟩
  | .hbm, ⟨56, _⟩ => ⟨S16x2048x4x4x64, .f32⟩
  | .hbm, ⟨57, _⟩ => ⟨S16x4x4x2048x256, .f32⟩
  | .hbm, ⟨58, _⟩ => ⟨S16x4x64x4x2048, .f32⟩
  | .hbm, ⟨59, _⟩ => ⟨S16x2048x4x4x64, .f32⟩
  | .hbm, ⟨60, _⟩ => ⟨S16x2048x4x4x64, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x2048x1024, .f32⟩
  | .hbm, ⟨65, _⟩ => ⟨S16x2048x1024, .f32⟩
  | .hbm, ⟨66, _⟩ => ⟨S16x1x1024, .f32⟩
  | .hbm, ⟨67, _⟩ => ⟨S16x1024, .f32⟩
  | .hbm, ⟨68, _⟩ => ⟨S16x1x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S_, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S16x2048x1, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S4x1024x5632, .f32⟩
  | .hbm, ⟨102, _⟩ => ⟨S3x1024x5632, .f32⟩
  | .hbm, ⟨103, _⟩ => ⟨S3x1024x5632, .bf16⟩
  | .hbm, ⟨104, _⟩ => ⟨S4x2816x1024, .f32⟩
  | .hbm, ⟨105, _⟩ => ⟨S3x2816x1024, .f32⟩
  | .hbm, ⟨106, _⟩ => ⟨S3x2816x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

def κ : String → Option EReal := fun
  | "mask" => some ⊥
  | _ => none
-- ==== Ffn.lean ====
abbrev S16x2048x1024 : Shape := ⟨3, ![16, 2048, 1024]⟩
abbrev S16x9x1024 : Shape := ⟨3, ![16, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S4x1024x5632 : Shape := ⟨3, ![4, 1024, 5632]⟩
abbrev S3x1024x5632 : Shape := ⟨3, ![3, 1024, 5632]⟩
abbrev S4x2816x1024 : Shape := ⟨3, ![4, 2816, 1024]⟩
abbrev S3x2816x1024 : Shape := ⟨3, ![3, 2816, 1024]⟩
abbrev S1x1x1024 : Shape := ⟨3, ![1, 1, 1024]⟩
abbrev S1024 : Shape := ⟨1, ![1024]⟩
abbrev S1x1024 : Shape := ⟨2, ![1, 1024]⟩
abbrev S1x1024x1024 : Shape := ⟨3, ![1, 1024, 1024]⟩
abbrev S1x9x1024 : Shape := ⟨3, ![1, 9, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 19
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S4x1024x5632, .f32⟩
  | .hbm, ⟨7, _⟩ => ⟨S3x1024x5632, .f32⟩
  | .hbm, ⟨8, _⟩ => ⟨S3x1024x5632, .bf16⟩
  | .hbm, ⟨9, _⟩ => ⟨S4x2816x1024, .f32⟩
  | .hbm, ⟨10, _⟩ => ⟨S3x2816x1024, .f32⟩
  | .hbm, ⟨11, _⟩ => ⟨S3x2816x1024, .bf16⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | .local _ .vmem, ⟨11, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16x2048x1024 : Shape := ⟨3, ![16, 2048, 1024]⟩
abbrev S16x9x1024 : Shape := ⟨3, ![16, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S16x1x1024 : Shape := ⟨3, ![16, 1, 1024]⟩
abbrev S16x1024 : Shape := ⟨2, ![16, 1024]⟩
abbrev S_ : Shape := ⟨0, ![]⟩
abbrev S1x1x1024x5632 : Shape := ⟨4, ![1, 1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S16x1x1024, .f32⟩
  | .hbm, ⟨7, _⟩ => ⟨S16x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S1x1x1024x5632, .f32⟩
  | .hbm, ⟨20, _⟩ => ⟨S1024x5632, .f32⟩
  | .hbm, ⟨21, _⟩ => ⟨S16x2048x5632, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S_, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S1x1x2816x1024, .f32⟩
  | .hbm, ⟨35, _⟩ => ⟨S2816x1024, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S16x1x1024, .f32⟩
  | .hbm, ⟨44, _⟩ => ⟨S16x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S1024, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x2048, .f32⟩
  | .hbm, ⟨64, _⟩ => ⟨S16x2048x1, .f32⟩
  | .hbm, ⟨65, _⟩ => ⟨S_, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Qkv.lean ====
abbrev S16x2048x1024 : Shape := ⟨3, ![16, 2048, 1024]⟩
abbrev S16x9x1024 : Shape := ⟨3, ![16, 9, 1024]⟩
abbrev S1024x1536 : Shape := ⟨2, ![1024, 1536]⟩
abbrev S1536 : Shape := ⟨1, ![1536]⟩
abbrev S2048x32 : Shape := ⟨2, ![2048, 32]⟩
abbrev S2048x16 : Shape := ⟨2, ![2048, 16]⟩
abbrev S_ : Shape := ⟨0, ![]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1536 : Shape := ⟨2, ![1, 1536]⟩
abbrev S16x2048x512 : Shape := ⟨3, ![16, 2048, 512]⟩
abbrev S16x16x512x128 : Shape := ⟨4, ![16, 16, 512, 128]⟩
abbrev S1x1024x1024 : Shape := ⟨3, ![1, 1024, 1024]⟩
abbrev S1x9x1024 : Shape := ⟨3, ![1, 9, 1024]⟩
abbrev S1024x128 : Shape := ⟨2, ![1024, 128]⟩
abbrev S1x1024x512 : Shape := ⟨3, ![1, 1024, 512]⟩
abbrev S1x8x512x128 : Shape := ⟨4, ![1, 8, 512, 128]⟩
abbrev S1024x1024 : Shape := ⟨2, ![1024, 1024]⟩
abbrev S1x1x1024 : Shape := ⟨3, ![1, 1, 1024]⟩
abbrev S1x1024 : Shape := ⟨2, ![1, 1024]⟩
abbrev S1024x256 : Shape := ⟨2, ![1024, 256]⟩
abbrev S1024x64 : Shape := ⟨2, ![1024, 64]⟩
abbrev S1024x512 : Shape := ⟨2, ![1024, 512]⟩
abbrev S128x512 : Shape := ⟨2, ![128, 512]⟩
abbrev S512x128 : Shape := ⟨2, ![512, 128]⟩
abbrev S1x1x512x128 : Shape := ⟨4, ![1, 1, 512, 128]⟩

abbrev nBuf : Space → Nat
  | .hbm => 31
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024x1536, .f32⟩
  | .hbm, ⟨3, _⟩ => ⟨S1536, .f32⟩
  | .hbm, ⟨4, _⟩ => ⟨S2048x32, .f32⟩
  | .hbm, ⟨5, _⟩ => ⟨S2048x32, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S_, .f32⟩
  | .hbm, ⟨11, _⟩ => ⟨S2048x16, .f32⟩
  | .hbm, ⟨12, _⟩ => ⟨S2048x64, .f32⟩
  | .hbm, ⟨13, _⟩ => ⟨S2048x16, .f32⟩
  | .hbm, ⟨14, _⟩ => ⟨S2048x16, .f32⟩
  | .hbm, ⟨15, _⟩ => ⟨S2048x64, .f32⟩
  | .hbm, ⟨16, _⟩ => ⟨S2048x64, .f32⟩
  | .hbm, ⟨17, _⟩ => ⟨S1x2048x1x64, .f32⟩
  | .hbm, ⟨18, _⟩ => ⟨S1x2048x2x64, .f32⟩
  | .hbm, ⟨19, _⟩ => ⟨S2048x128, .f32⟩
  | .hbm, ⟨20, _⟩ => ⟨S1x2048x1x64, .f32⟩
  | .hbm, ⟨21, _⟩ => ⟨S1x2048x2x64, .f32⟩
  | .hbm, ⟨22, _⟩ => ⟨S2048x128, .f32⟩
  | .hbm, ⟨23, _⟩ => ⟨S1x2048x1x64, .f32⟩
  | .hbm, ⟨24, _⟩ => ⟨S1x2048x2x64, .f32⟩
  | .hbm, ⟨25, _⟩ => ⟨S2048x128, .f32⟩
  | .hbm, ⟨26, _⟩ => ⟨S1024x1536, .bf16⟩
  | .hbm, ⟨27, _⟩ => ⟨S1x1536, .f32⟩
  | .hbm, ⟨28, _⟩ => ⟨S16x2048x1024, .bf16⟩
  | .hbm, ⟨29, _⟩ => ⟨S16x2048x512, .bf16⟩
  | .hbm, ⟨30, _⟩ => ⟨S16x16x512x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x1536, .bf16⟩
  | .local _ .vmem, ⟨5, _⟩ => ⟨S1x1536, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x8x512x128, .bf16⟩
  | .local _ .vmem, ⟨17, _⟩ => ⟨S1x8x512x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== QkvRefIdeal.lean ====
abbrev S16x2048x1024 : Shape := ⟨3, ![16, 2048, 1024]⟩
abbrev S16x9x1024 : Shape := ⟨3, ![16, 9, 1024]⟩
abbrev S1024x1536 : Shape := ⟨2, ![1024, 1536]⟩
abbrev S1536 : Shape := ⟨1, ![1536]⟩
abbrev S2048x32 : Shape := ⟨2, ![2048, 32]⟩
abbrev S16x1x1024 : Shape := ⟨3, ![16, 1, 1024]⟩
abbrev S16x1024 : Shape := ⟨2, ![16, 1024]⟩
abbrev S_ : Shape := ⟨0, ![]⟩
abbrev S16x2048x1536 : Shape := ⟨3, ![16, 2048, 1536]⟩
abbrev S1x1x1536 : Shape := ⟨3, ![1, 1, 1536]⟩
abbrev S16x2048x256 : Shape := ⟨3, ![16, 2048, 256]⟩
abbrev S16x2048x16x2x32 : Shape := ⟨5, ![16, 2048, 16, 2, 32]⟩
abbrev S16x2048x16x2x16 : Shape := ⟨5, ![16, 2048, 16, 2, 16]⟩
abbrev S2048x1x2x16 : Shape := ⟨4, ![2048, 1, 2, 16]⟩
abbrev S1x2048x1x2x16 : Shape := ⟨5, ![1, 2048, 1, 2, 16]⟩
abbrev S16x2048x4x2x32 : Shape := ⟨5, ![16, 2048, 4, 2, 32]⟩
abbrev S16x2048x4x2x16 : Shape := ⟨5, ![16, 2048, 4, 2, 16]⟩
abbrev S16x2048x4x64 : Shape := ⟨4, ![16, 2048, 4, 64]⟩
abbrev S16x2048x4x2x64 : Shape := ⟨5, ![16, 2048, 4, 2, 64]⟩
abbrev S16x2048x8x64 : Shape := ⟨4, ![16, 2048, 8, 64]⟩
abbrev S16x2048x512 : Shape := ⟨3, ![16, 2048, 512]⟩
abbrev S16x16x128x512 : Shape := ⟨4, ![16, 16, 128, 512]⟩
abbrev S16x16x512x128 : Shape := ⟨4, ![16, 16, 512, 128]⟩

abbrev nBuf : Space → Nat
  | .hbm => 84
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S1024x1536, .f32⟩
  | .hbm, ⟨3, _⟩ => ⟨S1536, .f32⟩
  | .hbm, ⟨4, _⟩ => ⟨S2048x32, .f32⟩
  | .hbm, ⟨5, _⟩ => ⟨S2048x32, .f32⟩
  | .hbm, ⟨6, _⟩ => ⟨S16x1x1024, .f32⟩
  | .hbm, ⟨7, _⟩ => ⟨S16x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S16x2048x1536, .f32⟩
  | .hbm, ⟨20, _⟩ => ⟨S1x1x1536, .f32⟩
  | .hbm, ⟨21, _⟩ => ⟨S16x2048x1536, .f32⟩
  | .hbm, ⟨22, _⟩ => ⟨S16x2048x1536, .f32⟩
  | .hbm, ⟨23, _⟩ => ⟨S16x2048x1024, .f32⟩
  | .hbm, ⟨24, _⟩ => ⟨S16x2048x256, .f32⟩
  | .hbm, ⟨25, _⟩ => ⟨S16x2048x256, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S16x2048x16x2x32, .f32⟩
  | .hbm, ⟨30, _⟩ => ⟨S16x2048x16x2x16, .f32⟩
  | .hbm, ⟨31, _⟩ => ⟨S16x2048x16x2x16, .f32⟩
  | .hbm, ⟨32, _⟩ => ⟨S2048x1x2x16, .f32⟩
  | .hbm, ⟨33, _⟩ => ⟨S2048x1x2x16, .f32⟩
  | .hbm, ⟨34, _⟩ => ⟨S1x2048x1x2x16, .f32⟩
  | .hbm, ⟨35, _⟩ => ⟨S16x2048x16x2x16, .f32⟩
  | .hbm, ⟨36, _⟩ => ⟨S16x2048x16x2x16, .f32⟩
  | .hbm, ⟨37, _⟩ => ⟨S1x2048x1x2x16, .f32⟩
  | .hbm, ⟨38, _⟩ => ⟨S16x2048x16x2x16, .f32⟩
  | .hbm, ⟨39, _⟩ => ⟨S16x2048x16x2x16, .f32⟩
  | .hbm, ⟨40, _⟩ => ⟨S16x2048x16x2x16, .f32⟩
  | .hbm, ⟨41, _⟩ => ⟨S1x2048x1x2x16, .f32⟩
  | .hbm, ⟨42, _⟩ => ⟨S16x2048x16x2x16, .f32⟩
  | .hbm, ⟨43, _⟩ => ⟨S16x2048x16x2x16, .f32⟩
  | .hbm, ⟨44, _⟩ => ⟨S1x2048x1x2x16, .f32⟩
  | .hbm, ⟨45, _⟩ => ⟨S16x2048x16x2x16, .f32⟩
  | .hbm, ⟨46, _⟩ => ⟨S16x2048x16x2x16, .f32⟩
  | .hbm, ⟨47, _⟩ => ⟨S16x2048x16x2x16, .f32⟩
  | .hbm, ⟨48, _⟩ => ⟨S16x2048x16x2x32, .f32⟩
  | .hbm, ⟨49, _⟩ => ⟨S16x2048x1024, .f32⟩
  | .hbm, ⟨50, _⟩ => ⟨S16x2048x4x2x32, .f32⟩
  | .hbm, ⟨51, _⟩ => ⟨S16x2048x4x2x16, .f32⟩
  | .hbm, ⟨52, _⟩ => ⟨S16x2048x4x2x16, .f32⟩
  | .hbm, ⟨53, _⟩ => ⟨S2048x1x2x16, .f32⟩
  | .hbm, ⟨54, _⟩ => ⟨S2048x1x2x16, .f32⟩
  | .hbm, ⟨55, _⟩ => ⟨S1x2048x1x2x16, .f32⟩
  | .hbm, ⟨56, _⟩ => ⟨S16x2048x4x2x16, .f32⟩
  | .hbm, ⟨57, _⟩ => ⟨S16x2048x4x2x16, .f32⟩
  | .hbm, ⟨58, _⟩ => ⟨S1x2048x1x2x16, .f32⟩
  | .hbm, ⟨59, _⟩ => ⟨S16x2048x4x2x16, .f32⟩
  | .hbm, ⟨60, _⟩ => ⟨S16x2048x4x2x16, .f32⟩
  | .hbm, ⟨61, _⟩ => ⟨S16x2048x4x2x16, .f32⟩
  | .hbm, ⟨62, _⟩ => ⟨S1x2048x1x2x16, .f32⟩
  | .hbm, ⟨63, _⟩ => ⟨S16x2048x4x2x16, .f32⟩
  | .hbm, ⟨64, _⟩ => ⟨S16x2048x4x2x16, .f32⟩
  | .hbm, ⟨65, _⟩ => ⟨S1x2048x1x2x16, .f32⟩
  | .hbm, ⟨66, _⟩ => ⟨S16x2048x4x2x16, .f32⟩
  | .hbm, ⟨67, _⟩ => ⟨S16x2048x4x2x16, .f32⟩
  | .hbm, ⟨68, _⟩ => ⟨S16x2048x4x2x16, .f32⟩
  | .hbm, ⟨69, _⟩ => ⟨S16x2048x4x2x32, .f32⟩
  | .hbm, ⟨70, _⟩ => ⟨S16x2048x256, .f32⟩
  | .hbm, ⟨71, _⟩ => ⟨S16x2048x4x64, .f32⟩
  | .hbm, ⟨72, _⟩ => ⟨S16x2048x4x2x64, .f32⟩
  | .hbm, ⟨73, _⟩ => ⟨S16x2048x8x64, .f32⟩
  | .hbm, ⟨74, _⟩ => ⟨S16x2048x512, .f32⟩
  | .hbm, ⟨75, _⟩ => ⟨S16x2048x4x64, .f32⟩
  | .hbm, ⟨76, _⟩ => ⟨S16x2048x4x2x64, .f32⟩
  | .hbm, ⟨77, _⟩ => ⟨S16x2048x8x64, .f32⟩
  | .hbm, ⟨78, _⟩ => ⟨S16x2048x512, .f32⟩
  | .hbm, ⟨79, _⟩ => ⟨S16x16x128x512, .f32⟩
  | .hbm, ⟨80, _⟩ => ⟨S16x16x512x128, .f32⟩
  | .hbm, ⟨81, _⟩ => ⟨S16x2048x1024, .bf16⟩
  | .hbm, ⟨82, _⟩ => ⟨S16x2048x512, .bf16⟩
  | .hbm, ⟨83, _⟩ => ⟨S16x16x512x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩

abbrev nD : Nat := 1
abbrev τ : Topo := Topo.v7x

variable {F : FTy → Type} [FloatOps F]
-- ==== KvCtx.lean ====
abbrev S16x256x1024 : Shape := ⟨3, ![16, 256, 1024]⟩
abbrev S1x9x1024 : Shape := ⟨3, ![1, 9, 1024]⟩
abbrev S1024x1536 : Shape := ⟨2, ![1024, 1536]⟩
abbrev S1536 : Shape := ⟨1, ![1536]⟩
abbrev S1024x512 : Shape := ⟨2, ![1024, 512]⟩
abbrev S512 : Shape := ⟨1, ![512]⟩
abbrev S1x512 : Shape := ⟨2, ![1, 512]⟩
abbrev S16x256x512 : Shape := ⟨3, ![16, 256, 512]⟩
abbrev S16x512x256 : Shape := ⟨3, ![16, 512, 256]⟩
abbrev S1x256x1024 : Shape := ⟨3, ![1, 256, 1024]⟩
abbrev S1x256x512 : Shape := ⟨3, ![1, 256, 512]⟩
abbrev S1x512x256 : Shape := ⟨3, ![1, 512, 256]⟩
abbrev S256x1024 : Shape := ⟨2, ![256, 1024]⟩
abbrev S1x1x1024 : Shape := ⟨3, ![1, 1, 1024]⟩
abbrev S1x1024 : Shape := ⟨2, ![1, 1024]⟩
abbrev S256x512 : Shape := ⟨2, ![256, 512]⟩
abbrev S256x256 : Shape := ⟨2, ![256, 256]⟩
abbrev S256x64 : Shape := ⟨2, ![256, 64]⟩
abbrev S512x256 : Shape := ⟨2, ![512, 256]⟩

abbrev nBuf : Space → Nat
  | .hbm => 10
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1x9x1024, .f32⟩
  | .hbm, ⟨2, _⟩ => ⟨S1024x1536, .f32⟩
  | .hbm, ⟨3, _⟩ => ⟨S1536, .f32⟩
  | .hbm, ⟨4, _⟩ => ⟨S1024x1536, .bf16⟩
  | .hbm, ⟨5, _⟩ => ⟨S1024x512, .bf16⟩
  | .hbm, ⟨6, _⟩ => ⟨S512, .f32⟩
  | .hbm, ⟨7, _⟩ => ⟨S1x512, .f32⟩
  | .hbm, ⟨8, _⟩ => ⟨S16x256x512, .bf16⟩
  | .hbm, ⟨9, _⟩ => ⟨S16x512x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1024x512, .bf16⟩
  | .local _ .vmem, ⟨4, _⟩ => ⟨S1x512, .f32⟩
  | .local _ .vmem, ⟨5, _⟩ => ⟨S1x256x512, .bf16⟩
  | .local _ .vmem, ⟨6, _⟩ => ⟨S1x256x512, .bf16⟩
  | .local _ .vmem, ⟨7, _⟩ => ⟨S1x512x256, .bf16⟩
  | .local _ .vmem, ⟨8, _⟩ => ⟨S1x512x256, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvCtxRefIdeal.lean ====
abbrev S16x256x1024 : Shape := ⟨3, ![16, 256, 1024]⟩
abbrev S1x9x1024 : Shape := ⟨3, ![1, 9, 1024]⟩
abbrev S1024x1536 : Shape := ⟨2, ![1024, 1536]⟩
abbrev S1536 : Shape := ⟨1, ![1536]⟩
abbrev S1x1x1024 : Shape := ⟨3, ![1, 1, 1024]⟩
abbrev S1x1024 : Shape := ⟨2, ![1, 1024]⟩
abbrev S_ : Shape := ⟨0, ![]⟩
abbrev S1024x512 : Shape := ⟨2, ![1024, 512]⟩
abbrev S16x256x512 : Shape := ⟨3, ![16, 256, 512]⟩
abbrev S512 : Shape := ⟨1, ![512]⟩
abbrev S1x1x512 : Shape := ⟨3, ![1, 1, 512]⟩
abbrev S16x256x256 : Shape := ⟨3, ![16, 256, 256]⟩
abbrev S16x256x4x64 : Shape := ⟨4, ![16, 256, 4, 64]⟩
abbrev S16x256x4x2x64 : Shape := ⟨5, ![16, 256, 4, 2, 64]⟩
abbrev S16x256x8x64 : Shape := ⟨4, ![16, 256, 8, 64]⟩
abbrev S16x512x256 : Shape := ⟨3, ![16, 512, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x9x1024, .f32⟩
  | .hbm, ⟨2, _⟩ => ⟨S1024x1536, .f32⟩
  | .hbm, ⟨3, _⟩ => ⟨S1536, .f32⟩
  | .hbm, ⟨4, _⟩ => ⟨S1x1x1024, .f32⟩
  | .hbm, ⟨5, _⟩ => ⟨S1x1024, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S16x256x1024, .f32⟩
  | .hbm, ⟨11, _⟩ => ⟨S16x256x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S16x256x1024, .f32⟩
  | .hbm, ⟨16, _⟩ => ⟨S16x256x1024, .f32⟩
  | .hbm, ⟨17, _⟩ => ⟨S1024x512, .f32⟩
  | .hbm, ⟨18, _⟩ => ⟨S16x256x512, .f32⟩
  | .hbm, ⟨19, _⟩ => ⟨S512, .f32⟩
  | .hbm, ⟨20, _⟩ => ⟨S1x1x512, .f32⟩
  | .hbm, ⟨21, _⟩ => ⟨S16x256x512, .f32⟩
  | .hbm, ⟨22, _⟩ => ⟨S16x256x512, .f32⟩
  | .hbm, ⟨23, _⟩ => ⟨S16x256x256, .f32⟩
  | .hbm, ⟨24, _⟩ => ⟨S16x256x256, .f32⟩
  | .hbm, ⟨25, _⟩ => ⟨S16x256x4x64, .f32⟩
  | .hbm, ⟨26, _⟩ => ⟨S16x256x4x2x64, .f32⟩
  | .hbm, ⟨27, _⟩ => ⟨S16x256x8x64, .f32⟩
  | .hbm, ⟨28, _⟩ => ⟨S16x256x512, .f32⟩
  | .hbm, ⟨29, _⟩ => ⟨S16x256x4x64, .f32⟩
  | .hbm, ⟨30, _⟩ => ⟨S16x256x4x2x64, .f32⟩
  | .hbm, ⟨31, _⟩ => ⟨S16x256x8x64, .f32⟩
  | .hbm, ⟨32, _⟩ => ⟨S16x256x512, .f32⟩
  | .hbm, ⟨33, _⟩ => ⟨S16x256x512, .bf16⟩
  | .hbm, ⟨34, _⟩ => ⟨S16x512x256, .f32⟩
  | .hbm, ⟨35, _⟩ => ⟨S16x512x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Mod.lean ====
abbrev S24x1024 : Shape := ⟨2, ![24, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x24x9216 : Shape := ⟨3, ![2, 24, 9216]⟩
abbrev S1x1024x3072 : Shape := ⟨3, ![1, 1024, 3072]⟩
abbrev S1x1x3072 : Shape := ⟨3, ![1, 1, 3072]⟩
abbrev S1x24x3072 : Shape := ⟨3, ![1, 24, 3072]⟩
abbrev S1024x3072 : Shape := ⟨2, ![1024, 3072]⟩
abbrev S24x3072 : Shape := ⟨2, ![24, 3072]⟩
abbrev S1x3072 : Shape := ⟨2, ![1, 3072]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x24x9216, .f32⟩
  | .local _ .vmem, ⟨0, _⟩ => ⟨S24x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x24x3072, .f32⟩
  | .local _ .vmem, ⟨6, _⟩ => ⟨S1x24x3072, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S24x1024 : Shape := ⟨2, ![24, 1024]⟩
abbrev S2x1024x9216 : Shape := ⟨3, ![2, 1024, 9216]⟩
abbrev S2x9216 : Shape := ⟨2, ![2, 9216]⟩
abbrev S_ : Shape := ⟨0, ![]⟩
abbrev S24x2x9216 : Shape := ⟨3, ![24, 2, 9216]⟩
abbrev S2x24x9216 : Shape := ⟨3, ![2, 24, 9216]⟩
abbrev S2x1x9216 : Shape := ⟨3, ![2, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x9216, .f32⟩
  | .hbm, ⟨2, _⟩ => ⟨S2x9216, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S24x2x9216, .f32⟩
  | .hbm, ⟨13, _⟩ => ⟨S2x24x9216, .f32⟩
  | .hbm, ⟨14, _⟩ => ⟨S2x1x9216, .f32⟩
  | .hbm, ⟨15, _⟩ => ⟨S2x24x9216, .f32⟩
  | .hbm, ⟨16, _⟩ => ⟨S2x24x9216, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnFirst.lean ====
abbrev S16x2048x1024 : Shape := ⟨3, ![16, 2048, 1024]⟩
abbrev S16x9x1024 : Shape := ⟨3, ![16, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S4x1024x5632 : Shape := ⟨3, ![4, 1024, 5632]⟩
abbrev S1x1024x5632 : Shape := ⟨3, ![1, 1024, 5632]⟩
abbrev S4x2816x1024 : Shape := ⟨3, ![4, 2816, 1024]⟩
abbrev S1x2816x1024 : Shape := ⟨3, ![1, 2816, 1024]⟩
abbrev S1x1x1024 : Shape := ⟨3, ![1, 1, 1024]⟩
abbrev S1024 : Shape := ⟨1, ![1024]⟩
abbrev S1x1024 : Shape := ⟨2, ![1, 1024]⟩
abbrev S1x1024x1024 : Shape := ⟨3, ![1, 1024, 1024]⟩
abbrev S1x9x1024 : Shape := ⟨3, ![1, 9, 1024]⟩
abbrev S1024x2816 : Shape := ⟨2, ![1024, 2816]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 19
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S4x1024x5632, .f32⟩
  | .hbm, ⟨7, _⟩ => ⟨S1x1024x5632, .f32⟩
  | .hbm, ⟨8, _⟩ => ⟨S1x1024x5632, .bf16⟩
  | .hbm, ⟨9, _⟩ => ⟨S4x2816x1024, .f32⟩
  | .hbm, ⟨10, _⟩ => ⟨S1x2816x1024, .f32⟩
  | .hbm, ⟨11, _⟩ => ⟨S1x2816x1024, .bf16⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | .local _ .vmem, ⟨11, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstIdeal.lean ====
abbrev S16x2048x1024 : Shape := ⟨3, ![16, 2048, 1024]⟩
abbrev S16x9x1024 : Shape := ⟨3, ![16, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S4x1024x5632 : Shape := ⟨3, ![4, 1024, 5632]⟩
abbrev S1x1024x5632 : Shape := ⟨3, ![1, 1024, 5632]⟩
abbrev S4x2816x1024 : Shape := ⟨3, ![4, 2816, 1024]⟩
abbrev S1x2816x1024 : Shape := ⟨3, ![1, 2816, 1024]⟩
abbrev S1x1x1024 : Shape := ⟨3, ![1, 1, 1024]⟩
abbrev S1024 : Shape := ⟨1, ![1024]⟩
abbrev S1x1024 : Shape := ⟨2, ![1, 1024]⟩
abbrev S1x1024x1024 : Shape := ⟨3, ![1, 1024, 1024]⟩
abbrev S1x9x1024 : Shape := ⟨3, ![1, 9, 1024]⟩
abbrev S1024x2816 : Shape := ⟨2, ![1024, 2816]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 19
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S4x1024x5632, .f32⟩
  | .hbm, ⟨7, _⟩ => ⟨S1x1024x5632, .f32⟩
  | .hbm, ⟨8, _⟩ => ⟨S1x1024x5632, .bf16⟩
  | .hbm, ⟨9, _⟩ => ⟨S4x2816x1024, .f32⟩
  | .hbm, ⟨10, _⟩ => ⟨S1x2816x1024, .f32⟩
  | .hbm, ⟨11, _⟩ => ⟨S1x2816x1024, .bf16⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | .local _ .vmem, ⟨11, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstRefIdeal.lean ====
abbrev S16x2048x1024 : Shape := ⟨3, ![16, 2048, 1024]⟩
abbrev S16x9x1024 : Shape := ⟨3, ![16, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S16x1x1024 : Shape := ⟨3, ![16, 1, 1024]⟩
abbrev S16x1024 : Shape := ⟨2, ![16, 1024]⟩
abbrev S_ : Shape := ⟨0, ![]⟩
abbrev S1x1x1024x5632 : Shape := ⟨4, ![1, 1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S16x1x1024, .f32⟩
  | .hbm, ⟨7, _⟩ => ⟨S16x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S1x1x1024x5632, .f32⟩
  | .hbm, ⟨20, _⟩ => ⟨S1024x5632, .f32⟩
  | .hbm, ⟨21, _⟩ => ⟨S16x2048x5632, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S_, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S1x1x2816x1024, .f32⟩
  | .hbm, ⟨35, _⟩ => ⟨S2816x1024, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S16x1x1024, .f32⟩
  | .hbm, ⟨44, _⟩ => ⟨S16x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S1024, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x2048, .f32⟩
  | .hbm, ⟨64, _⟩ => ⟨S16x2048x1, .f32⟩
  | .hbm, ⟨65, _⟩ => ⟨S_, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== FfnCtx.lean ====
abbrev S1x4096x1024 : Shape := ⟨3, ![1, 4096, 1024]⟩
abbrev S1x9x1024 : Shape := ⟨3, ![1, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S4x1024x5632 : Shape := ⟨3, ![4, 1024, 5632]⟩
abbrev S1x1024x5632 : Shape := ⟨3, ![1, 1024, 5632]⟩
abbrev S4x2816x1024 : Shape := ⟨3, ![4, 2816, 1024]⟩
abbrev S1x2816x1024 : Shape := ⟨3, ![1, 2816, 1024]⟩
abbrev S1x1x1024 : Shape := ⟨3, ![1, 1, 1024]⟩
abbrev S1024 : Shape := ⟨1, ![1024]⟩
abbrev S1x1024 : Shape := ⟨2, ![1, 1024]⟩
abbrev S1x1024x1024 : Shape := ⟨3, ![1, 1024, 1024]⟩
abbrev S1024x2816 : Shape := ⟨2, ![1024, 2816]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 19
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S4x1024x5632, .f32⟩
  | .hbm, ⟨7, _⟩ => ⟨S1x1024x5632, .f32⟩
  | .hbm, ⟨8, _⟩ => ⟨S1x1024x5632, .bf16⟩
  | .hbm, ⟨9, _⟩ => ⟨S4x2816x1024, .f32⟩
  | .hbm, ⟨10, _⟩ => ⟨S1x2816x1024, .f32⟩
  | .hbm, ⟨11, _⟩ => ⟨S1x2816x1024, .bf16⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | .local _ .vmem, ⟨11, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let v18 : BitVec 32 := Scalar.minsi arg0 c3_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnCtxRefIdeal.lean ====
abbrev S1x4096x1024 : Shape := ⟨3, ![1, 4096, 1024]⟩
abbrev S1x9x1024 : Shape := ⟨3, ![1, 9, 1024]⟩
abbrev S2x2x1024x5632 : Shape := ⟨4, ![2, 2, 1024, 5632]⟩
abbrev S2x2x2816x1024 : Shape := ⟨4, ![2, 2, 2816, 1024]⟩
abbrev S2x3x1024 : Shape := ⟨3, ![2, 3, 1024]⟩
abbrev S1x1x1024 : Shape := ⟨3, ![1, 1, 1024]⟩
abbrev S1x1024 : Shape := ⟨2, ![1, 1024]⟩
abbrev S_ : Shape := ⟨0, ![]⟩
abbrev S1x1x1024x5632 : Shape := ⟨4, ![1, 1, 1024, 5632]⟩
abbrev S1024x5632 : Shape := ⟨2, ![1024, 5632]⟩
abbrev S1x4096x5632 : Shape := ⟨3, ![1, 4096, 5632]⟩
abbrev S1x4096x2816 : Shape := ⟨3, ![1, 4096, 2816]⟩
abbrev S1x1x2816x1024 : Shape := ⟨4, ![1, 1, 2816, 1024]⟩
abbrev S2816x1024 : Shape := ⟨2, ![2816, 1024]⟩
abbrev S1024 : Shape := ⟨1, ![1024]⟩
abbrev S1x4096 : Shape := ⟨2, ![1, 4096]⟩
abbrev S1x4096x1 : Shape := ⟨3, ![1, 4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x9x1024, .f32⟩
  | .hbm, ⟨2, _⟩ => ⟨S2x2x1024x5632, .f32⟩
  | .hbm, ⟨3, _⟩ => ⟨S2x2x2816x1024, .f32⟩
  | .hbm, ⟨4, _⟩ => ⟨S2x3x1024, .f32⟩
  | .hbm, ⟨5, _⟩ => ⟨S2x3x1024, .f32⟩
  | .hbm, ⟨6, _⟩ => ⟨S1x1x1024, .f32⟩
  | .hbm, ⟨7, _⟩ => ⟨S1x1024, .f32⟩
  | .hbm, ⟨8, _⟩ => ⟨S1x1x1024, .f32⟩
  | .hbm, ⟨9, _⟩ => ⟨S_, .f32⟩
  | .hbm, ⟨10, _⟩ => ⟨S1x1x1024, .f32⟩
  | .hbm, ⟨11, _⟩ => ⟨S1x1x1024, .f32⟩
  | .hbm, ⟨12, _⟩ => ⟨S1x4096x1024, .f32⟩
  | .hbm, ⟨13, _⟩ => ⟨S1x4096x1024, .f32⟩
  | .hbm, ⟨14, _⟩ => ⟨S1x1x1024, .f32⟩
  | .hbm, ⟨15, _⟩ => ⟨S1x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1x1x1024x5632, .f32⟩
  | .hbm, ⟨20, _⟩ => ⟨S1024x5632, .f32⟩
  | .hbm, ⟨21, _⟩ => ⟨S1x4096x5632, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S_, .f32⟩
  | .hbm, ⟨27, _⟩ => ⟨S1x4096x2816, .f32⟩
  | .hbm, ⟨28, _⟩ => ⟨S1x4096x2816, .f32⟩
  | .hbm, ⟨29, _⟩ => ⟨S_, .f32⟩
  | .hbm, ⟨30, _⟩ => ⟨S1x4096x2816, .f32⟩
  | .hbm, ⟨31, _⟩ => ⟨S1x4096x2816, .f32⟩
  | .hbm, ⟨32, _⟩ => ⟨S1x4096x2816, .f32⟩
  | .hbm, ⟨33, _⟩ => ⟨S1x4096x2816, .f32⟩
  | .hbm, ⟨34, _⟩ => ⟨S1x1x2816x1024, .f32⟩
  | .hbm, ⟨35, _⟩ => ⟨S2816x1024, .f32⟩
  | .hbm, ⟨36, _⟩ => ⟨S1x4096x1024, .f32⟩
  | .hbm, ⟨37, _⟩ => ⟨S_, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x4096x1024, .f32⟩
  | .hbm, ⟨42, _⟩ => ⟨S1x4096x1024, .f32⟩
  | .hbm, ⟨43, _⟩ => ⟨S1x1x1024, .f32⟩
  | .hbm, ⟨44, _⟩ => ⟨S1x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S1024, .f32⟩
  | .hbm, ⟨53, _⟩ => ⟨S_, .f32⟩
  | .hbm, ⟨54, _⟩ => ⟨S1x4096, .f32⟩
  | .hbm, ⟨55, _⟩ => ⟨S1x4096x1, .f32⟩
  | .hbm, ⟨56, _⟩ => ⟨S_, .f32⟩
  | .hbm, ⟨57, _⟩ => ⟨S1x4096x1, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S_, .f32⟩
  | .hbm, ⟨63, _⟩ => ⟨S1x4096, .f32⟩
  | .hbm, ⟨64, _⟩ => ⟨S1x4096x1, .f32⟩
  | .hbm, ⟨65, _⟩ => ⟨S_, .f32⟩
  | .hbm, ⟨66, _⟩ => ⟨S1x4096x1, .f32⟩
  | .hbm, ⟨67, _⟩ => ⟨S1x4096x1, .f32⟩
  | .hbm, ⟨68, _⟩ => ⟨S1x4096x1024, .f32⟩
  | .hbm, ⟨69, _⟩ => ⟨S1x4096x1024, .f32⟩
  | .hbm, ⟨70, _⟩ => ⟨S_, .f32⟩
  | .hbm, ⟨71, _⟩ => ⟨S1x4096x1, .f32⟩
  | .hbm, ⟨72, _⟩ => ⟨S1x4096x1, .f32⟩
  | .hbm, ⟨73, _⟩ => ⟨S1x4096x1, .f32⟩
  | .hbm, ⟨74, _⟩ => ⟨S1x4096x1024, .f32⟩
  | .hbm, ⟨75, _⟩ => ⟨S1x4096x1024, .f32⟩
  | .hbm, ⟨76, _⟩ => ⟨S1x1x1024, .f32⟩
  | .hbm, ⟨77, _⟩ => ⟨S1x4096x1024, .f32⟩
  | .hbm, ⟨78, _⟩ => ⟨S1x4096x1024, .f32⟩
  | .hbm, ⟨79, _⟩ => ⟨S1x1x1024, .f32⟩
  | .hbm, ⟨80, _⟩ => ⟨S1x4096x1024, .f32⟩
  | .hbm, ⟨81, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== DftFold.lean ====
abbrev S16x2048x1024 : Shape := ⟨3, ![16, 2048, 1024]⟩
abbrev S16x9x1024 : Shape := ⟨3, ![16, 9, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S_ : Shape := ⟨0, ![]⟩
abbrev S16x2x1024x1024 : Shape := ⟨4, ![16, 2, 1024, 1024]⟩
abbrev S16x8x1024 : Shape := ⟨3, ![16, 8, 1024]⟩
abbrev S1x1x1024x1024 : Shape := ⟨4, ![1, 1, 1024, 1024]⟩
abbrev S1x9x1024 : Shape := ⟨3, ![1, 9, 1024]⟩
abbrev S1x2x1024x1024 : Shape := ⟨4, ![1, 2, 1024, 1024]⟩
abbrev S1x8x1024 : Shape := ⟨3, ![1, 8, 1024]⟩
abbrev S8x1024 : Shape := ⟨2, ![8, 1024]⟩
abbrev S1024x1024 : Shape := ⟨2, ![1024, 1024]⟩
abbrev S1x1x1024 : Shape := ⟨3, ![1, 1, 1024]⟩
abbrev S1x1024 : Shape := ⟨2, ![1, 1024]⟩
abbrev S256x1024 : Shape := ⟨2, ![256, 1024]⟩
abbrev S1024x256 : Shape := ⟨2, ![1024, 256]⟩
abbrev S8x256 : Shape := ⟨2, ![8, 256]⟩

abbrev nBuf : Space → Nat
  | .hbm => 20
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S256x256, .f32⟩
  | .hbm, ⟨3, _⟩ => ⟨S256x256, .f32⟩
  | .hbm, ⟨4, _⟩ => ⟨S256, .i32⟩
  | .hbm, ⟨5, _⟩ => ⟨S256x1, .i32⟩
  | .hbm, ⟨6, _⟩ => ⟨S256, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S16x2x1024x1024, .f32⟩
  | .hbm, ⟨16, _⟩ => ⟨S256x256, .bf16⟩
  | .hbm, ⟨17, _⟩ => ⟨S256x256, .bf16⟩
  | .hbm, ⟨18, _⟩ => ⟨S16x2x1024x1024, .bf16⟩
  | .hbm, ⟨19, _⟩ => ⟨S16x8x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x9x1024, .f32⟩
  | .local _ .vmem, ⟨5, _⟩ => ⟨S1x9x1024, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x2x1024x1024, .bf16⟩
  | .local _ .vmem, ⟨10, _⟩ => ⟨S1x2x1024x1024, .bf16⟩
  | .local _ .vmem, ⟨11, _⟩ => ⟨S1x8x1024, .f32⟩
  | .local _ .vmem, ⟨12, _⟩ => ⟨S1x8x1024, .f32⟩
  | .local _ .vmem, ⟨13, _⟩ => ⟨S8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c1_i32 : BitVec 32 := 1#32
  let c0_i32_0 : BitVec 32 := 0#32
  let c0_i32_1 : BitVec 32 := 0#32
  ![arg0.toNat, c1_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DftFoldRefIdeal.lean ====
abbrev S16x2048x1024 : Shape := ⟨3, ![16, 2048, 1024]⟩
abbrev S16x9x1024 : Shape := ⟨3, ![16, 9, 1024]⟩
abbrev S256x256 : Shape := ⟨2, ![256, 256]⟩
abbrev S16x1x1024 : Shape := ⟨3, ![16, 1, 1024]⟩
abbrev S16x1024 : Shape := ⟨2, ![16, 1024]⟩
abbrev S_ : Shape := ⟨0, ![]⟩
abbrev S16x1024x1024 : Shape := ⟨3, ![16, 1024, 1024]⟩
abbrev S16x1023x1024 : Shape := ⟨3, ![16, 1023, 1024]⟩
abbrev S16x1024x4x256 : Shape := ⟨4, ![16, 1024, 4, 256]⟩
abbrev S16x1x1024x1024 : Shape := ⟨4, ![16, 1, 1024, 1024]⟩
abbrev S16x2x1024x1024 : Shape := ⟨4, ![16, 2, 1024, 1024]⟩
abbrev S16x8x1024 : Shape := ⟨3, ![16, 8, 1024]⟩
abbrev S16x8x4x256 : Shape := ⟨4, ![16, 8, 4, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9x1024, .f32⟩
  | .hbm, ⟨2, _⟩ => ⟨S256x256, .f32⟩
  | .hbm, ⟨3, _⟩ => ⟨S256x256, .f32⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S_, .f32⟩
  | .hbm, ⟨8, _⟩ => ⟨S16x1x1024, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x2048x1024, .f32⟩
  | .hbm, ⟨16, _⟩ => ⟨S16x2048x1024, .f32⟩
  | .hbm, ⟨17, _⟩ => ⟨S16x1024x1024, .f32⟩
  | .hbm, ⟨18, _⟩ => ⟨S16x1024x1024, .f32⟩
  | .hbm, ⟨19, _⟩ => ⟨S_, .f32⟩
  | .hbm, ⟨20, _⟩ => ⟨S16x1x1024, .f32⟩
  | .hbm, ⟨21, _⟩ => ⟨S16x1023x1024, .f32⟩
  | .hbm, ⟨22, _⟩ => ⟨S16x1023x1024, .f32⟩
  | .hbm, ⟨23, _⟩ => ⟨S16x1024x1024, .f32⟩
  | .hbm, ⟨24, _⟩ => ⟨S16x1024x1024, .f32⟩
  | .hbm, ⟨25, _⟩ => ⟨S16x1024x4x256, .f32⟩
  | .hbm, ⟨26, _⟩ => ⟨S16x1024x4x256, .f32⟩
  | .hbm, ⟨27, _⟩ => ⟨S16x1024x1024, .f32⟩
  | .hbm, ⟨28, _⟩ => ⟨S16x1024x1024, .f32⟩
  | .hbm, ⟨29, _⟩ => ⟨S16x1024x4x256, .f32⟩
  | .hbm, ⟨30, _⟩ => ⟨S16x1024x4x256, .f32⟩
  | .hbm, ⟨31, _⟩ => ⟨S16x1024x1024, .f32⟩
  | .hbm, ⟨32, _⟩ => ⟨S16x1x1024x1024, .f32⟩
  | .hbm, ⟨33, _⟩ => ⟨S16x1x1024x1024, .f32⟩
  | .hbm, ⟨34, _⟩ => ⟨S16x2x1024x1024, .f32⟩
  | .hbm, ⟨35, _⟩ => ⟨S16x2x1024x1024, .bf16⟩
  | .hbm, ⟨36, _⟩ => ⟨S16x8x1024, .f32⟩
  | .hbm, ⟨37, _⟩ => ⟨S16x8x4x256, .f32⟩
  | .hbm, ⟨38, _⟩ => ⟨S16x8x4x256, .f32⟩
  | .hbm, ⟨39, _⟩ => ⟨S16x8x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== DftSeq.lean ====
abbrev S1024x1024 : Shape := ⟨2, ![1024, 1024]⟩
abbrev S8x2048 : Shape := ⟨2, ![8, 2048]⟩
abbrev S16x2x1024x1024 : Shape := ⟨4, ![16, 2, 1024, 1024]⟩
abbrev S16x8x1024 : Shape := ⟨3, ![16, 8, 1024]⟩
abbrev S16x2048x1024 : Shape := ⟨3, ![16, 2048, 1024]⟩
abbrev S16x9x1024 : Shape := ⟨3, ![16, 9, 1024]⟩
abbrev S1x1024x1024 : Shape := ⟨3, ![1, 1024, 1024]⟩
abbrev S2x3x1024 : Shape := ⟨3, ![2, 3, 1024]⟩
abbrev S1024x2048 : Shape := ⟨2, ![1024, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x1x1024 : Shape := ⟨3, ![1, 1, 1024]⟩
abbrev S1024 : Shape := ⟨1, ![1024]⟩
abbrev S1x1024 : Shape := ⟨2, ![1, 1024]⟩
abbrev S512x2048 : Shape := ⟨2, ![512, 2048]⟩
abbrev S1x2048x1024 : Shape := ⟨3, ![1, 2048, 1024]⟩
abbrev S1x8x1024 : Shape := ⟨3, ![1, 8, 1024]⟩
abbrev S1x2x512x1024 : Shape := ⟨4, ![1, 2, 512, 1024]⟩
abbrev S1x9x1024 : Shape := ⟨3, ![1, 9, 1024]⟩
abbrev S8x1024 : Shape := ⟨2, ![8, 1024]⟩
abbrev S2048x1024 : Shape := ⟨2, ![2048, 1024]⟩
abbrev S512x1 : Shape := ⟨2, ![512, 1]⟩
abbrev S512x1024 : Shape := ⟨2, ![512, 1024]⟩
abbrev S256x1024 : Shape := ⟨2, ![256, 1024]⟩
abbrev S1x1x512x1024 : Shape := ⟨4, ![1, 1, 512, 1024]⟩
abbrev S512 : Shape := ⟨1, ![512]⟩

abbrev nBuf : Space → Nat
  | .hbm => 38
  | .vmem => 20
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S8x2048, .f32⟩
  | .hbm, ⟨3, _⟩ => ⟨S16x2x1024x1024, .bf16⟩
  | .hbm, ⟨4, _⟩ => ⟨S16x8x1024, .f32⟩
  | .hbm, ⟨5, _⟩ => ⟨S16x2048x1024, .f32⟩
  | .hbm, ⟨6, _⟩ => ⟨S16x9x1024, .f32⟩
  | .hbm, ⟨7, _⟩ => ⟨S1x1024x1024, .f32⟩
  | .hbm, ⟨8, _⟩ => ⟨S2x3x1024, .f32⟩
  | .hbm, ⟨9, _⟩ => ⟨S2x3x1024, .f32⟩
  | .hbm, ⟨10, _⟩ => ⟨S1024x1024, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S256, .i32⟩
  | .hbm, ⟨16, _⟩ => ⟨S256x1, .i32⟩
  | .hbm, ⟨17, _⟩ => ⟨S256, .i32⟩
  | .hbm, ⟨18, _⟩ => ⟨S1x256, .i32⟩
  | .hbm, ⟨19, _⟩ => ⟨S256x256, .i32⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S256x256, .bf16⟩
  | .hbm, ⟨26, _⟩ => ⟨S16x2x1024x1024, .f32⟩
  | .hbm, ⟨27, _⟩ => ⟨S16x2048x1024, .bf16⟩
  | .hbm, ⟨28, _⟩ => ⟨S8x2048, .bf16⟩
  | .hbm, ⟨29, _⟩ => ⟨S1024x1024, .f32⟩
  | .hbm, ⟨30, _⟩ => ⟨S1024x1024, .bf16⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S16x2x1024x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x8x1024, .f32⟩
  | .local _ .vmem, ⟨7, _⟩ => ⟨S1x8x1024, .f32⟩
  | .local _ .vmem, ⟨8, _⟩ => ⟨S8x2048, .bf16⟩
  | .local _ .vmem, ⟨9, _⟩ => ⟨S256x256, .bf16⟩
  | .local _ .vmem, ⟨10, _⟩ => ⟨S1x2x512x1024, .f32⟩
  | .local _ .vmem, ⟨11, _⟩ => ⟨S1x2x512x1024, .f32⟩
  | .local _ .vmem, ⟨12, _⟩ => ⟨S1x9x1024, .f32⟩
  | .local _ .vmem, ⟨13, _⟩ => ⟨S1x9x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x2x512x1024, .f32⟩
  | .local _ .vmem, ⟨18, _⟩ => ⟨S1x2x512x1024, .f32⟩
  | .local _ .vmem, ⟨19, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== DftSeqRefIdeal.lean ====
abbrev S1024x1024 : Shape := ⟨2, ![1024, 1024]⟩
abbrev S8x2048 : Shape := ⟨2, ![8, 2048]⟩
abbrev S16x2x1024x1024 : Shape := ⟨4, ![16, 2, 1024, 1024]⟩
abbrev S16x8x1024 : Shape := ⟨3, ![16, 8, 1024]⟩
abbrev S16x2048x1024 : Shape := ⟨3, ![16, 2048, 1024]⟩
abbrev S16x9x1024 : Shape := ⟨3, ![16, 9, 1024]⟩
abbrev S1x1024x1024 : Shape := ⟨3, ![1, 1024, 1024]⟩
abbrev S2x3x1024 : Shape := ⟨3, ![2, 3, 1024]⟩
abbrev S16x1x1024 : Shape := ⟨3, ![16, 1, 1024]⟩
abbrev S1024 : Shape := ⟨1, ![1024]⟩
abbrev S_ : Shape := ⟨0, ![]⟩
abbrev S1x1024x1 : Shape := ⟨3, ![1, 1024, 1]⟩
abbrev S1024x2048 : Shape := ⟨2, ![1024, 2048]⟩
abbrev S16x1024x1024 : Shape := ⟨3, ![16, 1024, 1024]⟩
abbrev S1x2048 : Shape := ⟨2, ![1, 2048]⟩
abbrev S16x1024x1 : Shape := ⟨3, ![16, 1024, 1]⟩
abbrev S16x1023x1024 : Shape := ⟨3, ![16, 1023, 1024]⟩
abbrev S16x1024 : Shape := ⟨2, ![16, 1024]⟩
abbrev S1x1x1024 : Shape := ⟨3, ![1, 1, 1024]⟩
abbrev S16x2048 : Shape := ⟨2, ![16, 2048]⟩
abbrev S16x2048x1 : Shape := ⟨3, ![16, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S8x2048, .f32⟩
  | .hbm, ⟨3, _⟩ => ⟨S16x2x1024x1024, .bf16⟩
  | .hbm, ⟨4, _⟩ => ⟨S16x8x1024, .f32⟩
  | .hbm, ⟨5, _⟩ => ⟨S16x2048x1024, .f32⟩
  | .hbm, ⟨6, _⟩ => ⟨S16x9x1024, .f32⟩
  | .hbm, ⟨7, _⟩ => ⟨S1x1024x1024, .f32⟩
  | .hbm, ⟨8, _⟩ => ⟨S2x3x1024, .f32⟩
  | .hbm, ⟨9, _⟩ => ⟨S2x3x1024, .f32⟩
  | .hbm, ⟨10, _⟩ => ⟨S16x2x1024x1024, .f32⟩
  | .hbm, ⟨11, _⟩ => ⟨S16x2048x1024, .f32⟩
  | .hbm, ⟨12, _⟩ => ⟨S16x1x1024, .f32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .f32⟩
  | .hbm, ⟨24, _⟩ => ⟨S1x1024x1, .f32⟩
  | .hbm, ⟨25, _⟩ => ⟨S1024x1024, .f32⟩
  | .hbm, ⟨26, _⟩ => ⟨S1024x2048, .f32⟩
  | .hbm, ⟨27, _⟩ => ⟨S16x1024x1024, .f32⟩
  | .hbm, ⟨28, _⟩ => ⟨S16x1024x1024, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S_, .f32⟩
  | .hbm, ⟨34, _⟩ => ⟨S16x1024x1024, .f32⟩
  | .hbm, ⟨35, _⟩ => ⟨S16x1024x1024, .f32⟩
  | .hbm, ⟨36, _⟩ => ⟨S1024x2048, .f32⟩
  | .hbm, ⟨37, _⟩ => ⟨S16x1024x1024, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S16x1024x1024, .f32⟩
  | .hbm, ⟨42, _⟩ => ⟨S16x1024x1024, .f32⟩
  | .hbm, ⟨43, _⟩ => ⟨S_, .f32⟩
  | .hbm, ⟨44, _⟩ => ⟨S16x1024x1024, .f32⟩
  | .hbm, ⟨45, _⟩ => ⟨S16x1024x1024, .f32⟩
  | .hbm, ⟨46, _⟩ => ⟨S1x2048, .f32⟩
  | .hbm, ⟨47, _⟩ => ⟨S16x1024x1, .f32⟩
  | .hbm, ⟨48, _⟩ => ⟨S16x1x1024, .f32⟩
  | .hbm, ⟨49, _⟩ => ⟨S16x1x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x1023x1024, .f32⟩
  | .hbm, ⟨54, _⟩ => ⟨S16x1023x1024, .f32⟩
  | .hbm, ⟨55, _⟩ => ⟨S16x2048x1024, .f32⟩
  | .hbm, ⟨56, _⟩ => ⟨S_, .f32⟩
  | .hbm, ⟨57, _⟩ => ⟨S16x2048x1024, .f32⟩
  | .hbm, ⟨58, _⟩ => ⟨S16x2048x1024, .f32⟩
  | .hbm, ⟨59, _⟩ => ⟨S16x1x1024, .f32⟩
  | .hbm, ⟨60, _⟩ => ⟨S16x1024, .f32⟩
  | .hbm, ⟨61, _⟩ => ⟨S16x1x1024, .f32⟩
  | .hbm, ⟨62, _⟩ => ⟨S1024x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S1x1x1024, .f32⟩
  | .hbm, ⟨68, _⟩ => ⟨S1024, .f32⟩
  | .hbm, ⟨69, _⟩ => ⟨S1x1x1024, .f32⟩
  | .hbm, ⟨70, _⟩ => ⟨S1024, .f32⟩
  | .hbm, ⟨71, _⟩ => ⟨S_, .f32⟩
  | .hbm, ⟨72, _⟩ => ⟨S16x2048, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S_, .f32⟩
  | .hbm, ⟨81, _⟩ => ⟨S16x2048, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S16x2048x1024, .f32⟩
  | .hbm, ⟨87, _⟩ => ⟨S16x2048x1024, .f32⟩
  | .hbm, ⟨88, _⟩ => ⟨S_, .f32⟩
  | .hbm, ⟨89, _⟩ => ⟨S16x2048x1, .f32⟩
  | .hbm, ⟨90, _⟩ => ⟨S16x2048x1, .f32⟩
  | .hbm, ⟨91, _⟩ => ⟨S16x2048x1, .f32⟩
  | .hbm, ⟨92, _⟩ => ⟨S16x2048x1024, .f32⟩
  | .hbm, ⟨93, _⟩ => ⟨S16x2048x1024, .f32⟩
  | .hbm, ⟨94, _⟩ => ⟨S1x1x1024, .f32⟩
  | .hbm, ⟨95, _⟩ => ⟨S16x2048x1024, .f32⟩
  | .hbm, ⟨96, _⟩ => ⟨S16x2048x1024, .f32⟩
  | .hbm, ⟨97, _⟩ => ⟨S1x1x1024, .f32⟩
  | .hbm, ⟨98, _⟩ => ⟨S16x2048x1024, .f32⟩
  | .hbm, ⟨99, _⟩ => ⟨S16x2048x1024, .f32⟩
  | .hbm, ⟨100, _⟩ => ⟨S16x2x1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Proof.AttnIdealRunC.lean ====
/- The attention kernel's run at its last grid point: the two guards that fail are decided first, and the part that is
   left is opened after that. -/
module

public import proofs.«01_k».proof.Proof.Gen.KernelIdeal.Frame.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 3000000 in
/-- What the last grid point's stores leave in each output's buffer, with the body's triple. -/
noncomputable def kernelRun0_C (c : Dev nD) (i : grid0.Coords) (arg1 : Memref sig .tc .smem S16 .f32) (harg1 : arg1.IsWhole) (arg2 : Memref sig .tc .vmem S1x512x1024 .bf16) (harg2 : arg2.IsWhole) (arg3 : Memref sig .tc .vmem S1x2048x512 .bf16) (harg3 : arg3.IsWhole) (arg4 : Memref sig .tc .vmem S1x16x512x128 .bf16) (harg4 : arg4.IsWhole) (arg5 : Memref sig .tc .vmem S1x256x512 .bf16) (harg5 : arg5.IsWhole) (arg6 : Memref sig .tc .vmem S1x512x256 .bf16) (harg6 : arg6.IsWhole) (arg7 : Memref sig .tc .vmem S1x512x1024 .f32) (harg7 : arg7.IsWhole) (arg8 : Memref sig .tc .vmem S1x9x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x512 .f32) (harg12 : arg12.IsWhole) (arg13 : Memref sig .tc .vmem S1x256x1024 .f32) (harg13 : arg13.IsWhole) (arg14 : Memref sig .tc .vmem S1x512x1024 .f32) (harg14 : arg14.IsWhole) (arg15 : Memref sig .tc .vmem S1x1024x512 .bf16) (harg15 : arg15.IsWhole) (arg16 : Memref sig .tc .vmem S1x256x1024 .bf16) (harg16 : arg16.IsWhole) (arg17 : Memref sig .tc .vmem S512x1024 .bf16) (harg17 : arg17.IsWhole) (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) :
    Σ' (L13 : List (View.Piece (Elt F) S1x512x1024 .f32)), Σ' (L14 : List (View.Piece (Elt F) S1x1024x512 .bf16)), Σ' (L15 : List (View.Piece (Elt F) S1x256x1024 .bf16)), { LS0 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], fun E K => ?run⟩
  case run =>
    simp only [cc0_attn_eq_skeleton]; unfold cc0_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hfs0
    sl_exec (disch := first | sl_exact hc0 | sl_exact hc1 | sl_exact hc2)
    simp only [k0_part104_eq_skeleton]
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    iexists _; isplitr; · ipureintro; exact harg17.read_unread _
    iexact HS0

end Cert.KernelIdeal.Gen

end
-- ==== Proof.AttnIdealFrame.lean ====
/- The frame of the attention kernel over its grid of 65 points: the generated one, with the last point's run from
   `AttnIdealRunC`. -/
module

public import proofs.«01_k».proof.Proof.AttnIdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Cases
variable (c : Dev nD) (i : grid0.Coords) (arg1 : Memref sig .tc .smem S16 .f32) (harg1 : arg1.IsWhole) (arg2 : Memref sig .tc .vmem S1x512x1024 .bf16) (harg2 : arg2.IsWhole) (arg3 : Memref sig .tc .vmem S1x2048x512 .bf16) (harg3 : arg3.IsWhole) (arg4 : Memref sig .tc .vmem S1x16x512x128 .bf16) (harg4 : arg4.IsWhole) (arg5 : Memref sig .tc .vmem S1x256x512 .bf16) (harg5 : arg5.IsWhole) (arg6 : Memref sig .tc .vmem S1x512x256 .bf16) (harg6 : arg6.IsWhole) (arg7 : Memref sig .tc .vmem S1x512x1024 .f32) (harg7 : arg7.IsWhole) (arg8 : Memref sig .tc .vmem S1x9x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x512 .f32) (harg12 : arg12.IsWhole) (arg13 : Memref sig .tc .vmem S1x256x1024 .f32) (harg13 : arg13.IsWhole) (arg14 : Memref sig .tc .vmem S1x512x1024 .f32) (harg14 : arg14.IsWhole) (arg15 : Memref sig .tc .vmem S1x1024x512 .bf16) (harg15 : arg15.IsWhole) (arg16 : Memref sig .tc .vmem S1x256x1024 .bf16) (harg16 : arg16.IsWhole) (arg17 : Memref sig .tc .vmem S512x1024 .bf16) (harg17 : arg17.IsWhole)

/-- Case A's pieces for output 13 tile its block (1 store of `S1x512x1024`, checked by the kernel's evaluation: Lib/Ring.lean `Piece.tiledL`, linear in the pieces, through a loop's `@[irreducible]` trip theorem too), so they cover it. -/
theorem cover0_A_13 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (y : S1x512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).1 S1x512x1024.size (by sl_kernel_rfl) y

/-- What case A leaves in output 13's staging buffer: its pieces read back over junk. -/
def out0_A_13 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) : Vec F S1x512x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).1)

/-- Case A's pieces for output 14 tile its block (1 store of `S1x1024x512`, checked by the kernel's evaluation: Lib/Ring.lean `Piece.tiledL`, linear in the pieces, through a loop's `@[irreducible]` trip theorem too), so they cover it. -/
theorem cover0_A_14 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (y : S1x1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.1 S1x1024x512.size (by sl_kernel_rfl) y

/-- What case A leaves in output 14's staging buffer: its pieces read back over junk. -/
def out0_A_14 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) : Vec F S1x1024x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.1)

/-- Case A's pieces for output 15 tile its block (1 store of `S1x256x1024`, checked by the kernel's evaluation: Lib/Ring.lean `Piece.tiledL`, linear in the pieces, through a loop's `@[irreducible]` trip theorem too), so they cover it. -/
theorem cover0_A_15 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (y : S1x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.2.1 S1x256x1024.size (by sl_kernel_rfl) y

/-- What case A leaves in output 15's staging buffer: its pieces read back over junk. -/
def out0_A_15 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) : Vec F S1x256x1024 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.2.1)

/-- Case A's pieces for scratch `arg17`, which the kernel carries between points, cover it: one of them a store of the WHOLE buffer (Lib/Ring.lean `sl_whole_mem`). -/
theorem scover0_A_0 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.2.2.1 (by sl_whole_mem) y

/-- What case A leaves in scratch `arg17`: its pieces read back over junk. -/
def sout0_A_0 (hc0 : cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) : Vec F S512x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12).2.2.2.1)

/-- Case B's pieces for output 13 tile its block (1 store of `S1x512x1024`, checked by the kernel's evaluation: Lib/Ring.lean `Piece.tiledL`, linear in the pieces, through a loop's `@[irreducible]` trip theorem too), so they cover it. -/
theorem cover0_B_13 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S1x512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).1 S1x512x1024.size (by sl_kernel_rfl) y

/-- What case B leaves in output 13's staging buffer: its pieces read back over junk. -/
def out0_B_13 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S1x512x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).1)

/-- Case B's pieces for output 14 tile its block (1 store of `S1x1024x512`, checked by the kernel's evaluation: Lib/Ring.lean `Piece.tiledL`, linear in the pieces, through a loop's `@[irreducible]` trip theorem too), so they cover it. -/
theorem cover0_B_14 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S1x1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.1 S1x1024x512.size (by sl_kernel_rfl) y

/-- What case B leaves in output 14's staging buffer: its pieces read back over junk. -/
def out0_B_14 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S1x1024x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.1)

/-- Case B's pieces for output 15 tile its block (1 store of `S1x256x1024`, checked by the kernel's evaluation: Lib/Ring.lean `Piece.tiledL`, linear in the pieces, through a loop's `@[irreducible]` trip theorem too), so they cover it. -/
theorem cover0_B_15 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S1x256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.1 S1x256x1024.size (by sl_kernel_rfl) y

/-- What case B leaves in output 15's staging buffer: its pieces read back over junk. -/
def out0_B_15 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S1x256x1024 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.1)

/-- Case B's pieces for scratch `arg17`, which the kernel carries between points, cover it: 32 pieces of `S128x128` tiling it (Lib/Ring.lean `Piece.tiledL`). -/
theorem scover0_B_0 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.2.1 S128x128.size (by sl_kernel_rfl) y

/-- What case B leaves in scratch `arg17`: its pieces read back over junk. -/
def sout0_B_0 (hc0 : ¬cond0_0 i) (hc1 : cond0_1 i) (hc2 : ¬cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S512x1024 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.2.1)

/-- Case C's pieces for output 13 tile its block (1 store of `S1x512x1024`, checked by the kernel's evaluation: Lib/Ring.lean `Piece.tiledL`, linear in the pieces, through a loop's `@[irreducible]` trip theorem too), so they cover it. -/
theorem cover0_C_13 (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S1x512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).1 S1x512x1024.size (by sl_kernel_rfl) y

/-- What case C leaves in output 13's staging buffer: its pieces read back over junk. -/
def out0_C_13 (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S1x512x1024 .f32 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).1)

/-- Case C's pieces for output 14 tile its block (1 store of `S1x1024x512`, checked by the kernel's evaluation: Lib/Ring.lean `Piece.tiledL`, linear in the pieces, through a loop's `@[irreducible]` trip theorem too), so they cover it. -/
theorem cover0_C_14 (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S1x1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.1 S1x1024x512.size (by sl_kernel_rfl) y

/-- What case C leaves in output 14's staging buffer: its pieces read back over junk. -/
def out0_C_14 (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S1x1024x512 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.1)

/-- Case C's pieces for output 15 tile its block (1 store of `S1x256x1024`, checked by the kernel's evaluation: Lib/Ring.lean `Piece.tiledL`, linear in the pieces, through a loop's `@[irreducible]` trip theorem too), so they cover it. -/
theorem cover0_C_15 (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) (y : S1x256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.1 S1x256x1024.size (by sl_kernel_rfl) y

/-- What case C leaves in output 15's staging buffer: its pieces read back over junk. -/
def out0_C_15 (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S1x256x1024 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 xs0).2.2.1)

end Cases

/-- Case C stores nothing into scratch `arg17`: it holds what the point before left. -/
def sout0_C_0 (c : Dev nD) (i : grid0.Coords) (arg1 : Memref sig .tc .smem S16 .f32) (harg1 : arg1.IsWhole) (arg2 : Memref sig .tc .vmem S1x512x1024 .bf16) (harg2 : arg2.IsWhole) (arg3 : Memref sig .tc .vmem S1x2048x512 .bf16) (harg3 : arg3.IsWhole) (arg4 : Memref sig .tc .vmem S1x16x512x128 .bf16) (harg4 : arg4.IsWhole) (arg5 : Memref sig .tc .vmem S1x256x512 .bf16) (harg5 : arg5.IsWhole) (arg6 : Memref sig .tc .vmem S1x512x256 .bf16) (harg6 : arg6.IsWhole) (arg7 : Memref sig .tc .vmem S1x512x1024 .f32) (harg7 : arg7.IsWhole) (arg8 : Memref sig .tc .vmem S1x9x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x512 .f32) (harg12 : arg12.IsWhole) (arg13 : Memref sig .tc .vmem S1x256x1024 .f32) (harg13 : arg13.IsWhole) (arg14 : Memref sig .tc .vmem S1x512x1024 .f32) (harg14 : arg14.IsWhole) (arg15 : Memref sig .tc .vmem S1x1024x512 .bf16) (harg15 : arg15.IsWhole) (arg16 : Memref sig .tc .vmem S1x256x1024 .bf16) (harg16 : arg16.IsWhole) (arg17 : Memref sig .tc .vmem S512x1024 .bf16) (harg17 : arg17.IsWhole) (hc0 : ¬cond0_0 i) (hc1 : ¬cond0_1 i) (hc2 : cond0_2 i)
    (x0 : Vec F S16 .f32) (x1 : Vec F S1x512x1024 .bf16) (x2 : Vec F S1x2048x512 .bf16) (x3 : Vec F S1x16x512x128 .bf16) (x4 : Vec F S1x256x512 .bf16) (x5 : Vec F S1x512x256 .bf16) (x6 : Vec F S1x512x1024 .f32) (x7 : Vec F S1x9x1024 .f32) (x8 : Vec F S1024x1024 .bf16) (x9 : Vec F S1x1024 .f32) (x10 : Vec F S1x1024 .f32) (x11 : Vec F S1x1024x512 .f32) (x12 : Vec F S1x256x1024 .f32) (xs0 : Vec F S512x1024 .bf16) : Vec F S512x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .f32 × Vec F S1x1024x512 .bf16 × Vec F S1x256x1024 .bf16 × Vec F S512x1024 .bf16
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 65 = 0 then
      if h1 : (n + 1) < 64 then
        if h2 : (n + 1) % 65 = 64 then
          False.elim (by have hN : n + 1 < 65 := lt_of_lt_of_eq hn (show cfg0.N = 65 from N_0); omega)
        else
          (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
      else
        False.elim (by have hN : n + 1 < 65 := lt_of_lt_of_eq hn (show cfg0.N = 65 from N_0); omega)
    else
      if h1 : (n + 1) < 64 then
        if h2 : (n + 1) % 65 = 64 then
          False.elim (by have hN : n + 1 < 65 := lt_of_lt_of_eq hn (show cfg0.N = 65 from N_0); omega)
        else
          (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2)
      else
        if h2 : (n + 1) % 65 = 64 then
          (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2)
        else
          False.elim (by have hN : n + 1 < 65 := lt_of_lt_of_eq hn (show cfg0.N = 65 from N_0); omega)

/-- `outsAt0` at a point of case A: that case's contents. -/
theorem outsAt0_A (c : Dev nD) (t : Fin cfg0.N) (h0 : t.val % 65 = 0) (h1 : t.val < 64) (h2 : ¬t.val % 65 = 64) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 65 = 0) (h1 : t.val < 64) (h2 : ¬t.val % 65 = 64) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 65 = 0) (h1 : ¬t.val < 64) (h2 : t.val % 65 = 64) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨_ + 16, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : t.val < 64
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) (fun h => h2 ((hcond0_2 t).mp h))], after0_15]
        by_cases hz : t.val = 0
        · rw [PhiS_castSucc m c t, PhiS_zero m c _ _ hz, PhiA0_eq]
          rw [outsAt0_A m c t h0 h1 h2]
          unfold out0_A_13 out0_A_14 out0_A_15 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexists _; iexact H14
          isplitl [H15]; · iexists _; iexact H15
          isplitl [HS0]; · iexact HS0
          iintro ⟨H0, H1, H2, H3, H4, H5, H6, H7, H8, H9, H10, H11, H12, ⟨%e13, H13⟩, ⟨%e14, H14⟩, ⟨%e15, H15⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
        · exfalso; have hN : t.val < 65 := lt_of_lt_of_eq t.isLt (show cfg0.N = 65 from N_0); omega
    · exfalso; omega
  · by_cases h1 : t.val < 64
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1) (fun h => h2 ((hcond0_2 t).mp h))], after0_15]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2]
          unfold out0_B_13 out0_B_14 out0_B_15 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexists _; iexact H14
          isplitl [H15]; · iexists _; iexact H15
          isplitl [HS0]; · iexact HS0
          iintro ⟨H0, H1, H2, H3, H4, H5, H6, H7, H8, H9, H10, H11, H12, ⟨%e13, H13⟩, ⟨%e14, H14⟩, ⟨%e15, H15⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _)
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) ((hcond0_2 t).mpr h2)], after0_15]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2]
          unfold out0_C_13 out0_C_14 out0_C_15 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexists _; iexact H14
          isplitl [H15]; · iexists _; iexact H15
          isplitl [HS0]; · iexact HS0
          iintro ⟨H0, H1, H2, H3, H4, H5, H6, H7, H8, H9, H10, H11, H12, ⟨%e13, H13⟩, ⟨%e14, H14⟩, ⟨%e15, H15⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.LayerMath.lean ====
module

public import Idealize.ShloMosaic.Lib.ValueIdx
public import Idealize.ShloMosaic.Lib.MatmulPlain
public import Idealize.ShloMosaic.Lib.Pointwise.Reduce
public import Idealize.ShloMosaic.Lib.Pointwise.Contract
public import Idealize.ShloMosaic.Lib.Pipeline.Value

@[expose] public section

noncomputable section

open Idealize.ShloMosaic

namespace Cert.Layer

/-- The mean of a row of 1024 entries. -/
def rowMean (z : Fin 1024 → EReal) : EReal := Ideal.div (∑ k, z k) (Ideal.ofBits .f32 0x44800000#32)

/-- A row of 1024 entries normalized to zero mean and unit variance, then scaled and shifted. -/
def rowNorm (z g b : Fin 1024 → EReal) (d : Fin 1024) : EReal :=
  (z d - rowMean z) * Ideal.rsqrt (rowMean (fun k => (z k - rowMean z) * (z k - rowMean z)) + Ideal.ofBits .f32 0x3727C5AC#32) * g d + b d

/-- `rowNorm` of equal rows. -/
theorem rowNorm_congr {z z' g g' b b' : Fin 1024 → EReal} (hz : ∀ k, z k = z' k) (hg : ∀ k, g k = g' k) (hb : ∀ k, b k = b' k) (d : Fin 1024) :
    rowNorm z g b d = rowNorm z' g' b' d := by
  obtain rfl := funext hz; obtain rfl := funext hg; obtain rfl := funext hb; rfl

end Cert.Layer
end
-- ==== Proof.FfnMath.lean ====
module

public import proofs.«01_k».proof.Proof.LayerMath

/-! The half-step gated sublayer over its six arrays, for any batch and length, any three modulation rows, any slab
of the weights and any row of the normalization's gains. -/

@[expose] public section

noncomputable section

open Idealize.ShloMosaic Idealize.ShloMosaic.TcCoe

namespace Cert.FfnValue

open Cert.Layer

section Spec
variable {nb nl : Nat} (X : FVec Ideal ⟨3, ![nb, nl, 1024]⟩ .f32) (M : FVec Ideal ⟨3, ![nb, 9, 1024]⟩ .f32)
  (WI : FVec Ideal ⟨4, ![2, 2, 1024, 5632]⟩ .f32) (WO : FVec Ideal ⟨4, ![2, 2, 2816, 1024]⟩ .f32)
  (G B : FVec Ideal ⟨3, ![2, 3, 1024]⟩ .f32) (sh sc gt : Fin 9) (l h : Fin 2) (n : Fin 3)

/-- A column of the first product, row `s` of batch `b`. -/
def projA (b : Fin nb) (s : Fin nl) (j : Fin 5632) : EReal :=
  ∑ k : Fin 1024, (X (ix3 b s k) * (1 + M (ix3 b sc k)) + M (ix3 b sh k)) * WI (ix4 l h k j)

/-- The gated hidden layer. -/
def gatedA (b : Fin nb) (s : Fin nl) (j : Fin 2816) : EReal :=
  projA X M WI sh sc l h b s ⟨j.val, by omega⟩
    * (projA X M WI sh sc l h b s ⟨2816 + j.val, by omega⟩ * Ideal.logistic (projA X M WI sh sc l h b s ⟨2816 + j.val, by omega⟩))

/-- The rows before the normalization. -/
def keepA (b : Fin nb) (s : Fin nl) (d : Fin 1024) : EReal :=
  Ideal.ofBits .f32 0x3FB504F3#32 * X (ix3 b s d)
    + M (ix3 b gt d) * (Ideal.ofBits .f32 0x3F000000#32 * ∑ j : Fin 2816, gatedA X M WI sh sc l h b s j * WO (ix4 l h j d))

/-- The layer's feed-forward result. -/
def ffnA : FVec Ideal ⟨3, ![nb, nl, 1024]⟩ .f32 := fun i =>
  rowNorm (fun k => keepA X M WI WO sh sc gt l h (i 0) (i 1) k) (fun k => G (ix3 l n k)) (fun k => B (ix3 l n k)) (i 2)

end Spec

end Cert.FfnValue
end
-- ==== Proof.FfnPoint.lean ====
module

public import proofs.«01_k».proof.Proof.Gen.FfnIdeal.Value
public import proofs.«01_k».proof.Proof.FfnMath
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnValue

open Cert.FfnIdeal Cert.FfnIdeal.Gen Cert.Layer

theorem hz2 : (![0, 0] : Fin 2 → Nat) = fun _ => 0 := funext fun a => by fin_cases a <;> rfl
theorem hz3 : (![0, 0, 0] : Fin 3 → Nat) = fun _ => 0 := funext fun a => by fin_cases a <;> rfl

/-- The normalization the body applies to the rows it kept from the point before. -/
theorem norm_apply (z : Vec Ideal S1024x1024 .f32) (g b : Vec Ideal S1x1024 .f32) (r d : Fin 1024) :
    k0_pay4 z g b (ix3 0 r d) = rowNorm (fun k => z (ix2 r k)) (fun k => g (ix2 0 k)) (fun k => b (ix2 0 k)) d := by
  unfold_payloads
  pointwise
  rfl

/-- One chunk of the gated hidden layer: value columns times gate columns passed through the swish function. -/
theorem chunk_apply (h : FVec Ideal S1024x1024 .bf16) (wg wa : Vec Ideal S1x1024x256 .bf16) (r : Fin 1024) (j : Fin 256) :
    k0_pay14 h wg wa (ix2 r j) = (∑ k : Fin 1024, h (ix2 r k) * wa (ix3 0 k j))
      * ((∑ k : Fin 1024, h (ix2 r k) * wg (ix3 0 k j)) * Ideal.logistic (∑ k : Fin 1024, h (ix2 r k) * wg (ix3 0 k j))) := by
  unfold_payloads
  pointwise

/-- The rows the hidden layer reads: scaled by one plus a row of the modulation, shifted by another. -/
theorem mod_apply (x : Vec Ideal S1x1024x1024 .f32) (s c : Vec Ideal S1x1x1024 .f32) (r k : Fin 1024) :
    k0_pay9 (k0_pay5 x) (k0_pay6 s) (k0_pay7 c) k0_pay8 (ix2 r k) = x (ix3 0 r k) * (1 + c (ix3 0 0 k)) + s (ix3 0 0 k) := by
  unfold_payloads
  pointwise

/-- The rows the body keeps: the scaled input plus the gated half of the second product. -/
theorem keep_apply (u : Vec Ideal S1024x2816 .bf16) (wo : Vec Ideal S1x2816x1024 .bf16) (x : Vec Ideal S1x1024x1024 .f32) (g : Vec Ideal S1x1x1024 .f32) (r d : Fin 1024) :
    k0_pay2 (k0_pay25 u wo x g) (ix2 r d) = Ideal.ofBits .f32 0x3FB504F3#32 * x (ix3 0 r d) + g (ix3 0 0 d) * (Ideal.ofBits .f32 0x3F000000#32 * ∑ j : Fin 2816, u (ix2 r j) * wo (ix3 0 j d)) := by
  unfold_payloads
  pointwise

/-! ## The hidden layer, from its eleven chunks -/

section Tile
variable (x0 : Vec Ideal S1x1024x1024 .f32) (x1 : Vec Ideal S1x9x1024 .f32) (x2 : Vec Ideal S1x1024x5632 .bf16)
  (x3 : Vec Ideal S1x2816x1024 .bf16) (sh sc gt : Fin 9)

/-- The modulated row `r` of a tile, entry `k`. -/
def hid (r k : Fin 1024) : EReal := x0 (ix3 0 r k) * (1 + x1 (ix3 0 sc k)) + x1 (ix3 0 sh k)

/-- A column of the first product. -/
def proj (r : Fin 1024) (j : Fin 5632) : EReal := ∑ k : Fin 1024, hid x0 x1 sh sc r k * x2 (ix3 0 k j)

/-- The gated hidden layer at row `r`, column `j`. -/
def gated (r : Fin 1024) (j : Fin 2816) : EReal :=
  proj x0 x1 x2 sh sc r ⟨j.val, by omega⟩
    * (proj x0 x1 x2 sh sc r ⟨2816 + j.val, by omega⟩ * Ideal.logistic (proj x0 x1 x2 sh sc r ⟨2816 + j.val, by omega⟩))

/-- The same as contents of the scratch buffer. -/
def gatedV : Vec Ideal S1024x2816 .bf16 := fun y => gated x0 x1 x2 sh sc (y 0) (y 1)

/-- The rows kept, at an index: the scaled input plus the gated half of the hidden layer's second product. -/
def keep (r d : Fin 1024) : EReal :=
  Ideal.ofBits .f32 0x3FB504F3#32 * x0 (ix3 0 r d)
    + x1 (ix3 0 gt d) * (Ideal.ofBits .f32 0x3F000000#32 * ∑ j : Fin 2816, gated x0 x1 x2 sh sc r j * x3 (ix3 0 j d))

end Tile

/-! The eleven chunks are one computation. -/

theorem chunk10 (a : FVec Ideal S1024x1024 .f32) (b c d : FVec Ideal S1x1024 .f32) (wg wa : Vec Ideal S1x1024x256 .bf16) : k0_pay10 a b c d wg wa = k0_pay14 (k0_pay9 a b c d) wg wa := rfl
theorem chunk11 (a : FVec Ideal S1024x1024 .f32) (b c d : FVec Ideal S1x1024 .f32) (wg wa : Vec Ideal S1x1024x256 .bf16) : k0_pay11 a b c d wg wa = k0_pay14 (k0_pay9 a b c d) wg wa := rfl
theorem chunk17 (h : FVec Ideal S1024x1024 .bf16) (wg wa : Vec Ideal S1x1024x256 .bf16) : k0_pay17 h wg wa = k0_pay14 h wg wa := rfl
theorem chunk18 (h : FVec Ideal S1024x1024 .bf16) (wg wa : Vec Ideal S1x1024x256 .bf16) : k0_pay18 h wg wa = k0_pay14 h wg wa := rfl
theorem chunk21 (h : FVec Ideal S1024x1024 .bf16) (wg wa : Vec Ideal S1x1024x256 .bf16) : k0_pay21 h wg wa = k0_pay14 h wg wa := rfl
theorem chunk24 (h : FVec Ideal S1024x1024 .bf16) (wg wa : Vec Ideal S1x1024x256 .bf16) : k0_pay24 h wg wa = k0_pay14 h wg wa := rfl
theorem chunk13 (h : FVec Ideal S1024x1024 .bf16) (wg wa : Vec Ideal S1x1024x256 .bf16) : k0_pay13 h (k0_pay12 wg) (constant S1024x256 .f32 0x00000000#32) wa = k0_pay14 h wg wa := rfl
theorem chunk20 (h : FVec Ideal S1024x1024 .bf16) (wg wa : Vec Ideal S1x1024x256 .bf16) : k0_pay20 h (k0_pay19 wg) (constant S1024x256 .f32 0x00000000#32) wa = k0_pay14 h wg wa := rfl
theorem chunk15 (h : FVec Ideal S1024x1024 .bf16) (wg wa : Vec Ideal S1x1024x256 .bf16) : k0_pay16 (k0_pay15 h wg wa) = k0_pay14 h wg wa := rfl
theorem chunk22 (h : FVec Ideal S1024x1024 .bf16) (wg wa : Vec Ideal S1x1024x256 .bf16) : k0_pay23 (k0_pay22 h wg wa) = k0_pay14 h wg wa := rfl

/-- A load of a slab of a rank-three block, at an index. -/
theorem ld3_apply {e : EltTy} {n1 n2 m1 m2 : Nat} (X : Vec Ideal ⟨3, ![1, n1, n2]⟩ e) (o1 o2 : Nat)
    (inb : ∀ a, (![0, o1, o2] : Fin 3 → Nat) a + (![1, m1, m2] : Fin 3 → Nat) a ≤ (⟨3, ![1, n1, n2]⟩ : Shape).size a)
    (a : Fin m1) (b : Fin m2) (a' : Fin n1) (b' : Fin n2) (ha : a'.val = o1 + a.val) (hb : b'.val = o2 + b.val) :
    View.ld X (Rect.unit ![0, o1, o2] ![1, m1, m2] inb) (ix3 0 a b) = X (ix3 0 a' b') := by
  show X _ = X _
  congr 1
  funext q
  apply Fin.ext
  match q with
  | ⟨0, _⟩ => rfl
  | ⟨1, _⟩ => show o1 + 1 * a.val = a'.val; omega
  | ⟨2, _⟩ => show o2 + 1 * b.val = b'.val; omega

/-- The modulated tile the body forms from its loads. -/
theorem hid_ld (x0 : Vec Ideal S1x1024x1024 .f32) (x1 : Vec Ideal S1x9x1024 .f32) (sh sc : Nat) (hsh : sh < 9) (hsc : sc < 9)
    (i0 : ∀ a, (![0, 0, 0] : Fin 3 → Nat) a + (![1, 1024, 1024] : Fin 3 → Nat) a ≤ (⟨3, ![1, 1024, 1024]⟩ : Shape).size a)
    (i1 : ∀ a, (![0, sh, 0] : Fin 3 → Nat) a + (![1, 1, 1024] : Fin 3 → Nat) a ≤ (⟨3, ![1, 9, 1024]⟩ : Shape).size a)
    (i2 : ∀ a, (![0, sc, 0] : Fin 3 → Nat) a + (![1, 1, 1024] : Fin 3 → Nat) a ≤ (⟨3, ![1, 9, 1024]⟩ : Shape).size a) (r k : Fin 1024) :
    k0_pay9 (k0_pay5 (View.ld x0 (Rect.unit ![0, 0, 0] ![1, 1024, 1024] i0))) (k0_pay6 (View.ld x1 (Rect.unit ![0, sh, 0] ![1, 1, 1024] i1)))
      (k0_pay7 (View.ld x1 (Rect.unit ![0, sc, 0] ![1, 1, 1024] i2))) k0_pay8 (ix2 r k) = hid x0 x1 ⟨sh, hsh⟩ ⟨sc, hsc⟩ r k := by
  unfold hid
  rw [mod_apply, ld3_apply x0 0 0 _ r k r k (by omega) (by omega), ld3_apply x1 sh 0 _ 0 k ⟨sh, hsh⟩ k rfl (by omega),
    ld3_apply x1 sc 0 _ 0 k ⟨sc, hsc⟩ k rfl (by omega)]

/-- Each chunk stored is the gated hidden layer over its columns. -/
theorem chunk_eq (x0 : Vec Ideal S1x1024x1024 .f32) (x1 : Vec Ideal S1x9x1024 .f32) (x2 : Vec Ideal S1x1024x5632 .bf16) (sh sc : Fin 9)
    (h : FVec Ideal S1024x1024 .bf16) (hh : ∀ r k : Fin 1024, h (ix2 r k) = hid x0 x1 sh sc r k) (o o' : Nat)
    (inb : ∀ a, (![0, 0, o] : Fin 3 → Nat) a + (![1, 1024, 256] : Fin 3 → Nat) a ≤ (⟨3, ![1, 1024, 5632]⟩ : Shape).size a)
    (inb' : ∀ a, (![0, 0, o'] : Fin 3 → Nat) a + (![1, 1024, 256] : Fin 3 → Nat) a ≤ (⟨3, ![1, 1024, 5632]⟩ : Shape).size a)
    (inbo : ∀ a, (![0, o] : Fin 2 → Nat) a + (![1024, 256] : Fin 2 → Nat) a ≤ S1024x2816.size a) (ho : o' = 2816 + o)
    (x : S1024x256.Idx) :
    k0_pay14 h (View.ld x2 (Rect.unit ![0, 0, o'] ![1, 1024, 256] inb')) (View.ld x2 (Rect.unit ![0, 0, o] ![1, 1024, 256] inb)) x
      = gatedV x0 x1 x2 sh sc ((Rect.unit (s := S1024x2816) ![0, o] ![1024, 256] inbo).emb x) := by
  subst ho
  have hle : o + 256 ≤ 2816 := inbo 1
  obtain ⟨r, j, rfl⟩ : ∃ (r : Fin 1024) (j : Fin 256), x = ix2 r j := ⟨x 0, x 1, eq_ix2 x⟩
  have e0 : (Rect.unit (s := S1024x2816) ![0, o] ![1024, 256] inbo).emb (ix2 r j) 0 = r := Fin.ext (by show 0 + 1 * r.val = r.val; omega)
  have e1 : (Rect.unit (s := S1024x2816) ![0, o] ![1024, 256] inbo).emb (ix2 r j) 1 = (⟨o + j.val, by omega⟩ : Fin 2816) :=
    Fin.ext (by show o + 1 * j.val = o + j.val; omega)
  rw [chunk_apply]
  unfold gatedV gated proj
  rw [e0, e1]
  simp only [hh]
  have hA : ∀ k : Fin 1024, View.ld x2 (Rect.unit ![0, 0, o] ![1, 1024, 256] inb) (ix3 0 k j) = x2 (ix3 0 k (⟨o + j.val, by omega⟩ : Fin 5632)) :=
    fun k => ld3_apply x2 0 o inb k j k _ (by omega) rfl
  have hG : ∀ k : Fin 1024, View.ld x2 (Rect.unit ![0, 0, 2816 + o] ![1, 1024, 256] inb') (ix3 0 k j) = x2 (ix3 0 k (⟨2816 + (o + j.val), by omega⟩ : Fin 5632)) :=
    fun k => ld3_apply x2 0 (2816 + o) inb' k j k _ (by omega) (by show 2816 + (o + j.val) = _; omega)
  simp only [hA, hG]

/-- What the body keeps for the next point, case A. -/
theorem keep_A (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (r d : Fin 1024) :
    sout0_A_1 c i arg1 harg1 arg2 harg2 arg3 harg3 arg4 harg4 arg5 harg5 arg6 harg6 arg7 harg7 arg8 harg8 arg9 harg9 hc0 hc1 hc2 x0 x1 x2 x3 x4 x5 (ix2 r d) = keep x0 x1 x2 x3 6 7 8 r d := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 hc2 x0 x1 x2 x3 x4 x5)]
  unfold kernelRun0_A
  dsimp only
  sl_unfold_words
  first | rw [View.canon_unit_zero hz2] | rw [View.canon_cons_unit_zero hz2]
  simp only [View.readAt_eq_ld, harg1.read_unread, harg2.read_unread, harg3.read_unread, harg4.read_unread, chunk10, chunk11, chunk13, chunk15, chunk17, chunk18, chunk20, chunk21, chunk22, chunk24]
  rw [keep_apply, View.readCov_eq_canon', ld3_apply x0 0 0 _ r d r d (by omega) (by omega), ld3_apply x1 8 0 _ 0 d 8 d rfl (by omega)]
  unfold keep
  refine congrArg (fun z => Ideal.ofBits .f32 0x3FB504F3#32 * x0 (ix3 0 r d) + x1 (ix3 0 8 d) * (Ideal.ofBits .f32 0x3F000000#32 * z)) (Finset.sum_congr rfl fun j _ => ?_)
  rw [ld3_apply x3 0 0 _ j d j d (by omega) (by omega)]
  refine congrArg (· * x3 (ix3 0 j d)) ?_
  refine (View.canon_apply_of_pieces (gatedV x0 x1 x2 6 7) _ ?_ _ ?_).trans ?_
  · refine View.PiecesOf.mem ⟨?_, ?_, ?_, ?_, ?_, ?_, ?_, ?_, ?_, ?_, ?_, trivial⟩ <;>
      exact chunk_eq x0 x1 x2 6 7 _ (hid_ld x0 x1 6 7 (by omega) (by omega) _ _ _) _ _ _ _ (by decide) rfl
  · exact View.cover_of_tiledL (s := S1024x2816) _ ![1024, 256] (by sl_kernel_rfl) ((Rect.unit (s := S1024x2816) ![0, 0] ![1024, 2816] inb_S1024x2816_S1024x2816_0_0).idx (ix2 r j))
  · show gated x0 x1 x2 6 7 _ _ = _
    congr 1
    · exact Fin.ext (by show 0 + 1 * r.val = r.val; omega)
    · exact Fin.ext (by show 0 + 1 * j.val = j.val; omega)

/-- What the body keeps for the next point, case B. -/
theorem keep_B (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    sout0_B_1 c i arg1 harg1 arg2 harg2 arg3 harg3 arg4 harg4 arg5 harg5 arg6 harg6 arg7 harg7 arg8 harg8 arg9 harg9 hc0 hc1 hc2 x0 x1 x2 x3 x4 x5 xs1 (ix2 r d) = keep x0 x1 x2 x3 6 7 8 r d := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 hc2 x0 x1 x2 x3 x4 x5 xs1)]
  unfold kernelRun0_B
  dsimp only
  sl_unfold_words
  first | rw [View.canon_unit_zero hz2] | rw [View.canon_cons_unit_zero hz2]
  simp only [View.readAt_eq_ld, harg1.read_unread, harg2.read_unread, harg3.read_unread, harg4.read_unread, chunk10, chunk11, chunk13, chunk15, chunk17, chunk18, chunk20, chunk21, chunk22, chunk24]
  rw [keep_apply, View.readCov_eq_canon', ld3_apply x0 0 0 _ r d r d (by omega) (by omega), ld3_apply x1 8 0 _ 0 d 8 d rfl (by omega)]
  unfold keep
  refine congrArg (fun z => Ideal.ofBits .f32 0x3FB504F3#32 * x0 (ix3 0 r d) + x1 (ix3 0 8 d) * (Ideal.ofBits .f32 0x3F000000#32 * z)) (Finset.sum_congr rfl fun j _ => ?_)
  rw [ld3_apply x3 0 0 _ j d j d (by omega) (by omega)]
  refine congrArg (· * x3 (ix3 0 j d)) ?_
  refine (View.canon_apply_of_pieces (gatedV x0 x1 x2 6 7) _ ?_ _ ?_).trans ?_
  · refine View.PiecesOf.mem ⟨?_, ?_, ?_, ?_, ?_, ?_, ?_, ?_, ?_, ?_, ?_, trivial⟩ <;>
      exact chunk_eq x0 x1 x2 6 7 _ (hid_ld x0 x1 6 7 (by omega) (by omega) _ _ _) _ _ _ _ (by decide) rfl
  · exact View.cover_of_tiledL (s := S1024x2816) _ ![1024, 256] (by sl_kernel_rfl) ((Rect.unit (s := S1024x2816) ![0, 0] ![1024, 2816] inb_S1024x2816_S1024x2816_0_0).idx (ix2 r j))
  · show gated x0 x1 x2 6 7 _ _ = _
    congr 1
    · exact Fin.ext (by show 0 + 1 * r.val = r.val; omega)
    · exact Fin.ext (by show 0 + 1 * j.val = j.val; omega)

/-- What the body writes out, case B: the normalization of the rows kept by the point before. -/
theorem out_B (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    out0_B_6 c i arg1 harg1 arg2 harg2 arg3 harg3 arg4 harg4 arg5 harg5 arg6 harg6 arg7 harg7 arg8 harg8 arg9 harg9 hc0 hc1 hc2 x0 x1 x2 x3 x4 x5 xs1 (ix3 0 r d) = rowNorm (fun k => xs1 (ix2 r k)) (fun k => x4 (ix2 0 k)) (fun k => x5 (ix2 0 k)) d := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 hc2 x0 x1 x2 x3 x4 x5 xs1)]
  unfold kernelRun0_B
  dsimp only
  sl_unfold_words
  rw [View.canon_unit_zero hz3]
  simp only [View.readAt_eq_ld, harg5.read_unread, harg6.read_unread, harg9.read_unread]
  rw [View.ld_unit_zero (S := S1024x1024) hz2, View.ld_unit_zero (S := S1x1024) hz2, View.ld_unit_zero (S := S1x1024) hz2]
  exact norm_apply xs1 x4 x5 r d

/-- What the body writes out, case C: the normalization of the rows kept by the point before. -/
theorem out_C (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : ¬cond0_1 i) (hc2 : cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    out0_C_6 c i arg1 harg1 arg2 harg2 arg3 harg3 arg4 harg4 arg5 harg5 arg6 harg6 arg7 harg7 arg8 harg8 arg9 harg9 hc0 hc1 hc2 x0 x1 x2 x3 x4 x5 xs1 (ix3 0 r d) = rowNorm (fun k => xs1 (ix2 r k)) (fun k => x4 (ix2 0 k)) (fun k => x5 (ix2 0 k)) d := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 hc2 x0 x1 x2 x3 x4 x5 xs1)]
  unfold kernelRun0_C
  dsimp only
  sl_unfold_words
  rw [View.canon_unit_zero hz3]
  simp only [View.readAt_eq_ld, harg5.read_unread, harg6.read_unread, harg9.read_unread]
  rw [View.ld_unit_zero (S := S1024x1024) hz2, View.ld_unit_zero (S := S1x1024) hz2, View.ld_unit_zero (S := S1x1024) hz2]
  exact norm_apply xs1 x4 x5 r d

end Cert.FfnValue
end
-- ==== Proof.FfnArray.lean ====
module

public import proofs.«01_k».proof.Proof.FfnPoint
public import Idealize.ShloMosaic.Lib.StableHlo.Run

@[expose] public section

set_option maxRecDepth 16384

noncomputable section

open Idealize.ShloMosaic Idealize.ShloMosaic.TcCoe Idealize.SL.Sem Idealize.ShloMosaic.StableHlo
open Idealize.ShloMosaic.Pipeline (Dat)

namespace Cert.FfnValue

open Cert.FfnIdeal Cert.FfnIdeal.Gen Cert.Layer

variable (m : (ℓ : Loc nD τ sig) → Buf (Elt Ideal) ℓ) (ρ : Dev nD → PrngReg)

/-! ## What the host prepares -/

theorem V_wi (c : Dev nD) (k : Fin 1024) (j : Fin 5632) :
    V m c main_v2 (ix3 2 k j) = (m ((c : Thread nD τ).loc main_arg2) : Vec Ideal S2x2x1024x5632 .f32) (ix4 1 1 k j) := by
  have e : V m c main_v2 = truncf (F := Ideal) (φ := .f32) .bf16 (extractStridedSlice S3x1024x5632 ![1, 0, 0]
      (shapeCast S4x1024x5632 (m ((c : Thread nD τ).loc main_arg2) : Vec Ideal S2x2x1024x5632 .f32) shapeCasts_S2x2x1024x5632_S4x1024x5632)
      slices_S4x1024x5632_S3x1024x5632_1_0_0) bitsLt_bf16_f32 := by
    show StableHlo.after hostOps0 _ _ = _
    after_results
    rfl
  rw [e]
  unfold truncf extractStridedSlice
  refine shapeCast_apply _ _ _ (ix4 1 1 k j) ?_
  rw [Shape.rowMajor_val_four, Shape.rowMajor_val_three]
  show ((1 * 2 + 1) * 1024 + k.val) * 5632 + j.val = ((1 + 2) * 1024 + (0 + k.val)) * 5632 + (0 + j.val)
  omega

theorem V_wo (c : Dev nD) (k : Fin 2816) (j : Fin 1024) :
    V m c main_v5 (ix3 2 k j) = (m ((c : Thread nD τ).loc main_arg3) : Vec Ideal S2x2x2816x1024 .f32) (ix4 1 1 k j) := by
  have e : V m c main_v5 = truncf (F := Ideal) (φ := .f32) .bf16 (extractStridedSlice S3x2816x1024 ![1, 0, 0]
      (shapeCast S4x2816x1024 (m ((c : Thread nD τ).loc main_arg3) : Vec Ideal S2x2x2816x1024 .f32) shapeCasts_S2x2x2816x1024_S4x2816x1024)
      slices_S4x2816x1024_S3x2816x1024_1_0_0) bitsLt_bf16_f32 := by
    show StableHlo.after hostOps0 _ _ = _
    after_results
    rfl
  rw [e]
  unfold truncf extractStridedSlice
  refine shapeCast_apply _ _ _ (ix4 1 1 k j) ?_
  rw [Shape.rowMajor_val_four, Shape.rowMajor_val_three]
  show ((1 * 2 + 1) * 2816 + k.val) * 1024 + j.val = ((1 + 2) * 2816 + (0 + k.val)) * 1024 + (0 + j.val)
  omega

theorem V_g (c : Dev nD) (k : Fin 1024) :
    V m c main_v10 (ix2 0 k) = (m ((c : Thread nD τ).loc main_arg4) : Vec Ideal S2x3x1024 .f32) (ix3 1 2 k) := by
  have e : V m c main_v10 = shapeCast S1x1024 (shapeCast S1024 (extractStridedSlice S1x1x1024 ![1, 2, 0]
      (m ((c : Thread nD τ).loc main_arg4) : Vec Ideal S2x3x1024 .f32) slices_S2x3x1024_S1x1x1024_1_2_0) shapeCasts_S1x1x1024_S1024) shapeCasts_S1024_S1x1024 := by
    show StableHlo.after hostOps0 _ _ = _
    after_results
    rfl
  rw [e]
  pointwise

theorem V_b (c : Dev nD) (k : Fin 1024) :
    V m c main_v11 (ix2 0 k) = (m ((c : Thread nD τ).loc main_arg5) : Vec Ideal S2x3x1024 .f32) (ix3 1 2 k) := by
  have e : V m c main_v11 = shapeCast S1x1024 (shapeCast S1024 (extractStridedSlice S1x1x1024 ![1, 2, 0]
      (m ((c : Thread nD τ).loc main_arg5) : Vec Ideal S2x3x1024 .f32) slices_S2x3x1024_S1x1x1024_1_2_0) shapeCasts_S1x1x1024_S1024) shapeCasts_S1024_S1x1024 := by
    show StableHlo.after hostOps0 _ _ = _
    after_results
    rfl
  rw [e]
  pointwise

/-! ## Where each block sits -/

theorem idx0 : ∀ t : Fin cfg0.N, win0_0.index t 0 = min t.val 31 / 2 ∧ win0_0.index t 1 = min t.val 31 % 2 ∧ win0_0.index t 2 = 0 := by decide +kernel
theorem idx1 : ∀ t : Fin cfg0.N, win0_1.index t 0 = min t.val 31 / 2 ∧ win0_1.index t 1 = 0 ∧ win0_1.index t 2 = 0 := by decide +kernel
theorem idx2 : ∀ t : Fin cfg0.N, win0_2.index t 0 = 2 ∧ win0_2.index t 1 = 0 ∧ win0_2.index t 2 = 0 := by decide +kernel
theorem idx3 : ∀ t : Fin cfg0.N, win0_3.index t 0 = 2 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = (t.val - 1) / 2 ∧ win0_6.index t 1 = (t.val - 1) % 2 ∧ win0_6.index t 2 = 0 := by decide +kernel
theorem flush6 : ∀ t : Fin cfg0.N, (cfg0.win 6).flush t = true ↔ 1 ≤ t.val := by decide +kernel

theorem blk0 (c : Dev nD) (t : Fin cfg0.N) (r k : Fin 1024) :
    (iblk m c 0 t : Vec Ideal S1x1024x1024 .f32) (ix3 0 r k)
      = (m ((c : Thread nD τ).loc main_arg0) : Vec Ideal S16x2048x1024 .f32) (ix3 ⟨min t.val 31 / 2, by omega⟩ ⟨min t.val 31 % 2 * 1024 + r.val, by omega⟩ k) := by
  unfold iblk
  rw [View.read_apply]
  show V m c main_arg0 _ = _
  rw [V_main_arg0]
  refine congrArg (m ((c : Thread nD τ).loc main_arg0) : Vec Ideal S16x2048x1024 .f32) (funext fun a => Fin.ext ?_)
  match a with
  | ⟨0, _⟩ => show win0_0.index t 0 * 1 + 1 * 0 = min t.val 31 / 2; rw [(idx0 t).1]; omega
  | ⟨1, _⟩ => show win0_0.index t 1 * 1024 + 1 * r.val = min t.val 31 % 2 * 1024 + r.val; rw [(idx0 t).2.1]; omega
  | ⟨2, _⟩ => show win0_0.index t 2 * 1024 + 1 * k.val = k.val; rw [(idx0 t).2.2]; omega

theorem blk1 (c : Dev nD) (t : Fin cfg0.N) (q : Fin 9) (k : Fin 1024) :
    (iblk m c 1 t : Vec Ideal S1x9x1024 .f32) (ix3 0 q k)
      = (m ((c : Thread nD τ).loc main_arg1) : Vec Ideal S16x9x1024 .f32) (ix3 ⟨min t.val 31 / 2, by omega⟩ q k) := by
  unfold iblk
  rw [View.read_apply]
  show V m c main_arg1 _ = _
  rw [V_main_arg1]
  refine congrArg (m ((c : Thread nD τ).loc main_arg1) : Vec Ideal S16x9x1024 .f32) (funext fun a => Fin.ext ?_)
  match a with
  | ⟨0, _⟩ => show win0_1.index t 0 * 1 + 1 * 0 = min t.val 31 / 2; rw [(idx1 t).1]; omega
  | ⟨1, _⟩ => show win0_1.index t 1 * 9 + 1 * q.val = q.val; rw [(idx1 t).2.1]; omega
  | ⟨2, _⟩ => show win0_1.index t 2 * 1024 + 1 * k.val = k.val; rw [(idx1 t).2.2]; omega

theorem blk2 (c : Dev nD) (t : Fin cfg0.N) (k : Fin 1024) (j : Fin 5632) :
    (iblk m c 2 t : Vec Ideal S1x1024x5632 .bf16) (ix3 0 k j)
      = (m ((c : Thread nD τ).loc main_arg2) : Vec Ideal S2x2x1024x5632 .f32) (ix4 1 1 k j) := by
  rw [← V_wi m c k j]
  unfold iblk
  rw [View.read_apply]
  show V m c main_v2 _ = _
  refine congrArg (V m c main_v2) (funext fun a => Fin.ext ?_)
  match a with
  | ⟨0, _⟩ => show win0_2.index t 0 * 1 + 1 * 0 = 2; rw [(idx2 t).1]
  | ⟨1, _⟩ => show win0_2.index t 1 * 1024 + 1 * k.val = k.val; rw [(idx2 t).2.1]; omega
  | ⟨2, _⟩ => show win0_2.index t 2 * 5632 + 1 * j.val = j.val; rw [(idx2 t).2.2]; omega

theorem blk3 (c : Dev nD) (t : Fin cfg0.N) (k : Fin 2816) (j : Fin 1024) :
    (iblk m c 3 t : Vec Ideal S1x2816x1024 .bf16) (ix3 0 k j)
      = (m ((c : Thread nD τ).loc main_arg3) : Vec Ideal S2x2x2816x1024 .f32) (ix4 1 1 k j) := by
  rw [← V_wo m c k j]
  unfold iblk
  rw [View.read_apply]
  show V m c main_v5 _ = _
  refine congrArg (V m c main_v5) (funext fun a => Fin.ext ?_)
  match a with
  | ⟨0, _⟩ => show win0_3.index t 0 * 1 + 1 * 0 = 2; rw [(idx3 t).1]
  | ⟨1, _⟩ => show win0_3.index t 1 * 2816 + 1 * k.val = k.val; rw [(idx3 t).2.1]; omega
  | ⟨2, _⟩ => show win0_3.index t 2 * 1024 + 1 * j.val = j.val; rw [(idx3 t).2.2]; omega

theorem blk4 (c : Dev nD) (t : Fin cfg0.N) (k : Fin 1024) :
    (iblk m c 4 t : Vec Ideal S1x1024 .f32) (ix2 0 k) = (m ((c : Thread nD τ).loc main_arg4) : Vec Ideal S2x3x1024 .f32) (ix3 1 2 k) := by
  rw [← V_g m c k]
  unfold iblk
  rw [View.read_apply]
  show V m c main_v10 _ = _
  refine congrArg (V m c main_v10) (funext fun a => Fin.ext ?_)
  match a with
  | ⟨0, _⟩ => show win0_4.index t 0 * 1 + 1 * 0 = 0; rw [(idx4 t).1]
  | ⟨1, _⟩ => show win0_4.index t 1 * 1024 + 1 * k.val = k.val; rw [(idx4 t).2]; omega

theorem blk5 (c : Dev nD) (t : Fin cfg0.N) (k : Fin 1024) :
    (iblk m c 5 t : Vec Ideal S1x1024 .f32) (ix2 0 k) = (m ((c : Thread nD τ).loc main_arg5) : Vec Ideal S2x3x1024 .f32) (ix3 1 2 k) := by
  rw [← V_b m c k]
  unfold iblk
  rw [View.read_apply]
  show V m c main_v11 _ = _
  refine congrArg (V m c main_v11) (funext fun a => Fin.ext ?_)
  match a with
  | ⟨0, _⟩ => show win0_5.index t 0 * 1 + 1 * 0 = 0; rw [(idx5 t).1]
  | ⟨1, _⟩ => show win0_5.index t 1 * 1024 + 1 * k.val = k.val; rw [(idx5 t).2]; omega

/-! ## The result -/

/-- The result array's contents, over the arguments as launched. -/
abbrev result (c : Dev nD) : Vec Ideal S16x2048x1024 .f32 :=
  ffnA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 6 7 8 1 1 2

/-- The rows the body keeps at point `n`. -/
theorem kept_eq (c : Dev nD) (t : Fin cfg0.N) (ht : t.val < 32) (r d : Fin 1024) :
    (outsAt0 m c t.val t.isLt).2 (ix2 r d)
      = keepA (m ((c : Thread nD τ).loc main_arg0)) (m ((c : Thread nD τ).loc main_arg1)) (m ((c : Thread nD τ).loc main_arg2)) (m ((c : Thread nD τ).loc main_arg3)) 6 7 8 1 1
          ⟨t.val / 2, by omega⟩ ⟨t.val % 2 * 1024 + r.val, by omega⟩ d := by
  have key : (outsAt0 m c t.val t.isLt).2 (ix2 r d) = keep (iblk m c 0 t) (iblk m c 1 t) (iblk m c 2 t) (iblk m c 3 t) 6 7 8 r d := by
    by_cases h0 : t.val % 33 = 0
    · rw [outsAt0_A m c t h0 ht (by omega)]
      dsimp only
      apply keep_A
    · rw [outsAt0_B m c t h0 ht (by omega)]
      dsimp only
      apply keep_B
  have e : min t.val 31 = t.val := by omega
  rw [key]
  unfold keep keepA gated gatedA proj projA hid
  simp only [blk0, blk1, blk2, blk3, e]

/-- Each block written back is the result's rows there. -/
theorem flushed_eq (c : Dev nD) (t : Fin cfg0.N) (hf : (cfg0.win 6).flush t = true) :
    (dats m 0 c).flushed 6 t = ((cfg0.win 6).blk t).view.read (Elt Ideal) (result m c) := by
  have h1 : 1 ≤ t.val := (flush6 t).mp hf
  have hN : t.val < 33 := lt_of_lt_of_eq t.isLt (show cfg0.N = 33 from N_0)
  have key : ∀ r d : Fin 1024, (outsAt0 m c t.val t.isLt).1 (ix3 0 r d)
      = rowNorm (fun k => (outsAt0 m c (t.val - 1) (Nat.lt_of_le_of_lt (Nat.sub_le _ _) t.isLt)).2 (ix2 r k))
          (fun k => (iblk m c 4 t : Vec Ideal S1x1024 .f32) (ix2 0 k)) (fun k => (iblk m c 5 t : Vec Ideal S1x1024 .f32) (ix2 0 k)) d := by
    intro r d
    by_cases h : t.val < 32
    · rw [outsAt0_B m c t (by omega) h (by omega)]
      dsimp only
      apply out_B
    · rw [outsAt0_C m c t (by omega) h (by omega)]
      dsimp only
      apply out_C
  rw [Cert.FfnIdeal.Value.flushed6]
  refine funext fun y => ?_
  show (outsAt0 m c t.val t.isLt).1 y = result m c (((cfg0.win 6).blk t).view.emb y)
  obtain ⟨r, d, rfl⟩ : ∃ (r d : Fin 1024), y = ix3 0 r d := ⟨y 1, y 2, (eq_ix3 y).trans (by congr 1; exact Fin.ext (by have h : (y 0).val < 1 := (y 0).isLt; show (y 0).val = 0; omega))⟩
  have e0 : (((cfg0.win 6).blk t).view.emb (ix3 0 r d)) 0 = (⟨(t.val - 1) / 2, by omega⟩ : Fin 16) :=
    Fin.ext (by show win0_6.index t 0 * 1 + 1 * 0 = (t.val - 1) / 2; rw [(idx6 t).1]; omega)
  have e1 : (((cfg0.win 6).blk t).view.emb (ix3 0 r d)) 1 = (⟨(t.val - 1) % 2 * 1024 + r.val, by omega⟩ : Fin 2048) :=
    Fin.ext (by show win0_6.index t 1 * 1024 + 1 * r.val = (t.val - 1) % 2 * 1024 + r.val; rw [(idx6 t).2.1]; omega)
  have e2 : (((cfg0.win 6).blk t).view.emb (ix3 0 r d)) 2 = d :=
    Fin.ext (by show win0_6.index t 2 * 1024 + 1 * d.val = d.val; rw [(idx6 t).2.2]; omega)
  rw [key]
  unfold result ffnA
  rw [e0, e1, e2]
  exact rowNorm_congr (fun k => kept_eq m c ⟨t.val - 1, by omega⟩ (by show t.val - 1 < 32; omega) r k) (fun k => blk4 m c t k) (fun k => blk5 m c t k) d

/-- The blocks written back cover the array. -/
theorem final (c : Dev nD) : (dats m 0 c).arrAt 6 cfg0.N = result m c :=
  (dats m 0 c).arrAt_eq_of_cover 6 (result m c) (flushed_eq m c) fun i => by
    have h0 : (i 0 : Nat) < 16 := (i 0).isLt
    have h1 : (i 1 : Nat) < 2048 := (i 1).isLt
    have h2 : (i 2 : Nat) < 1024 := (i 2).isLt
    have hN : cfg0.N = 33 := N_0
    refine ⟨⟨(i 0).val * 2 + (i 1).val / 1024 + 1, by omega⟩, (flush6 _).mpr (by show 1 ≤ (i 0).val * 2 + (i 1).val / 1024 + 1; omega), ?_⟩
    generalize ht : (⟨(i 0).val * 2 + (i 1).val / 1024 + 1, by omega⟩ : Fin cfg0.N) = t
    have htv : t.val = (i 0).val * 2 + (i 1).val / 1024 + 1 := by rw [← ht]
    show i ∈ ((View.whole main_v12).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [(idx6 t).1]; omega
    | ⟨1, _⟩ => show win0_6.index t 1 * 1024 ≤ (i 1 : Nat) ∧ (i 1 : Nat) < win0_6.index t 1 * 1024 + 1024
                rw [(idx6 t).2.1]; omega
    | ⟨2, _⟩ => show win0_6.index t 2 * 1024 ≤ (i 2 : Nat) ∧ (i 2 : Nat) < win0_6.index t 2 * 1024 + 1024
                rw [(idx6 t).2.2]; omega

end Cert.FfnValue
end
-- ==== Proof.FfnRefValue.lean ====
module

public import proofs.«01_k».proof.Proof.FfnArray
public import proofs.«01_k».proof.Proof.Gen.FfnRefIdeal.Read

/-! The feed-forward reference's stages at an entry, and its result array as `ffnA` of its arguments. -/

@[expose] public section

set_option maxRecDepth 16384

noncomputable section

open Idealize.ShloMosaic Idealize.ShloMosaic.TcCoe

namespace Cert.FfnValue

open Cert.FfnRefIdeal.Read Cert.Layer Cert.FfnIdeal

variable (X : Vec Ideal S16x2048x1024 .f32) (M : Vec Ideal S16x9x1024 .f32) (WI : Vec Ideal S2x2x1024x5632 .f32)
  (WO : Vec Ideal S2x2x2816x1024 .f32) (G B : Vec Ideal S2x3x1024 .f32)

/-- A rank-3 array read at an index with the given coordinates. -/
theorem at3 {n0 n1 n2 : Nat} (V : (⟨3, ![n0, n1, n2]⟩ : Shape).Idx → EReal) (i : (⟨3, ![n0, n1, n2]⟩ : Shape).Idx)
    (a : Fin n0) (b : Fin n1) (c : Fin n2) (h0 : (i 0).val = a.val) (h1 : (i 1).val = b.val) (h2 : (i 2).val = c.val) :
    V i = V (ix3 a b c) := by
  refine congrArg V (funext fun q => Fin.ext ?_)
  match q with
  | ⟨0, _⟩ => exact h0
  | ⟨1, _⟩ => exact h1
  | ⟨2, _⟩ => exact h2

/-- A rank-4 array read at an index with the given coordinates. -/
theorem at4 {n0 n1 n2 n3 : Nat} (V : (⟨4, ![n0, n1, n2, n3]⟩ : Shape).Idx → EReal)
    (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) :
    V i = V (ix4 a b c d) := by
  refine congrArg V (funext fun q => Fin.ext ?_)
  match q with
  | ⟨0, _⟩ => exact h0
  | ⟨1, _⟩ => exact h1
  | ⟨2, _⟩ => exact h2
  | ⟨3, _⟩ => exact h3

theorem ref_mod7 (b : Fin 16) (s : Fin 2048) (k : Fin 1024) :
    val_main_v5 (F := Ideal) M (ix3 b s k) = 1 + M (ix3 b 7 k) := by
  rw [val_main_v5_apply, val_main_v4_apply, val_main_v3_apply, val_main_cst_apply, val_main_v2_apply,
    val_main_v1_apply, val_main_v0_apply]
  refine congrArg₂ (· + ·) Ideal.ofBits_one_f32 (at3 M _ b 7 k ?_ ?_ ?_)
  · show (b.val * 1024 + k.val) / 1024 = b.val; omega
  · rfl
  · show (b.val * 1024 + k.val) % 1024 = k.val; omega

theorem ref_mod6 (b : Fin 16) (s : Fin 2048) (k : Fin 1024) :
    val_main_v10 (F := Ideal) M (ix3 b s k) = M (ix3 b 6 k) := by
  rw [val_main_v10_apply, val_main_v9_apply, val_main_v8_apply, val_main_v7_apply]
  refine at3 M _ b 6 k ?_ ?_ ?_
  · show (b.val * 1024 + k.val) / 1024 = b.val; omega
  · rfl
  · show (b.val * 1024 + k.val) % 1024 = k.val; omega

theorem ref_mod8 (b : Fin 16) (s : Fin 2048) (k : Fin 1024) :
    val_main_v29 (F := Ideal) M (ix3 b s k) = M (ix3 b 8 k) := by
  rw [val_main_v29_apply, val_main_v28_apply, val_main_v27_apply, val_main_v26_apply]
  refine at3 M _ b 8 k ?_ ?_ ?_
  · show (b.val * 1024 + k.val) / 1024 = b.val; omega
  · rfl
  · show (b.val * 1024 + k.val) % 1024 = k.val; omega

theorem ref_hid (b : Fin 16) (s : Fin 2048) (k : Fin 1024) :
    val_main_v11 (F := Ideal) X M (ix3 b s k) = X (ix3 b s k) * (1 + M (ix3 b 7 k)) + M (ix3 b 6 k) := by
  rw [val_main_v11_apply, val_main_v6_apply, ref_mod7, ref_mod6]
  rfl

theorem ref_wi (k : Fin 1024) (j : Fin 5632) : val_main_v13 (F := Ideal) WI (ix2 k j) = WI (ix4 1 1 k j) := by
  rw [val_main_v13_apply, val_main_v12_apply]
  refine at4 WI _ 1 1 k j rfl rfl ?_ ?_
  · show (k.val * 5632 + j.val) / 5632 % 1024 = k.val; omega
  · show (k.val * 5632 + j.val) % 5632 = j.val; omega

theorem ref_wo (k : Fin 2816) (j : Fin 1024) : val_main_v20 (F := Ideal) WO (ix2 k j) = WO (ix4 1 1 k j) := by
  rw [val_main_v20_apply, val_main_v19_apply]
  refine at4 WO _ 1 1 k j rfl rfl ?_ ?_
  · show (k.val * 1024 + j.val) / 1024 % 2816 = k.val; omega
  · show (k.val * 1024 + j.val) % 1024 = j.val; omega

/-- A rank-2 index is the pair of its coordinates. -/
theorem eq_ix2 {n0 n1 : Nat} (i : (⟨2, ![n0, n1]⟩ : Shape).Idx)
    (a : Fin n0) (b : Fin n1) (h0 : (i 0).val = a.val) (h1 : (i 1).val = b.val) : i = ix2 a b := by
  refine funext fun q => Fin.ext ?_
  match q with
  | ⟨0, _⟩ => exact h0
  | ⟨1, _⟩ => exact h1

/-- A rank-3 index is the triple of its coordinates. -/
theorem eq_ix3 {n0 n1 n2 : Nat} (i : (⟨3, ![n0, n1, n2]⟩ : Shape).Idx)
    (a : Fin n0) (b : Fin n1) (c : Fin n2) (h0 : (i 0).val = a.val) (h1 : (i 1).val = b.val) (h2 : (i 2).val = c.val) :
    i = ix3 a b c := by
  refine funext fun q => Fin.ext ?_
  match q with
  | ⟨0, _⟩ => exact h0
  | ⟨1, _⟩ => exact h1
  | ⟨2, _⟩ => exact h2

theorem ref_proj (b : Fin 16) (s : Fin 2048) (j : Fin 5632) :
    val_main_v14 (F := Ideal) X M WI (ix3 b s j) = projA X M WI 6 7 1 1 b s j := by
  rw [val_main_v14_apply]
  refine Finset.sum_congr rfl fun k _ => ?_
  rw [eq_ix3 (lidx_main_v14 (ix3 b s j) k) b s k rfl rfl rfl, eq_ix2 (ridx_main_v14 (ix3 b s j) k) k j rfl rfl,
    ref_hid, ref_wi]

theorem ref_gated (b : Fin 16) (s : Fin 2048) (j : Fin 2816) :
    val_main_v18 (F := Ideal) X M WI (ix3 b s j) = gatedA X M WI 6 7 1 1 b s j := by
  rw [val_main_v18_apply, val_main_v17_apply, val_main_call0_v5_apply, val_main_call0_v4_apply,
    val_main_call0_cst_0_apply, val_main_call0_v3_apply, val_main_call0_v2_apply, val_main_call0_cst_apply,
    val_main_call0_v1_apply, val_main_call0_v0_apply, val_main_v16_apply, val_main_v15_apply,
    eq_ix3 (idx_main_v15 (ix3 b s j)) b s ⟨j.val, by have := j.isLt; omega⟩ rfl rfl rfl,
    eq_ix3 (idx_main_v16 (ix3 b s j)) b s ⟨2816 + j.val, by have := j.isLt; omega⟩ rfl rfl rfl,
    ref_proj, ref_proj]
  show projA X M WI 6 7 1 1 b s _ * (projA X M WI 6 7 1 1 b s _ * Ideal.div (Ideal.ofBits .f32 0x3F800000#32)
    (Ideal.ofBits .f32 0x3F800000#32 + Ideal.exp (-(projA X M WI 6 7 1 1 b s _)))) = _
  rw [Ideal.ofBits_one_f32]
  rfl

theorem ref_keep (b : Fin 16) (s : Fin 2048) (d : Fin 1024) :
    val_main_v31 (F := Ideal) X M WI WO (ix3 b s d) = keepA X M WI WO 6 7 8 1 1 b s d := by
  rw [val_main_v31_apply, val_main_v25_apply, val_main_v24_apply, val_main_cst_1_apply, val_main_v30_apply, ref_mod8,
    val_main_v23_apply, val_main_v22_apply, val_main_cst_0_apply, val_main_v21_apply]
  have e : ∑ k : Fin 2816, (val_main_v18 (F := Ideal) X M WI) (lidx_main_v21 (ix3 b s d) k)
        * (val_main_v20 (F := Ideal) WO) (ridx_main_v21 (ix3 b s d) k)
      = ∑ k : Fin 2816, gatedA X M WI 6 7 1 1 b s k * WO (ix4 1 1 k d) :=
    Finset.sum_congr rfl fun k _ => by
      rw [eq_ix3 (lidx_main_v21 (ix3 b s d) k) b s k rfl rfl rfl, eq_ix2 (ridx_main_v21 (ix3 b s d) k) k d rfl rfl,
        ref_gated, ref_wo]
  rw [e]
  rfl

theorem ref_mean (b : Fin 16) (s : Fin 2048) (u : Fin 1) :
    val_main_v39 (F := Ideal) X M WI WO (ix3 b s u) = rowMean (fun k => keepA X M WI WO 6 7 8 1 1 b s k) := by
  rw [val_main_v39_apply, val_main_v38_apply, val_main_cst_3_apply, val_main_v37_apply, val_main_v36_apply,
    val_main_cst_2_apply]
  have e : ∑ k : Fin 1024, (val_main_v31 (F := Ideal) X M WI WO) (idx_main_v36 (idx_main_v37 (ix3 b s u)) k)
      = ∑ k : Fin 1024, keepA X M WI WO 6 7 8 1 1 b s k :=
    Finset.sum_congr rfl fun k _ => by
      rw [eq_ix3 (idx_main_v36 (idx_main_v37 (ix3 b s u)) k) b s k rfl rfl rfl, ref_keep]
  rw [e]
  show Ideal.div (Ideal.ofBits .f32 0x00000000#32 + _) _ = _
  rw [Ideal.ofBits_zero_f32, zero_add]
  rfl

theorem ref_var (b : Fin 16) (s : Fin 2048) (u : Fin 1) :
    val_main_v46 (F := Ideal) X M WI WO (ix3 b s u)
      = rowMean (fun k => (keepA X M WI WO 6 7 8 1 1 b s k - rowMean (fun k => keepA X M WI WO 6 7 8 1 1 b s k))
          * (keepA X M WI WO 6 7 8 1 1 b s k - rowMean (fun k => keepA X M WI WO 6 7 8 1 1 b s k))) := by
  rw [val_main_v46_apply, val_main_v45_apply, val_main_cst_5_apply, val_main_v44_apply, val_main_v43_apply,
    val_main_cst_4_apply]
  have e : ∑ k : Fin 1024, (val_main_v42 (F := Ideal) X M WI WO) (idx_main_v43 (idx_main_v44 (ix3 b s u)) k)
      = ∑ k : Fin 1024, (keepA X M WI WO 6 7 8 1 1 b s k - rowMean (fun k => keepA X M WI WO 6 7 8 1 1 b s k))
          * (keepA X M WI WO 6 7 8 1 1 b s k - rowMean (fun k => keepA X M WI WO 6 7 8 1 1 b s k)) :=
    Finset.sum_congr rfl fun k _ => by
      rw [eq_ix3 (idx_main_v43 (idx_main_v44 (ix3 b s u)) k) b s k rfl rfl rfl, val_main_v42_apply,
        val_main_v41_apply, ref_keep, val_main_v40_apply, eq_ix3 (idx_main_v40 (ix3 b s k)) b s 0 rfl rfl rfl, ref_mean]
      rfl
  rw [e]
  show Ideal.div (Ideal.ofBits .f32 0x00000000#32 + _) _ = _
  rw [Ideal.ofBits_zero_f32, zero_add]
  rfl

theorem ref_gain (b : Fin 16) (s : Fin 2048) (d : Fin 1024) :
    val_main_v55 (F := Ideal) G (ix3 b s d) = G (ix3 1 2 d) := by
  rw [val_main_v55_apply, val_main_v54_apply, val_main_v33_apply, val_main_v32_apply]
  refine at3 G _ 1 2 d ?_ ?_ ?_
  · rfl
  · rfl
  · show d.val % 1024 = d.val; omega

theorem ref_bias (b : Fin 16) (s : Fin 2048) (d : Fin 1024) :
    val_main_v58 (F := Ideal) B (ix3 b s d) = B (ix3 1 2 d) := by
  rw [val_main_v58_apply, val_main_v57_apply, val_main_v35_apply, val_main_v34_apply]
  refine at3 B _ 1 2 d ?_ ?_ ?_
  · rfl
  · rfl
  · show d.val % 1024 = d.val; omega

/-- The reference's result array is the same function of its arguments as the kernel's. -/
theorem ref_result : val_main_v59 (F := Ideal) X M WI WO G B = ffnA X M WI WO G B 6 7 8 1 1 2 := by
  funext i
  obtain ⟨b, s, d, rfl⟩ : ∃ b s d, i = ix3 b s d := ⟨i 0, i 1, i 2, eq_ix3 i _ _ _ rfl rfl rfl⟩
  rw [val_main_v59_apply, val_main_v56_apply, ref_gain, ref_bias, val_main_v53_apply, val_main_v48_apply, ref_keep,
    val_main_v47_apply, eq_ix3 (idx_main_v47 (ix3 b s d)) b s 0 rfl rfl rfl, ref_mean, val_main_v52_apply,
    eq_ix3 (idx_main_v52 (ix3 b s d)) b s 0 rfl rfl rfl, val_main_v51_apply, val_main_v50_apply, ref_var,
    val_main_v49_apply, val_main_cst_6_apply]
  rfl

end Cert.FfnValue
end
-- ==== Proof.FfnClaim.lean ====
module

public import proofs.«01_k».proof.Defs
public import proofs.«01_k».proof.Proof.FfnRefValue
public import proofs.«01_k».proof.Proof.Gen.Ffn.Frame

/-! The claims of the feed-forward call. -/

@[expose] public section

set_option maxRecDepth 16384

noncomputable section

open Idealize.ShloMosaic Idealize.ShloMosaic.TcCoe Idealize.SL.Sem

namespace Cert.FfnValue

theorem frame_ffn : Cert.quiescent_Ffn := fun m ρ _ => Cert.Ffn.Gen.frame m ρ

theorem frame_ffnIdeal : Cert.quiescent_FfnIdeal := fun m ρ _ => Cert.FfnIdeal.Gen.frame m ρ

theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From memories that agree on the arguments, the kernel and the reference both end with `ffnA` of them. -/
theorem algebraic : Cert.algebraic_FfnIdeal_FfnRefIdeal := by
  intro m ρ m' ρ' _ hagree
  refine ⟨fun c => result m c, ?_, ?_⟩
  · refine (θ_run Cert.FfnIdeal.defs _ _).mono (fun _ h c => ?_) (Cert.FfnIdeal.Value.run_blocks m ρ)
    exact ⟨(h c).1.trans (final m c), (h c).2⟩
  · refine (θ_run Cert.FfnRefIdeal.defs _ _).mono (fun _ h c => ?_) (Cert.FfnRefIdeal.Value.run (F := Ideal) m' ρ')
    refine ⟨(h c).1.trans ((Cert.FfnRefIdeal.Read.val_main_v59_eq m' c).trans ?_), (h c).2⟩
    obtain ⟨e0, e1, e2, e3, e4, e5⟩ := hagree c
    rw [e0, e1, e2, e3, e4, e5]
    exact ref_result _ _ _ _ _ _

end Cert.FfnValue
end
-- ==== Proof.QkvPoint.lean ====
module

public import proofs.«01_k».proof.Proof.Gen.QkvIdeal.Value
public import proofs.«01_k».proof.Proof.FfnPoint
public import Idealize.ShloMosaic.Lib.KernelVsHost

/-! What one grid point of the query, key and value projection leaves in its three output blocks. -/

@[expose] public section

set_option maxRecDepth 16384

noncomputable section

open Idealize.ShloMosaic Idealize.ShloMosaic.TcCoe Idealize.SL.Sem

namespace Cert.QkvValue

open Cert.QkvIdeal Cert.QkvIdeal.Gen

/-- An entry turned by its position: the entry times one table, plus the entries sixteen columns after and before it
    (cyclically in 128 columns), each times a table of its own. -/
def turn (p c a b : Fin 128 → EReal) (d : Fin 128) : EReal :=
  p d * c d + p ⟨(d.val + 16) % 128, by omega⟩ * a d + p ⟨(d.val + 112) % 128, by omega⟩ * b d

theorem turn_congr {p p' c c' a a' b b' : Fin 128 → EReal} (hp : ∀ d, p d = p' d) (hc : ∀ d, c d = c' d) (ha : ∀ d, a d = a' d)
    (hb : ∀ d, b d = b' d) (d : Fin 128) : turn p c a b d = turn p' c' a' b' d := by
  obtain rfl := funext hp; obtain rfl := funext hc; obtain rfl := funext ha; obtain rfl := funext hb; rfl

/-- A column of the projection of a modulated row of the tile. -/
def colAt (x0 : Vec Ideal S1x1024x1024 .f32) (x1 : Vec Ideal S1x9x1024 .f32) (x2 : Vec Ideal S1024x1536 .bf16) (x3 : Vec Ideal S1x1536 .f32)
    (r : Fin 1024) (j : Fin 1536) : EReal :=
  (∑ k : Fin 1024, (x0 (ix3 0 r k) * (1 + x1 (ix3 0 4 k)) + x1 (ix3 0 3 k)) * x2 (ix2 k j)) + x3 (ix2 0 j)

theorem cols_apply (x : Vec Ideal S1x1024x1024 .f32) (s c : Vec Ideal S1x1x1024 .f32) (w : Vec Ideal S1024x1536 .bf16) (b : Vec Ideal S1x1536 .f32)
    (r : Fin 1024) (j : Fin 1536) :
    k0_pay3 x s c w b (ix2 r j) = (∑ k : Fin 1024, (x (ix3 0 r k) * (1 + c (ix3 0 0 k)) + s (ix3 0 0 k)) * w (ix2 k j)) + b (ix2 0 j) := by
  unfold_payloads
  pointwise

/-- The body's projection at an entry. -/
theorem cols_eq (x0 : Vec Ideal S1x1024x1024 .f32) (x1 : Vec Ideal S1x9x1024 .f32) (x2 : Vec Ideal S1024x1536 .bf16) (x3 : Vec Ideal S1x1536 .f32)
    (r : Fin 1024) (j : Fin 1536) :
    k0_pay3 (View.ld x0 r0_0) (View.ld x1 r0_1) (View.ld x1 r0_2) (View.ld x2 r0_3) (View.ld x3 r0_4) (ix2 r j) = colAt x0 x1 x2 x3 r j := by
  rw [cols_apply, View.ld_unit_zero (S := S1024x1536) Cert.FfnValue.hz2, View.ld_unit_zero (S := S1x1536) Cert.FfnValue.hz2]
  unfold colAt
  have h3 : ∀ k : Fin 1024, View.ld x1 r0_1 (ix3 0 0 k) = x1 (ix3 0 3 k) := fun k => Cert.FfnValue.ld3_apply x1 3 0 _ 0 k 3 k rfl (by omega)
  have h4 : ∀ k : Fin 1024, View.ld x1 r0_2 (ix3 0 0 k) = x1 (ix3 0 4 k) := fun k => Cert.FfnValue.ld3_apply x1 4 0 _ 0 k 4 k rfl (by omega)
  have h0 : ∀ k : Fin 1024, View.ld x0 r0_0 (ix3 0 r k) = x0 (ix3 0 r k) := fun k => Cert.FfnValue.ld3_apply x0 0 0 _ r k r k (by omega) (by omega)
  simp only [h0, h3, h4]

/-! ## One turned group of 128 columns -/

/-- 128 columns turned. -/
def piece (v c a b : FVec Ideal S1024x128 .f32) : FVec Ideal S1024x128 .f32 :=
  addf (addf (mulf v (shapeCast S1024x128 c shapeCasts_S1024x128_S1024x128))
      (mulf (dynamicRotate 1 112#32 none v rotates_S1024x128_d1) (shapeCast S1024x128 a shapeCasts_S1024x128_S1024x128)))
    (mulf (dynamicRotate 1 16#32 none v rotates_S1024x128_d1) (shapeCast S1024x128 b shapeCasts_S1024x128_S1024x128))

theorem piece_apply (v c a b : FVec Ideal S1024x128 .f32) (r : Fin 1024) (d : Fin 128) :
    piece v c a b (ix2 r d) = turn (fun d => v (ix2 r d)) (fun d => c (ix2 r d)) (fun d => a (ix2 r d)) (fun d => b (ix2 r d)) d := by
  unfold piece
  rw [shapeCast_self, shapeCast_self, shapeCast_self]
  have e1 : dynamicRotate 1 112#32 none v rotates_S1024x128_d1 (ix2 r d) = v (ix2 r ⟨(d.val + 16) % 128, by omega⟩) :=
    dynamicRotate_apply 1 112#32 v _ (ix2 r d) (ix2 r ⟨(d.val + 16) % 128, by omega⟩) fun q => by
      match q with
      | ⟨0, _⟩ => rfl
      | ⟨1, _⟩ => show (d.val + 16) % 128 = (d.val + 128 - 112 % 128) % 128; omega
  have e2 : dynamicRotate 1 16#32 none v rotates_S1024x128_d1 (ix2 r d) = v (ix2 r ⟨(d.val + 112) % 128, by omega⟩) :=
    dynamicRotate_apply 1 16#32 v _ (ix2 r d) (ix2 r ⟨(d.val + 112) % 128, by omega⟩) fun q => by
      match q with
      | ⟨0, _⟩ => rfl
      | ⟨1, _⟩ => show (d.val + 112) % 128 = (d.val + 128 - 16 % 128) % 128; omega
  show v (ix2 r d) * c (ix2 r d) + dynamicRotate 1 112#32 none v rotates_S1024x128_d1 (ix2 r d) * a (ix2 r d)
      + dynamicRotate 1 16#32 none v rotates_S1024x128_d1 (ix2 r d) * b (ix2 r d) = _
  rw [e1, e2]
  rfl

/-- A window of columns at an entry. -/
theorem cut_apply {m n w : Nat} (o : Nat) (u : FVec Ideal ⟨2, ![m, n]⟩ .f32)
    (h : (⟨2, ![m, n]⟩ : Shape).Slices (![0, o] : Fin 2 → Nat) ⟨2, ![m, w]⟩) (r : Fin m) (d : Fin w) (d' : Fin n) (hd : d'.val = o + d.val) :
    extractStridedSlice ⟨2, ![m, w]⟩ ![0, o] u h (ix2 r d) = u (ix2 r d') :=
  extractStridedSlice_apply _ _ _ _ _ fun a => by
    match a with
    | ⟨0, _⟩ => show r.val = 0 + r.val; omega
    | ⟨1, _⟩ => exact hd

/-! ## The queries -/

/-- The eight groups of 128 columns. -/
def group (u : FVec Ideal S1024x1024 .f32) : Fin 8 → FVec Ideal S1024x128 .f32 := fun n => match n with
  | ⟨0, _⟩ => extractStridedSlice S1024x128 ![0, 0] u slices_S1024x1024_o0_0_S1024x128
  | ⟨1, _⟩ => extractStridedSlice S1024x128 ![0, 128] u slices_S1024x1024_o0_128_S1024x128
  | ⟨2, _⟩ => extractStridedSlice S1024x128 ![0, 256] u slices_S1024x1024_o0_256_S1024x128
  | ⟨3, _⟩ => extractStridedSlice S1024x128 ![0, 384] u slices_S1024x1024_o0_384_S1024x128
  | ⟨4, _⟩ => extractStridedSlice S1024x128 ![0, 512] u slices_S1024x1024_o0_512_S1024x128
  | ⟨5, _⟩ => extractStridedSlice S1024x128 ![0, 640] u slices_S1024x1024_o0_640_S1024x128
  | ⟨6, _⟩ => extractStridedSlice S1024x128 ![0, 768] u slices_S1024x1024_o0_768_S1024x128
  | ⟨7, _⟩ => extractStridedSlice S1024x128 ![0, 896] u slices_S1024x1024_o0_896_S1024x128

theorem group_apply (u : FVec Ideal S1024x1024 .f32) (n : Fin 8) (r : Fin 1024) (d : Fin 128) :
    group u n (ix2 r d) = u (ix2 r ⟨128 * n.val + d.val, by omega⟩) := by
  match n with
  | ⟨0, _⟩ => exact cut_apply 0 u slices_S1024x1024_o0_0_S1024x128 r d _ (by show 128 * 0 + d.val = _; omega)
  | ⟨1, _⟩ => exact cut_apply 128 u slices_S1024x1024_o0_128_S1024x128 r d _ (by show 128 * 1 + d.val = _; omega)
  | ⟨2, _⟩ => exact cut_apply 256 u slices_S1024x1024_o0_256_S1024x128 r d _ (by show 128 * 2 + d.val = _; omega)
  | ⟨3, _⟩ => exact cut_apply 384 u slices_S1024x1024_o0_384_S1024x128 r d _ (by show 128 * 3 + d.val = _; omega)
  | ⟨4, _⟩ => exact cut_apply 512 u slices_S1024x1024_o0_512_S1024x128 r d _ (by show 128 * 4 + d.val = _; omega)
  | ⟨5, _⟩ => exact cut_apply 640 u slices_S1024x1024_o0_640_S1024x128 r d _ (by show 128 * 5 + d.val = _; omega)
  | ⟨6, _⟩ => exact cut_apply 768 u slices_S1024x1024_o0_768_S1024x128 r d _ (by show 128 * 6 + d.val = _; omega)
  | ⟨7, _⟩ => exact cut_apply 896 u slices_S1024x1024_o0_896_S1024x128 r d _ (by show 128 * 7 + d.val = _; omega)

/-- The stored queries: the eight turned groups side by side. -/
theorem queries_eq (x0 : Vec Ideal S1x1024x1024 .f32) (x1 : Vec Ideal S1x9x1024 .f32) (x2 : Vec Ideal S1024x1536 .bf16) (x3 : Vec Ideal S1x1536 .f32)
    (x4 x5 x6 : Vec Ideal S1024x128 .f32) :
    out0_7 x0 x1 x2 x3 x4 x5 x6 = shapeCast S1x1024x1024 (concatenate S1024x1024 1 (List.ofFn fun n : Fin 8 => (⟨S1024x128,
        piece (group (k0_pay38 x0 x1 x2 x3 x4 x5 x6) n) (View.ld x4 r0_5) (View.ld x5 r0_5) (View.ld x6 r0_5)⟩ : (s : Shape) × (s.Idx → EReal)))
      concatenates_S1024x128_S1024x128_S1024x128_S1024x128_S1024x128_S1024x128_S1024x128_S1024x128_S1024x1024_d1) shapeCasts_S1024x1024_S1x1024x1024 := by
  unfold out0_7
  rw [View.canon_unit_zero Cert.FfnValue.hz3]
  rfl

theorem queries_apply (x0 : Vec Ideal S1x1024x1024 .f32) (x1 : Vec Ideal S1x9x1024 .f32) (x2 : Vec Ideal S1024x1536 .bf16) (x3 : Vec Ideal S1x1536 .f32)
    (x4 x5 x6 : Vec Ideal S1024x128 .f32) (r j : Fin 1024) :
    out0_7 x0 x1 x2 x3 x4 x5 x6 (ix3 0 r j)
      = turn (fun d => colAt x0 x1 x2 x3 r ⟨128 * (j.val / 128) + d.val, by omega⟩ * Ideal.ofBits .f32 0x3E38AA3B#32)
          (fun d => x4 (ix2 r d)) (fun d => x5 (ix2 r d)) (fun d => x6 (ix2 r d)) ⟨j.val % 128, by omega⟩ := by
  rw [queries_eq]
  refine (shapeCast_apply _ _ (ix3 0 r j) (ix2 r j) ?_).trans ?_
  · rw [Shape.rowMajor_val_two, Shape.rowMajor_val_three]
    show r.val * 1024 + j.val = (0 * 1024 + r.val) * 1024 + j.val
    omega
  refine (concatenate_ofFn_apply (t := S1024x1024) (s₁ := S1024x128) (1 : Fin 2) _ _ rfl 128 rfl (ix2 r j) (⟨j.val / 128, by omega⟩ : Fin 8) rfl
    (ix2 r ⟨j.val % 128, by omega⟩) rfl (fun b hb => ?_)).trans ?_
  · match b with
    | ⟨0, _⟩ => rfl
    | ⟨1, _⟩ => exact absurd rfl hb
  rw [piece_apply]
  refine turn_congr (fun d => ?_) (fun d => ?_) (fun d => ?_) (fun d => ?_) _
  · rw [group_apply]
    have e : k0_pay38 x0 x1 x2 x3 x4 x5 x6 (ix2 r ⟨128 * (j.val / 128) + d.val, by omega⟩)
        = k0_pay3 (View.ld x0 r0_0) (View.ld x1 r0_1) (View.ld x1 r0_2) (View.ld x2 r0_3) (View.ld x3 r0_4) (ix2 r ⟨128 * (j.val / 128) + d.val, by omega⟩)
          * Ideal.ofBits .f32 0x3E38AA3B#32 := by
      unfold k0_pay38 k0_pay4
      show extractStridedSlice (s := S1024x1536) S1024x1024 ![0, 0] _ slices_S1024x1536_o0_0_S1024x1024 (ix2 r ⟨128 * (j.val / 128) + d.val, by omega⟩) * _ = _
      rw [cut_apply 0 _ _ r _ (⟨128 * (j.val / 128) + d.val, by omega⟩ : Fin 1536) (by show _ = 0 + _; omega)]
      rfl
    exact e.trans (congrArg (· * Ideal.ofBits .f32 0x3E38AA3B#32) (cols_eq x0 x1 x2 x3 r _))
  · rw [View.ld_unit_zero (S := S1024x128) Cert.FfnValue.hz2]
  · rw [View.ld_unit_zero (S := S1024x128) Cert.FfnValue.hz2]
  · rw [View.ld_unit_zero (S := S1024x128) Cert.FfnValue.hz2]

/-! ## The keys -/

/-- Four heads of 64 columns, each twice. -/
def twice (u : FVec Ideal S1024x256 .f32) : Fin 8 → FVec Ideal S1024x64 .f32 := fun n => match n with
  | ⟨0, _⟩ => extractStridedSlice S1024x64 ![0, 0] u slices_S1024x256_o0_0_S1024x64
  | ⟨1, _⟩ => extractStridedSlice S1024x64 ![0, 0] u slices_S1024x256_o0_0_S1024x64
  | ⟨2, _⟩ => extractStridedSlice S1024x64 ![0, 64] u slices_S1024x256_o0_64_S1024x64
  | ⟨3, _⟩ => extractStridedSlice S1024x64 ![0, 64] u slices_S1024x256_o0_64_S1024x64
  | ⟨4, _⟩ => extractStridedSlice S1024x64 ![0, 128] u slices_S1024x256_o0_128_S1024x64
  | ⟨5, _⟩ => extractStridedSlice S1024x64 ![0, 128] u slices_S1024x256_o0_128_S1024x64
  | ⟨6, _⟩ => extractStridedSlice S1024x64 ![0, 192] u slices_S1024x256_o0_192_S1024x64
  | ⟨7, _⟩ => extractStridedSlice S1024x64 ![0, 192] u slices_S1024x256_o0_192_S1024x64

theorem twice_apply (u : FVec Ideal S1024x256 .f32) (n : Fin 8) (r : Fin 1024) (d : Fin 64) :
    twice u n (ix2 r d) = u (ix2 r ⟨64 * (n.val / 2) + d.val, by omega⟩) := by
  match n with
  | ⟨0, _⟩ => exact cut_apply 0 u slices_S1024x256_o0_0_S1024x64 r d _ (by show 64 * (0 / 2) + d.val = _; omega)
  | ⟨1, _⟩ => exact cut_apply 0 u slices_S1024x256_o0_0_S1024x64 r d _ (by show 64 * (1 / 2) + d.val = _; omega)
  | ⟨2, _⟩ => exact cut_apply 64 u slices_S1024x256_o0_64_S1024x64 r d _ (by show 64 * (2 / 2) + d.val = _; omega)
  | ⟨3, _⟩ => exact cut_apply 64 u slices_S1024x256_o0_64_S1024x64 r d _ (by show 64 * (3 / 2) + d.val = _; omega)
  | ⟨4, _⟩ => exact cut_apply 128 u slices_S1024x256_o0_128_S1024x64 r d _ (by show 64 * (4 / 2) + d.val = _; omega)
  | ⟨5, _⟩ => exact cut_apply 128 u slices_S1024x256_o0_128_S1024x64 r d _ (by show 64 * (5 / 2) + d.val = _; omega)
  | ⟨6, _⟩ => exact cut_apply 192 u slices_S1024x256_o0_192_S1024x64 r d _ (by show 64 * (6 / 2) + d.val = _; omega)
  | ⟨7, _⟩ => exact cut_apply 192 u slices_S1024x256_o0_192_S1024x64 r d _ (by show 64 * (7 / 2) + d.val = _; omega)

/-- The two groups of 128 key columns. -/
def pair (u : FVec Ideal S1024x256 .f32) : Fin 2 → FVec Ideal S1024x128 .f32 := fun n => match n with
  | ⟨0, _⟩ => extractStridedSlice S1024x128 ![0, 0] u slices_S1024x256_o0_0_S1024x128
  | ⟨1, _⟩ => extractStridedSlice S1024x128 ![0, 128] u slices_S1024x256_o0_128_S1024x128

theorem pair_apply (u : FVec Ideal S1024x256 .f32) (n : Fin 2) (r : Fin 1024) (d : Fin 128) :
    pair u n (ix2 r d) = u (ix2 r ⟨128 * n.val + d.val, by omega⟩) := by
  match n with
  | ⟨0, _⟩ => exact cut_apply 0 u slices_S1024x256_o0_0_S1024x128 r d _ (by show 128 * 0 + d.val = _; omega)
  | ⟨1, _⟩ => exact cut_apply 128 u slices_S1024x256_o0_128_S1024x128 r d _ (by show 128 * 1 + d.val = _; omega)

/-- The keys of four heads, turned. -/
def turned (u : FVec Ideal S1024x256 .f32) (c a b : FVec Ideal S1024x128 .f32) : FVec Ideal S1024x256 .f32 :=
  concatenate S1024x256 1 (List.ofFn fun n : Fin 2 => (⟨S1024x128, piece (pair u n) c a b⟩ : (s : Shape) × (s.Idx → EReal)))
    concatenates_S1024x128_S1024x128_S1024x256_d1

theorem turned_apply (u : FVec Ideal S1024x256 .f32) (c a b : FVec Ideal S1024x128 .f32) (r : Fin 1024) (j : Fin 256) :
    turned u c a b (ix2 r j) = turn (fun d => u (ix2 r ⟨128 * (j.val / 128) + d.val, by omega⟩)) (fun d => c (ix2 r d)) (fun d => a (ix2 r d))
      (fun d => b (ix2 r d)) ⟨j.val % 128, by omega⟩ := by
  unfold turned
  refine (concatenate_ofFn_apply (t := S1024x256) (s₁ := S1024x128) (1 : Fin 2) _ _ rfl 128 rfl (ix2 r j) (⟨j.val / 128, by omega⟩ : Fin 2) rfl
    (ix2 r ⟨j.val % 128, by omega⟩) rfl (fun b hb => ?_)).trans ?_
  · match b with
    | ⟨0, _⟩ => rfl
    | ⟨1, _⟩ => exact absurd rfl hb
  rw [piece_apply]
  exact turn_congr (fun d => pair_apply u _ r d) (fun _ => rfl) (fun _ => rfl) (fun _ => rfl) _

/-- The stored keys: each turned head twice. -/
theorem keys_eq (x0 : Vec Ideal S1x1024x1024 .f32) (x1 : Vec Ideal S1x9x1024 .f32) (x2 : Vec Ideal S1024x1536 .bf16) (x3 : Vec Ideal S1x1536 .f32)
    (x4 x5 x6 : Vec Ideal S1024x128 .f32) :
    out0_8 x0 x1 x2 x3 x4 x5 x6 = shapeCast S1x1024x512 (concatenate S1024x512 1 (List.ofFn fun n : Fin 8 => (⟨S1024x64,
        twice (turned (k0_pay22 (k0_pay37 x0 x1 x2 x3 x4 x5 x6)) (View.ld x4 r0_5) (View.ld x5 r0_5) (View.ld x6 r0_5)) n⟩ : (s : Shape) × (s.Idx → EReal)))
      concatenates_S1024x64_S1024x64_S1024x64_S1024x64_S1024x64_S1024x64_S1024x64_S1024x64_S1024x512_d1) shapeCasts_S1024x512_S1x1024x512 := by
  unfold out0_8
  rw [View.canon_unit_zero Cert.FfnValue.hz3]
  rfl

theorem keys_apply (x0 : Vec Ideal S1x1024x1024 .f32) (x1 : Vec Ideal S1x9x1024 .f32) (x2 : Vec Ideal S1024x1536 .bf16) (x3 : Vec Ideal S1x1536 .f32)
    (x4 x5 x6 : Vec Ideal S1024x128 .f32) (r : Fin 1024) (j : Fin 512) :
    out0_8 x0 x1 x2 x3 x4 x5 x6 (ix3 0 r j)
      = turn (fun d => colAt x0 x1 x2 x3 r ⟨1024 + (128 * (j.val / 256) + d.val), by omega⟩)
          (fun d => x4 (ix2 r d)) (fun d => x5 (ix2 r d)) (fun d => x6 (ix2 r d)) ⟨(64 * (j.val / 64 / 2) + j.val % 64) % 128, by omega⟩ := by
  rw [keys_eq]
  refine (shapeCast_apply _ _ (ix3 0 r j) (ix2 r j) ?_).trans ?_
  · rw [Shape.rowMajor_val_two, Shape.rowMajor_val_three]
    show r.val * 512 + j.val = (0 * 1024 + r.val) * 512 + j.val
    omega
  refine (concatenate_ofFn_apply (t := S1024x512) (s₁ := S1024x64) (1 : Fin 2) _ _ rfl 64 rfl (ix2 r j) (⟨j.val / 64, by omega⟩ : Fin 8) rfl
    (ix2 r ⟨j.val % 64, by omega⟩) rfl (fun b hb => ?_)).trans ?_
  · match b with
    | ⟨0, _⟩ => rfl
    | ⟨1, _⟩ => exact absurd rfl hb
  rw [twice_apply, turned_apply]
  refine turn_congr (fun d => ?_) (fun d => ?_) (fun d => ?_) (fun d => ?_) _
  · unfold k0_pay22 k0_pay37
    refine (cut_apply 1024 _ _ r _ (⟨1024 + (128 * (j.val / 256) + d.val), by omega⟩ : Fin 1536) ?_).trans (cols_eq x0 x1 x2 x3 r _)
    show 1024 + (128 * (j.val / 256) + d.val) = 1024 + (128 * ((64 * (j.val / 64 / 2) + j.val % 64) / 128) + d.val)
    omega
  · rw [View.ld_unit_zero (S := S1024x128) Cert.FfnValue.hz2]
  · rw [View.ld_unit_zero (S := S1024x128) Cert.FfnValue.hz2]
  · rw [View.ld_unit_zero (S := S1024x128) Cert.FfnValue.hz2]

/-! ## The values -/

/-- The operands of the stored values' concatenation are the heads, each twice. -/
theorem heads_eq (P0 : Vec Ideal S1x1024x1024 .f32) (P1 P2 : Vec Ideal S1x1x1024 .f32) (P3 : Vec Ideal S1024x1536 .bf16) (P4 : Vec Ideal S1x1536 .f32)
    (n : Fin 8) : Cert.QkvIdeal.Value.Cat9_0 P0 P1 P2 P3 P4 n
      = twice (extractStridedSlice (s := S1024x1536) S1024x256 ![0, 1280] (k0_pay3 P0 P1 P2 P3 P4) slices_S1024x1536_o0_1280_S1024x256) n := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem heads_ix (k : Fin 8) (j : Fin 512) (r : Fin 128) : Cert.QkvIdeal.Value.ix9_0 (ix4 0 k j r)
    = ix2 (⟨k.val * 128 + r.val, by omega⟩ : Fin 1024) (⟨j.val % 64, by omega⟩ : Fin 64) := by
  refine funext fun q => ?_
  match q with
  | ⟨0, _⟩ => rfl
  | ⟨1, _⟩ => rfl

theorem values_apply (x0 : Vec Ideal S1x1024x1024 .f32) (x1 : Vec Ideal S1x9x1024 .f32) (x2 : Vec Ideal S1024x1536 .bf16) (x3 : Vec Ideal S1x1536 .f32)
    (x4 x5 x6 : Vec Ideal S1024x128 .f32) (k : Fin 8) (j : Fin 512) (r : Fin 128) :
    out0_9 x0 x1 x2 x3 x4 x5 x6 (ix4 0 k j r)
      = colAt x0 x1 x2 x3 ⟨k.val * 128 + r.val, by omega⟩ ⟨1280 + (64 * (j.val / 64 / 2) + j.val % 64), by omega⟩ := by
  unfold out0_9 k0_pay39 k0_pay37
  rw [Cert.QkvIdeal.Value.canon9_eq]
  show Cert.QkvIdeal.Value.Cat9_0 (View.ld x0 r0_0) (View.ld x1 r0_1) (View.ld x1 r0_2) (View.ld x2 r0_3) (View.ld x3 r0_4) (⟨j.val / 64, by omega⟩ : Fin 8)
    (Cert.QkvIdeal.Value.ix9_0 (ix4 0 k j r)) = _
  rw [heads_eq, heads_ix, twice_apply]
  exact (cut_apply 1280 _ _ _ _ (⟨1280 + (64 * (j.val / 64 / 2) + j.val % 64), by omega⟩ : Fin 1536) rfl).trans (cols_eq x0 x1 x2 x3 _ _)

end Cert.QkvValue
end
-- ==== Proof.QkvArray.lean ====
module

public import proofs.«01_k».proof.Proof.QkvPoint
public import Idealize.ShloMosaic.Lib.StableHlo.Run

/-! The three result arrays of the projection, from the blocks its grid points write back. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.QkvValue

open Cert.QkvIdeal Cert.QkvIdeal.Gen

variable (m : (ℓ : Loc nD τ sig) → Buf (Elt Ideal) ℓ)

/-! ## What the host prepares -/

section Tables
variable (C : Vec Ideal S2048x32 .f32)

/-- Four slabs of sixteen columns. -/
def slabs (p0 p1 p2 p3 : FVec Ideal S2048x16 .f32) : Fin 4 → FVec Ideal S2048x16 .f32 := fun n => match n with
  | ⟨0, _⟩ => p0
  | ⟨1, _⟩ => p1
  | ⟨2, _⟩ => p2
  | ⟨3, _⟩ => p3

/-- Four slabs side by side, laid twice across 128 columns. -/
def wide (p0 p1 p2 p3 : FVec Ideal S2048x16 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 (List.ofFn fun n : Fin 4 => (⟨S2048x16, slabs p0 p1 p2 p3 n⟩ : (s : Shape) × (s.Idx → EReal)))
      concatenates_S2048x16_S2048x16_S2048x16_S2048x16_S2048x64_d1) shapeCasts_S2048x64_S1x2048x1x64)) shapeCasts_S1x2048x2x64_S2048x128

theorem wide_apply (p0 p1 p2 p3 : FVec Ideal S2048x16 .f32) (l : Fin 2048) (d : Fin 128) :
    wide p0 p1 p2 p3 (ix2 l d) = slabs p0 p1 p2 p3 ⟨d.val % 64 / 16, by omega⟩ (ix2 l ⟨d.val % 16, by omega⟩) := by
  unfold wide
  refine (shapeCast_apply _ _ (ix2 l d) (ix4 0 l ⟨d.val / 64, by omega⟩ ⟨d.val % 64, by omega⟩) ?_).trans ?_
  · rw [Shape.rowMajor_val_two, Shape.rowMajor_val_four]
    show ((0 * 2048 + l.val) * 2 + d.val / 64) * 64 + d.val % 64 = l.val * 128 + d.val
    omega
  refine (congrArg (shapeCast S1x2048x1x64 _ _) (show _ = ix4 0 l 0 ⟨d.val % 64, by omega⟩ from funext fun a => Fin.ext ?_)).trans ?_
  · match a with
    | ⟨0, _⟩ => rfl
    | ⟨1, _⟩ => rfl
    | ⟨2, _⟩ => rfl
    | ⟨3, _⟩ => rfl
  refine (shapeCast_apply _ _ _ (ix2 l ⟨d.val % 64, by omega⟩) ?_).trans ?_
  · rw [Shape.rowMajor_val_two, Shape.rowMajor_val_four]
    show l.val * 64 + d.val % 64 = ((0 * 2048 + l.val) * 1 + 0) * 64 + d.val % 64
    omega
  exact concatenate_ofFn_apply (t := S2048x64) (s₁ := S2048x16) (1 : Fin 2) _ _ rfl 16 rfl (ix2 l ⟨d.val % 64, by omega⟩) (⟨d.val % 64 / 16, by omega⟩ : Fin 4) rfl
    (ix2 l ⟨d.val % 16, by omega⟩) (by show d.val % 16 = d.val % 64 % 16; omega) (fun b hb => by
      match b with
      | ⟨0, _⟩ => rfl
      | ⟨1, _⟩ => exact absurd rfl hb)

/-- The first and the last sixteen columns of a table. -/
abbrev lo : FVec Ideal S2048x16 .f32 := extractStridedSlice S2048x16 ![0, 0] C slices_S2048x32_S2048x16_0_0
abbrev hi : FVec Ideal S2048x16 .f32 := extractStridedSlice S2048x16 ![0, 16] C slices_S2048x32_S2048x16_0_16
abbrev zeros : FVec Ideal S2048x16 .f32 := broadcastInDim S2048x16 ![] bcast_S_S2048x16 (constant (F := Ideal) S_ .f32 0x00000000#32)

theorem lo_apply (l : Fin 2048) (d : Fin 16) : lo C (ix2 l d) = C (ix2 l ⟨d.val, by omega⟩) :=
  extractStridedSlice_apply _ _ _ _ _ fun a => by
    match a with
    | ⟨0, _⟩ => show l.val = 0 + l.val; omega
    | ⟨1, _⟩ => show d.val = 0 + d.val; omega

theorem hi_apply (l : Fin 2048) (d : Fin 16) : hi C (ix2 l d) = C (ix2 l ⟨16 + d.val, by omega⟩) :=
  extractStridedSlice_apply _ _ _ _ _ fun a => by
    match a with
    | ⟨0, _⟩ => show l.val = 0 + l.val; omega
    | ⟨1, _⟩ => rfl

theorem zeros_apply (i : S2048x16.Idx) : zeros i = 0 := Ideal.ofBits_zero_f32

/-- The table's column for a column of a head. -/
def tcol (d : Nat) : Fin 32 := ⟨16 * (d % 64 / 32) + d % 16, by omega⟩

theorem cosTable (l : Fin 2048) (d : Fin 128) : wide (lo C) (lo C) (hi C) (hi C) (ix2 l d) = C (ix2 l (tcol d.val)) := by
  rw [wide_apply]
  have hd := d.isLt
  generalize hn : (⟨d.val % 64 / 16, by omega⟩ : Fin 4) = n
  have hv : d.val % 64 / 16 = n.val := congrArg Fin.val hn
  match n with
  | ⟨0, _⟩ => exact (lo_apply C l _).trans (congrArg (fun q => C (ix2 l q)) (Fin.ext (by show d.val % 16 = 16 * (d.val % 64 / 32) + d.val % 16; simp only at hv; omega)))
  | ⟨1, _⟩ => exact (lo_apply C l _).trans (congrArg (fun q => C (ix2 l q)) (Fin.ext (by show d.val % 16 = 16 * (d.val % 64 / 32) + d.val % 16; simp only at hv; omega)))
  | ⟨2, _⟩ => exact (hi_apply C l _).trans (congrArg (fun q => C (ix2 l q)) (Fin.ext (by show 16 + d.val % 16 = 16 * (d.val % 64 / 32) + d.val % 16; simp only at hv; omega)))
  | ⟨3, _⟩ => exact (hi_apply C l _).trans (congrArg (fun q => C (ix2 l q)) (Fin.ext (by show 16 + d.val % 16 = 16 * (d.val % 64 / 32) + d.val % 16; simp only at hv; omega)))

/-- The factor of the entry sixteen columns ahead, and of the one sixteen behind. -/
def fwdA (S : Vec Ideal S2048x32 .f32) (l : Fin 2048) (d : Nat) : EReal := if d % 32 < 16 then -S (ix2 l (tcol d)) else 0
def bwdA (S : Vec Ideal S2048x32 .f32) (l : Fin 2048) (d : Nat) : EReal := if d % 32 < 16 then 0 else S (ix2 l (tcol d))

theorem fwdTable (l : Fin 2048) (d : Fin 128) :
    wide (Host.negf (lo C)) zeros (Host.negf (hi C)) zeros (ix2 l d) = fwdA C l d.val := by
  unfold fwdA
  rw [wide_apply]
  have hd := d.isLt
  generalize hn : (⟨d.val % 64 / 16, by omega⟩ : Fin 4) = n
  have hv : d.val % 64 / 16 = n.val := congrArg Fin.val hn
  match n with
  | ⟨0, _⟩ =>
    simp only at hv
    rw [if_pos (by omega)]
    exact congrArg (fun x : EReal => -x) ((lo_apply C l _).trans (congrArg (fun q => C (ix2 l q)) (Fin.ext (by show d.val % 16 = 16 * (d.val % 64 / 32) + d.val % 16; omega))))
  | ⟨1, _⟩ => simp only at hv; rw [if_neg (by omega)]; exact zeros_apply _
  | ⟨2, _⟩ =>
    simp only at hv
    rw [if_pos (by omega)]
    exact congrArg (fun x : EReal => -x) ((hi_apply C l _).trans (congrArg (fun q => C (ix2 l q)) (Fin.ext (by show 16 + d.val % 16 = 16 * (d.val % 64 / 32) + d.val % 16; omega))))
  | ⟨3, _⟩ => simp only at hv; rw [if_neg (by omega)]; exact zeros_apply _

theorem bwdTable (l : Fin 2048) (d : Fin 128) :
    wide zeros (lo C) zeros (hi C) (ix2 l d) = bwdA C l d.val := by
  unfold bwdA
  rw [wide_apply]
  have hd := d.isLt
  generalize hn : (⟨d.val % 64 / 16, by omega⟩ : Fin 4) = n
  have hv : d.val % 64 / 16 = n.val := congrArg Fin.val hn
  match n with
  | ⟨0, _⟩ => simp only at hv; rw [if_pos (by omega)]; exact zeros_apply _
  | ⟨1, _⟩ =>
    simp only at hv
    rw [if_neg (by omega)]
    exact (lo_apply C l _).trans (congrArg (fun q => C (ix2 l q)) (Fin.ext (by show d.val % 16 = 16 * (d.val % 64 / 32) + d.val % 16; omega)))
  | ⟨2, _⟩ => simp only at hv; rw [if_pos (by omega)]; exact zeros_apply _
  | ⟨3, _⟩ =>
    simp only at hv
    rw [if_neg (by omega)]
    exact (hi_apply C l _).trans (congrArg (fun q => C (ix2 l q)) (Fin.ext (by show 16 + d.val % 16 = 16 * (d.val % 64 / 32) + d.val % 16; omega)))

end Tables

theorem V_w (c : Dev nD) : V m c main_v19 = (m ((c : Thread nD τ).loc main_arg2) : Vec Ideal S1024x1536 .f32) := by
  show StableHlo.after hostOps0 _ _ = _
  after_results
  rfl

theorem V_b (c : Dev nD) (j : Fin 1536) :
    V m c main_v20 (ix2 0 j) = (m ((c : Thread nD τ).loc main_arg3) : Vec Ideal S1536 .f32) (ix1 j) := by
  have e : V m c main_v20 = shapeCast S1x1536 (m ((c : Thread nD τ).loc main_arg3) : Vec Ideal S1536 .f32) shapeCasts_S1536_S1x1536 := by
    show StableHlo.after hostOps0 _ _ = _
    after_results
    rfl
  rw [e]
  pointwise

theorem V_cos (c : Dev nD) : V m c main_v12
    = wide (lo (m ((c : Thread nD τ).loc main_arg4))) (lo (m ((c : Thread nD τ).loc main_arg4)))
        (hi (m ((c : Thread nD τ).loc main_arg4))) (hi (m ((c : Thread nD τ).loc main_arg4))) := by
  show StableHlo.after hostOps0 _ _ = _
  after_results
  rfl

theorem V_fwd (c : Dev nD) : V m c main_v15
    = wide (Host.negf (lo (m ((c : Thread nD τ).loc main_arg5)))) zeros (Host.negf (hi (m ((c : Thread nD τ).loc main_arg5)))) zeros := by
  show StableHlo.after hostOps0 _ _ = _
  after_results
  rfl

theorem V_bwd (c : Dev nD) : V m c main_v18
    = wide zeros (lo (m ((c : Thread nD τ).loc main_arg5))) zeros (hi (m ((c : Thread nD τ).loc main_arg5))) := by
  show StableHlo.after hostOps0 _ _ = _
  after_results
  rfl

/-! ## Where each block sits -/

theorem idx0 : ∀ t : Fin cfg0.N, win0_0.index t 0 = t.val / 2 ∧ win0_0.index t 1 = t.val % 2 ∧ win0_0.index t 2 = 0 := by decide +kernel
theorem idx1 : ∀ t : Fin cfg0.N, win0_1.index t 0 = t.val / 2 ∧ win0_1.index t 1 = 0 ∧ win0_1.index t 2 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val % 2 ∧ win0_4.index t 1 = 0 := by decide +kernel
theorem idx5 : ∀ t : Fin cfg0.N, win0_5.index t 0 = t.val % 2 ∧ win0_5.index t 1 = 0 := by decide +kernel
theorem idx6 : ∀ t : Fin cfg0.N, win0_6.index t 0 = t.val % 2 ∧ win0_6.index t 1 = 0 := by decide +kernel
theorem idx7 : ∀ t : Fin cfg0.N, win0_7.index t 0 = t.val / 2 ∧ win0_7.index t 1 = t.val % 2 ∧ win0_7.index t 2 = 0 := by decide +kernel
theorem idx8 : ∀ t : Fin cfg0.N, win0_8.index t 0 = t.val / 2 ∧ win0_8.index t 1 = t.val % 2 ∧ win0_8.index t 2 = 0 := by decide +kernel
theorem idx9 : ∀ t : Fin cfg0.N, win0_9.index t 0 = t.val / 2 ∧ win0_9.index t 1 = t.val % 2 ∧ win0_9.index t 2 = 0 ∧ win0_9.index t 3 = 0 := by decide +kernel
theorem flush7 : ∀ t : Fin cfg0.N, (cfg0.win 7).flush t = true := by decide +kernel
theorem flush8 : ∀ t : Fin cfg0.N, (cfg0.win 8).flush t = true := by decide +kernel
theorem flush9 : ∀ t : Fin cfg0.N, (cfg0.win 9).flush t = true := by decide +kernel

/-- The batch of a point, and the sequence position of a row of its tile. -/
abbrev bOf (t : Fin cfg0.N) : Fin 16 := ⟨t.val / 2, by have h : t.val < 32 := lt_of_lt_of_eq t.isLt (show cfg0.N = 32 from N_0); omega⟩
abbrev lOf (t : Fin cfg0.N) (r : Fin 1024) : Fin 2048 := ⟨t.val % 2 * 1024 + r.val, by omega⟩

theorem blk0 (c : Dev nD) (t : Fin cfg0.N) (r k : Fin 1024) :
    (iblk m c 0 t : Vec Ideal S1x1024x1024 .f32) (ix3 0 r k)
      = (m ((c : Thread nD τ).loc main_arg0) : Vec Ideal S16x2048x1024 .f32) (ix3 (bOf t) (lOf t r) k) := by
  unfold iblk
  rw [View.read_apply]
  show V m c main_arg0 _ = _
  rw [V_main_arg0]
  refine congrArg (m ((c : Thread nD τ).loc main_arg0) : Vec Ideal S16x2048x1024 .f32) (funext fun a => Fin.ext ?_)
  match a with
  | ⟨0, _⟩ => show win0_0.index t 0 * 1 + 1 * 0 = t.val / 2; rw [(idx0 t).1]; omega
  | ⟨1, _⟩ => show win0_0.index t 1 * 1024 + 1 * r.val = t.val % 2 * 1024 + r.val; rw [(idx0 t).2.1]; omega
  | ⟨2, _⟩ => show win0_0.index t 2 * 1024 + 1 * k.val = k.val; rw [(idx0 t).2.2]; omega

theorem blk1 (c : Dev nD) (t : Fin cfg0.N) (q : Fin 9) (k : Fin 1024) :
    (iblk m c 1 t : Vec Ideal S1x9x1024 .f32) (ix3 0 q k)
      = (m ((c : Thread nD τ).loc main_arg1) : Vec Ideal S16x9x1024 .f32) (ix3 (bOf t) q k) := by
  unfold iblk
  rw [View.read_apply]
  show V m c main_arg1 _ = _
  rw [V_main_arg1]
  refine congrArg (m ((c : Thread nD τ).loc main_arg1) : Vec Ideal S16x9x1024 .f32) (funext fun a => Fin.ext ?_)
  match a with
  | ⟨0, _⟩ => show win0_1.index t 0 * 1 + 1 * 0 = t.val / 2; rw [(idx1 t).1]; omega
  | ⟨1, _⟩ => show win0_1.index t 1 * 9 + 1 * q.val = q.val; rw [(idx1 t).2.1]; omega
  | ⟨2, _⟩ => show win0_1.index t 2 * 1024 + 1 * k.val = k.val; rw [(idx1 t).2.2]; omega

theorem blk2 (c : Dev nD) (t : Fin cfg0.N) (k : Fin 1024) (j : Fin 1536) :
    (iblk m c 2 t : Vec Ideal S1024x1536 .bf16) (ix2 k j) = (m ((c : Thread nD τ).loc main_arg2) : Vec Ideal S1024x1536 .f32) (ix2 k j) := by
  rw [← V_w m c]
  unfold iblk
  rw [View.read_apply]
  show V m c main_v19 _ = _
  refine congrArg (V m c main_v19) (funext fun a => Fin.ext ?_)
  match a with
  | ⟨0, _⟩ => show win0_2.index t 0 * 1024 + 1 * k.val = k.val; rw [(idx2 t).1]; omega
  | ⟨1, _⟩ => show win0_2.index t 1 * 1536 + 1 * j.val = j.val; rw [(idx2 t).2]; omega

theorem blk3 (c : Dev nD) (t : Fin cfg0.N) (j : Fin 1536) :
    (iblk m c 3 t : Vec Ideal S1x1536 .f32) (ix2 0 j) = (m ((c : Thread nD τ).loc main_arg3) : Vec Ideal S1536 .f32) (ix1 j) := by
  rw [← V_b m c j]
  unfold iblk
  rw [View.read_apply]
  show V m c main_v20 _ = _
  refine congrArg (V m c main_v20) (funext fun a => Fin.ext ?_)
  match a with
  | ⟨0, _⟩ => show win0_3.index t 0 * 1 + 1 * 0 = 0; rw [(idx3 t).1]
  | ⟨1, _⟩ => show win0_3.index t 1 * 1536 + 1 * j.val = j.val; rw [(idx3 t).2]; omega

theorem blk4 (c : Dev nD) (t : Fin cfg0.N) (r : Fin 1024) (d : Fin 128) :
    (iblk m c 4 t : Vec Ideal S1024x128 .f32) (ix2 r d)
      = (m ((c : Thread nD τ).loc main_arg4) : Vec Ideal S2048x32 .f32) (ix2 (lOf t r) (tcol d.val)) := by
  rw [← cosTable (m ((c : Thread nD τ).loc main_arg4)) (lOf t r) d, ← V_cos m c]
  unfold iblk
  rw [View.read_apply]
  show V m c main_v12 _ = _
  refine congrArg (V m c main_v12) (funext fun a => Fin.ext ?_)
  match a with
  | ⟨0, _⟩ => show win0_4.index t 0 * 1024 + 1 * r.val = t.val % 2 * 1024 + r.val; rw [(idx4 t).1]; omega
  | ⟨1, _⟩ => show win0_4.index t 1 * 128 + 1 * d.val = d.val; rw [(idx4 t).2]; omega

theorem blk5 (c : Dev nD) (t : Fin cfg0.N) (r : Fin 1024) (d : Fin 128) :
    (iblk m c 5 t : Vec Ideal S1024x128 .f32) (ix2 r d)
      = fwdA (m ((c : Thread nD τ).loc main_arg5)) (lOf t r) d.val := by
  rw [← fwdTable (m ((c : Thread nD τ).loc main_arg5)) (lOf t r) d, ← V_fwd m c]
  unfold iblk
  rw [View.read_apply]
  show V m c main_v15 _ = _
  refine congrArg (V m c main_v15) (funext fun a => Fin.ext ?_)
  match a with
  | ⟨0, _⟩ => show win0_5.index t 0 * 1024 + 1 * r.val = t.val % 2 * 1024 + r.val; rw [(idx5 t).1]; omega
  | ⟨1, _⟩ => show win0_5.index t 1 * 128 + 1 * d.val = d.val; rw [(idx5 t).2]; omega

theorem blk6 (c : Dev nD) (t : Fin cfg0.N) (r : Fin 1024) (d : Fin 128) :
    (iblk m c 6 t : Vec Ideal S1024x128 .f32) (ix2 r d)
      = bwdA (m ((c : Thread nD τ).loc main_arg5)) (lOf t r) d.val := by
  rw [← bwdTable (m ((c : Thread nD τ).loc main_arg5)) (lOf t r) d, ← V_bwd m c]
  unfold iblk
  rw [View.read_apply]
  show V m c main_v18 _ = _
  refine congrArg (V m c main_v18) (funext fun a => Fin.ext ?_)
  match a with
  | ⟨0, _⟩ => show win0_6.index t 0 * 1024 + 1 * r.val = t.val % 2 * 1024 + r.val; rw [(idx6 t).1]; omega
  | ⟨1, _⟩ => show win0_6.index t 1 * 128 + 1 * d.val = d.val; rw [(idx6 t).2]; omega

/-! ## The results over the six arrays -/

section Spec
variable (X : Vec Ideal S16x2048x1024 .f32) (M : Vec Ideal S16x9x1024 .f32) (W : Vec Ideal S1024x1536 .f32)
  (B : Vec Ideal S1536 .f32) (C S : Vec Ideal S2048x32 .f32)

/-- A column of the projection of the modulated rows. -/
def colA (b : Fin 16) (l : Fin 2048) (j : Fin 1536) : EReal :=
  (∑ k : Fin 1024, (X (ix3 b l k) * (1 + M (ix3 b 4 k)) + M (ix3 b 3 k)) * W (ix2 k j)) + B (ix1 j)

/-- Columns `p` turned by position `l`: a head's 64 columns are two halves of 32, each a pair of sixteen turned together. -/
def ropeA (p : Nat → EReal) (l : Fin 2048) (j : Nat) : EReal :=
  if j % 32 < 16 then p j * C (ix2 l (tcol j)) - p (j + 16) * S (ix2 l (tcol j))
  else p (j - 16) * S (ix2 l (tcol j)) + p j * C (ix2 l (tcol j))

/-- A column of the projection, by its number. -/
def colN (b : Fin 16) (l : Fin 2048) (o : Nat) (n : Nat) : EReal := if h : o + n < 1536 then colA X M W B b l ⟨o + n, h⟩ else 0

/-- The queries. -/
def qA : Vec Ideal S16x2048x1024 .bf16 := fun i =>
  ropeA C S (fun n => colN X M W B (i 0) (i 1) 0 n * Ideal.ofBits .f32 0x3E38AA3B#32) (i 1) (i 2).val

/-- The keys, each head twice. -/
def kA : Vec Ideal S16x2048x512 .bf16 := fun i =>
  ropeA C S (fun n => colN X M W B (i 0) (i 1) 1024 n) (i 1) (64 * ((i 2).val / 64 / 2) + (i 2).val % 64)

/-- The values, each head twice, in blocks of 128 positions with the columns first. -/
def vA : Vec Ideal S16x16x512x128 .bf16 := fun i =>
  colN X M W B (i 0) ⟨(i 1).val * 128 + (i 3).val, by have h : (i 1).val < 16 := (i 1).isLt; have h' : (i 3).val < 128 := (i 3).isLt; omega⟩ 1280
    (64 * ((i 2).val / 64 / 2) + (i 2).val % 64)

end Spec

/-- The turned group of 128 columns is the turn by position. -/
theorem turn_eq (C S : Vec Ideal S2048x32 .f32) (p : Nat → EReal) (l : Fin 2048) (o : Nat) (d : Fin 128) :
    turn (fun d => p (128 * o + d.val)) (fun d => C (ix2 l (tcol d.val))) (fun d => fwdA S l d.val) (fun d => bwdA S l d.val) d = ropeA C S p l (128 * o + d.val) := by
  have hd := d.isLt
  unfold turn ropeA fwdA bwdA
  have et : tcol (128 * o + d.val) = tcol d.val := Fin.ext (by show 16 * ((128 * o + d.val) % 64 / 32) + (128 * o + d.val) % 16 = 16 * (d.val % 64 / 32) + d.val % 16; omega)
  have hm : (128 * o + d.val) % 32 = d.val % 32 := by omega
  rw [et, hm]
  by_cases h : d.val % 32 < 16
  · have e : 128 * o + (d.val + 16) % 128 = 128 * o + d.val + 16 := by omega
    simp only [if_pos h, e, mul_zero, add_zero, mul_neg]
    rfl
  · have e : 128 * o + (d.val + 112) % 128 = 128 * o + d.val - 16 := by omega
    simp only [if_neg h, e, mul_zero, add_zero]
    exact add_comm _ _

theorem colAt_eq (c : Dev nD) (t : Fin cfg0.N) (r : Fin 1024) (j : Fin 1536) :
    colAt (iblk m c 0 t) (iblk m c 1 t) (iblk m c 2 t) (iblk m c 3 t) r j
      = colA (m ((c : Thread nD τ).loc main_arg0)) (m ((c : Thread nD τ).loc main_arg1)) (m ((c : Thread nD τ).loc main_arg2))
          (m ((c : Thread nD τ).loc main_arg3)) (bOf t) (lOf t r) j := by
  unfold colAt colA
  exact congrArg₂ (· + ·) (Finset.sum_congr rfl fun k _ => congrArg₂ (· * ·) (congrArg₂ (· + ·)
    (congrArg₂ (· * ·) (blk0 m c t r k) (congrArg (1 + ·) (blk1 m c t 4 k))) (blk1 m c t 3 k)) (blk2 m c t k j)) (blk3 m c t j)

theorem colN_of_lt (X : Vec Ideal S16x2048x1024 .f32) (M : Vec Ideal S16x9x1024 .f32) (W : Vec Ideal S1024x1536 .f32) (B : Vec Ideal S1536 .f32)
    (b : Fin 16) (l : Fin 2048) (o n : Nat) (j : Fin 1536) (h : j.val = o + n) : colA X M W B b l j = colN X M W B b l o n := by
  have hj := j.isLt
  unfold colN
  rw [dif_pos (by omega)]
  exact congrArg _ (Fin.ext h)

/-- The queries' array, over the arguments as launched. -/
abbrev resultQ (c : Dev nD) : Vec Ideal S16x2048x1024 .bf16 :=
  qA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The keys' array, over the arguments as launched. -/
abbrev resultK (c : Dev nD) : Vec Ideal S16x2048x512 .bf16 :=
  kA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The values' array, over the arguments as launched. -/
abbrev resultV (c : Dev nD) : Vec Ideal S16x16x512x128 .bf16 :=
  vA (m ((c : Thread nD τ).loc main_arg0)) (m ((c : Thread nD τ).loc main_arg1)) (m ((c : Thread nD τ).loc main_arg2))
    (m ((c : Thread nD τ).loc main_arg3))

theorem flushedQ (c : Dev nD) (t : Fin cfg0.N) (hf : (cfg0.win 7).flush t = true) :
    (dats m 0 c).flushed 7 t = ((cfg0.win 7).blk t).view.read (Elt Ideal) (resultQ m c) := by
  rw [Cert.QkvIdeal.Value.flushed7]
  refine funext fun y => ?_
  show out0_7 (iblk m c 0 t) (iblk m c 1 t) (iblk m c 2 t) (iblk m c 3 t) (iblk m c 4 t) (iblk m c 5 t) (iblk m c 6 t) y
    = resultQ m c (((cfg0.win 7).blk t).view.emb y)
  obtain ⟨r, j, rfl⟩ : ∃ (r : Fin 1024) (j : Fin 1024), y = ix3 0 r j :=
    ⟨y 1, y 2, (eq_ix3 y).trans (by congr 1; exact Fin.ext (by have h : (y 0).val < 1 := (y 0).isLt; show (y 0).val = 0; omega))⟩
  have ei : ((cfg0.win 7).blk t).view.emb (ix3 0 r j) = ix3 (bOf t) (lOf t r) j := funext fun a => Fin.ext (by
    match a with
    | ⟨0, _⟩ => show win0_7.index t 0 * 1 + 1 * 0 = t.val / 2; rw [(idx7 t).1]; omega
    | ⟨1, _⟩ => show win0_7.index t 1 * 1024 + 1 * r.val = t.val % 2 * 1024 + r.val; rw [(idx7 t).2.1]; omega
    | ⟨2, _⟩ => show win0_7.index t 2 * 1024 + 1 * j.val = j.val; rw [(idx7 t).2.2]; omega)
  refine (queries_apply _ _ _ _ _ _ _ r j).trans (Eq.trans ?_ (congrArg (resultQ m c) ei).symm)
  have hj : 128 * (j.val / 128) + j.val % 128 = j.val := by omega
  refine (turn_congr (fun d => ?_) (fun d => blk4 m c t r d) (fun d => blk5 m c t r d) (fun d => blk6 m c t r d) _).trans
    ((turn_eq (m ((c : Thread nD τ).loc main_arg4)) (m ((c : Thread nD τ).loc main_arg5))
      (fun n => colN (m ((c : Thread nD τ).loc main_arg0)) (m ((c : Thread nD τ).loc main_arg1)) (m ((c : Thread nD τ).loc main_arg2)) (m ((c : Thread nD τ).loc main_arg3)) (bOf t) (lOf t r) 0 n * Ideal.ofBits .f32 0x3E38AA3B#32) (lOf t r) (j.val / 128) ⟨j.val % 128, by omega⟩).trans
      (congrArg (ropeA _ _ _ _) hj))
  exact congrArg (· * Ideal.ofBits .f32 0x3E38AA3B#32) ((colAt_eq m c t r _).trans (colN_of_lt _ _ _ _ _ _ 0 (128 * (j.val / 128) + d.val) _ (by
    show 128 * (j.val / 128) + d.val = 0 + _; omega)))

theorem flushedK (c : Dev nD) (t : Fin cfg0.N) (hf : (cfg0.win 8).flush t = true) :
    (dats m 0 c).flushed 8 t = ((cfg0.win 8).blk t).view.read (Elt Ideal) (resultK m c) := by
  rw [Cert.QkvIdeal.Value.flushed8]
  refine funext fun y => ?_
  show out0_8 (iblk m c 0 t) (iblk m c 1 t) (iblk m c 2 t) (iblk m c 3 t) (iblk m c 4 t) (iblk m c 5 t) (iblk m c 6 t) y
    = resultK m c (((cfg0.win 8).blk t).view.emb y)
  obtain ⟨r, j, rfl⟩ : ∃ (r : Fin 1024) (j : Fin 512), y = ix3 0 r j :=
    ⟨y 1, y 2, (eq_ix3 y).trans (by congr 1; exact Fin.ext (by have h : (y 0).val < 1 := (y 0).isLt; show (y 0).val = 0; omega))⟩
  have ei : ((cfg0.win 8).blk t).view.emb (ix3 0 r j) = ix3 (bOf t) (lOf t r) j := funext fun a => Fin.ext (by
    match a with
    | ⟨0, _⟩ => show win0_8.index t 0 * 1 + 1 * 0 = t.val / 2; rw [(idx8 t).1]; omega
    | ⟨1, _⟩ => show win0_8.index t 1 * 1024 + 1 * r.val = t.val % 2 * 1024 + r.val; rw [(idx8 t).2.1]; omega
    | ⟨2, _⟩ => show win0_8.index t 2 * 512 + 1 * j.val = j.val; rw [(idx8 t).2.2]; omega)
  refine (keys_apply _ _ _ _ _ _ _ r j).trans (Eq.trans ?_ (congrArg (resultK m c) ei).symm)
  have hj : 128 * (j.val / 256) + (64 * (j.val / 64 / 2) + j.val % 64) % 128 = 64 * (j.val / 64 / 2) + j.val % 64 := by omega
  refine (turn_congr (fun d => ?_) (fun d => blk4 m c t r d) (fun d => blk5 m c t r d) (fun d => blk6 m c t r d) _).trans
    ((turn_eq (m ((c : Thread nD τ).loc main_arg4)) (m ((c : Thread nD τ).loc main_arg5))
      (fun n => colN (m ((c : Thread nD τ).loc main_arg0)) (m ((c : Thread nD τ).loc main_arg1)) (m ((c : Thread nD τ).loc main_arg2)) (m ((c : Thread nD τ).loc main_arg3)) (bOf t) (lOf t r) 1024 n) (lOf t r) (j.val / 256) ⟨(64 * (j.val / 64 / 2) + j.val % 64) % 128, by omega⟩).trans
      (congrArg (ropeA _ _ _ _) hj))
  exact (colAt_eq m c t r _).trans (colN_of_lt _ _ _ _ _ _ 1024 (128 * (j.val / 256) + d.val) _ rfl)

theorem flushedV (c : Dev nD) (t : Fin cfg0.N) (hf : (cfg0.win 9).flush t = true) :
    (dats m 0 c).flushed 9 t = ((cfg0.win 9).blk t).view.read (Elt Ideal) (resultV m c) := by
  rw [Cert.QkvIdeal.Value.flushed9]
  refine funext fun y => ?_
  show out0_9 (iblk m c 0 t) (iblk m c 1 t) (iblk m c 2 t) (iblk m c 3 t) (iblk m c 4 t) (iblk m c 5 t) (iblk m c 6 t) y
    = resultV m c (((cfg0.win 9).blk t).view.emb y)
  obtain ⟨k, j, r, rfl⟩ : ∃ (k : Fin 8) (j : Fin 512) (r : Fin 128), y = ix4 0 k j r :=
    ⟨y 1, y 2, y 3, (eq_ix4 y).trans (by congr 1; exact Fin.ext (by have h : (y 0).val < 1 := (y 0).isLt; show (y 0).val = 0; omega))⟩
  have ei : ((cfg0.win 9).blk t).view.emb (ix4 0 k j r) = ix4 (bOf t) (⟨t.val % 2 * 8 + k.val, by omega⟩ : Fin 16) j r := funext fun a => Fin.ext (by
    match a with
    | ⟨0, _⟩ => show win0_9.index t 0 * 1 + 1 * 0 = t.val / 2; rw [(idx9 t).1]; omega
    | ⟨1, _⟩ => show win0_9.index t 1 * 8 + 1 * k.val = t.val % 2 * 8 + k.val; rw [(idx9 t).2.1]; omega
    | ⟨2, _⟩ => show win0_9.index t 2 * 512 + 1 * j.val = j.val; rw [(idx9 t).2.2.1]; omega
    | ⟨3, _⟩ => show win0_9.index t 3 * 128 + 1 * r.val = r.val; rw [(idx9 t).2.2.2]; omega)
  refine (values_apply _ _ _ _ _ _ _ k j r).trans (Eq.trans ?_ (congrArg (resultV m c) ei).symm)
  refine (colAt_eq m c t _ _).trans ((colN_of_lt _ _ _ _ _ _ 1280 (64 * (j.val / 64 / 2) + j.val % 64) _ rfl).trans ?_)
  have el : lOf t ⟨k.val * 128 + r.val, by omega⟩ = (⟨(t.val % 2 * 8 + k.val) * 128 + r.val, by omega⟩ : Fin 2048) :=
    Fin.ext (by show t.val % 2 * 1024 + (k.val * 128 + r.val) = (t.val % 2 * 8 + k.val) * 128 + r.val; omega)
  rw [el]
  rfl

/-- The queries written back cover their array. -/
theorem finalQ (c : Dev nD) : (dats m 0 c).arrAt 7 cfg0.N = resultQ m c :=
  (dats m 0 c).arrAt_eq_of_cover 7 (resultQ m c) (flushedQ m c) fun i => by
    have h0 : (i 0 : Nat) < 16 := (i 0).isLt
    have h1 : (i 1 : Nat) < 2048 := (i 1).isLt
    have h2 : (i 2 : Nat) < 1024 := (i 2).isLt
    have hN : cfg0.N = 32 := N_0
    refine ⟨⟨(i 0).val * 2 + (i 1).val / 1024, by omega⟩, flush7 _, ?_⟩
    generalize ht : (⟨(i 0).val * 2 + (i 1).val / 1024, by omega⟩ : Fin cfg0.N) = t
    have htv : t.val = (i 0).val * 2 + (i 1).val / 1024 := by rw [← ht]
    show i ∈ ((View.whole main_v21_0).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [(idx7 t).1]; omega
    | ⟨1, _⟩ => show win0_7.index t 1 * 1024 ≤ (i 1 : Nat) ∧ (i 1 : Nat) < win0_7.index t 1 * 1024 + 1024
                rw [(idx7 t).2.1]; omega
    | ⟨2, _⟩ => show win0_7.index t 2 * 1024 ≤ (i 2 : Nat) ∧ (i 2 : Nat) < win0_7.index t 2 * 1024 + 1024
                rw [(idx7 t).2.2]; omega

/-- The keys written back cover their array. -/
theorem finalK (c : Dev nD) : (dats m 0 c).arrAt 8 cfg0.N = resultK m c :=
  (dats m 0 c).arrAt_eq_of_cover 8 (resultK m c) (flushedK m c) fun i => by
    have h0 : (i 0 : Nat) < 16 := (i 0).isLt
    have h1 : (i 1 : Nat) < 2048 := (i 1).isLt
    have h2 : (i 2 : Nat) < 512 := (i 2).isLt
    have hN : cfg0.N = 32 := N_0
    refine ⟨⟨(i 0).val * 2 + (i 1).val / 1024, by omega⟩, flush8 _, ?_⟩
    generalize ht : (⟨(i 0).val * 2 + (i 1).val / 1024, by omega⟩ : Fin cfg0.N) = t
    have htv : t.val = (i 0).val * 2 + (i 1).val / 1024 := by rw [← ht]
    show i ∈ ((View.whole main_v21_1).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [(idx8 t).1]; omega
    | ⟨1, _⟩ => show win0_8.index t 1 * 1024 ≤ (i 1 : Nat) ∧ (i 1 : Nat) < win0_8.index t 1 * 1024 + 1024
                rw [(idx8 t).2.1]; omega
    | ⟨2, _⟩ => show win0_8.index t 2 * 512 ≤ (i 2 : Nat) ∧ (i 2 : Nat) < win0_8.index t 2 * 512 + 512
                rw [(idx8 t).2.2]; omega

/-- The values written back cover their array. -/
theorem finalV (c : Dev nD) : (dats m 0 c).arrAt 9 cfg0.N = resultV m c :=
  (dats m 0 c).arrAt_eq_of_cover 9 (resultV m c) (flushedV m c) fun i => by
    have h0 : (i 0 : Nat) < 16 := (i 0).isLt
    have h1 : (i 1 : Nat) < 16 := (i 1).isLt
    have h2 : (i 2 : Nat) < 512 := (i 2).isLt
    have h3 : (i 3 : Nat) < 128 := (i 3).isLt
    have hN : cfg0.N = 32 := N_0
    refine ⟨⟨(i 0).val * 2 + (i 1).val / 8, by omega⟩, flush9 _, ?_⟩
    generalize ht : (⟨(i 0).val * 2 + (i 1).val / 8, by omega⟩ : Fin cfg0.N) = t
    have htv : t.val = (i 0).val * 2 + (i 1).val / 8 := by rw [← ht]
    show i ∈ ((View.whole main_v21_2).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [(idx9 t).1]; omega
    | ⟨1, _⟩ => show win0_9.index t 1 * 8 ≤ (i 1 : Nat) ∧ (i 1 : Nat) < win0_9.index t 1 * 8 + 8
                rw [(idx9 t).2.1]; omega
    | ⟨2, _⟩ => show win0_9.index t 2 * 512 ≤ (i 2 : Nat) ∧ (i 2 : Nat) < win0_9.index t 2 * 512 + 512
                rw [(idx9 t).2.2.1]; omega
    | ⟨3, _⟩ => show win0_9.index t 3 * 128 ≤ (i 3 : Nat) ∧ (i 3 : Nat) < win0_9.index t 3 * 128 + 128
                rw [(idx9 t).2.2.2]; omega

end Cert.QkvValue
end
-- ==== Proof.QkvRefValue.lean ====
module

public import proofs.«01_k».proof.Proof.QkvArray
public import proofs.«01_k».proof.Proof.FfnRefValue
public import proofs.«01_k».proof.Proof.Gen.QkvRefIdeal.Read

/-! The projection's reference at an entry, and its three result arrays as `qA`, `kA` and `vA` of its arguments. -/

@[expose] public section

set_option maxRecDepth 16384

noncomputable section

open Idealize.ShloMosaic Idealize.ShloMosaic.TcCoe

namespace Cert.QkvValue

open Cert.QkvRefIdeal.Read Cert.QkvIdeal

variable (X : Vec Ideal S16x2048x1024 .f32) (M : Vec Ideal S16x9x1024 .f32) (W : Vec Ideal S1024x1536 .f32)
  (B : Vec Ideal S1536 .f32) (C S : Vec Ideal S2048x32 .f32)

theorem eq_i4 {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  refine funext fun q => Fin.ext ?_
  match q with
  | ⟨0, _⟩ => exact h0
  | ⟨1, _⟩ => exact h1
  | ⟨2, _⟩ => exact h2
  | ⟨3, _⟩ => exact h3

theorem eq_i5 {n0 n1 n2 n3 n4 : Nat} (i : (⟨5, ![n0, n1, n2, n3, n4]⟩ : Shape).Idx) (a : Fin n0) (b : Fin n1) (c : Fin n2) (d : Fin n3) (e : Fin n4)
    (h0 : (i 0).val = a.val) (h1 : (i 1).val = b.val) (h2 : (i 2).val = c.val) (h3 : (i 3).val = d.val) (h4 : (i 4).val = e.val) : i = ix5 a b c d e := by
  refine funext fun q => Fin.ext ?_
  match q with
  | ⟨0, _⟩ => exact h0
  | ⟨1, _⟩ => exact h1
  | ⟨2, _⟩ => exact h2
  | ⟨3, _⟩ => exact h3
  | ⟨4, _⟩ => exact h4

/-! ## The projection -/

theorem ref_scale (b : Fin 16) (l : Fin 2048) (k : Fin 1024) : val_main_v5 (F := Ideal) M (ix3 b l k) = 1 + M (ix3 b 4 k) := by
  rw [val_main_v5_apply, val_main_v4_apply, val_main_v3_apply, val_main_cst_apply, val_main_v2_apply,
    val_main_v1_apply, val_main_v0_apply]
  refine congrArg₂ (· + ·) Ideal.ofBits_one_f32 (Cert.FfnValue.at3 M _ b 4 k ?_ ?_ ?_)
  · show (b.val * 1024 + k.val) / 1024 = b.val; omega
  · rfl
  · show (b.val * 1024 + k.val) % 1024 = k.val; omega

theorem ref_shift (b : Fin 16) (l : Fin 2048) (k : Fin 1024) : val_main_v10 (F := Ideal) M (ix3 b l k) = M (ix3 b 3 k) := by
  rw [val_main_v10_apply, val_main_v9_apply, val_main_v8_apply, val_main_v7_apply]
  refine Cert.FfnValue.at3 M _ b 3 k ?_ ?_ ?_
  · show (b.val * 1024 + k.val) / 1024 = b.val; omega
  · rfl
  · show (b.val * 1024 + k.val) % 1024 = k.val; omega

theorem ref_bias1 (b : Fin 16) (l : Fin 2048) (j : Fin 1536) : val_main_v14 (F := Ideal) B (ix3 b l j) = B (ix1 j) := by
  rw [val_main_v14_apply, val_main_v13_apply]
  refine congrArg B (funext fun q => Fin.ext ?_)
  match q with
  | ⟨0, _⟩ => rfl

theorem ref_col (b : Fin 16) (l : Fin 2048) (j : Fin 1536) : val_main_v15 (F := Ideal) X M W B (ix3 b l j) = colA X M W B b l j := by
  rw [val_main_v15_apply, ref_bias1, val_main_v12_apply]
  refine congrArg (· + B (ix1 j)) (Finset.sum_congr rfl fun k _ => ?_)
  rw [Cert.FfnValue.eq_ix3 (lidx_main_v12 (ix3 b l j) k) b l k rfl rfl rfl, Cert.FfnValue.eq_ix2 (ridx_main_v12 (ix3 b l j) k) k j rfl rfl,
    val_main_v11_apply, val_main_v6_apply, ref_scale, ref_shift]
  rfl

/-- The same column by its number. -/
theorem ref_colN (b : Fin 16) (l : Fin 2048) (o n : Nat) (j : Fin 1536) (h : j.val = o + n) :
    val_main_v15 (F := Ideal) X M W B (ix3 b l j) = colN X M W B b l o n := by
  rw [ref_col]
  exact colN_of_lt X M W B b l o n j h

/-! ## The turn by position, for the queries -/

/-- The scaled queries by column number. -/
abbrev qN (b : Fin 16) (l : Fin 2048) (n : Nat) : EReal := colN X M W B b l 0 n * Ideal.ofBits .f32 0x3E38AA3B#32

theorem ref_q (b : Fin 16) (l : Fin 2048) (h : Fin 16) (a : Fin 2) (e : Fin 32) :
    val_main_v21 (F := Ideal) X M W B (ix5 b l h a e) = qN X M W B b l (64 * h.val + 32 * a.val + e.val) := by
  have hh := h.isLt; have ha := a.isLt; have he := e.isLt
  rw [val_main_v21_apply, val_main_v20_apply, val_main_v19_apply, val_main_cst_0_apply, val_main_v16_apply]
  refine congrArg (· * Ideal.ofBits .f32 0x3E38AA3B#32) ?_
  rw [Cert.FfnValue.eq_ix3 (idx_main_v16 (idx_main_v21 (ix5 b l h a e))) b l (⟨64 * h.val + 32 * a.val + e.val, by omega⟩ : Fin 1536) ?_ ?_ ?_]
  · exact ref_colN X M W B b l 0 _ _ (by show 64 * h.val + 32 * a.val + e.val = 0 + _; omega)
  · show ((((b.val * 2048 + l.val) * 16 + h.val) * 2 + a.val) * 32 + e.val) / 2097152 = b.val; omega
  · show ((((b.val * 2048 + l.val) * 16 + h.val) * 2 + a.val) * 32 + e.val) / 1024 % 2048 = l.val; omega
  · show ((((b.val * 2048 + l.val) * 16 + h.val) * 2 + a.val) * 32 + e.val) % 1024 = 64 * h.val + 32 * a.val + e.val; omega

theorem ref_q1 (b : Fin 16) (l : Fin 2048) (h : Fin 16) (a : Fin 2) (e : Fin 16) :
    val_main_v22 (F := Ideal) X M W B (ix5 b l h a e) = qN X M W B b l (64 * h.val + 32 * a.val + e.val) := by
  rw [val_main_v22_apply, eq_i5 (idx_main_v22 (ix5 b l h a e)) b l h a ⟨e.val, by omega⟩ rfl rfl rfl rfl rfl, ref_q]

theorem ref_q2 (b : Fin 16) (l : Fin 2048) (h : Fin 16) (a : Fin 2) (e : Fin 16) :
    val_main_v23 (F := Ideal) X M W B (ix5 b l h a e) = qN X M W B b l (64 * h.val + 32 * a.val + (16 + e.val)) := by
  rw [val_main_v23_apply, eq_i5 (idx_main_v23 (ix5 b l h a e)) b l h a ⟨16 + e.val, by omega⟩ rfl rfl rfl rfl rfl, ref_q]

/-- The table's entry for position `l`, half `a`, pair `e`. -/
theorem tab (T : Vec Ideal S2048x32 .f32) (i : S2048x32.Idx) (l : Fin 2048) (a : Fin 2) (e : Fin 16)
    (h0 : (i 0).val = (((l.val * 1 + 0) * 2 + a.val) * 16 + e.val) / 32) (h1 : (i 1).val = (((l.val * 1 + 0) * 2 + a.val) * 16 + e.val) % 32) :
    T i = T (ix2 l ⟨16 * a.val + e.val, by omega⟩) :=
  congrArg T (Cert.FfnValue.eq_ix2 i l ⟨16 * a.val + e.val, by omega⟩ (h0.trans (by omega)) (h1.trans (by show _ = 16 * a.val + e.val; omega)))

theorem ref_qc1 (b : Fin 16) (l : Fin 2048) (h : Fin 16) (a : Fin 2) (e : Fin 16) :
    val_main_v27 (F := Ideal) C (ix5 b l h a e) = C (ix2 l ⟨16 * a.val + e.val, by omega⟩) := by
  rw [val_main_v27_apply, val_main_v26_apply, val_main_v24_apply]
  exact tab C _ l a e rfl rfl

theorem ref_qc2 (b : Fin 16) (l : Fin 2048) (h : Fin 16) (a : Fin 2) (e : Fin 16) :
    val_main_v37 (F := Ideal) C (ix5 b l h a e) = C (ix2 l ⟨16 * a.val + e.val, by omega⟩) := by
  rw [val_main_v37_apply, val_main_v36_apply, val_main_v24_apply]
  exact tab C _ l a e rfl rfl

theorem ref_qs1 (b : Fin 16) (l : Fin 2048) (h : Fin 16) (a : Fin 2) (e : Fin 16) :
    val_main_v30 (F := Ideal) S (ix5 b l h a e) = S (ix2 l ⟨16 * a.val + e.val, by omega⟩) := by
  rw [val_main_v30_apply, val_main_v29_apply, val_main_v25_apply]
  exact tab S _ l a e rfl rfl

theorem ref_qs2 (b : Fin 16) (l : Fin 2048) (h : Fin 16) (a : Fin 2) (e : Fin 16) :
    val_main_v34 (F := Ideal) S (ix5 b l h a e) = S (ix2 l ⟨16 * a.val + e.val, by omega⟩) := by
  rw [val_main_v34_apply, val_main_v33_apply, val_main_v25_apply]
  exact tab S _ l a e rfl rfl

/-- The turn by position, from the two entries of a pair. -/
theorem rope_lo (p : Nat → EReal) (l : Fin 2048) (h a e : Nat) (ha : a < 2) (he : e < 16) :
    p (64 * h + 32 * a + e) * C (ix2 l ⟨16 * a + e, by omega⟩) - p (64 * h + 32 * a + (16 + e)) * S (ix2 l ⟨16 * a + e, by omega⟩)
      = ropeA C S p l (64 * h + 32 * a + e) := by
  unfold ropeA
  rw [if_pos (by omega)]
  have et : tcol (64 * h + 32 * a + e) = ⟨16 * a + e, by omega⟩ :=
    Fin.ext (by show 16 * ((64 * h + 32 * a + e) % 64 / 32) + (64 * h + 32 * a + e) % 16 = 16 * a + e; omega)
  have en : 64 * h + 32 * a + (16 + e) = 64 * h + 32 * a + e + 16 := by omega
  rw [et, en]

theorem rope_hi (p : Nat → EReal) (l : Fin 2048) (h a e : Nat) (ha : a < 2) (he : e < 16) :
    p (64 * h + 32 * a + e) * S (ix2 l ⟨16 * a + e, by omega⟩) + p (64 * h + 32 * a + (16 + e)) * C (ix2 l ⟨16 * a + e, by omega⟩)
      = ropeA C S p l (64 * h + 32 * a + (16 + e)) := by
  unfold ropeA
  rw [if_neg (by omega)]
  have et : tcol (64 * h + 32 * a + (16 + e)) = ⟨16 * a + e, by omega⟩ :=
    Fin.ext (by show 16 * ((64 * h + 32 * a + (16 + e)) % 64 / 32) + (64 * h + 32 * a + (16 + e)) % 16 = 16 * a + e; omega)
  have en : 64 * h + 32 * a + (16 + e) - 16 = 64 * h + 32 * a + e := by omega
  rw [et, en]

/-- Two arrays joined along the last of five axes, at an entry. -/
theorem join_lo {n : Nat} (u v : FVec Ideal ⟨5, ![16, 2048, n, 2, 16]⟩ .f32)
    (hc : Shape.Concatenates [(⟨5, ![16, 2048, n, 2, 16]⟩ : Shape), ⟨5, ![16, 2048, n, 2, 16]⟩] ⟨5, ![16, 2048, n, 2, 32]⟩ 4)
    (b : Fin 16) (l : Fin 2048) (h : Fin n) (a : Fin 2) (e : Fin 32) (he : e.val < 16) :
    concatenate ⟨5, ![16, 2048, n, 2, 32]⟩ 4 [⟨⟨5, ![16, 2048, n, 2, 16]⟩, u⟩, ⟨⟨5, ![16, 2048, n, 2, 16]⟩, v⟩] hc (ix5 b l h a e) = u (ix5 b l h a ⟨e.val, he⟩) :=
  concatenate_pair_apply_left (t := ⟨5, ![16, 2048, n, 2, 32]⟩) (4 : Fin 5) u v hc (ix5 b l h a e) rfl (ix5 b l h a ⟨e.val, he⟩) fun q => by
    match q with
    | ⟨0, _⟩ => rfl
    | ⟨1, _⟩ => rfl
    | ⟨2, _⟩ => rfl
    | ⟨3, _⟩ => rfl
    | ⟨4, _⟩ => rfl

theorem join_hi {n : Nat} (u v : FVec Ideal ⟨5, ![16, 2048, n, 2, 16]⟩ .f32)
    (hc : Shape.Concatenates [(⟨5, ![16, 2048, n, 2, 16]⟩ : Shape), ⟨5, ![16, 2048, n, 2, 16]⟩] ⟨5, ![16, 2048, n, 2, 32]⟩ 4)
    (b : Fin 16) (l : Fin 2048) (h : Fin n) (a : Fin 2) (e : Fin 32) (he : ¬ e.val < 16) :
    concatenate ⟨5, ![16, 2048, n, 2, 32]⟩ 4 [⟨⟨5, ![16, 2048, n, 2, 16]⟩, u⟩, ⟨⟨5, ![16, 2048, n, 2, 16]⟩, v⟩] hc (ix5 b l h a e) = v (ix5 b l h a ⟨e.val - 16, by omega⟩) :=
  concatenate_pair_apply_right (t := ⟨5, ![16, 2048, n, 2, 32]⟩) (4 : Fin 5) u v hc (ix5 b l h a e) rfl rfl (ix5 b l h a ⟨e.val - 16, by omega⟩) (fun q hq => by
    match q with
    | ⟨0, _⟩ => rfl
    | ⟨1, _⟩ => rfl
    | ⟨2, _⟩ => rfl
    | ⟨3, _⟩ => rfl
    | ⟨4, _⟩ => exact absurd rfl hq) (by show e.val - 16 + 16 = e.val; omega)

theorem ref_qrope (b : Fin 16) (l : Fin 2048) (h : Fin 16) (a : Fin 2) (e : Fin 32) :
    val_main_v40 (F := Ideal) X M W B C S (ix5 b l h a e) = ropeA C S (qN X M W B b l) l (64 * h.val + 32 * a.val + e.val) := by
  unfold val_main_v40
  by_cases he : e.val < 16
  · refine (join_lo _ _ _ b l h a e he).trans ?_
    rw [val_main_v32_apply, val_main_v28_apply, val_main_v31_apply, ref_q1, ref_q2, ref_qc1, ref_qs1]
    exact rope_lo C S (qN X M W B b l) l h.val a.val e.val a.isLt he
  · have hlt := e.isLt
    refine (join_hi _ _ _ b l h a e he).trans ?_
    rw [val_main_v39_apply, val_main_v35_apply, val_main_v38_apply, ref_q1, ref_q2, ref_qs2, ref_qc2]
    refine (rope_hi C S (qN X M W B b l) l h.val a.val (e.val - 16) a.isLt (by omega)).trans (congrArg _ ?_)
    omega

/-- The reference's queries. -/
theorem ref_Q : val_main_v73 (F := Ideal) X M W B C S = qA X M W B C S := by
  funext i
  obtain ⟨b, l, j, rfl⟩ : ∃ (b : Fin 16) (l : Fin 2048) (j : Fin 1024), i = ix3 b l j := ⟨i 0, i 1, i 2, Cert.FfnValue.eq_ix3 i _ _ _ rfl rfl rfl⟩
  have hj := j.isLt
  rw [val_main_v73_apply, val_main_v41_apply,
    eq_i5 (idx_main_v41 (ix3 b l j)) b l (⟨j.val / 64, by omega⟩ : Fin 16) (⟨j.val / 32 % 2, by omega⟩ : Fin 2) (⟨j.val % 32, by omega⟩ : Fin 32)
      (by show ((b.val * 2048 + l.val) * 1024 + j.val) / 2097152 = b.val; omega)
      (by show ((b.val * 2048 + l.val) * 1024 + j.val) / 1024 % 2048 = l.val; omega)
      (by show ((b.val * 2048 + l.val) * 1024 + j.val) / 64 % 16 = j.val / 64; omega)
      (by show ((b.val * 2048 + l.val) * 1024 + j.val) / 32 % 2 = j.val / 32 % 2; omega)
      (by show ((b.val * 2048 + l.val) * 1024 + j.val) % 32 = j.val % 32; omega), ref_qrope]
  show ropeA C S (qN X M W B b l) l (64 * (j.val / 64) + 32 * (j.val / 32 % 2) + j.val % 32) = ropeA C S (qN X M W B b l) l j.val
  congr 1
  omega

/-! ## The keys -/

theorem ref_k (b : Fin 16) (l : Fin 2048) (h : Fin 4) (a : Fin 2) (e : Fin 32) :
    val_main_v42 (F := Ideal) X M W B (ix5 b l h a e) = colN X M W B b l 1024 (64 * h.val + 32 * a.val + e.val) := by
  have hh := h.isLt; have ha := a.isLt; have he := e.isLt
  rw [val_main_v42_apply, val_main_v17_apply]
  rw [Cert.FfnValue.eq_ix3 (idx_main_v17 (idx_main_v42 (ix5 b l h a e))) b l (⟨1024 + (64 * h.val + 32 * a.val + e.val), by omega⟩ : Fin 1536) ?_ ?_ ?_]
  · exact ref_colN X M W B b l 1024 _ _ rfl
  · show ((((b.val * 2048 + l.val) * 4 + h.val) * 2 + a.val) * 32 + e.val) / 524288 = b.val; omega
  · show ((((b.val * 2048 + l.val) * 4 + h.val) * 2 + a.val) * 32 + e.val) / 256 % 2048 = l.val; omega
  · show 1024 + ((((b.val * 2048 + l.val) * 4 + h.val) * 2 + a.val) * 32 + e.val) % 256 = 1024 + (64 * h.val + 32 * a.val + e.val); omega

theorem ref_k1 (b : Fin 16) (l : Fin 2048) (h : Fin 4) (a : Fin 2) (e : Fin 16) :
    val_main_v43 (F := Ideal) X M W B (ix5 b l h a e) = colN X M W B b l 1024 (64 * h.val + 32 * a.val + e.val) := by
  rw [val_main_v43_apply, eq_i5 (idx_main_v43 (ix5 b l h a e)) b l h a ⟨e.val, by omega⟩ rfl rfl rfl rfl rfl, ref_k]

theorem ref_k2 (b : Fin 16) (l : Fin 2048) (h : Fin 4) (a : Fin 2) (e : Fin 16) :
    val_main_v44 (F := Ideal) X M W B (ix5 b l h a e) = colN X M W B b l 1024 (64 * h.val + 32 * a.val + (16 + e.val)) := by
  rw [val_main_v44_apply, eq_i5 (idx_main_v44 (ix5 b l h a e)) b l h a ⟨16 + e.val, by omega⟩ rfl rfl rfl rfl rfl, ref_k]

theorem ref_kc1 (b : Fin 16) (l : Fin 2048) (h : Fin 4) (a : Fin 2) (e : Fin 16) :
    val_main_v48 (F := Ideal) C (ix5 b l h a e) = C (ix2 l ⟨16 * a.val + e.val, by omega⟩) := by
  rw [val_main_v48_apply, val_main_v47_apply, val_main_v45_apply]
  exact tab C _ l a e rfl rfl

theorem ref_kc2 (b : Fin 16) (l : Fin 2048) (h : Fin 4) (a : Fin 2) (e : Fin 16) :
    val_main_v58 (F := Ideal) C (ix5 b l h a e) = C (ix2 l ⟨16 * a.val + e.val, by omega⟩) := by
  rw [val_main_v58_apply, val_main_v57_apply, val_main_v45_apply]
  exact tab C _ l a e rfl rfl

theorem ref_ks1 (b : Fin 16) (l : Fin 2048) (h : Fin 4) (a : Fin 2) (e : Fin 16) :
    val_main_v51 (F := Ideal) S (ix5 b l h a e) = S (ix2 l ⟨16 * a.val + e.val, by omega⟩) := by
  rw [val_main_v51_apply, val_main_v50_apply, val_main_v46_apply]
  exact tab S _ l a e rfl rfl

theorem ref_ks2 (b : Fin 16) (l : Fin 2048) (h : Fin 4) (a : Fin 2) (e : Fin 16) :
    val_main_v55 (F := Ideal) S (ix5 b l h a e) = S (ix2 l ⟨16 * a.val + e.val, by omega⟩) := by
  rw [val_main_v55_apply, val_main_v54_apply, val_main_v46_apply]
  exact tab S _ l a e rfl rfl

theorem ref_krope (b : Fin 16) (l : Fin 2048) (h : Fin 4) (a : Fin 2) (e : Fin 32) :
    val_main_v61 (F := Ideal) X M W B C S (ix5 b l h a e) = ropeA C S (colN X M W B b l 1024) l (64 * h.val + 32 * a.val + e.val) := by
  unfold val_main_v61
  by_cases he : e.val < 16
  · refine (join_lo _ _ _ b l h a e he).trans ?_
    rw [val_main_v53_apply, val_main_v49_apply, val_main_v52_apply, ref_k1, ref_k2, ref_kc1, ref_ks1]
    exact rope_lo C S (colN X M W B b l 1024) l h.val a.val e.val a.isLt he
  · have hlt := e.isLt
    refine (join_hi _ _ _ b l h a e he).trans ?_
    rw [val_main_v60_apply, val_main_v56_apply, val_main_v59_apply, ref_k1, ref_k2, ref_ks2, ref_kc2]
    refine (rope_hi C S (colN X M W B b l 1024) l h.val a.val (e.val - 16) a.isLt (by omega)).trans (congrArg _ ?_)
    omega

theorem ref_k256 (b : Fin 16) (l : Fin 2048) (j : Fin 256) :
    val_main_v62 (F := Ideal) X M W B C S (ix3 b l j) = ropeA C S (colN X M W B b l 1024) l j.val := by
  have hj := j.isLt
  rw [val_main_v62_apply,
    eq_i5 (idx_main_v62 (ix3 b l j)) b l (⟨j.val / 64, by omega⟩ : Fin 4) (⟨j.val / 32 % 2, by omega⟩ : Fin 2) (⟨j.val % 32, by omega⟩ : Fin 32)
      (by show ((b.val * 2048 + l.val) * 256 + j.val) / 524288 = b.val; omega)
      (by show ((b.val * 2048 + l.val) * 256 + j.val) / 256 % 2048 = l.val; omega)
      (by show ((b.val * 2048 + l.val) * 256 + j.val) / 64 % 4 = j.val / 64; omega)
      (by show ((b.val * 2048 + l.val) * 256 + j.val) / 32 % 2 = j.val / 32 % 2; omega)
      (by show ((b.val * 2048 + l.val) * 256 + j.val) % 32 = j.val % 32; omega), ref_krope]
  show ropeA C S (colN X M W B b l 1024) l (64 * (j.val / 64) + 32 * (j.val / 32 % 2) + j.val % 32) = _
  congr 1
  omega

/-- The reference's keys. -/
theorem ref_K : val_main_v74 (F := Ideal) X M W B C S = kA X M W B C S := by
  funext i
  obtain ⟨b, l, j, rfl⟩ : ∃ (b : Fin 16) (l : Fin 2048) (j : Fin 512), i = ix3 b l j := ⟨i 0, i 1, i 2, Cert.FfnValue.eq_ix3 i _ _ _ rfl rfl rfl⟩
  have hj := j.isLt
  rw [val_main_v74_apply, val_main_v66_apply,
    eq_i4 (idx_main_v66 (ix3 b l j)) b l (⟨j.val / 64, by omega⟩ : Fin 8) (⟨j.val % 64, by omega⟩ : Fin 64)
      (by show ((b.val * 2048 + l.val) * 512 + j.val) / 1048576 = b.val; omega)
      (by show ((b.val * 2048 + l.val) * 512 + j.val) / 512 % 2048 = l.val; omega)
      (by show ((b.val * 2048 + l.val) * 512 + j.val) / 64 % 8 = j.val / 64; omega)
      (by show ((b.val * 2048 + l.val) * 512 + j.val) % 64 = j.val % 64; omega)]
  generalize hk : (⟨j.val / 64, by omega⟩ : Fin 8) = k
  generalize hd : (⟨j.val % 64, by omega⟩ : Fin 64) = d
  have hkv : k.val = j.val / 64 := by rw [← hk]
  have hdv : d.val = j.val % 64 := by rw [← hd]
  have hkl := k.isLt; have hdl := d.isLt
  rw [val_main_v65_apply, val_main_v64_apply,
    eq_i4 (idx_main_v64 (idx_main_v65 (ix4 b l k d))) b l (⟨k.val / 2, by omega⟩ : Fin 4) d
      (by show (((b.val * 2048 + l.val) * 8 + k.val) * 64 + d.val) / 1048576 = b.val; omega)
      (by show (((b.val * 2048 + l.val) * 8 + k.val) * 64 + d.val) / 512 % 2048 = l.val; omega)
      (by show (((b.val * 2048 + l.val) * 8 + k.val) * 64 + d.val) / 128 % 4 = k.val / 2; omega)
      (by show (((b.val * 2048 + l.val) * 8 + k.val) * 64 + d.val) % 64 = d.val; omega),
    val_main_v63_apply]
  generalize hn : (⟨k.val / 2, by omega⟩ : Fin 4) = n
  have hnv : n.val = k.val / 2 := by rw [← hn]
  have hnl := n.isLt
  rw [Cert.FfnValue.eq_ix3 (idx_main_v63 (ix4 b l n d)) b l (⟨64 * n.val + d.val, by omega⟩ : Fin 256)
      (by show (((b.val * 2048 + l.val) * 4 + n.val) * 64 + d.val) / 524288 = b.val; omega)
      (by show (((b.val * 2048 + l.val) * 4 + n.val) * 64 + d.val) / 256 % 2048 = l.val; omega)
      (by show (((b.val * 2048 + l.val) * 4 + n.val) * 64 + d.val) % 256 = 64 * n.val + d.val; omega), ref_k256]
  show ropeA C S (colN X M W B b l 1024) l (64 * n.val + d.val) = ropeA C S (colN X M W B b l 1024) l (64 * (j.val / 64 / 2) + j.val % 64)
  rw [hnv, hdv, hkv]

/-! ## The values -/

/-- The reference's values. -/
theorem ref_V : val_main_v75 (F := Ideal) X M W B = vA X M W B := by
  funext i
  obtain ⟨b, t, j, r, rfl⟩ : ∃ (b : Fin 16) (t : Fin 16) (j : Fin 512) (r : Fin 128), i = ix4 b t j r := ⟨i 0, i 1, i 2, i 3, eq_i4 i _ _ _ _ rfl rfl rfl rfl⟩
  have hj := j.isLt; have ht := t.isLt; have hr := r.isLt
  rw [val_main_v75_apply, val_main_v72_apply, val_main_v71_apply]
  generalize hl : (⟨t.val * 128 + r.val, by omega⟩ : Fin 2048) = l
  have hlv : l.val = t.val * 128 + r.val := by rw [← hl]
  rw [Cert.FfnValue.eq_ix3 (idx_main_v71 (idx_main_v72 (ix4 b t j r))) b l j
      (by show (((b.val * 16 + t.val) * 128 + r.val) * 512 + j.val) / 1048576 = b.val; omega)
      (by show (((b.val * 16 + t.val) * 128 + r.val) * 512 + j.val) / 512 % 2048 = l.val; omega)
      (by show (((b.val * 16 + t.val) * 128 + r.val) * 512 + j.val) % 512 = j.val; omega),
    val_main_v70_apply,
    eq_i4 (idx_main_v70 (ix3 b l j)) b l (⟨j.val / 64, by omega⟩ : Fin 8) (⟨j.val % 64, by omega⟩ : Fin 64)
      (by show ((b.val * 2048 + l.val) * 512 + j.val) / 1048576 = b.val; omega)
      (by show ((b.val * 2048 + l.val) * 512 + j.val) / 512 % 2048 = l.val; omega)
      (by show ((b.val * 2048 + l.val) * 512 + j.val) / 64 % 8 = j.val / 64; omega)
      (by show ((b.val * 2048 + l.val) * 512 + j.val) % 64 = j.val % 64; omega)]
  generalize hk : (⟨j.val / 64, by omega⟩ : Fin 8) = k
  generalize hd : (⟨j.val % 64, by omega⟩ : Fin 64) = d
  have hkv : k.val = j.val / 64 := by rw [← hk]
  have hdv : d.val = j.val % 64 := by rw [← hd]
  have hkl := k.isLt; have hdl := d.isLt
  rw [val_main_v69_apply, val_main_v68_apply,
    eq_i4 (idx_main_v68 (idx_main_v69 (ix4 b l k d))) b l (⟨k.val / 2, by omega⟩ : Fin 4) d
      (by show (((b.val * 2048 + l.val) * 8 + k.val) * 64 + d.val) / 1048576 = b.val; omega)
      (by show (((b.val * 2048 + l.val) * 8 + k.val) * 64 + d.val) / 512 % 2048 = l.val; omega)
      (by show (((b.val * 2048 + l.val) * 8 + k.val) * 64 + d.val) / 128 % 4 = k.val / 2; omega)
      (by show (((b.val * 2048 + l.val) * 8 + k.val) * 64 + d.val) % 64 = d.val; omega),
    val_main_v67_apply, val_main_v18_apply]
  generalize hn : (⟨k.val / 2, by omega⟩ : Fin 4) = n
  have hnv : n.val = k.val / 2 := by rw [← hn]
  have hnl := n.isLt
  rw [Cert.FfnValue.eq_ix3 (idx_main_v18 (idx_main_v67 (ix4 b l n d))) b l (⟨1280 + (64 * n.val + d.val), by omega⟩ : Fin 1536)
      (by show (((b.val * 2048 + l.val) * 4 + n.val) * 64 + d.val) / 524288 = b.val; omega)
      (by show (((b.val * 2048 + l.val) * 4 + n.val) * 64 + d.val) / 256 % 2048 = l.val; omega)
      (by show 1280 + (((b.val * 2048 + l.val) * 4 + n.val) * 64 + d.val) % 256 = 1280 + (64 * n.val + d.val); omega),
    ref_colN X M W B b l 1280 (64 * n.val + d.val) _ rfl]
  rw [hnv, hdv, hkv, ← hl]
  rfl

end Cert.QkvValue
end
-- ==== Proof.QkvClaim.lean ====
module

public import proofs.«01_k».proof.Defs
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal
public import proofs.«01_k».proof.Proof.QkvRefValue

/-! The claims of the query, key and value projection. -/

@[expose] public section

set_option maxRecDepth 16384

noncomputable section

open Idealize.ShloMosaic Idealize.ShloMosaic.TcCoe Idealize.SL.Sem

namespace Cert.QkvValue

theorem frame_qkv : Cert.quiescent_Qkv := fun m ρ _ => Cert.Qkv.Gen.frame m ρ

theorem frame_qkvIdeal : Cert.quiescent_QkvIdeal := fun m ρ _ => Cert.QkvIdeal.Gen.frame m ρ

theorem frame_qkvRef : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The kernel's three arrays are the reference's, from arguments that agree. -/
theorem algebraic : Cert.algebraic_QkvIdeal_QkvRefIdeal := by
  intro m ρ m' ρ' _ hagree
  refine ⟨fun c => resultQ m c, fun c => resultK m c, fun c => resultV m c, ?_, ?_⟩
  · refine (θ_run Cert.QkvIdeal.defs _ _).mono (fun _ h c => ?_) (Cert.QkvIdeal.Value.run_blocks m ρ)
    exact ⟨(h c).1.trans (finalQ m c), (h c).2.1.trans (finalK m c), (h c).2.2.1.trans (finalV m c), (h c).2.2.2⟩
  · refine (θ_run Cert.QkvRefIdeal.defs _ _).mono (fun _ h c => ?_) (Cert.QkvRefIdeal.Value.run (F := Ideal) m' ρ')
    refine ⟨(h c).1.trans ((Cert.QkvRefIdeal.Read.val_main_v73_eq m' c).trans ?_),
      (h c).2.1.trans ((Cert.QkvRefIdeal.Read.val_main_v74_eq m' c).trans ?_),
      (h c).2.2.1.trans ((Cert.QkvRefIdeal.Read.val_main_v75_eq _ _ _ _).trans ?_), (h c).2.2.2⟩
    · obtain ⟨e0, e1, e2, e3, e4, e5⟩ := hagree c
      rw [e0, e1, e2, e3, e4, e5]; exact ref_Q _ _ _ _ _ _
    · obtain ⟨e0, e1, e2, e3, e4, e5⟩ := hagree c
      rw [e0, e1, e2, e3, e4, e5]; exact ref_K _ _ _ _ _ _
    · obtain ⟨e0, e1, e2, e3, _, _⟩ := hagree c
      rw [e0, e1, e2, e3]; exact ref_V _ _ _ _

end Cert.QkvValue
end
-- ==== Proof.KvCtxValue.lean ====
module

public import proofs.«01_k».proof.Proof.Gen.KvCtxIdeal.Value
public import proofs.«01_k».proof.Proof.Gen.KvCtxRefIdeal.Read
public import proofs.«01_k».proof.Proof.QkvRefValue
public import Idealize.ShloMosaic.Lib.StableHlo.Run

/-! The context's keys and values: what each grid point leaves in its blocks, the two result arrays, and the reference at an entry. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.KvCtxValue

open Cert.KvCtxIdeal Cert.KvCtxIdeal.Gen

/-! ## One grid point -/

/-- A column of the projection of a modulated row of the context. -/
def colAt (x0 : Vec Ideal S1x256x1024 .f32) (x1 : Vec Ideal S1x9x1024 .f32) (x2 : Vec Ideal S1024x512 .bf16) (x3 : Vec Ideal S1x512 .f32)
    (r : Fin 256) (j : Fin 512) : EReal :=
  (∑ k : Fin 1024, (x0 (ix3 0 r k) * (1 + x1 (ix3 0 4 k)) + x1 (ix3 0 3 k)) * x2 (ix2 k j)) + x3 (ix2 0 j)

theorem cols_apply (x : Vec Ideal S1x256x1024 .f32) (s c : Vec Ideal S1x1x1024 .f32) (w : Vec Ideal S1024x512 .bf16) (b : Vec Ideal S1x512 .f32)
    (r : Fin 256) (j : Fin 512) :
    k0_pay2 x s c w b (ix2 r j) = (∑ k : Fin 1024, (x (ix3 0 r k) * (1 + c (ix3 0 0 k)) + s (ix3 0 0 k)) * w (ix2 k j)) + b (ix2 0 j) := by
  unfold_payloads
  pointwise

theorem cols_eq (x0 : Vec Ideal S1x256x1024 .f32) (x1 : Vec Ideal S1x9x1024 .f32) (x2 : Vec Ideal S1024x512 .bf16) (x3 : Vec Ideal S1x512 .f32)
    (r : Fin 256) (j : Fin 512) :
    k0_pay2 (View.ld x0 r0_0) (View.ld x1 r0_1) (View.ld x1 r0_2) (View.ld x2 r0_3) (View.ld x3 r0_4) (ix2 r j) = colAt x0 x1 x2 x3 r j := by
  rw [cols_apply, View.ld_unit_zero (S := S1024x512) Cert.FfnValue.hz2, View.ld_unit_zero (S := S1x512) Cert.FfnValue.hz2]
  unfold colAt
  have h3 : ∀ k : Fin 1024, View.ld x1 r0_1 (ix3 0 0 k) = x1 (ix3 0 3 k) := fun k => Cert.FfnValue.ld3_apply x1 3 0 _ 0 k 3 k rfl (by omega)
  have h4 : ∀ k : Fin 1024, View.ld x1 r0_2 (ix3 0 0 k) = x1 (ix3 0 4 k) := fun k => Cert.FfnValue.ld3_apply x1 4 0 _ 0 k 4 k rfl (by omega)
  have h0 : ∀ k : Fin 1024, View.ld x0 r0_0 (ix3 0 r k) = x0 (ix3 0 r k) := fun k => Cert.FfnValue.ld3_apply x0 0 0 _ r k r k (by omega) (by omega)
  simp only [h0, h3, h4]

/-- Four heads of 64 columns, each twice. -/
def twice (u : FVec Ideal S256x256 .f32) : Fin 8 → FVec Ideal S256x64 .f32 := fun n => match n with
  | ⟨0, _⟩ => extractStridedSlice S256x64 ![0, 0] u slices_S256x256_o0_0_S256x64
  | ⟨1, _⟩ => extractStridedSlice S256x64 ![0, 0] u slices_S256x256_o0_0_S256x64
  | ⟨2, _⟩ => extractStridedSlice S256x64 ![0, 64] u slices_S256x256_o0_64_S256x64
  | ⟨3, _⟩ => extractStridedSlice S256x64 ![0, 64] u slices_S256x256_o0_64_S256x64
  | ⟨4, _⟩ => extractStridedSlice S256x64 ![0, 128] u slices_S256x256_o0_128_S256x64
  | ⟨5, _⟩ => extractStridedSlice S256x64 ![0, 128] u slices_S256x256_o0_128_S256x64
  | ⟨6, _⟩ => extractStridedSlice S256x64 ![0, 192] u slices_S256x256_o0_192_S256x64
  | ⟨7, _⟩ => extractStridedSlice S256x64 ![0, 192] u slices_S256x256_o0_192_S256x64

theorem twice_apply (u : FVec Ideal S256x256 .f32) (n : Fin 8) (r : Fin 256) (d : Fin 64) :
    twice u n (ix2 r d) = u (ix2 r ⟨64 * (n.val / 2) + d.val, by omega⟩) := by
  match n with
  | ⟨0, _⟩ => exact Cert.QkvValue.cut_apply 0 u slices_S256x256_o0_0_S256x64 r d _ (by show 64 * (0 / 2) + d.val = _; omega)
  | ⟨1, _⟩ => exact Cert.QkvValue.cut_apply 0 u slices_S256x256_o0_0_S256x64 r d _ (by show 64 * (1 / 2) + d.val = _; omega)
  | ⟨2, _⟩ => exact Cert.QkvValue.cut_apply 64 u slices_S256x256_o0_64_S256x64 r d _ (by show 64 * (2 / 2) + d.val = _; omega)
  | ⟨3, _⟩ => exact Cert.QkvValue.cut_apply 64 u slices_S256x256_o0_64_S256x64 r d _ (by show 64 * (3 / 2) + d.val = _; omega)
  | ⟨4, _⟩ => exact Cert.QkvValue.cut_apply 128 u slices_S256x256_o0_128_S256x64 r d _ (by show 64 * (4 / 2) + d.val = _; omega)
  | ⟨5, _⟩ => exact Cert.QkvValue.cut_apply 128 u slices_S256x256_o0_128_S256x64 r d _ (by show 64 * (5 / 2) + d.val = _; omega)
  | ⟨6, _⟩ => exact Cert.QkvValue.cut_apply 192 u slices_S256x256_o0_192_S256x64 r d _ (by show 64 * (6 / 2) + d.val = _; omega)
  | ⟨7, _⟩ => exact Cert.QkvValue.cut_apply 192 u slices_S256x256_o0_192_S256x64 r d _ (by show 64 * (7 / 2) + d.val = _; omega)

section Heads
variable (P0 : Vec Ideal S1x256x1024 .f32) (P1 P2 : Vec Ideal S1x1x1024 .f32) (P3 : Vec Ideal S1024x512 .bf16) (P4 : Vec Ideal S1x512 .f32)

/-- The operands of the stored keys' concatenation are the heads, each twice; so are the values'. -/
theorem heads_eq4 (n : Fin 8) : Cert.KvCtxIdeal.Value.Cat4_0 P0 P1 P2 P3 P4 n
    = twice (extractStridedSlice (s := S256x512) S256x256 ![0, 0] (k0_pay2 P0 P1 P2 P3 P4) slices_S256x512_o0_0_S256x256) n := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem heads_eq5 (n : Fin 8) : Cert.KvCtxIdeal.Value.Cat5_0 P0 P1 P2 P3 P4 n
    = twice (extractStridedSlice (s := S256x512) S256x256 ![0, 256] (k0_pay2 P0 P1 P2 P3 P4) slices_S256x512_o0_256_S256x256) n := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Heads

theorem heads_ix4 (r : Fin 256) (j : Fin 512) : Cert.KvCtxIdeal.Value.ix4_0 (ix3 0 r j) = ix2 r (⟨j.val % 64, by omega⟩ : Fin 64) := by
  refine funext fun q => ?_
  match q with
  | ⟨0, _⟩ => rfl
  | ⟨1, _⟩ => rfl

theorem heads_ix5 (j : Fin 512) (r : Fin 256) : Cert.KvCtxIdeal.Value.ix5_0 (ix3 0 j r) = ix2 r (⟨j.val % 64, by omega⟩ : Fin 64) := by
  refine funext fun q => ?_
  match q with
  | ⟨0, _⟩ => rfl
  | ⟨1, _⟩ => rfl

theorem keys_apply (x0 : Vec Ideal S1x256x1024 .f32) (x1 : Vec Ideal S1x9x1024 .f32) (x2 : Vec Ideal S1024x512 .bf16) (x3 : Vec Ideal S1x512 .f32)
    (r : Fin 256) (j : Fin 512) :
    out0_4 x0 x1 x2 x3 (ix3 0 r j) = colAt x0 x1 x2 x3 r ⟨64 * (j.val / 64 / 2) + j.val % 64, by omega⟩ := by
  unfold out0_4
  rw [Cert.KvCtxIdeal.Value.canon4_eq]
  show Cert.KvCtxIdeal.Value.Cat4_0 (View.ld x0 r0_0) (View.ld x1 r0_1) (View.ld x1 r0_2) (View.ld x2 r0_3) (View.ld x3 r0_4) (⟨j.val / 64, by omega⟩ : Fin 8)
    (Cert.KvCtxIdeal.Value.ix4_0 (ix3 0 r j)) = _
  rw [heads_eq4, heads_ix4, twice_apply]
  exact (Cert.QkvValue.cut_apply 0 _ _ _ _ (⟨64 * (j.val / 64 / 2) + j.val % 64, by omega⟩ : Fin 512) (by
    show 64 * (j.val / 64 / 2) + j.val % 64 = 0 + (64 * (j.val / 64 / 2) + j.val % 64); omega)).trans (cols_eq x0 x1 x2 x3 _ _)

theorem values_apply (x0 : Vec Ideal S1x256x1024 .f32) (x1 : Vec Ideal S1x9x1024 .f32) (x2 : Vec Ideal S1024x512 .bf16) (x3 : Vec Ideal S1x512 .f32)
    (j : Fin 512) (r : Fin 256) :
    out0_5 x0 x1 x2 x3 (ix3 0 j r) = colAt x0 x1 x2 x3 r ⟨256 + (64 * (j.val / 64 / 2) + j.val % 64), by omega⟩ := by
  unfold out0_5
  rw [Cert.KvCtxIdeal.Value.canon5_eq]
  show Cert.KvCtxIdeal.Value.Cat5_0 (View.ld x0 r0_0) (View.ld x1 r0_1) (View.ld x1 r0_2) (View.ld x2 r0_3) (View.ld x3 r0_4) (⟨j.val / 64, by omega⟩ : Fin 8)
    (Cert.KvCtxIdeal.Value.ix5_0 (ix3 0 j r)) = _
  rw [heads_eq5, heads_ix5, twice_apply]
  exact (Cert.QkvValue.cut_apply 256 _ _ _ _ (⟨256 + (64 * (j.val / 64 / 2) + j.val % 64), by omega⟩ : Fin 512) rfl).trans (cols_eq x0 x1 x2 x3 _ _)

/-! ## Where each block sits -/

variable (m : (ℓ : Loc nD τ sig) → Buf (Elt Ideal) ℓ)

theorem idx0 : ∀ t : Fin cfg0.N, win0_0.index t 0 = t.val ∧ win0_0.index t 1 = 0 ∧ win0_0.index t 2 = 0 := by decide +kernel
theorem idx1 : ∀ t : Fin cfg0.N, win0_1.index t 0 = 0 ∧ win0_1.index t 1 = 0 ∧ win0_1.index t 2 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 ∧ win0_4.index t 2 = 0 := by decide +kernel
theorem idx5 : ∀ t : Fin cfg0.N, win0_5.index t 0 = t.val ∧ win0_5.index t 1 = 0 ∧ win0_5.index t 2 = 0 := by decide +kernel
theorem flush4 : ∀ t : Fin cfg0.N, (cfg0.win 4).flush t = true := by decide +kernel
theorem flush5 : ∀ t : Fin cfg0.N, (cfg0.win 5).flush t = true := by decide +kernel

/-- The batch of a point. -/
abbrev bOf (t : Fin cfg0.N) : Fin 16 := ⟨t.val, lt_of_lt_of_eq t.isLt (show cfg0.N = 16 from N_0)⟩

theorem V_w (c : Dev nD) (k : Fin 1024) (j : Fin 512) :
    V m c main_v1 (ix2 k j) = (m ((c : Thread nD τ).loc main_arg2) : Vec Ideal S1024x1536 .f32) (ix2 k ⟨1024 + j.val, by omega⟩) := by
  have e : V m c main_v1 = extractStridedSlice S1024x512 ![0, 1024] (m ((c : Thread nD τ).loc main_arg2) : FVec Ideal S1024x1536 .f32)
      slices_S1024x1536_S1024x512_0_1024 := by
    show StableHlo.after hostOps0 _ _ = _
    after_results
    rfl
  rw [e]
  exact Cert.QkvValue.cut_apply 1024 _ _ k j _ rfl

theorem V_b (c : Dev nD) (j : Fin 512) :
    V m c main_v3 (ix2 0 j) = (m ((c : Thread nD τ).loc main_arg3) : Vec Ideal S1536 .f32) (ix1 ⟨1024 + j.val, by omega⟩) := by
  have e : V m c main_v3 = shapeCast S1x512 (extractStridedSlice S512 ![1024] (m ((c : Thread nD τ).loc main_arg3) : Vec Ideal S1536 .f32)
      slices_S1536_S512_1024) shapeCasts_S512_S1x512 := by
    show StableHlo.after hostOps0 _ _ = _
    after_results
    rfl
  rw [e]
  refine (shapeCast_apply _ _ (ix2 0 j) (ix1 j) ?_).trans (extractStridedSlice_apply _ _ _ _ _ fun a => by
    match a with
    | ⟨0, _⟩ => rfl)
  rw [Shape.rowMajor_val_one, Shape.rowMajor_val_two]
  show j.val = 0 * 512 + j.val
  omega

theorem blk0 (c : Dev nD) (t : Fin cfg0.N) (r : Fin 256) (k : Fin 1024) :
    (iblk m c 0 t : Vec Ideal S1x256x1024 .f32) (ix3 0 r k)
      = (m ((c : Thread nD τ).loc main_arg0) : Vec Ideal S16x256x1024 .f32) (ix3 (bOf t) r k) := by
  unfold iblk
  rw [View.read_apply]
  show V m c main_arg0 _ = _
  rw [V_main_arg0]
  refine congrArg (m ((c : Thread nD τ).loc main_arg0) : Vec Ideal S16x256x1024 .f32) (funext fun a => Fin.ext ?_)
  match a with
  | ⟨0, _⟩ => show win0_0.index t 0 * 1 + 1 * 0 = t.val; rw [(idx0 t).1]; omega
  | ⟨1, _⟩ => show win0_0.index t 1 * 256 + 1 * r.val = r.val; rw [(idx0 t).2.1]; omega
  | ⟨2, _⟩ => show win0_0.index t 2 * 1024 + 1 * k.val = k.val; rw [(idx0 t).2.2]; omega

theorem blk1 (c : Dev nD) (t : Fin cfg0.N) (q : Fin 9) (k : Fin 1024) :
    (iblk m c 1 t : Vec Ideal S1x9x1024 .f32) (ix3 0 q k) = (m ((c : Thread nD τ).loc main_arg1) : Vec Ideal S1x9x1024 .f32) (ix3 0 q k) := by
  unfold iblk
  rw [View.read_apply]
  show V m c main_arg1 _ = _
  rw [V_main_arg1]
  refine congrArg (m ((c : Thread nD τ).loc main_arg1) : Vec Ideal S1x9x1024 .f32) (funext fun a => Fin.ext ?_)
  match a with
  | ⟨0, _⟩ => show win0_1.index t 0 * 1 + 1 * 0 = 0; rw [(idx1 t).1]
  | ⟨1, _⟩ => show win0_1.index t 1 * 9 + 1 * q.val = q.val; rw [(idx1 t).2.1]; omega
  | ⟨2, _⟩ => show win0_1.index t 2 * 1024 + 1 * k.val = k.val; rw [(idx1 t).2.2]; omega

theorem blk2 (c : Dev nD) (t : Fin cfg0.N) (k : Fin 1024) (j : Fin 512) :
    (iblk m c 2 t : Vec Ideal S1024x512 .bf16) (ix2 k j)
      = (m ((c : Thread nD τ).loc main_arg2) : Vec Ideal S1024x1536 .f32) (ix2 k ⟨1024 + j.val, by omega⟩) := by
  rw [← V_w m c k j]
  unfold iblk
  rw [View.read_apply]
  show V m c main_v1 _ = _
  refine congrArg (V m c main_v1) (funext fun a => Fin.ext ?_)
  match a with
  | ⟨0, _⟩ => show win0_2.index t 0 * 1024 + 1 * k.val = k.val; rw [(idx2 t).1]; omega
  | ⟨1, _⟩ => show win0_2.index t 1 * 512 + 1 * j.val = j.val; rw [(idx2 t).2]; omega

theorem blk3 (c : Dev nD) (t : Fin cfg0.N) (j : Fin 512) :
    (iblk m c 3 t : Vec Ideal S1x512 .f32) (ix2 0 j) = (m ((c : Thread nD τ).loc main_arg3) : Vec Ideal S1536 .f32) (ix1 ⟨1024 + j.val, by omega⟩) := by
  rw [← V_b m c j]
  unfold iblk
  rw [View.read_apply]
  show V m c main_v3 _ = _
  refine congrArg (V m c main_v3) (funext fun a => Fin.ext ?_)
  match a with
  | ⟨0, _⟩ => show win0_3.index t 0 * 1 + 1 * 0 = 0; rw [(idx3 t).1]
  | ⟨1, _⟩ => show win0_3.index t 1 * 512 + 1 * j.val = j.val; rw [(idx3 t).2]; omega

/-! ## The results over the four arrays -/

section Spec
variable (X : Vec Ideal S16x256x1024 .f32) (M : Vec Ideal S1x9x1024 .f32) (W : Vec Ideal S1024x1536 .f32) (B : Vec Ideal S1536 .f32)

/-- Column `1024 + j` of the projection of the modulated context. -/
def colA (b : Fin 16) (l : Fin 256) (j : Fin 512) : EReal :=
  (∑ k : Fin 1024, (X (ix3 b l k) * (1 + M (ix3 0 4 k)) + M (ix3 0 3 k)) * W (ix2 k ⟨1024 + j.val, by omega⟩)) + B (ix1 ⟨1024 + j.val, by omega⟩)

/-- The column of four heads under column `j` of the heads laid twice. -/
def head (j : Fin 512) : Fin 256 := ⟨64 * (j.val / 64 / 2) + j.val % 64, by omega⟩

/-- The context's keys, each head twice. -/
def kA : Vec Ideal S16x256x512 .bf16 := fun i => colA X M W B (i 0) (i 1) ⟨(head (i 2)).val, by have h := (head (i 2)).isLt; omega⟩

/-- The context's values, each head twice, columns first. -/
def vA : Vec Ideal S16x512x256 .bf16 := fun i => colA X M W B (i 0) (i 2) ⟨256 + (head (i 1)).val, by have h := (head (i 1)).isLt; omega⟩

end Spec

theorem colAt_eq (c : Dev nD) (t : Fin cfg0.N) (r : Fin 256) (j : Fin 512) :
    colAt (iblk m c 0 t) (iblk m c 1 t) (iblk m c 2 t) (iblk m c 3 t) r j
      = colA (m ((c : Thread nD τ).loc main_arg0)) (m ((c : Thread nD τ).loc main_arg1)) (m ((c : Thread nD τ).loc main_arg2))
          (m ((c : Thread nD τ).loc main_arg3)) (bOf t) r j := by
  unfold colAt colA
  exact congrArg₂ (· + ·) (Finset.sum_congr rfl fun k _ => congrArg₂ (· * ·) (congrArg₂ (· + ·)
    (congrArg₂ (· * ·) (blk0 m c t r k) (congrArg (1 + ·) (blk1 m c t 4 k))) (blk1 m c t 3 k)) (blk2 m c t k j)) (blk3 m c t j)

/-- The keys' array, over the arguments as launched. -/
abbrev resultK (c : Dev nD) : Vec Ideal S16x256x512 .bf16 :=
  kA (m ((c : Thread nD τ).loc main_arg0)) (m ((c : Thread nD τ).loc main_arg1)) (m ((c : Thread nD τ).loc main_arg2)) (m ((c : Thread nD τ).loc main_arg3))

/-- The values' array, over the arguments as launched. -/
abbrev resultV (c : Dev nD) : Vec Ideal S16x512x256 .bf16 :=
  vA (m ((c : Thread nD τ).loc main_arg0)) (m ((c : Thread nD τ).loc main_arg1)) (m ((c : Thread nD τ).loc main_arg2)) (m ((c : Thread nD τ).loc main_arg3))

theorem flushedK (c : Dev nD) (t : Fin cfg0.N) (hf : (cfg0.win 4).flush t = true) :
    (dats m 0 c).flushed 4 t = ((cfg0.win 4).blk t).view.read (Elt Ideal) (resultK m c) := by
  rw [Cert.KvCtxIdeal.Value.flushed4]
  refine funext fun y => ?_
  show out0_4 (iblk m c 0 t) (iblk m c 1 t) (iblk m c 2 t) (iblk m c 3 t) y = resultK m c (((cfg0.win 4).blk t).view.emb y)
  obtain ⟨r, j, rfl⟩ : ∃ (r : Fin 256) (j : Fin 512), y = ix3 0 r j :=
    ⟨y 1, y 2, (eq_ix3 y).trans (by congr 1; exact Fin.ext (by have h : (y 0).val < 1 := (y 0).isLt; show (y 0).val = 0; omega))⟩
  have ei : ((cfg0.win 4).blk t).view.emb (ix3 0 r j) = ix3 (bOf t) r j := funext fun a => Fin.ext (by
    match a with
    | ⟨0, _⟩ => show win0_4.index t 0 * 1 + 1 * 0 = t.val; rw [(idx4 t).1]; omega
    | ⟨1, _⟩ => show win0_4.index t 1 * 256 + 1 * r.val = r.val; rw [(idx4 t).2.1]; omega
    | ⟨2, _⟩ => show win0_4.index t 2 * 512 + 1 * j.val = j.val; rw [(idx4 t).2.2]; omega)
  exact (keys_apply _ _ _ _ r j).trans ((colAt_eq m c t r _).trans (congrArg (resultK m c) ei).symm)

theorem flushedV (c : Dev nD) (t : Fin cfg0.N) (hf : (cfg0.win 5).flush t = true) :
    (dats m 0 c).flushed 5 t = ((cfg0.win 5).blk t).view.read (Elt Ideal) (resultV m c) := by
  rw [Cert.KvCtxIdeal.Value.flushed5]
  refine funext fun y => ?_
  show out0_5 (iblk m c 0 t) (iblk m c 1 t) (iblk m c 2 t) (iblk m c 3 t) y = resultV m c (((cfg0.win 5).blk t).view.emb y)
  obtain ⟨j, r, rfl⟩ : ∃ (j : Fin 512) (r : Fin 256), y = ix3 0 j r :=
    ⟨y 1, y 2, (eq_ix3 y).trans (by congr 1; exact Fin.ext (by have h : (y 0).val < 1 := (y 0).isLt; show (y 0).val = 0; omega))⟩
  have ei : ((cfg0.win 5).blk t).view.emb (ix3 0 j r) = ix3 (bOf t) j r := funext fun a => Fin.ext (by
    match a with
    | ⟨0, _⟩ => show win0_5.index t 0 * 1 + 1 * 0 = t.val; rw [(idx5 t).1]; omega
    | ⟨1, _⟩ => show win0_5.index t 1 * 512 + 1 * j.val = j.val; rw [(idx5 t).2.1]; omega
    | ⟨2, _⟩ => show win0_5.index t 2 * 256 + 1 * r.val = r.val; rw [(idx5 t).2.2]; omega)
  exact (values_apply _ _ _ _ j r).trans ((colAt_eq m c t r _).trans (congrArg (resultV m c) ei).symm)

/-- The keys written back cover their array. -/
theorem finalK (c : Dev nD) : (dats m 0 c).arrAt 4 cfg0.N = resultK m c :=
  (dats m 0 c).arrAt_eq_of_cover 4 (resultK m c) (flushedK m c) fun i => by
    have h0 : (i 0 : Nat) < 16 := (i 0).isLt
    have h1 : (i 1 : Nat) < 256 := (i 1).isLt
    have h2 : (i 2 : Nat) < 512 := (i 2).isLt
    have hN : cfg0.N = 16 := N_0
    refine ⟨⟨(i 0).val, by omega⟩, flush4 _, ?_⟩
    generalize ht : (⟨(i 0).val, by omega⟩ : Fin cfg0.N) = t
    have htv : t.val = (i 0).val := by rw [← ht]
    show i ∈ ((View.whole main_v4_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [(idx4 t).1]; omega
    | ⟨1, _⟩ => show win0_4.index t 1 * 256 ≤ (i 1 : Nat) ∧ (i 1 : Nat) < win0_4.index t 1 * 256 + 256
                rw [(idx4 t).2.1]; omega
    | ⟨2, _⟩ => show win0_4.index t 2 * 512 ≤ (i 2 : Nat) ∧ (i 2 : Nat) < win0_4.index t 2 * 512 + 512
                rw [(idx4 t).2.2]; omega

/-- The values written back cover their array. -/
theorem finalV (c : Dev nD) : (dats m 0 c).arrAt 5 cfg0.N = resultV m c :=
  (dats m 0 c).arrAt_eq_of_cover 5 (resultV m c) (flushedV m c) fun i => by
    have h0 : (i 0 : Nat) < 16 := (i 0).isLt
    have h1 : (i 1 : Nat) < 512 := (i 1).isLt
    have h2 : (i 2 : Nat) < 256 := (i 2).isLt
    have hN : cfg0.N = 16 := N_0
    refine ⟨⟨(i 0).val, by omega⟩, flush5 _, ?_⟩
    generalize ht : (⟨(i 0).val, by omega⟩ : Fin cfg0.N) = t
    have htv : t.val = (i 0).val := by rw [← ht]
    show i ∈ ((View.whole main_v4_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [(idx5 t).1]; omega
    | ⟨1, _⟩ => show win0_5.index t 1 * 512 ≤ (i 1 : Nat) ∧ (i 1 : Nat) < win0_5.index t 1 * 512 + 512
                rw [(idx5 t).2.1]; omega
    | ⟨2, _⟩ => show win0_5.index t 2 * 256 ≤ (i 2 : Nat) ∧ (i 2 : Nat) < win0_5.index t 2 * 256 + 256
                rw [(idx5 t).2.2]; omega

/-! ## The reference -/

section Ref
open Cert.KvCtxRefIdeal.Read
open Cert.QkvValue (eq_i4 eq_i5)
variable (X : Vec Ideal S16x256x1024 .f32) (M : Vec Ideal S1x9x1024 .f32) (W : Vec Ideal S1024x1536 .f32) (B : Vec Ideal S1536 .f32)

theorem ref_scale (b : Fin 16) (l : Fin 256) (k : Fin 1024) : val_main_v5 (F := Ideal) M (ix3 b l k) = 1 + M (ix3 0 4 k) := by
  rw [val_main_v5_apply, val_main_v4_apply, val_main_v3_apply, val_main_cst_apply, val_main_v2_apply,
    val_main_v1_apply, val_main_v0_apply]
  refine congrArg₂ (· + ·) Ideal.ofBits_one_f32 (Cert.FfnValue.at3 M _ 0 4 k ?_ ?_ ?_)
  · rfl
  · rfl
  · show (0 * 1024 + k.val) % 1024 = k.val; omega

theorem ref_shift (b : Fin 16) (l : Fin 256) (k : Fin 1024) : val_main_v10 (F := Ideal) M (ix3 b l k) = M (ix3 0 3 k) := by
  rw [val_main_v10_apply, val_main_v9_apply, val_main_v8_apply, val_main_v7_apply]
  refine Cert.FfnValue.at3 M _ 0 3 k ?_ ?_ ?_
  · rfl
  · rfl
  · show (0 * 1024 + k.val) % 1024 = k.val; omega

theorem ref_bias (b : Fin 16) (l : Fin 256) (j : Fin 512) : val_main_v16 (F := Ideal) B (ix3 b l j) = B (ix1 ⟨1024 + j.val, by omega⟩) := by
  rw [val_main_v16_apply, val_main_v15_apply, val_main_v14_apply]
  refine congrArg B (funext fun q => Fin.ext ?_)
  match q with
  | ⟨0, _⟩ => rfl

theorem ref_col (b : Fin 16) (l : Fin 256) (j : Fin 512) : val_main_v17 (F := Ideal) X M W B (ix3 b l j) = colA X M W B b l j := by
  rw [val_main_v17_apply, ref_bias, val_main_v13_apply]
  refine congrArg (· + B (ix1 ⟨1024 + j.val, by omega⟩)) (Finset.sum_congr rfl fun k _ => ?_)
  rw [Cert.FfnValue.eq_ix3 (lidx_main_v13 (ix3 b l j) k) b l k rfl rfl rfl, Cert.FfnValue.eq_ix2 (ridx_main_v13 (ix3 b l j) k) k j rfl rfl,
    val_main_v11_apply, val_main_v6_apply, ref_scale, ref_shift, val_main_v12_apply,
    Cert.FfnValue.eq_ix2 (idx_main_v12 (ix2 k j)) k ⟨1024 + j.val, by omega⟩ rfl rfl]
  rfl

/-- The keys' head under a column of the doubled heads. -/
theorem ref_k (b : Fin 16) (l : Fin 256) (j : Fin 512) :
    val_main_v23 (F := Ideal) X M W B (ix3 b l j) = val_main_v18 (F := Ideal) X M W B (ix3 b l (head j)) := by
  have hj := j.isLt
  rw [val_main_v23_apply,
    eq_i4 (idx_main_v23 (ix3 b l j)) b l (⟨j.val / 64, by omega⟩ : Fin 8) (⟨j.val % 64, by omega⟩ : Fin 64)
      (by show ((b.val * 256 + l.val) * 512 + j.val) / 131072 = b.val; omega)
      (by show ((b.val * 256 + l.val) * 512 + j.val) / 512 % 256 = l.val; omega)
      (by show ((b.val * 256 + l.val) * 512 + j.val) / 64 % 8 = j.val / 64; omega)
      (by show ((b.val * 256 + l.val) * 512 + j.val) % 64 = j.val % 64; omega)]
  generalize hk : (⟨j.val / 64, by omega⟩ : Fin 8) = k
  generalize hd : (⟨j.val % 64, by omega⟩ : Fin 64) = d
  have hkv : k.val = j.val / 64 := by rw [← hk]
  have hdv : d.val = j.val % 64 := by rw [← hd]
  have hkl := k.isLt; have hdl := d.isLt
  rw [val_main_v22_apply, val_main_v21_apply,
    eq_i4 (idx_main_v21 (idx_main_v22 (ix4 b l k d))) b l (⟨k.val / 2, by omega⟩ : Fin 4) d
      (by show (((b.val * 256 + l.val) * 8 + k.val) * 64 + d.val) / 131072 = b.val; omega)
      (by show (((b.val * 256 + l.val) * 8 + k.val) * 64 + d.val) / 512 % 256 = l.val; omega)
      (by show (((b.val * 256 + l.val) * 8 + k.val) * 64 + d.val) / 128 % 4 = k.val / 2; omega)
      (by show (((b.val * 256 + l.val) * 8 + k.val) * 64 + d.val) % 64 = d.val; omega),
    val_main_v20_apply]
  generalize hn : (⟨k.val / 2, by omega⟩ : Fin 4) = n
  have hnv : n.val = k.val / 2 := by rw [← hn]
  have hnl := n.isLt
  exact congrArg (val_main_v18 (F := Ideal) X M W B) (Cert.FfnValue.eq_ix3 (idx_main_v20 (ix4 b l n d)) b l (head j)
      (by show (((b.val * 256 + l.val) * 4 + n.val) * 64 + d.val) / 65536 = b.val; omega)
      (by show (((b.val * 256 + l.val) * 4 + n.val) * 64 + d.val) / 256 % 256 = l.val; omega)
      (by show (((b.val * 256 + l.val) * 4 + n.val) * 64 + d.val) % 256 = 64 * (j.val / 64 / 2) + j.val % 64; omega))

/-- The values' head under a column of the doubled heads. -/
theorem ref_v (b : Fin 16) (l : Fin 256) (j : Fin 512) :
    val_main_v27 (F := Ideal) X M W B (ix3 b l j) = val_main_v19 (F := Ideal) X M W B (ix3 b l (head j)) := by
  have hj := j.isLt
  rw [val_main_v27_apply,
    eq_i4 (idx_main_v27 (ix3 b l j)) b l (⟨j.val / 64, by omega⟩ : Fin 8) (⟨j.val % 64, by omega⟩ : Fin 64)
      (by show ((b.val * 256 + l.val) * 512 + j.val) / 131072 = b.val; omega)
      (by show ((b.val * 256 + l.val) * 512 + j.val) / 512 % 256 = l.val; omega)
      (by show ((b.val * 256 + l.val) * 512 + j.val) / 64 % 8 = j.val / 64; omega)
      (by show ((b.val * 256 + l.val) * 512 + j.val) % 64 = j.val % 64; omega)]
  generalize hk : (⟨j.val / 64, by omega⟩ : Fin 8) = k
  generalize hd : (⟨j.val % 64, by omega⟩ : Fin 64) = d
  have hkv : k.val = j.val / 64 := by rw [← hk]
  have hdv : d.val = j.val % 64 := by rw [← hd]
  have hkl := k.isLt; have hdl := d.isLt
  rw [val_main_v26_apply, val_main_v25_apply,
    eq_i4 (idx_main_v25 (idx_main_v26 (ix4 b l k d))) b l (⟨k.val / 2, by omega⟩ : Fin 4) d
      (by show (((b.val * 256 + l.val) * 8 + k.val) * 64 + d.val) / 131072 = b.val; omega)
      (by show (((b.val * 256 + l.val) * 8 + k.val) * 64 + d.val) / 512 % 256 = l.val; omega)
      (by show (((b.val * 256 + l.val) * 8 + k.val) * 64 + d.val) / 128 % 4 = k.val / 2; omega)
      (by show (((b.val * 256 + l.val) * 8 + k.val) * 64 + d.val) % 64 = d.val; omega),
    val_main_v24_apply]
  generalize hn : (⟨k.val / 2, by omega⟩ : Fin 4) = n
  have hnv : n.val = k.val / 2 := by rw [← hn]
  have hnl := n.isLt
  exact congrArg (val_main_v19 (F := Ideal) X M W B) (Cert.FfnValue.eq_ix3 (idx_main_v24 (ix4 b l n d)) b l (head j)
      (by show (((b.val * 256 + l.val) * 4 + n.val) * 64 + d.val) / 65536 = b.val; omega)
      (by show (((b.val * 256 + l.val) * 4 + n.val) * 64 + d.val) / 256 % 256 = l.val; omega)
      (by show (((b.val * 256 + l.val) * 4 + n.val) * 64 + d.val) % 256 = 64 * (j.val / 64 / 2) + j.val % 64; omega))

/-- The reference's keys. -/
theorem ref_K : val_main_v28 (F := Ideal) X M W B = kA X M W B := by
  funext i
  obtain ⟨b, l, j, rfl⟩ : ∃ (b : Fin 16) (l : Fin 256) (j : Fin 512), i = ix3 b l j := ⟨i 0, i 1, i 2, Cert.FfnValue.eq_ix3 i _ _ _ rfl rfl rfl⟩
  have hh := (head j).isLt
  rw [val_main_v28_apply, ref_k, val_main_v18_apply,
    Cert.FfnValue.eq_ix3 (idx_main_v18 (ix3 b l (head j))) b l (⟨(head j).val, by omega⟩ : Fin 512) rfl rfl rfl, ref_col]
  rfl

/-- The reference's values. -/
theorem ref_V : val_main_v30 (F := Ideal) X M W B = vA X M W B := by
  funext i
  obtain ⟨b, j, l, rfl⟩ : ∃ (b : Fin 16) (j : Fin 512) (l : Fin 256), i = ix3 b j l := ⟨i 0, i 1, i 2, Cert.FfnValue.eq_ix3 i _ _ _ rfl rfl rfl⟩
  have hh := (head j).isLt
  rw [val_main_v30_apply, val_main_v29_apply, Cert.FfnValue.eq_ix3 (idx_main_v29 (ix3 b j l)) b l j rfl rfl rfl, ref_v, val_main_v19_apply,
    Cert.FfnValue.eq_ix3 (idx_main_v19 (ix3 b l (head j))) b l (⟨256 + (head j).val, by omega⟩ : Fin 512) rfl rfl rfl, ref_col]
  rfl

end Ref

end Cert.KvCtxValue
end
-- ==== Proof.KvCtxClaim.lean ====
module

public import proofs.«01_k».proof.Defs
public import proofs.«01_k».proof.Proof.Gen.KvCtx
public import proofs.«01_k».proof.Proof.Gen.KvCtx.Frame
public import proofs.«01_k».proof.Proof.Gen.KvCtxIdeal
public import proofs.«01_k».proof.Proof.Gen.KvCtxIdeal.Value
public import proofs.«01_k».proof.Proof.Gen.KvCtxRefIdeal
public import proofs.«01_k».proof.Proof.KvCtxValue

/-! The claims of the context's keys and values. -/

@[expose] public section

set_option maxRecDepth 16384

noncomputable section

open Idealize.ShloMosaic Idealize.ShloMosaic.TcCoe Idealize.SL.Sem

namespace Cert.KvCtxValue

theorem frame_kvCtx : Cert.quiescent_KvCtx := fun m ρ _ => Cert.KvCtx.Gen.frame m ρ

theorem frame_kvCtxIdeal : Cert.quiescent_KvCtxIdeal := fun m ρ _ => Cert.KvCtxIdeal.Gen.frame m ρ

theorem frame_kvCtxRef : Cert.quiescent_KvCtxRefIdeal := fun m ρ _ =>
  (θ_run Cert.KvCtxRefIdeal.defs _ _).mono (fun r h => ⟨fun c => (h c).2.2, sem_eq_zero_of_no_sems (by decide) r.2⟩)
    (Cert.KvCtxRefIdeal.Value.run (F := Ideal) m ρ)

/-- The kernel's two arrays are the reference's, from arguments that agree. -/
theorem algebraic : Cert.algebraic_KvCtxIdeal_KvCtxRefIdeal := by
  intro m ρ m' ρ' _ hagree
  refine ⟨fun c => resultK m c, fun c => resultV m c, ?_, ?_⟩
  · refine (θ_run Cert.KvCtxIdeal.defs _ _).mono (fun _ h c => ?_) (Cert.KvCtxIdeal.Value.run_blocks m ρ)
    exact ⟨(h c).1.trans (finalK m c), (h c).2.1.trans (finalV m c), (h c).2.2⟩
  · refine (θ_run Cert.KvCtxRefIdeal.defs _ _).mono (fun _ h c => ?_) (Cert.KvCtxRefIdeal.Value.run (F := Ideal) m' ρ')
    refine ⟨(h c).1.trans ((Cert.KvCtxRefIdeal.Read.val_main_v28_eq _ _ _ _).trans ?_),
      (h c).2.1.trans ((Cert.KvCtxRefIdeal.Read.val_main_v30_eq _ _ _ _).trans ?_), (h c).2.2⟩
    · obtain ⟨e0, e1, e2, e3⟩ := hagree c
      rw [e0, e1, e2, e3]; exact ref_K _ _ _ _
    · obtain ⟨e0, e1, e2, e3⟩ := hagree c
      rw [e0, e1, e2, e3]; exact ref_V _ _ _ _

end Cert.KvCtxValue
end
-- ==== Proof.ModValue.lean ====
module

public import proofs.«01_k».proof.Proof.Gen.ModIdeal.Value
public import proofs.«01_k».proof.Proof.Gen.ModRefIdeal.Read
public import proofs.«01_k».proof.Proof.FfnRefValue
public import Idealize.ShloMosaic.Lib.StableHlo.Run

/-! The modulation's result array, from the blocks its grid points write back, and its reference at an entry. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ModValue

open Cert.ModIdeal Cert.ModIdeal.Gen

/-- The swish function. -/
def swish (x : EReal) : EReal := x * Ideal.logistic x

/-- The modulation: rows passed through the swish function, times each layer's weights, plus its bias. -/
def modA (X : Vec Ideal S24x1024 .f32) (W : Vec Ideal S2x1024x9216 .f32) (B : Vec Ideal S2x9216 .f32) : Vec Ideal S2x24x9216 .f32 := fun i =>
  (∑ k : Fin 1024, swish (X (ix2 (i 1) k)) * W (ix3 (i 0) k (i 2))) + B (ix2 (i 0) (i 2))

/-! ## One grid point -/

theorem body_apply (x : Vec Ideal S24x1024 .f32) (w : Vec Ideal S1x1024x3072 .f32) (b : Vec Ideal S1x1x3072 .f32) (r : Fin 24) (j : Fin 3072) :
    k0_pay1 x w b (ix3 0 r j) = (∑ k : Fin 1024, x (ix2 r k) * Ideal.logistic (x (ix2 r k)) * w (ix3 0 k j)) + b (ix3 0 0 j) := by
  unfold_payloads
  pointwise

theorem out_apply (x : Vec Ideal S24x1024 .f32) (w : Vec Ideal S1x1024x3072 .f32) (b : Vec Ideal S1x1x3072 .f32) (r : Fin 24) (j : Fin 3072) :
    out0_3 x w b (ix3 0 r j) = (∑ k : Fin 1024, swish (x (ix2 r k)) * w (ix3 0 k j)) + b (ix3 0 0 j) := by
  unfold out0_3
  rw [View.canon_unit_zero Cert.FfnValue.hz3, body_apply, View.ld_unit_zero (S := S24x1024) Cert.FfnValue.hz2,
    View.ld_unit_zero (S := S1x1024x3072) Cert.FfnValue.hz3, View.ld_unit_zero (S := S1x1x3072) Cert.FfnValue.hz3]
  rfl

/-! ## Where each block sits -/

variable (m : (ℓ : Loc nD τ sig) → Buf (Elt Ideal) ℓ)

theorem idx0 : ∀ t : Fin cfg0.N, win0_0.index t 0 = 0 ∧ win0_0.index t 1 = 0 := by decide +kernel
theorem idx1 : ∀ t : Fin cfg0.N, win0_1.index t 0 = t.val / 3 ∧ win0_1.index t 1 = 0 ∧ win0_1.index t 2 = t.val % 3 := by decide +kernel
theorem idx2 : ∀ t : Fin cfg0.N, win0_2.index t 0 = t.val / 3 ∧ win0_2.index t 1 = 0 ∧ win0_2.index t 2 = t.val % 3 := by decide +kernel
theorem idx3 : ∀ t : Fin cfg0.N, win0_3.index t 0 = t.val / 3 ∧ win0_3.index t 1 = 0 ∧ win0_3.index t 2 = t.val % 3 := by decide +kernel
theorem flush3 : ∀ t : Fin cfg0.N, (cfg0.win 3).flush t = true := by decide +kernel

/-- The layer of a point, and the column of the whole array under a column of its tile. -/
abbrev lOf (t : Fin cfg0.N) : Fin 2 := ⟨t.val / 3, by have h : t.val < 6 := lt_of_lt_of_eq t.isLt (show cfg0.N = 6 from N_0); omega⟩
abbrev jOf (t : Fin cfg0.N) (j : Fin 3072) : Fin 9216 := ⟨t.val % 3 * 3072 + j.val, by omega⟩

theorem blk0 (c : Dev nD) (t : Fin cfg0.N) (r : Fin 24) (k : Fin 1024) :
    (iblk m c 0 t : Vec Ideal S24x1024 .f32) (ix2 r k) = (m ((c : Thread nD τ).loc main_arg0) : Vec Ideal S24x1024 .f32) (ix2 r k) := by
  unfold iblk
  rw [View.read_apply]
  show V m c main_arg0 _ = _
  rw [V_main_arg0]
  refine congrArg (m ((c : Thread nD τ).loc main_arg0) : Vec Ideal S24x1024 .f32) (funext fun a => Fin.ext ?_)
  match a with
  | ⟨0, _⟩ => show win0_0.index t 0 * 24 + 1 * r.val = r.val; rw [(idx0 t).1]; omega
  | ⟨1, _⟩ => show win0_0.index t 1 * 1024 + 1 * k.val = k.val; rw [(idx0 t).2]; omega

theorem blk1 (c : Dev nD) (t : Fin cfg0.N) (k : Fin 1024) (j : Fin 3072) :
    (iblk m c 1 t : Vec Ideal S1x1024x3072 .f32) (ix3 0 k j)
      = (m ((c : Thread nD τ).loc main_arg1) : Vec Ideal S2x1024x9216 .f32) (ix3 (lOf t) k (jOf t j)) := by
  unfold iblk
  rw [View.read_apply]
  show V m c main_arg1 _ = _
  rw [V_main_arg1]
  refine congrArg (m ((c : Thread nD τ).loc main_arg1) : Vec Ideal S2x1024x9216 .f32) (funext fun a => Fin.ext ?_)
  match a with
  | ⟨0, _⟩ => show win0_1.index t 0 * 1 + 1 * 0 = t.val / 3; rw [(idx1 t).1]; omega
  | ⟨1, _⟩ => show win0_1.index t 1 * 1024 + 1 * k.val = k.val; rw [(idx1 t).2.1]; omega
  | ⟨2, _⟩ => show win0_1.index t 2 * 3072 + 1 * j.val = t.val % 3 * 3072 + j.val; rw [(idx1 t).2.2]; omega

theorem V_b (c : Dev nD) (l : Fin 2) (j : Fin 9216) :
    V m c main_v0 (ix3 l 0 j) = (m ((c : Thread nD τ).loc main_arg2) : Vec Ideal S2x9216 .f32) (ix2 l j) := by
  have e : V m c main_v0 = shapeCast S2x1x9216 (m ((c : Thread nD τ).loc main_arg2) : Vec Ideal S2x9216 .f32) shapeCasts_S2x9216_S2x1x9216 := by
    show StableHlo.after hostOps0 _ _ = _
    after_results
    rfl
  rw [e]
  refine shapeCast_apply _ _ (ix3 l 0 j) (ix2 l j) ?_
  rw [Shape.rowMajor_val_two, Shape.rowMajor_val_three]
  show l.val * 9216 + j.val = (l.val * 1 + 0) * 9216 + j.val
  omega

theorem blk2 (c : Dev nD) (t : Fin cfg0.N) (j : Fin 3072) :
    (iblk m c 2 t : Vec Ideal S1x1x3072 .f32) (ix3 0 0 j)
      = (m ((c : Thread nD τ).loc main_arg2) : Vec Ideal S2x9216 .f32) (ix2 (lOf t) (jOf t j)) := by
  rw [← V_b m c (lOf t) (jOf t j)]
  unfold iblk
  rw [View.read_apply]
  show V m c main_v0 _ = _
  refine congrArg (V m c main_v0) (funext fun a => Fin.ext ?_)
  match a with
  | ⟨0, _⟩ => show win0_2.index t 0 * 1 + 1 * 0 = t.val / 3; rw [(idx2 t).1]; omega
  | ⟨1, _⟩ => show win0_2.index t 1 * 1 + 1 * 0 = 0; rw [(idx2 t).2.1]
  | ⟨2, _⟩ => show win0_2.index t 2 * 3072 + 1 * j.val = t.val % 3 * 3072 + j.val; rw [(idx2 t).2.2]; omega

/-! ## The result array -/

/-- The modulation over the arguments as launched. -/
abbrev result (c : Dev nD) : Vec Ideal S2x24x9216 .f32 :=
  modA (m ((c : Thread nD τ).loc main_arg0)) (m ((c : Thread nD τ).loc main_arg1)) (m ((c : Thread nD τ).loc main_arg2))

theorem flushed (c : Dev nD) (t : Fin cfg0.N) (hf : (cfg0.win 3).flush t = true) :
    (dats m 0 c).flushed 3 t = ((cfg0.win 3).blk t).view.read (Elt Ideal) (result m c) := by
  rw [Cert.ModIdeal.Value.flushed3]
  refine funext fun y => ?_
  show out0_3 (iblk m c 0 t) (iblk m c 1 t) (iblk m c 2 t) y = result m c (((cfg0.win 3).blk t).view.emb y)
  obtain ⟨r, j, rfl⟩ : ∃ (r : Fin 24) (j : Fin 3072), y = ix3 0 r j :=
    ⟨y 1, y 2, (eq_ix3 y).trans (by congr 1; exact Fin.ext (by have h : (y 0).val < 1 := (y 0).isLt; show (y 0).val = 0; omega))⟩
  have ei : ((cfg0.win 3).blk t).view.emb (ix3 0 r j) = ix3 (lOf t) r (jOf t j) := funext fun a => Fin.ext (by
    match a with
    | ⟨0, _⟩ => show win0_3.index t 0 * 1 + 1 * 0 = t.val / 3; rw [(idx3 t).1]; omega
    | ⟨1, _⟩ => show win0_3.index t 1 * 24 + 1 * r.val = r.val; rw [(idx3 t).2.1]; omega
    | ⟨2, _⟩ => show win0_3.index t 2 * 3072 + 1 * j.val = t.val % 3 * 3072 + j.val; rw [(idx3 t).2.2]; omega)
  refine (out_apply _ _ _ r j).trans (Eq.trans ?_ (congrArg (result m c) ei).symm)
  exact congrArg₂ (· + ·) (Finset.sum_congr rfl fun k _ => congrArg₂ (· * ·) (congrArg swish (blk0 m c t r k)) (blk1 m c t k j)) (blk2 m c t j)

/-- The tiles written back cover the array. -/
theorem final (c : Dev nD) : (dats m 0 c).arrAt 3 cfg0.N = result m c :=
  (dats m 0 c).arrAt_eq_of_cover 3 (result m c) (flushed m c) fun i => by
    have h0 : (i 0 : Nat) < 2 := (i 0).isLt
    have h1 : (i 1 : Nat) < 24 := (i 1).isLt
    have h2 : (i 2 : Nat) < 9216 := (i 2).isLt
    have hN : cfg0.N = 6 := N_0
    refine ⟨⟨(i 0).val * 3 + (i 2).val / 3072, by omega⟩, flush3 _, ?_⟩
    generalize ht : (⟨(i 0).val * 3 + (i 2).val / 3072, by omega⟩ : Fin cfg0.N) = t
    have htv : t.val = (i 0).val * 3 + (i 2).val / 3072 := by rw [← ht]
    show i ∈ ((View.whole main_v1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [(idx3 t).1]; omega
    | ⟨1, _⟩ => show win0_3.index t 1 * 24 ≤ (i 1 : Nat) ∧ (i 1 : Nat) < win0_3.index t 1 * 24 + 24
                rw [(idx3 t).2.1]; omega
    | ⟨2, _⟩ => show win0_3.index t 2 * 3072 ≤ (i 2 : Nat) ∧ (i 2 : Nat) < win0_3.index t 2 * 3072 + 3072
                rw [(idx3 t).2.2]; omega

/-! ## The reference -/

section Ref
open Cert.ModRefIdeal.Read
variable (X : Vec Ideal S24x1024 .f32) (W : Vec Ideal S2x1024x9216 .f32) (B : Vec Ideal S2x9216 .f32)

theorem ref_swish (i : S24x1024.Idx) : val_main_v0 (F := Ideal) X i = swish (X i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show X i * Ideal.div (Ideal.ofBits .f32 0x3F800000#32) (Ideal.ofBits .f32 0x3F800000#32 + Ideal.exp (-(X i))) = _
  rw [Ideal.ofBits_one_f32]
  rfl

/-- The reference's modulation. -/
theorem ref_mod : val_main_v5 (F := Ideal) X W B = modA X W B := by
  funext i
  obtain ⟨l, r, j, rfl⟩ : ∃ (l : Fin 2) (r : Fin 24) (j : Fin 9216), i = ix3 l r j := ⟨i 0, i 1, i 2, Cert.FfnValue.eq_ix3 i _ _ _ rfl rfl rfl⟩
  rw [val_main_v5_apply, val_main_v2_apply, Cert.FfnValue.eq_ix3 (idx_main_v2 (ix3 l r j)) r l j rfl rfl rfl, val_main_v1_apply,
    val_main_v4_apply, val_main_v3_apply, Cert.FfnValue.eq_ix2 (idx_main_v3 (idx_main_v4 (ix3 l r j))) l j rfl rfl]
  refine congrArg (· + B (ix2 l j)) (Finset.sum_congr rfl fun k _ => ?_)
  rw [Cert.FfnValue.eq_ix2 (lidx_main_v1 (ix3 r l j) k) r k rfl rfl, Cert.FfnValue.eq_ix3 (ridx_main_v1 (ix3 r l j) k) l k j rfl rfl rfl, ref_swish]
  rfl

end Ref

end Cert.ModValue
end
-- ==== Proof.ModClaim.lean ====
module

public import proofs.«01_k».proof.Defs
public import proofs.«01_k».proof.Proof.Gen.Mod
public import proofs.«01_k».proof.Proof.Gen.Mod.Frame
public import proofs.«01_k».proof.Proof.Gen.ModIdeal
public import proofs.«01_k».proof.Proof.Gen.ModIdeal.Value
public import proofs.«01_k».proof.Proof.Gen.ModRefIdeal
public import proofs.«01_k».proof.Proof.ModValue

/-! The claims of the modulation. -/

@[expose] public section

set_option maxRecDepth 16384

noncomputable section

open Idealize.ShloMosaic Idealize.ShloMosaic.TcCoe Idealize.SL.Sem

namespace Cert.ModValue

theorem frame_mod : Cert.quiescent_Mod := fun m ρ _ => Cert.Mod.Gen.frame m ρ

theorem frame_modIdeal : Cert.quiescent_ModIdeal := fun m ρ _ => Cert.ModIdeal.Gen.frame m ρ

theorem frame_modRef : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The kernel's array is the reference's, from arguments that agree. -/
theorem algebraic : Cert.algebraic_ModIdeal_ModRefIdeal := by
  intro m ρ m' ρ' _ hagree
  refine ⟨fun c => result m c, ?_, ?_⟩
  · refine (θ_run Cert.ModIdeal.defs _ _).mono (fun _ h c => ?_) (Cert.ModIdeal.Value.run_blocks m ρ)
    exact ⟨(h c).1.trans (final m c), (h c).2⟩
  · refine (θ_run Cert.ModRefIdeal.defs _ _).mono (fun _ h c => ?_) (Cert.ModRefIdeal.Value.run (F := Ideal) m' ρ')
    refine ⟨(h c).1.trans ((Cert.ModRefIdeal.Read.val_main_v5_eq _ _ _).trans ?_), (h c).2⟩
    obtain ⟨e0, e1, e2⟩ := hagree c
    rw [e0, e1, e2]; exact ref_mod _ _ _

end Cert.ModValue
end
-- ==== Proof.FfnFirstPoint.lean ====
module

public import proofs.«01_k».proof.Proof.Gen.FfnFirstIdeal.Value
public import proofs.«01_k».proof.Proof.FfnPoint
public import Idealize.ShloMosaic.Lib.Pointwise
public import Idealize.ShloMosaic.Lib.Pipeline.ReadBack

/-! The grid point of the first feed-forward call: its arithmetic is that of the last feed-forward
call, with modulation rows 0 to 2. -/

@[expose] public section

set_option maxRecDepth 16384

noncomputable section

open Idealize.ShloMosaic Idealize.ShloMosaic.TcCoe Idealize.SL.Sem
open Idealize.ShloMosaic.Pipeline (Dat)

namespace Cert.FfnFirstValue

open Cert.FfnFirstIdeal Cert.FfnFirstIdeal.Gen Cert.Layer Cert.FfnValue

/-! The arithmetic of the body is the last call's. -/

theorem keep_pay (u : Vec Ideal S1024x2816 .bf16) (wo : Vec Ideal S1x2816x1024 .bf16) (x : Vec Ideal S1x1024x1024 .f32) (g : Vec Ideal S1x1x1024 .f32) :
    k0_pay2 (k0_pay25 u wo x g) = FfnIdeal.Gen.k0_pay2 (FfnIdeal.Gen.k0_pay25 u wo x g) := rfl
theorem mod_pay (x : Vec Ideal S1x1024x1024 .f32) (s c : Vec Ideal S1x1x1024 .f32) :
    k0_pay9 (k0_pay5 x) (k0_pay6 s) (k0_pay7 c) k0_pay8 = FfnIdeal.Gen.k0_pay9 (FfnIdeal.Gen.k0_pay5 x) (FfnIdeal.Gen.k0_pay6 s) (FfnIdeal.Gen.k0_pay7 c) FfnIdeal.Gen.k0_pay8 := rfl
theorem chunk10 (a : FVec Ideal S1024x1024 .f32) (b c d : FVec Ideal S1x1024 .f32) (wg wa : Vec Ideal S1x1024x256 .bf16) : k0_pay10 a b c d wg wa = FfnIdeal.Gen.k0_pay14 (k0_pay9 a b c d) wg wa := rfl
theorem chunk11 (a : FVec Ideal S1024x1024 .f32) (b c d : FVec Ideal S1x1024 .f32) (wg wa : Vec Ideal S1x1024x256 .bf16) : k0_pay11 a b c d wg wa = FfnIdeal.Gen.k0_pay14 (k0_pay9 a b c d) wg wa := rfl
theorem chunk17 (h : FVec Ideal S1024x1024 .bf16) (wg wa : Vec Ideal S1x1024x256 .bf16) : k0_pay17 h wg wa = FfnIdeal.Gen.k0_pay14 h wg wa := rfl
theorem chunk18 (h : FVec Ideal S1024x1024 .bf16) (wg wa : Vec Ideal S1x1024x256 .bf16) : k0_pay18 h wg wa = FfnIdeal.Gen.k0_pay14 h wg wa := rfl
theorem chunk21 (h : FVec Ideal S1024x1024 .bf16) (wg wa : Vec Ideal S1x1024x256 .bf16) : k0_pay21 h wg wa = FfnIdeal.Gen.k0_pay14 h wg wa := rfl
theorem chunk24 (h : FVec Ideal S1024x1024 .bf16) (wg wa : Vec Ideal S1x1024x256 .bf16) : k0_pay24 h wg wa = FfnIdeal.Gen.k0_pay14 h wg wa := rfl
theorem chunk13 (h : FVec Ideal S1024x1024 .bf16) (wg wa : Vec Ideal S1x1024x256 .bf16) : k0_pay13 h (k0_pay12 wg) (constant S1024x256 .f32 0x00000000#32) wa = FfnIdeal.Gen.k0_pay14 h wg wa := rfl
theorem chunk20 (h : FVec Ideal S1024x1024 .bf16) (wg wa : Vec Ideal S1x1024x256 .bf16) : k0_pay20 h (k0_pay19 wg) (constant S1024x256 .f32 0x00000000#32) wa = FfnIdeal.Gen.k0_pay14 h wg wa := rfl
theorem chunk15 (h : FVec Ideal S1024x1024 .bf16) (wg wa : Vec Ideal S1x1024x256 .bf16) : k0_pay16 (k0_pay15 h wg wa) = FfnIdeal.Gen.k0_pay14 h wg wa := rfl
theorem chunk22 (h : FVec Ideal S1024x1024 .bf16) (wg wa : Vec Ideal S1x1024x256 .bf16) : k0_pay23 (k0_pay22 h wg wa) = FfnIdeal.Gen.k0_pay14 h wg wa := rfl
theorem chunk14 (h : FVec Ideal S1024x1024 .bf16) (wg wa : Vec Ideal S1x1024x256 .bf16) : k0_pay14 h wg wa = FfnIdeal.Gen.k0_pay14 h wg wa := rfl

/-- What the body keeps for the next point, case A. -/
theorem keep_A (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (r d : Fin 1024) :
    sout0_A_1 c i arg1 harg1 arg2 harg2 arg3 harg3 arg4 harg4 arg5 harg5 arg6 harg6 arg7 harg7 arg8 harg8 arg9 harg9 hc0 hc1 hc2 x0 x1 x2 x3 x4 x5 (ix2 r d) = keep x0 x1 x2 x3 0 1 2 r d := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 hc2 x0 x1 x2 x3 x4 x5)]
  unfold kernelRun0_A
  dsimp only
  sl_unfold_words
  first | rw [View.canon_unit_zero hz2] | rw [View.canon_cons_unit_zero hz2]
  simp only [View.readAt_eq_ld, harg1.read_unread, harg2.read_unread, harg3.read_unread, harg4.read_unread, chunk10, chunk11, chunk13, chunk14, chunk15, chunk17, chunk18, chunk20, chunk21, chunk22, chunk24, mod_pay]
  rw [keep_pay, FfnValue.keep_apply, View.readCov_eq_canon', ld3_apply x0 0 0 _ r d r d (by omega) (by omega), ld3_apply x1 2 0 _ 0 d 2 d rfl (by omega)]
  unfold keep
  refine congrArg (fun z => Ideal.ofBits .f32 0x3FB504F3#32 * x0 (ix3 0 r d) + x1 (ix3 0 2 d) * (Ideal.ofBits .f32 0x3F000000#32 * z)) (Finset.sum_congr rfl fun j _ => ?_)
  rw [ld3_apply x3 0 0 _ j d j d (by omega) (by omega)]
  refine congrArg (· * x3 (ix3 0 j d)) ?_
  refine (View.canon_apply_of_pieces (gatedV x0 x1 x2 0 1) _ ?_ _ ?_).trans ?_
  · refine View.PiecesOf.mem ⟨?_, ?_, ?_, ?_, ?_, ?_, ?_, ?_, ?_, ?_, ?_, trivial⟩ <;>
      exact chunk_eq x0 x1 x2 0 1 _ (hid_ld x0 x1 0 1 (by omega) (by omega) _ _ _) _ _ _ _ (by decide) rfl
  · exact View.cover_of_tiledL (s := S1024x2816) _ ![1024, 256] (by sl_kernel_rfl) ((Rect.unit (s := S1024x2816) ![0, 0] ![1024, 2816] inb_S1024x2816_S1024x2816_0_0).idx (ix2 r j))
  · show gated x0 x1 x2 0 1 _ _ = _
    congr 1
    · exact Fin.ext (by show 0 + 1 * r.val = r.val; omega)
    · exact Fin.ext (by show 0 + 1 * j.val = j.val; omega)

/-- What the body keeps for the next point, case B. -/
theorem keep_B (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    sout0_B_1 c i arg1 harg1 arg2 harg2 arg3 harg3 arg4 harg4 arg5 harg5 arg6 harg6 arg7 harg7 arg8 harg8 arg9 harg9 hc0 hc1 hc2 x0 x1 x2 x3 x4 x5 xs1 (ix2 r d) = keep x0 x1 x2 x3 0 1 2 r d := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 hc2 x0 x1 x2 x3 x4 x5 xs1)]
  unfold kernelRun0_B
  dsimp only
  sl_unfold_words
  first | rw [View.canon_unit_zero hz2] | rw [View.canon_cons_unit_zero hz2]
  simp only [View.readAt_eq_ld, harg1.read_unread, harg2.read_unread, harg3.read_unread, harg4.read_unread, chunk10, chunk11, chunk13, chunk14, chunk15, chunk17, chunk18, chunk20, chunk21, chunk22, chunk24, mod_pay]
  rw [keep_pay, FfnValue.keep_apply, View.readCov_eq_canon', ld3_apply x0 0 0 _ r d r d (by omega) (by omega), ld3_apply x1 2 0 _ 0 d 2 d rfl (by omega)]
  unfold keep
  refine congrArg (fun z => Ideal.ofBits .f32 0x3FB504F3#32 * x0 (ix3 0 r d) + x1 (ix3 0 2 d) * (Ideal.ofBits .f32 0x3F000000#32 * z)) (Finset.sum_congr rfl fun j _ => ?_)
  rw [ld3_apply x3 0 0 _ j d j d (by omega) (by omega)]
  refine congrArg (· * x3 (ix3 0 j d)) ?_
  refine (View.canon_apply_of_pieces (gatedV x0 x1 x2 0 1) _ ?_ _ ?_).trans ?_
  · refine View.PiecesOf.mem ⟨?_, ?_, ?_, ?_, ?_, ?_, ?_, ?_, ?_, ?_, ?_, trivial⟩ <;>
      exact chunk_eq x0 x1 x2 0 1 _ (hid_ld x0 x1 0 1 (by omega) (by omega) _ _ _) _ _ _ _ (by decide) rfl
  · exact View.cover_of_tiledL (s := S1024x2816) _ ![1024, 256] (by sl_kernel_rfl) ((Rect.unit (s := S1024x2816) ![0, 0] ![1024, 2816] inb_S1024x2816_S1024x2816_0_0).idx (ix2 r j))
  · show gated x0 x1 x2 0 1 _ _ = _
    congr 1
    · exact Fin.ext (by show 0 + 1 * r.val = r.val; omega)
    · exact Fin.ext (by show 0 + 1 * j.val = j.val; omega)

/-- What the body writes out, case B: the normalization of the rows kept by the point before. -/
theorem out_B (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    out0_B_6 c i arg1 harg1 arg2 harg2 arg3 harg3 arg4 harg4 arg5 harg5 arg6 harg6 arg7 harg7 arg8 harg8 arg9 harg9 hc0 hc1 hc2 x0 x1 x2 x3 x4 x5 xs1 (ix3 0 r d) = rowNorm (fun k => xs1 (ix2 r k)) (fun k => x4 (ix2 0 k)) (fun k => x5 (ix2 0 k)) d := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 hc2 x0 x1 x2 x3 x4 x5 xs1)]
  unfold kernelRun0_B
  dsimp only
  sl_unfold_words
  rw [View.canon_unit_zero hz3]
  simp only [View.readAt_eq_ld, harg5.read_unread, harg6.read_unread, harg9.read_unread]
  rw [View.ld_unit_zero (S := S1024x1024) hz2, View.ld_unit_zero (S := S1x1024) hz2, View.ld_unit_zero (S := S1x1024) hz2]
  exact norm_apply xs1 x4 x5 r d

/-- What the body writes out, case C: the normalization of the rows kept by the point before. -/
theorem out_C (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : ¬cond0_1 i) (hc2 : cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    out0_C_6 c i arg1 harg1 arg2 harg2 arg3 harg3 arg4 harg4 arg5 harg5 arg6 harg6 arg7 harg7 arg8 harg8 arg9 harg9 hc0 hc1 hc2 x0 x1 x2 x3 x4 x5 xs1 (ix3 0 r d) = rowNorm (fun k => xs1 (ix2 r k)) (fun k => x4 (ix2 0 k)) (fun k => x5 (ix2 0 k)) d := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 hc2 x0 x1 x2 x3 x4 x5 xs1)]
  unfold kernelRun0_C
  dsimp only
  sl_unfold_words
  rw [View.canon_unit_zero hz3]
  simp only [View.readAt_eq_ld, harg5.read_unread, harg6.read_unread, harg9.read_unread]
  rw [View.ld_unit_zero (S := S1024x1024) hz2, View.ld_unit_zero (S := S1x1024) hz2, View.ld_unit_zero (S := S1x1024) hz2]
  exact norm_apply xs1 x4 x5 r d

end Cert.FfnFirstValue
end
-- ==== Proof.FfnFirstArray.lean ====
module

public import proofs.«01_k».proof.Proof.FfnFirstPoint
public import proofs.«01_k».proof.Proof.FfnRefValue
public import Idealize.ShloMosaic.Lib.StableHlo.Run

@[expose] public section

set_option maxRecDepth 16384

noncomputable section

open Idealize.ShloMosaic Idealize.ShloMosaic.TcCoe Idealize.SL.Sem Idealize.ShloMosaic.StableHlo
open Idealize.ShloMosaic.Pipeline (Dat)

namespace Cert.FfnFirstValue

open Cert.FfnFirstIdeal Cert.FfnFirstIdeal.Gen Cert.Layer Cert.FfnValue

variable (m : (ℓ : Loc nD τ sig) → Buf (Elt Ideal) ℓ) (ρ : Dev nD → PrngReg)

/-! ## What the host prepares -/

theorem V_wi (c : Dev nD) (k : Fin 1024) (j : Fin 5632) :
    V m c main_v2 (ix3 0 k j) = (m ((c : Thread nD τ).loc main_arg2) : Vec Ideal S2x2x1024x5632 .f32) (ix4 0 0 k j) := by
  have e : V m c main_v2 = truncf (F := Ideal) (φ := .f32) .bf16 (extractStridedSlice S1x1024x5632 ![0, 0, 0]
      (shapeCast S4x1024x5632 (m ((c : Thread nD τ).loc main_arg2) : Vec Ideal S2x2x1024x5632 .f32) shapeCasts_S2x2x1024x5632_S4x1024x5632)
      slices_S4x1024x5632_S1x1024x5632_0_0_0) bitsLt_bf16_f32 := by
    show StableHlo.after hostOps0 _ _ = _
    after_results
    rfl
  rw [e]
  unfold truncf extractStridedSlice
  refine shapeCast_apply _ _ _ (ix4 0 0 k j) ?_
  rw [Shape.rowMajor_val_four, Shape.rowMajor_val_three]
  show ((0 * 2 + 0) * 1024 + k.val) * 5632 + j.val = ((0 + 0) * 1024 + (0 + k.val)) * 5632 + (0 + j.val)
  omega

theorem V_wo (c : Dev nD) (k : Fin 2816) (j : Fin 1024) :
    V m c main_v5 (ix3 0 k j) = (m ((c : Thread nD τ).loc main_arg3) : Vec Ideal S2x2x2816x1024 .f32) (ix4 0 0 k j) := by
  have e : V m c main_v5 = truncf (F := Ideal) (φ := .f32) .bf16 (extractStridedSlice S1x2816x1024 ![0, 0, 0]
      (shapeCast S4x2816x1024 (m ((c : Thread nD τ).loc main_arg3) : Vec Ideal S2x2x2816x1024 .f32) shapeCasts_S2x2x2816x1024_S4x2816x1024)
      slices_S4x2816x1024_S1x2816x1024_0_0_0) bitsLt_bf16_f32 := by
    show StableHlo.after hostOps0 _ _ = _
    after_results
    rfl
  rw [e]
  unfold truncf extractStridedSlice
  refine shapeCast_apply _ _ _ (ix4 0 0 k j) ?_
  rw [Shape.rowMajor_val_four, Shape.rowMajor_val_three]
  show ((0 * 2 + 0) * 2816 + k.val) * 1024 + j.val = ((0 + 0) * 2816 + (0 + k.val)) * 1024 + (0 + j.val)
  omega

theorem V_g (c : Dev nD) (k : Fin 1024) :
    V m c main_v10 (ix2 0 k) = (m ((c : Thread nD τ).loc main_arg4) : Vec Ideal S2x3x1024 .f32) (ix3 0 0 k) := by
  have e : V m c main_v10 = shapeCast S1x1024 (shapeCast S1024 (extractStridedSlice S1x1x1024 ![0, 0, 0]
      (m ((c : Thread nD τ).loc main_arg4) : Vec Ideal S2x3x1024 .f32) slices_S2x3x1024_S1x1x1024_0_0_0) shapeCasts_S1x1x1024_S1024) shapeCasts_S1024_S1x1024 := by
    show StableHlo.after hostOps0 _ _ = _
    after_results
    rfl
  rw [e]
  pointwise

theorem V_b (c : Dev nD) (k : Fin 1024) :
    V m c main_v11 (ix2 0 k) = (m ((c : Thread nD τ).loc main_arg5) : Vec Ideal S2x3x1024 .f32) (ix3 0 0 k) := by
  have e : V m c main_v11 = shapeCast S1x1024 (shapeCast S1024 (extractStridedSlice S1x1x1024 ![0, 0, 0]
      (m ((c : Thread nD τ).loc main_arg5) : Vec Ideal S2x3x1024 .f32) slices_S2x3x1024_S1x1x1024_0_0_0) shapeCasts_S1x1x1024_S1024) shapeCasts_S1024_S1x1024 := by
    show StableHlo.after hostOps0 _ _ = _
    after_results
    rfl
  rw [e]
  pointwise

/-! ## Where each block sits -/

theorem idx0 : ∀ t : Fin cfg0.N, win0_0.index t 0 = min t.val 31 / 2 ∧ win0_0.index t 1 = min t.val 31 % 2 ∧ win0_0.index t 2 = 0 := by decide +kernel
theorem idx1 : ∀ t : Fin cfg0.N, win0_1.index t 0 = min t.val 31 / 2 ∧ win0_1.index t 1 = 0 ∧ win0_1.index t 2 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = (t.val - 1) / 2 ∧ win0_6.index t 1 = (t.val - 1) % 2 ∧ win0_6.index t 2 = 0 := by decide +kernel
theorem flush6 : ∀ t : Fin cfg0.N, (cfg0.win 6).flush t = true ↔ 1 ≤ t.val := by decide +kernel

theorem blk0 (c : Dev nD) (t : Fin cfg0.N) (r k : Fin 1024) :
    (iblk m c 0 t : Vec Ideal S1x1024x1024 .f32) (ix3 0 r k)
      = (m ((c : Thread nD τ).loc main_arg0) : Vec Ideal S16x2048x1024 .f32) (ix3 ⟨min t.val 31 / 2, by omega⟩ ⟨min t.val 31 % 2 * 1024 + r.val, by omega⟩ k) := by
  unfold iblk
  rw [View.read_apply]
  show V m c main_arg0 _ = _
  rw [V_main_arg0]
  refine congrArg (m ((c : Thread nD τ).loc main_arg0) : Vec Ideal S16x2048x1024 .f32) (funext fun a => Fin.ext ?_)
  match a with
  | ⟨0, _⟩ => show win0_0.index t 0 * 1 + 1 * 0 = min t.val 31 / 2; rw [(idx0 t).1]; omega
  | ⟨1, _⟩ => show win0_0.index t 1 * 1024 + 1 * r.val = min t.val 31 % 2 * 1024 + r.val; rw [(idx0 t).2.1]; omega
  | ⟨2, _⟩ => show win0_0.index t 2 * 1024 + 1 * k.val = k.val; rw [(idx0 t).2.2]; omega

theorem blk1 (c : Dev nD) (t : Fin cfg0.N) (q : Fin 9) (k : Fin 1024) :
    (iblk m c 1 t : Vec Ideal S1x9x1024 .f32) (ix3 0 q k)
      = (m ((c : Thread nD τ).loc main_arg1) : Vec Ideal S16x9x1024 .f32) (ix3 ⟨min t.val 31 / 2, by omega⟩ q k) := by
  unfold iblk
  rw [View.read_apply]
  show V m c main_arg1 _ = _
  rw [V_main_arg1]
  refine congrArg (m ((c : Thread nD τ).loc main_arg1) : Vec Ideal S16x9x1024 .f32) (funext fun a => Fin.ext ?_)
  match a with
  | ⟨0, _⟩ => show win0_1.index t 0 * 1 + 1 * 0 = min t.val 31 / 2; rw [(idx1 t).1]; omega
  | ⟨1, _⟩ => show win0_1.index t 1 * 9 + 1 * q.val = q.val; rw [(idx1 t).2.1]; omega
  | ⟨2, _⟩ => show win0_1.index t 2 * 1024 + 1 * k.val = k.val; rw [(idx1 t).2.2]; omega

theorem blk2 (c : Dev nD) (t : Fin cfg0.N) (k : Fin 1024) (j : Fin 5632) :
    (iblk m c 2 t : Vec Ideal S1x1024x5632 .bf16) (ix3 0 k j)
      = (m ((c : Thread nD τ).loc main_arg2) : Vec Ideal S2x2x1024x5632 .f32) (ix4 0 0 k j) := by
  rw [← V_wi m c k j]
  unfold iblk
  rw [View.read_apply]
  show V m c main_v2 _ = _
  refine congrArg (V m c main_v2) (funext fun a => Fin.ext ?_)
  match a with
  | ⟨0, _⟩ => show win0_2.index t 0 * 1 + 1 * 0 = 0; rw [(idx2 t).1]
  | ⟨1, _⟩ => show win0_2.index t 1 * 1024 + 1 * k.val = k.val; rw [(idx2 t).2.1]; omega
  | ⟨2, _⟩ => show win0_2.index t 2 * 5632 + 1 * j.val = j.val; rw [(idx2 t).2.2]; omega

theorem blk3 (c : Dev nD) (t : Fin cfg0.N) (k : Fin 2816) (j : Fin 1024) :
    (iblk m c 3 t : Vec Ideal S1x2816x1024 .bf16) (ix3 0 k j)
      = (m ((c : Thread nD τ).loc main_arg3) : Vec Ideal S2x2x2816x1024 .f32) (ix4 0 0 k j) := by
  rw [← V_wo m c k j]
  unfold iblk
  rw [View.read_apply]
  show V m c main_v5 _ = _
  refine congrArg (V m c main_v5) (funext fun a => Fin.ext ?_)
  match a with
  | ⟨0, _⟩ => show win0_3.index t 0 * 1 + 1 * 0 = 0; rw [(idx3 t).1]
  | ⟨1, _⟩ => show win0_3.index t 1 * 2816 + 1 * k.val = k.val; rw [(idx3 t).2.1]; omega
  | ⟨2, _⟩ => show win0_3.index t 2 * 1024 + 1 * j.val = j.val; rw [(idx3 t).2.2]; omega

theorem blk4 (c : Dev nD) (t : Fin cfg0.N) (k : Fin 1024) :
    (iblk m c 4 t : Vec Ideal S1x1024 .f32) (ix2 0 k) = (m ((c : Thread nD τ).loc main_arg4) : Vec Ideal S2x3x1024 .f32) (ix3 0 0 k) := by
  rw [← V_g m c k]
  unfold iblk
  rw [View.read_apply]
  show V m c main_v10 _ = _
  refine congrArg (V m c main_v10) (funext fun a => Fin.ext ?_)
  match a with
  | ⟨0, _⟩ => show win0_4.index t 0 * 1 + 1 * 0 = 0; rw [(idx4 t).1]
  | ⟨1, _⟩ => show win0_4.index t 1 * 1024 + 1 * k.val = k.val; rw [(idx4 t).2]; omega

theorem blk5 (c : Dev nD) (t : Fin cfg0.N) (k : Fin 1024) :
    (iblk m c 5 t : Vec Ideal S1x1024 .f32) (ix2 0 k) = (m ((c : Thread nD τ).loc main_arg5) : Vec Ideal S2x3x1024 .f32) (ix3 0 0 k) := by
  rw [← V_b m c k]
  unfold iblk
  rw [View.read_apply]
  show V m c main_v11 _ = _
  refine congrArg (V m c main_v11) (funext fun a => Fin.ext ?_)
  match a with
  | ⟨0, _⟩ => show win0_5.index t 0 * 1 + 1 * 0 = 0; rw [(idx5 t).1]
  | ⟨1, _⟩ => show win0_5.index t 1 * 1024 + 1 * k.val = k.val; rw [(idx5 t).2]; omega

/-! ## The result -/

/-- The result array's contents, over the arguments as launched. -/
abbrev result (c : Dev nD) : Vec Ideal S16x2048x1024 .f32 :=
  ffnA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0 1 2 0 0 0

/-- The rows the body keeps at point `n`. -/
theorem kept_eq (c : Dev nD) (t : Fin cfg0.N) (ht : t.val < 32) (r d : Fin 1024) :
    (outsAt0 m c t.val t.isLt).2 (ix2 r d)
      = keepA (m ((c : Thread nD τ).loc main_arg0)) (m ((c : Thread nD τ).loc main_arg1)) (m ((c : Thread nD τ).loc main_arg2)) (m ((c : Thread nD τ).loc main_arg3)) 0 1 2 0 0
          ⟨t.val / 2, by omega⟩ ⟨t.val % 2 * 1024 + r.val, by omega⟩ d := by
  have key : (outsAt0 m c t.val t.isLt).2 (ix2 r d) = keep (iblk m c 0 t) (iblk m c 1 t) (iblk m c 2 t) (iblk m c 3 t) 0 1 2 r d := by
    by_cases h0 : t.val % 33 = 0
    · rw [outsAt0_A m c t h0 ht (by omega)]
      dsimp only
      apply keep_A
    · rw [outsAt0_B m c t h0 ht (by omega)]
      dsimp only
      apply keep_B
  have e : min t.val 31 = t.val := by omega
  rw [key]
  unfold keep keepA gated gatedA proj projA hid
  simp only [blk0, blk1, blk2, blk3, e]

/-- Each block written back is the result's rows there. -/
theorem flushed_eq (c : Dev nD) (t : Fin cfg0.N) (hf : (cfg0.win 6).flush t = true) :
    (dats m 0 c).flushed 6 t = ((cfg0.win 6).blk t).view.read (Elt Ideal) (result m c) := by
  have h1 : 1 ≤ t.val := (flush6 t).mp hf
  have hN : t.val < 33 := lt_of_lt_of_eq t.isLt (show cfg0.N = 33 from N_0)
  have key : ∀ r d : Fin 1024, (outsAt0 m c t.val t.isLt).1 (ix3 0 r d)
      = rowNorm (fun k => (outsAt0 m c (t.val - 1) (Nat.lt_of_le_of_lt (Nat.sub_le _ _) t.isLt)).2 (ix2 r k))
          (fun k => (iblk m c 4 t : Vec Ideal S1x1024 .f32) (ix2 0 k)) (fun k => (iblk m c 5 t : Vec Ideal S1x1024 .f32) (ix2 0 k)) d := by
    intro r d
    by_cases h : t.val < 32
    · rw [outsAt0_B m c t (by omega) h (by omega)]
      dsimp only
      apply out_B
    · rw [outsAt0_C m c t (by omega) h (by omega)]
      dsimp only
      apply out_C
  rw [Cert.FfnFirstIdeal.Value.flushed6]
  refine funext fun y => ?_
  show (outsAt0 m c t.val t.isLt).1 y = result m c (((cfg0.win 6).blk t).view.emb y)
  obtain ⟨r, d, rfl⟩ : ∃ (r d : Fin 1024), y = ix3 0 r d := ⟨y 1, y 2, (Idealize.ShloMosaic.eq_ix3 y).trans (by congr 1; exact Fin.ext (by have h : (y 0).val < 1 := (y 0).isLt; show (y 0).val = 0; omega))⟩
  have e0 : (((cfg0.win 6).blk t).view.emb (ix3 0 r d)) 0 = (⟨(t.val - 1) / 2, by omega⟩ : Fin 16) :=
    Fin.ext (by show win0_6.index t 0 * 1 + 1 * 0 = (t.val - 1) / 2; rw [(idx6 t).1]; omega)
  have e1 : (((cfg0.win 6).blk t).view.emb (ix3 0 r d)) 1 = (⟨(t.val - 1) % 2 * 1024 + r.val, by omega⟩ : Fin 2048) :=
    Fin.ext (by show win0_6.index t 1 * 1024 + 1 * r.val = (t.val - 1) % 2 * 1024 + r.val; rw [(idx6 t).2.1]; omega)
  have e2 : (((cfg0.win 6).blk t).view.emb (ix3 0 r d)) 2 = d :=
    Fin.ext (by show win0_6.index t 2 * 1024 + 1 * d.val = d.val; rw [(idx6 t).2.2]; omega)
  rw [key]
  unfold result ffnA
  rw [e0, e1, e2]
  exact rowNorm_congr (fun k => kept_eq m c ⟨t.val - 1, by omega⟩ (by show t.val - 1 < 32; omega) r k) (fun k => blk4 m c t k) (fun k => blk5 m c t k) d

/-- The blocks written back cover the array. -/
theorem final (c : Dev nD) : (dats m 0 c).arrAt 6 cfg0.N = result m c :=
  (dats m 0 c).arrAt_eq_of_cover 6 (result m c) (flushed_eq m c) fun i => by
    have h0 : (i 0 : Nat) < 16 := (i 0).isLt
    have h1 : (i 1 : Nat) < 2048 := (i 1).isLt
    have h2 : (i 2 : Nat) < 1024 := (i 2).isLt
    have hN : cfg0.N = 33 := N_0
    refine ⟨⟨(i 0).val * 2 + (i 1).val / 1024 + 1, by omega⟩, (flush6 _).mpr (by show 1 ≤ (i 0).val * 2 + (i 1).val / 1024 + 1; omega), ?_⟩
    generalize ht : (⟨(i 0).val * 2 + (i 1).val / 1024 + 1, by omega⟩ : Fin cfg0.N) = t
    have htv : t.val = (i 0).val * 2 + (i 1).val / 1024 + 1 := by rw [← ht]
    show i ∈ ((View.whole main_v12).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [(idx6 t).1]; omega
    | ⟨1, _⟩ => show win0_6.index t 1 * 1024 ≤ (i 1 : Nat) ∧ (i 1 : Nat) < win0_6.index t 1 * 1024 + 1024
                rw [(idx6 t).2.1]; omega
    | ⟨2, _⟩ => show win0_6.index t 2 * 1024 ≤ (i 2 : Nat) ∧ (i 2 : Nat) < win0_6.index t 2 * 1024 + 1024
                rw [(idx6 t).2.2]; omega

end Cert.FfnFirstValue
end
-- ==== Proof.FfnFirstRefValue.lean ====
module

public import proofs.«01_k».proof.Proof.FfnFirstArray
public import proofs.«01_k».proof.Proof.Gen.FfnFirstRefIdeal.Read

/-! The reference of the first feed-forward call: its stages at an entry, and its result array as `ffnA` of its arguments. -/

@[expose] public section

set_option maxRecDepth 16384

noncomputable section

open Idealize.ShloMosaic Idealize.ShloMosaic.TcCoe

namespace Cert.FfnFirstValue

open Cert.FfnValue (projA gatedA keepA ffnA at3 at4 eq_ix2 eq_ix3)
open Cert.FfnFirstRefIdeal.Read Cert.Layer Cert.FfnFirstIdeal

variable (X : Vec Ideal S16x2048x1024 .f32) (M : Vec Ideal S16x9x1024 .f32) (WI : Vec Ideal S2x2x1024x5632 .f32)
  (WO : Vec Ideal S2x2x2816x1024 .f32) (G B : Vec Ideal S2x3x1024 .f32)

theorem ref_scale (b : Fin 16) (s : Fin 2048) (k : Fin 1024) :
    val_main_v5 (F := Ideal) M (ix3 b s k) = 1 + M (ix3 b 1 k) := by
  rw [val_main_v5_apply, val_main_v4_apply, val_main_v3_apply, val_main_cst_apply, val_main_v2_apply,
    val_main_v1_apply, val_main_v0_apply]
  refine congrArg₂ (· + ·) Ideal.ofBits_one_f32 (at3 M _ b 1 k ?_ ?_ ?_)
  · show (b.val * 1024 + k.val) / 1024 = b.val; omega
  · rfl
  · show (b.val * 1024 + k.val) % 1024 = k.val; omega

theorem ref_shift (b : Fin 16) (s : Fin 2048) (k : Fin 1024) :
    val_main_v10 (F := Ideal) M (ix3 b s k) = M (ix3 b 0 k) := by
  rw [val_main_v10_apply, val_main_v9_apply, val_main_v8_apply, val_main_v7_apply]
  refine at3 M _ b 0 k ?_ ?_ ?_
  · show (b.val * 1024 + k.val) / 1024 = b.val; omega
  · rfl
  · show (b.val * 1024 + k.val) % 1024 = k.val; omega

theorem ref_gate (b : Fin 16) (s : Fin 2048) (k : Fin 1024) :
    val_main_v29 (F := Ideal) M (ix3 b s k) = M (ix3 b 2 k) := by
  rw [val_main_v29_apply, val_main_v28_apply, val_main_v27_apply, val_main_v26_apply]
  refine at3 M _ b 2 k ?_ ?_ ?_
  · show (b.val * 1024 + k.val) / 1024 = b.val; omega
  · rfl
  · show (b.val * 1024 + k.val) % 1024 = k.val; omega

theorem ref_hid (b : Fin 16) (s : Fin 2048) (k : Fin 1024) :
    val_main_v11 (F := Ideal) X M (ix3 b s k) = X (ix3 b s k) * (1 + M (ix3 b 1 k)) + M (ix3 b 0 k) := by
  rw [val_main_v11_apply, val_main_v6_apply, ref_scale, ref_shift]
  rfl

theorem ref_wi (k : Fin 1024) (j : Fin 5632) : val_main_v13 (F := Ideal) WI (ix2 k j) = WI (ix4 0 0 k j) := by
  rw [val_main_v13_apply, val_main_v12_apply]
  refine at4 WI _ 0 0 k j rfl rfl ?_ ?_
  · show (k.val * 5632 + j.val) / 5632 % 1024 = k.val; omega
  · show (k.val * 5632 + j.val) % 5632 = j.val; omega

theorem ref_wo (k : Fin 2816) (j : Fin 1024) : val_main_v20 (F := Ideal) WO (ix2 k j) = WO (ix4 0 0 k j) := by
  rw [val_main_v20_apply, val_main_v19_apply]
  refine at4 WO _ 0 0 k j rfl rfl ?_ ?_
  · show (k.val * 1024 + j.val) / 1024 % 2816 = k.val; omega
  · show (k.val * 1024 + j.val) % 1024 = j.val; omega

theorem ref_proj (b : Fin 16) (s : Fin 2048) (j : Fin 5632) :
    val_main_v14 (F := Ideal) X M WI (ix3 b s j) = projA X M WI 0 1 0 0 b s j := by
  rw [val_main_v14_apply]
  refine Finset.sum_congr rfl fun k _ => ?_
  rw [eq_ix3 (lidx_main_v14 (ix3 b s j) k) b s k rfl rfl rfl, eq_ix2 (ridx_main_v14 (ix3 b s j) k) k j rfl rfl,
    ref_hid, ref_wi]

theorem ref_gated (b : Fin 16) (s : Fin 2048) (j : Fin 2816) :
    val_main_v18 (F := Ideal) X M WI (ix3 b s j) = gatedA X M WI 0 1 0 0 b s j := by
  rw [val_main_v18_apply, val_main_v17_apply, val_main_call0_v5_apply, val_main_call0_v4_apply,
    val_main_call0_cst_0_apply, val_main_call0_v3_apply, val_main_call0_v2_apply, val_main_call0_cst_apply,
    val_main_call0_v1_apply, val_main_call0_v0_apply, val_main_v16_apply, val_main_v15_apply,
    eq_ix3 (idx_main_v15 (ix3 b s j)) b s ⟨j.val, by have := j.isLt; omega⟩ rfl rfl rfl,
    eq_ix3 (idx_main_v16 (ix3 b s j)) b s ⟨2816 + j.val, by have := j.isLt; omega⟩ rfl rfl rfl,
    ref_proj, ref_proj]
  show projA X M WI 0 1 0 0 b s _ * (projA X M WI 0 1 0 0 b s _ * Ideal.div (Ideal.ofBits .f32 0x3F800000#32)
    (Ideal.ofBits .f32 0x3F800000#32 + Ideal.exp (-(projA X M WI 0 1 0 0 b s _)))) = _
  rw [Ideal.ofBits_one_f32]
  rfl

theorem ref_keep (b : Fin 16) (s : Fin 2048) (d : Fin 1024) :
    val_main_v31 (F := Ideal) X M WI WO (ix3 b s d) = keepA X M WI WO 0 1 2 0 0 b s d := by
  rw [val_main_v31_apply, val_main_v25_apply, val_main_v24_apply, val_main_cst_1_apply, val_main_v30_apply, ref_gate,
    val_main_v23_apply, val_main_v22_apply, val_main_cst_0_apply, val_main_v21_apply]
  have e : ∑ k : Fin 2816, (val_main_v18 (F := Ideal) X M WI) (lidx_main_v21 (ix3 b s d) k)
        * (val_main_v20 (F := Ideal) WO) (ridx_main_v21 (ix3 b s d) k)
      = ∑ k : Fin 2816, gatedA X M WI 0 1 0 0 b s k * WO (ix4 0 0 k d) :=
    Finset.sum_congr rfl fun k _ => by
      rw [eq_ix3 (lidx_main_v21 (ix3 b s d) k) b s k rfl rfl rfl, eq_ix2 (ridx_main_v21 (ix3 b s d) k) k d rfl rfl,
        ref_gated, ref_wo]
  rw [e]
  rfl

theorem ref_mean (b : Fin 16) (s : Fin 2048) (u : Fin 1) :
    val_main_v39 (F := Ideal) X M WI WO (ix3 b s u) = rowMean (fun k => keepA X M WI WO 0 1 2 0 0 b s k) := by
  rw [val_main_v39_apply, val_main_v38_apply, val_main_cst_3_apply, val_main_v37_apply, val_main_v36_apply,
    val_main_cst_2_apply]
  have e : ∑ k : Fin 1024, (val_main_v31 (F := Ideal) X M WI WO) (idx_main_v36 (idx_main_v37 (ix3 b s u)) k)
      = ∑ k : Fin 1024, keepA X M WI WO 0 1 2 0 0 b s k :=
    Finset.sum_congr rfl fun k _ => by
      rw [eq_ix3 (idx_main_v36 (idx_main_v37 (ix3 b s u)) k) b s k rfl rfl rfl, ref_keep]
  rw [e]
  show Ideal.div (Ideal.ofBits .f32 0x00000000#32 + _) _ = _
  rw [Ideal.ofBits_zero_f32, zero_add]
  rfl

theorem ref_var (b : Fin 16) (s : Fin 2048) (u : Fin 1) :
    val_main_v46 (F := Ideal) X M WI WO (ix3 b s u)
      = rowMean (fun k => (keepA X M WI WO 0 1 2 0 0 b s k - rowMean (fun k => keepA X M WI WO 0 1 2 0 0 b s k))
          * (keepA X M WI WO 0 1 2 0 0 b s k - rowMean (fun k => keepA X M WI WO 0 1 2 0 0 b s k))) := by
  rw [val_main_v46_apply, val_main_v45_apply, val_main_cst_5_apply, val_main_v44_apply, val_main_v43_apply,
    val_main_cst_4_apply]
  have e : ∑ k : Fin 1024, (val_main_v42 (F := Ideal) X M WI WO) (idx_main_v43 (idx_main_v44 (ix3 b s u)) k)
      = ∑ k : Fin 1024, (keepA X M WI WO 0 1 2 0 0 b s k - rowMean (fun k => keepA X M WI WO 0 1 2 0 0 b s k))
          * (keepA X M WI WO 0 1 2 0 0 b s k - rowMean (fun k => keepA X M WI WO 0 1 2 0 0 b s k)) :=
    Finset.sum_congr rfl fun k _ => by
      rw [eq_ix3 (idx_main_v43 (idx_main_v44 (ix3 b s u)) k) b s k rfl rfl rfl, val_main_v42_apply,
        val_main_v41_apply, ref_keep, val_main_v40_apply, eq_ix3 (idx_main_v40 (ix3 b s k)) b s 0 rfl rfl rfl, ref_mean]
      rfl
  rw [e]
  show Ideal.div (Ideal.ofBits .f32 0x00000000#32 + _) _ = _
  rw [Ideal.ofBits_zero_f32, zero_add]
  rfl

theorem ref_gain (b : Fin 16) (s : Fin 2048) (d : Fin 1024) :
    val_main_v55 (F := Ideal) G (ix3 b s d) = G (ix3 0 0 d) := by
  rw [val_main_v55_apply, val_main_v54_apply, val_main_v33_apply, val_main_v32_apply]
  refine at3 G _ 0 0 d ?_ ?_ ?_
  · rfl
  · rfl
  · show d.val % 1024 = d.val; omega

theorem ref_bias (b : Fin 16) (s : Fin 2048) (d : Fin 1024) :
    val_main_v58 (F := Ideal) B (ix3 b s d) = B (ix3 0 0 d) := by
  rw [val_main_v58_apply, val_main_v57_apply, val_main_v35_apply, val_main_v34_apply]
  refine at3 B _ 0 0 d ?_ ?_ ?_
  · rfl
  · rfl
  · show d.val % 1024 = d.val; omega

/-- The reference's result array is the same function of its arguments as the kernel's. -/
theorem ref_result : val_main_v59 (F := Ideal) X M WI WO G B = ffnA X M WI WO G B 0 1 2 0 0 0 := by
  funext i
  obtain ⟨b, s, d, rfl⟩ : ∃ b s d, i = ix3 b s d := ⟨i 0, i 1, i 2, eq_ix3 i _ _ _ rfl rfl rfl⟩
  rw [val_main_v59_apply, val_main_v56_apply, ref_gain, ref_bias, val_main_v53_apply, val_main_v48_apply, ref_keep,
    val_main_v47_apply, eq_ix3 (idx_main_v47 (ix3 b s d)) b s 0 rfl rfl rfl, ref_mean, val_main_v52_apply,
    eq_ix3 (idx_main_v52 (ix3 b s d)) b s 0 rfl rfl rfl, val_main_v51_apply, val_main_v50_apply, ref_var,
    val_main_v49_apply, val_main_cst_6_apply]
  rfl

end Cert.FfnFirstValue
end
-- ==== Proof.FfnFirstClaim.lean ====
module

public import proofs.«01_k».proof.Defs
public import proofs.«01_k».proof.Proof.FfnFirstRefValue
public import proofs.«01_k».proof.Proof.Gen.FfnFirst.Frame

/-! The claims of the first feed-forward call. -/

@[expose] public section

set_option maxRecDepth 16384

noncomputable section

open Idealize.ShloMosaic Idealize.ShloMosaic.TcCoe Idealize.SL.Sem

namespace Cert.FfnFirstValue

theorem frame_ffnFirst : Cert.quiescent_FfnFirst := fun m ρ _ => Cert.FfnFirst.Gen.frame m ρ

theorem frame_ffnFirstIdeal : Cert.quiescent_FfnFirstIdeal := fun m ρ _ => Cert.FfnFirstIdeal.Gen.frame m ρ

theorem frame_ffnFirstRef : Cert.quiescent_FfnFirstRefIdeal := fun m ρ _ =>
  (θ_run Cert.FfnFirstRefIdeal.defs _ _).mono (fun r h => ⟨fun c => (h c).2, sem_eq_zero_of_no_sems (by decide) r.2⟩)
    (Cert.FfnFirstRefIdeal.Value.run (F := Ideal) m ρ)

/-- From memories that agree on the arguments, the kernel and the reference both end with `ffnA` of them, slab 0 and modulation rows 0 to 2. -/
theorem algebraic : Cert.algebraic_FfnFirstIdeal_FfnFirstRefIdeal := by
  intro m ρ m' ρ' _ hagree
  refine ⟨fun c => result m c, ?_, ?_⟩
  · refine (θ_run Cert.FfnFirstIdeal.defs _ _).mono (fun _ h c => ?_) (Cert.FfnFirstIdeal.Value.run_blocks m ρ)
    exact ⟨(h c).1.trans (final m c), (h c).2⟩
  · refine (θ_run Cert.FfnFirstRefIdeal.defs _ _).mono (fun _ h c => ?_) (Cert.FfnFirstRefIdeal.Value.run (F := Ideal) m' ρ')
    refine ⟨(h c).1.trans ((Cert.FfnFirstRefIdeal.Read.val_main_v59_eq m' c).trans ?_), (h c).2⟩
    obtain ⟨e0, e1, e2, e3, e4, e5⟩ := hagree c
    rw [e0, e1, e2, e3, e4, e5]
    exact ref_result _ _ _ _ _ _

end Cert.FfnFirstValue
end
-- ==== Proof.FfnCtxPoint.lean ====
module

public import proofs.«01_k».proof.Proof.Gen.FfnCtxIdeal.Value
public import proofs.«01_k».proof.Proof.FfnPoint
public import Idealize.ShloMosaic.Lib.Pointwise
public import Idealize.ShloMosaic.Lib.Pipeline.ReadBack

/-! The grid point of the feed-forward call over the context: its arithmetic is that of the last feed-forward
call, with modulation rows 0 to 2. -/

@[expose] public section

set_option maxRecDepth 16384

noncomputable section

open Idealize.ShloMosaic Idealize.ShloMosaic.TcCoe Idealize.SL.Sem
open Idealize.ShloMosaic.Pipeline (Dat)

namespace Cert.FfnCtxValue

open Cert.FfnCtxIdeal Cert.FfnCtxIdeal.Gen Cert.Layer Cert.FfnValue

/-! The arithmetic of the body is the last call's. -/

theorem keep_pay (u : Vec Ideal S1024x2816 .bf16) (wo : Vec Ideal S1x2816x1024 .bf16) (x : Vec Ideal S1x1024x1024 .f32) (g : Vec Ideal S1x1x1024 .f32) :
    k0_pay2 (k0_pay25 u wo x g) = FfnIdeal.Gen.k0_pay2 (FfnIdeal.Gen.k0_pay25 u wo x g) := rfl
theorem mod_pay (x : Vec Ideal S1x1024x1024 .f32) (s c : Vec Ideal S1x1x1024 .f32) :
    k0_pay9 (k0_pay5 x) (k0_pay6 s) (k0_pay7 c) k0_pay8 = FfnIdeal.Gen.k0_pay9 (FfnIdeal.Gen.k0_pay5 x) (FfnIdeal.Gen.k0_pay6 s) (FfnIdeal.Gen.k0_pay7 c) FfnIdeal.Gen.k0_pay8 := rfl
theorem chunk10 (a : FVec Ideal S1024x1024 .f32) (b c d : FVec Ideal S1x1024 .f32) (wg wa : Vec Ideal S1x1024x256 .bf16) : k0_pay10 a b c d wg wa = FfnIdeal.Gen.k0_pay14 (k0_pay9 a b c d) wg wa := rfl
theorem chunk11 (a : FVec Ideal S1024x1024 .f32) (b c d : FVec Ideal S1x1024 .f32) (wg wa : Vec Ideal S1x1024x256 .bf16) : k0_pay11 a b c d wg wa = FfnIdeal.Gen.k0_pay14 (k0_pay9 a b c d) wg wa := rfl
theorem chunk17 (h : FVec Ideal S1024x1024 .bf16) (wg wa : Vec Ideal S1x1024x256 .bf16) : k0_pay17 h wg wa = FfnIdeal.Gen.k0_pay14 h wg wa := rfl
theorem chunk18 (h : FVec Ideal S1024x1024 .bf16) (wg wa : Vec Ideal S1x1024x256 .bf16) : k0_pay18 h wg wa = FfnIdeal.Gen.k0_pay14 h wg wa := rfl
theorem chunk21 (h : FVec Ideal S1024x1024 .bf16) (wg wa : Vec Ideal S1x1024x256 .bf16) : k0_pay21 h wg wa = FfnIdeal.Gen.k0_pay14 h wg wa := rfl
theorem chunk24 (h : FVec Ideal S1024x1024 .bf16) (wg wa : Vec Ideal S1x1024x256 .bf16) : k0_pay24 h wg wa = FfnIdeal.Gen.k0_pay14 h wg wa := rfl
theorem chunk13 (h : FVec Ideal S1024x1024 .bf16) (wg wa : Vec Ideal S1x1024x256 .bf16) : k0_pay13 h (k0_pay12 wg) (constant S1024x256 .f32 0x00000000#32) wa = FfnIdeal.Gen.k0_pay14 h wg wa := rfl
theorem chunk20 (h : FVec Ideal S1024x1024 .bf16) (wg wa : Vec Ideal S1x1024x256 .bf16) : k0_pay20 h (k0_pay19 wg) (constant S1024x256 .f32 0x00000000#32) wa = FfnIdeal.Gen.k0_pay14 h wg wa := rfl
theorem chunk15 (h : FVec Ideal S1024x1024 .bf16) (wg wa : Vec Ideal S1x1024x256 .bf16) : k0_pay16 (k0_pay15 h wg wa) = FfnIdeal.Gen.k0_pay14 h wg wa := rfl
theorem chunk22 (h : FVec Ideal S1024x1024 .bf16) (wg wa : Vec Ideal S1x1024x256 .bf16) : k0_pay23 (k0_pay22 h wg wa) = FfnIdeal.Gen.k0_pay14 h wg wa := rfl
theorem chunk14 (h : FVec Ideal S1024x1024 .bf16) (wg wa : Vec Ideal S1x1024x256 .bf16) : k0_pay14 h wg wa = FfnIdeal.Gen.k0_pay14 h wg wa := rfl

/-- What the body keeps for the next point, case A. -/
theorem keep_A (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (r d : Fin 1024) :
    sout0_A_1 c i arg1 harg1 arg2 harg2 arg3 harg3 arg4 harg4 arg5 harg5 arg6 harg6 arg7 harg7 arg8 harg8 arg9 harg9 hc0 hc1 hc2 x0 x1 x2 x3 x4 x5 (ix2 r d) = keep x0 x1 x2 x3 0 1 2 r d := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 hc2 x0 x1 x2 x3 x4 x5)]
  unfold kernelRun0_A
  dsimp only
  sl_unfold_words
  first | rw [View.canon_unit_zero hz2] | rw [View.canon_cons_unit_zero hz2]
  simp only [View.readAt_eq_ld, harg1.read_unread, harg2.read_unread, harg3.read_unread, harg4.read_unread, chunk10, chunk11, chunk13, chunk14, chunk15, chunk17, chunk18, chunk20, chunk21, chunk22, chunk24, mod_pay]
  rw [keep_pay, FfnValue.keep_apply, View.readCov_eq_canon', ld3_apply x0 0 0 _ r d r d (by omega) (by omega), ld3_apply x1 2 0 _ 0 d 2 d rfl (by omega)]
  unfold keep
  refine congrArg (fun z => Ideal.ofBits .f32 0x3FB504F3#32 * x0 (ix3 0 r d) + x1 (ix3 0 2 d) * (Ideal.ofBits .f32 0x3F000000#32 * z)) (Finset.sum_congr rfl fun j _ => ?_)
  rw [ld3_apply x3 0 0 _ j d j d (by omega) (by omega)]
  refine congrArg (· * x3 (ix3 0 j d)) ?_
  refine (View.canon_apply_of_pieces (gatedV x0 x1 x2 0 1) _ ?_ _ ?_).trans ?_
  · refine View.PiecesOf.mem ⟨?_, ?_, ?_, ?_, ?_, ?_, ?_, ?_, ?_, ?_, ?_, trivial⟩ <;>
      exact chunk_eq x0 x1 x2 0 1 _ (hid_ld x0 x1 0 1 (by omega) (by omega) _ _ _) _ _ _ _ (by decide) rfl
  · exact View.cover_of_tiledL (s := S1024x2816) _ ![1024, 256] (by sl_kernel_rfl) ((Rect.unit (s := S1024x2816) ![0, 0] ![1024, 2816] inb_S1024x2816_S1024x2816_0_0).idx (ix2 r j))
  · show gated x0 x1 x2 0 1 _ _ = _
    congr 1
    · exact Fin.ext (by show 0 + 1 * r.val = r.val; omega)
    · exact Fin.ext (by show 0 + 1 * j.val = j.val; omega)

/-- What the body keeps for the next point, case B. -/
theorem keep_B (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    sout0_B_1 c i arg1 harg1 arg2 harg2 arg3 harg3 arg4 harg4 arg5 harg5 arg6 harg6 arg7 harg7 arg8 harg8 arg9 harg9 hc0 hc1 hc2 x0 x1 x2 x3 x4 x5 xs1 (ix2 r d) = keep x0 x1 x2 x3 0 1 2 r d := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 hc2 x0 x1 x2 x3 x4 x5 xs1)]
  unfold kernelRun0_B
  dsimp only
  sl_unfold_words
  first | rw [View.canon_unit_zero hz2] | rw [View.canon_cons_unit_zero hz2]
  simp only [View.readAt_eq_ld, harg1.read_unread, harg2.read_unread, harg3.read_unread, harg4.read_unread, chunk10, chunk11, chunk13, chunk14, chunk15, chunk17, chunk18, chunk20, chunk21, chunk22, chunk24, mod_pay]
  rw [keep_pay, FfnValue.keep_apply, View.readCov_eq_canon', ld3_apply x0 0 0 _ r d r d (by omega) (by omega), ld3_apply x1 2 0 _ 0 d 2 d rfl (by omega)]
  unfold keep
  refine congrArg (fun z => Ideal.ofBits .f32 0x3FB504F3#32 * x0 (ix3 0 r d) + x1 (ix3 0 2 d) * (Ideal.ofBits .f32 0x3F000000#32 * z)) (Finset.sum_congr rfl fun j _ => ?_)
  rw [ld3_apply x3 0 0 _ j d j d (by omega) (by omega)]
  refine congrArg (· * x3 (ix3 0 j d)) ?_
  refine (View.canon_apply_of_pieces (gatedV x0 x1 x2 0 1) _ ?_ _ ?_).trans ?_
  · refine View.PiecesOf.mem ⟨?_, ?_, ?_, ?_, ?_, ?_, ?_, ?_, ?_, ?_, ?_, trivial⟩ <;>
      exact chunk_eq x0 x1 x2 0 1 _ (hid_ld x0 x1 0 1 (by omega) (by omega) _ _ _) _ _ _ _ (by decide) rfl
  · exact View.cover_of_tiledL (s := S1024x2816) _ ![1024, 256] (by sl_kernel_rfl) ((Rect.unit (s := S1024x2816) ![0, 0] ![1024, 2816] inb_S1024x2816_S1024x2816_0_0).idx (ix2 r j))
  · show gated x0 x1 x2 0 1 _ _ = _
    congr 1
    · exact Fin.ext (by show 0 + 1 * r.val = r.val; omega)
    · exact Fin.ext (by show 0 + 1 * j.val = j.val; omega)

/-- What the body writes out, case B: the normalization of the rows kept by the point before. -/
theorem out_B (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    out0_B_6 c i arg1 harg1 arg2 harg2 arg3 harg3 arg4 harg4 arg5 harg5 arg6 harg6 arg7 harg7 arg8 harg8 arg9 harg9 hc0 hc1 hc2 x0 x1 x2 x3 x4 x5 xs1 (ix3 0 r d) = rowNorm (fun k => xs1 (ix2 r k)) (fun k => x4 (ix2 0 k)) (fun k => x5 (ix2 0 k)) d := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 hc2 x0 x1 x2 x3 x4 x5 xs1)]
  unfold kernelRun0_B
  dsimp only
  sl_unfold_words
  rw [View.canon_unit_zero hz3]
  simp only [View.readAt_eq_ld, harg5.read_unread, harg6.read_unread, harg9.read_unread]
  rw [View.ld_unit_zero (S := S1024x1024) hz2, View.ld_unit_zero (S := S1x1024) hz2, View.ld_unit_zero (S := S1x1024) hz2]
  exact norm_apply xs1 x4 x5 r d

/-- What the body writes out, case C: the normalization of the rows kept by the point before. -/
theorem out_C (c : Dev nD) (i : grid0.Coords) (arg1 : Memref sig .tc .vmem S1x1024x1024 .f32) (harg1 : arg1.IsWhole) (arg2 : Memref sig .tc .vmem S1x9x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1024x2816 .bf16) (harg8 : arg8.IsWhole) (arg9 : Memref sig .tc .vmem S1024x1024 .f32) (harg9 : arg9.IsWhole) (hc0 : ¬cond0_0 i) (hc1 : ¬cond0_1 i) (hc2 : cond0_2 i)
    (x0 : Vec Ideal S1x1024x1024 .f32) (x1 : Vec Ideal S1x9x1024 .f32) (x2 : Vec Ideal S1x1024x5632 .bf16) (x3 : Vec Ideal S1x2816x1024 .bf16) (x4 : Vec Ideal S1x1024 .f32) (x5 : Vec Ideal S1x1024 .f32) (xs1 : Vec Ideal S1024x1024 .f32) (r d : Fin 1024) :
    out0_C_6 c i arg1 harg1 arg2 harg2 arg3 harg3 arg4 harg4 arg5 harg5 arg6 harg6 arg7 harg7 arg8 harg8 arg9 harg9 hc0 hc1 hc2 x0 x1 x2 x3 x4 x5 xs1 (ix3 0 r d) = rowNorm (fun k => xs1 (ix2 r k)) (fun k => x4 (ix2 0 k)) (fun k => x5 (ix2 0 k)) d := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 hc2 x0 x1 x2 x3 x4 x5 xs1)]
  unfold kernelRun0_C
  dsimp only
  sl_unfold_words
  rw [View.canon_unit_zero hz3]
  simp only [View.readAt_eq_ld, harg5.read_unread, harg6.read_unread, harg9.read_unread]
  rw [View.ld_unit_zero (S := S1024x1024) hz2, View.ld_unit_zero (S := S1x1024) hz2, View.ld_unit_zero (S := S1x1024) hz2]
  exact norm_apply xs1 x4 x5 r d

end Cert.FfnCtxValue
end
-- ==== Proof.FfnCtxArray.lean ====
module

public import proofs.«01_k».proof.Proof.FfnCtxPoint
public import proofs.«01_k».proof.Proof.FfnRefValue
public import Idealize.ShloMosaic.Lib.StableHlo.Run

@[expose] public section

set_option maxRecDepth 16384

noncomputable section

open Idealize.ShloMosaic Idealize.ShloMosaic.TcCoe Idealize.SL.Sem Idealize.ShloMosaic.StableHlo
open Idealize.ShloMosaic.Pipeline (Dat)

namespace Cert.FfnCtxValue

open Cert.FfnCtxIdeal Cert.FfnCtxIdeal.Gen Cert.Layer Cert.FfnValue

variable (m : (ℓ : Loc nD τ sig) → Buf (Elt Ideal) ℓ) (ρ : Dev nD → PrngReg)

/-! ## What the host prepares -/

theorem V_wi (c : Dev nD) (k : Fin 1024) (j : Fin 5632) :
    V m c main_v2 (ix3 0 k j) = (m ((c : Thread nD τ).loc main_arg2) : Vec Ideal S2x2x1024x5632 .f32) (ix4 0 0 k j) := by
  have e : V m c main_v2 = truncf (F := Ideal) (φ := .f32) .bf16 (extractStridedSlice S1x1024x5632 ![0, 0, 0]
      (shapeCast S4x1024x5632 (m ((c : Thread nD τ).loc main_arg2) : Vec Ideal S2x2x1024x5632 .f32) shapeCasts_S2x2x1024x5632_S4x1024x5632)
      slices_S4x1024x5632_S1x1024x5632_0_0_0) bitsLt_bf16_f32 := by
    show StableHlo.after hostOps0 _ _ = _
    after_results
    rfl
  rw [e]
  unfold truncf extractStridedSlice
  refine shapeCast_apply _ _ _ (ix4 0 0 k j) ?_
  rw [Shape.rowMajor_val_four, Shape.rowMajor_val_three]
  show ((0 * 2 + 0) * 1024 + k.val) * 5632 + j.val = ((0 + 0) * 1024 + (0 + k.val)) * 5632 + (0 + j.val)
  omega

theorem V_wo (c : Dev nD) (k : Fin 2816) (j : Fin 1024) :
    V m c main_v5 (ix3 0 k j) = (m ((c : Thread nD τ).loc main_arg3) : Vec Ideal S2x2x2816x1024 .f32) (ix4 0 0 k j) := by
  have e : V m c main_v5 = truncf (F := Ideal) (φ := .f32) .bf16 (extractStridedSlice S1x2816x1024 ![0, 0, 0]
      (shapeCast S4x2816x1024 (m ((c : Thread nD τ).loc main_arg3) : Vec Ideal S2x2x2816x1024 .f32) shapeCasts_S2x2x2816x1024_S4x2816x1024)
      slices_S4x2816x1024_S1x2816x1024_0_0_0) bitsLt_bf16_f32 := by
    show StableHlo.after hostOps0 _ _ = _
    after_results
    rfl
  rw [e]
  unfold truncf extractStridedSlice
  refine shapeCast_apply _ _ _ (ix4 0 0 k j) ?_
  rw [Shape.rowMajor_val_four, Shape.rowMajor_val_three]
  show ((0 * 2 + 0) * 2816 + k.val) * 1024 + j.val = ((0 + 0) * 2816 + (0 + k.val)) * 1024 + (0 + j.val)
  omega

theorem V_g (c : Dev nD) (k : Fin 1024) :
    V m c main_v10 (ix2 0 k) = (m ((c : Thread nD τ).loc main_arg4) : Vec Ideal S2x3x1024 .f32) (ix3 0 0 k) := by
  have e : V m c main_v10 = shapeCast S1x1024 (shapeCast S1024 (extractStridedSlice S1x1x1024 ![0, 0, 0]
      (m ((c : Thread nD τ).loc main_arg4) : Vec Ideal S2x3x1024 .f32) slices_S2x3x1024_S1x1x1024_0_0_0) shapeCasts_S1x1x1024_S1024) shapeCasts_S1024_S1x1024 := by
    show StableHlo.after hostOps0 _ _ = _
    after_results
    rfl
  rw [e]
  pointwise

theorem V_b (c : Dev nD) (k : Fin 1024) :
    V m c main_v11 (ix2 0 k) = (m ((c : Thread nD τ).loc main_arg5) : Vec Ideal S2x3x1024 .f32) (ix3 0 0 k) := by
  have e : V m c main_v11 = shapeCast S1x1024 (shapeCast S1024 (extractStridedSlice S1x1x1024 ![0, 0, 0]
      (m ((c : Thread nD τ).loc main_arg5) : Vec Ideal S2x3x1024 .f32) slices_S2x3x1024_S1x1x1024_0_0_0) shapeCasts_S1x1x1024_S1024) shapeCasts_S1024_S1x1024 := by
    show StableHlo.after hostOps0 _ _ = _
    after_results
    rfl
  rw [e]
  pointwise

/-! ## Where each block sits -/

theorem idx0 : ∀ t : Fin cfg0.N, win0_0.index t 0 = 0 ∧ win0_0.index t 1 = min t.val 3 ∧ win0_0.index t 2 = 0 := by decide +kernel
theorem idx1 : ∀ t : Fin cfg0.N, win0_1.index t 0 = 0 ∧ win0_1.index t 1 = 0 ∧ win0_1.index t 2 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = t.val - 1 ∧ win0_6.index t 2 = 0 := by decide +kernel
theorem flush6 : ∀ t : Fin cfg0.N, (cfg0.win 6).flush t = true ↔ 1 ≤ t.val := by decide +kernel

theorem blk0 (c : Dev nD) (t : Fin cfg0.N) (r k : Fin 1024) :
    (iblk m c 0 t : Vec Ideal S1x1024x1024 .f32) (ix3 0 r k)
      = (m ((c : Thread nD τ).loc main_arg0) : Vec Ideal S1x4096x1024 .f32) (ix3 0 ⟨min t.val 3 * 1024 + r.val, by omega⟩ k) := by
  unfold iblk
  rw [View.read_apply]
  show V m c main_arg0 _ = _
  rw [V_main_arg0]
  refine congrArg (m ((c : Thread nD τ).loc main_arg0) : Vec Ideal S1x4096x1024 .f32) (funext fun a => Fin.ext ?_)
  match a with
  | ⟨0, _⟩ => show win0_0.index t 0 * 1 + 1 * 0 = 0; rw [(idx0 t).1]
  | ⟨1, _⟩ => show win0_0.index t 1 * 1024 + 1 * r.val = min t.val 3 * 1024 + r.val; rw [(idx0 t).2.1]; omega
  | ⟨2, _⟩ => show win0_0.index t 2 * 1024 + 1 * k.val = k.val; rw [(idx0 t).2.2]; omega

theorem blk1 (c : Dev nD) (t : Fin cfg0.N) (q : Fin 9) (k : Fin 1024) :
    (iblk m c 1 t : Vec Ideal S1x9x1024 .f32) (ix3 0 q k)
      = (m ((c : Thread nD τ).loc main_arg1) : Vec Ideal S1x9x1024 .f32) (ix3 0 q k) := by
  unfold iblk
  rw [View.read_apply]
  show V m c main_arg1 _ = _
  rw [V_main_arg1]
  refine congrArg (m ((c : Thread nD τ).loc main_arg1) : Vec Ideal S1x9x1024 .f32) (funext fun a => Fin.ext ?_)
  match a with
  | ⟨0, _⟩ => show win0_1.index t 0 * 1 + 1 * 0 = 0; rw [(idx1 t).1]
  | ⟨1, _⟩ => show win0_1.index t 1 * 9 + 1 * q.val = q.val; rw [(idx1 t).2.1]; omega
  | ⟨2, _⟩ => show win0_1.index t 2 * 1024 + 1 * k.val = k.val; rw [(idx1 t).2.2]; omega

theorem blk2 (c : Dev nD) (t : Fin cfg0.N) (k : Fin 1024) (j : Fin 5632) :
    (iblk m c 2 t : Vec Ideal S1x1024x5632 .bf16) (ix3 0 k j)
      = (m ((c : Thread nD τ).loc main_arg2) : Vec Ideal S2x2x1024x5632 .f32) (ix4 0 0 k j) := by
  rw [← V_wi m c k j]
  unfold iblk
  rw [View.read_apply]
  show V m c main_v2 _ = _
  refine congrArg (V m c main_v2) (funext fun a => Fin.ext ?_)
  match a with
  | ⟨0, _⟩ => show win0_2.index t 0 * 1 + 1 * 0 = 0; rw [(idx2 t).1]
  | ⟨1, _⟩ => show win0_2.index t 1 * 1024 + 1 * k.val = k.val; rw [(idx2 t).2.1]; omega
  | ⟨2, _⟩ => show win0_2.index t 2 * 5632 + 1 * j.val = j.val; rw [(idx2 t).2.2]; omega

theorem blk3 (c : Dev nD) (t : Fin cfg0.N) (k : Fin 2816) (j : Fin 1024) :
    (iblk m c 3 t : Vec Ideal S1x2816x1024 .bf16) (ix3 0 k j)
      = (m ((c : Thread nD τ).loc main_arg3) : Vec Ideal S2x2x2816x1024 .f32) (ix4 0 0 k j) := by
  rw [← V_wo m c k j]
  unfold iblk
  rw [View.read_apply]
  show V m c main_v5 _ = _
  refine congrArg (V m c main_v5) (funext fun a => Fin.ext ?_)
  match a with
  | ⟨0, _⟩ => show win0_3.index t 0 * 1 + 1 * 0 = 0; rw [(idx3 t).1]
  | ⟨1, _⟩ => show win0_3.index t 1 * 2816 + 1 * k.val = k.val; rw [(idx3 t).2.1]; omega
  | ⟨2, _⟩ => show win0_3.index t 2 * 1024 + 1 * j.val = j.val; rw [(idx3 t).2.2]; omega

theorem blk4 (c : Dev nD) (t : Fin cfg0.N) (k : Fin 1024) :
    (iblk m c 4 t : Vec Ideal S1x1024 .f32) (ix2 0 k) = (m ((c : Thread nD τ).loc main_arg4) : Vec Ideal S2x3x1024 .f32) (ix3 0 0 k) := by
  rw [← V_g m c k]
  unfold iblk
  rw [View.read_apply]
  show V m c main_v10 _ = _
  refine congrArg (V m c main_v10) (funext fun a => Fin.ext ?_)
  match a with
  | ⟨0, _⟩ => show win0_4.index t 0 * 1 + 1 * 0 = 0; rw [(idx4 t).1]
  | ⟨1, _⟩ => show win0_4.index t 1 * 1024 + 1 * k.val = k.val; rw [(idx4 t).2]; omega

theorem blk5 (c : Dev nD) (t : Fin cfg0.N) (k : Fin 1024) :
    (iblk m c 5 t : Vec Ideal S1x1024 .f32) (ix2 0 k) = (m ((c : Thread nD τ).loc main_arg5) : Vec Ideal S2x3x1024 .f32) (ix3 0 0 k) := by
  rw [← V_b m c k]
  unfold iblk
  rw [View.read_apply]
  show V m c main_v11 _ = _
  refine congrArg (V m c main_v11) (funext fun a => Fin.ext ?_)
  match a with
  | ⟨0, _⟩ => show win0_5.index t 0 * 1 + 1 * 0 = 0; rw [(idx5 t).1]
  | ⟨1, _⟩ => show win0_5.index t 1 * 1024 + 1 * k.val = k.val; rw [(idx5 t).2]; omega

/-! ## The result -/

/-- The result array's contents, over the arguments as launched. -/
abbrev result (c : Dev nD) : Vec Ideal S1x4096x1024 .f32 :=
  ffnA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0 1 2 0 0 0

/-- The rows the body keeps at point `n`. -/
theorem kept_eq (c : Dev nD) (t : Fin cfg0.N) (ht : t.val < 4) (r d : Fin 1024) :
    (outsAt0 m c t.val t.isLt).2 (ix2 r d)
      = keepA (m ((c : Thread nD τ).loc main_arg0)) (m ((c : Thread nD τ).loc main_arg1)) (m ((c : Thread nD τ).loc main_arg2)) (m ((c : Thread nD τ).loc main_arg3)) 0 1 2 0 0
          0 ⟨t.val * 1024 + r.val, by omega⟩ d := by
  have key : (outsAt0 m c t.val t.isLt).2 (ix2 r d) = keep (iblk m c 0 t) (iblk m c 1 t) (iblk m c 2 t) (iblk m c 3 t) 0 1 2 r d := by
    by_cases h0 : t.val % 5 = 0
    · rw [outsAt0_A m c t h0 ht (by omega)]
      dsimp only
      apply keep_A
    · rw [outsAt0_B m c t h0 ht (by omega)]
      dsimp only
      apply keep_B
  have e : min t.val 3 = t.val := by omega
  rw [key]
  unfold keep keepA gated gatedA proj projA hid
  simp only [blk0, blk1, blk2, blk3, e]

/-- Each block written back is the result's rows there. -/
theorem flushed_eq (c : Dev nD) (t : Fin cfg0.N) (hf : (cfg0.win 6).flush t = true) :
    (dats m 0 c).flushed 6 t = ((cfg0.win 6).blk t).view.read (Elt Ideal) (result m c) := by
  have h1 : 1 ≤ t.val := (flush6 t).mp hf
  have hN : t.val < 5 := lt_of_lt_of_eq t.isLt (show cfg0.N = 5 from N_0)
  have key : ∀ r d : Fin 1024, (outsAt0 m c t.val t.isLt).1 (ix3 0 r d)
      = rowNorm (fun k => (outsAt0 m c (t.val - 1) (Nat.lt_of_le_of_lt (Nat.sub_le _ _) t.isLt)).2 (ix2 r k))
          (fun k => (iblk m c 4 t : Vec Ideal S1x1024 .f32) (ix2 0 k)) (fun k => (iblk m c 5 t : Vec Ideal S1x1024 .f32) (ix2 0 k)) d := by
    intro r d
    by_cases h : t.val < 4
    · rw [outsAt0_B m c t (by omega) h (by omega)]
      dsimp only
      apply out_B
    · rw [outsAt0_C m c t (by omega) h (by omega)]
      dsimp only
      apply out_C
  rw [Cert.FfnCtxIdeal.Value.flushed6]
  refine funext fun y => ?_
  show (outsAt0 m c t.val t.isLt).1 y = result m c (((cfg0.win 6).blk t).view.emb y)
  obtain ⟨r, d, rfl⟩ : ∃ (r d : Fin 1024), y = ix3 0 r d := ⟨y 1, y 2, (Idealize.ShloMosaic.eq_ix3 y).trans (by congr 1; exact Fin.ext (by have h : (y 0).val < 1 := (y 0).isLt; show (y 0).val = 0; omega))⟩
  have e0 : (((cfg0.win 6).blk t).view.emb (ix3 0 r d)) 0 = (0 : Fin 1) :=
    Fin.ext (by show win0_6.index t 0 * 1 + 1 * 0 = 0; rw [(idx6 t).1])
  have e1 : (((cfg0.win 6).blk t).view.emb (ix3 0 r d)) 1 = (⟨(t.val - 1) * 1024 + r.val, by omega⟩ : Fin 4096) :=
    Fin.ext (by show win0_6.index t 1 * 1024 + 1 * r.val = (t.val - 1) * 1024 + r.val; rw [(idx6 t).2.1]; omega)
  have e2 : (((cfg0.win 6).blk t).view.emb (ix3 0 r d)) 2 = d :=
    Fin.ext (by show win0_6.index t 2 * 1024 + 1 * d.val = d.val; rw [(idx6 t).2.2]; omega)
  rw [key]
  unfold result ffnA
  rw [e0, e1, e2]
  exact rowNorm_congr (fun k => kept_eq m c ⟨t.val - 1, by omega⟩ (by show t.val - 1 < 4; omega) r k) (fun k => blk4 m c t k) (fun k => blk5 m c t k) d

/-- The blocks written back cover the array. -/
theorem final (c : Dev nD) : (dats m 0 c).arrAt 6 cfg0.N = result m c :=
  (dats m 0 c).arrAt_eq_of_cover 6 (result m c) (flushed_eq m c) fun i => by
    have h0 : (i 0 : Nat) < 1 := (i 0).isLt
    have h1 : (i 1 : Nat) < 4096 := (i 1).isLt
    have h2 : (i 2 : Nat) < 1024 := (i 2).isLt
    have hN : cfg0.N = 5 := N_0
    refine ⟨⟨(i 1).val / 1024 + 1, by omega⟩, (flush6 _).mpr (by show 1 ≤ (i 1).val / 1024 + 1; omega), ?_⟩
    generalize ht : (⟨(i 1).val / 1024 + 1, by omega⟩ : Fin cfg0.N) = t
    have htv : t.val = (i 1).val / 1024 + 1 := by rw [← ht]
    show i ∈ ((View.whole main_v12).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [(idx6 t).1]; omega
    | ⟨1, _⟩ => show win0_6.index t 1 * 1024 ≤ (i 1 : Nat) ∧ (i 1 : Nat) < win0_6.index t 1 * 1024 + 1024
                rw [(idx6 t).2.1]; omega
    | ⟨2, _⟩ => show win0_6.index t 2 * 1024 ≤ (i 2 : Nat) ∧ (i 2 : Nat) < win0_6.index t 2 * 1024 + 1024
                rw [(idx6 t).2.2]; omega

end Cert.FfnCtxValue
end
-- ==== Proof.FfnCtxRefValue.lean ====
module

public import proofs.«01_k».proof.Proof.FfnCtxArray
public import proofs.«01_k».proof.Proof.Gen.FfnCtxRefIdeal.Read

/-! The reference of the feed-forward call over the context: its stages at an entry, and its result array as `ffnA` of its arguments. -/

@[expose] public section

set_option maxRecDepth 16384

noncomputable section

open Idealize.ShloMosaic Idealize.ShloMosaic.TcCoe

namespace Cert.FfnCtxValue

open Cert.FfnValue (projA gatedA keepA ffnA at3 at4 eq_ix2 eq_ix3)
open Cert.FfnCtxRefIdeal.Read Cert.Layer Cert.FfnCtxIdeal

variable (X : Vec Ideal S1x4096x1024 .f32) (M : Vec Ideal S1x9x1024 .f32) (WI : Vec Ideal S2x2x1024x5632 .f32)
  (WO : Vec Ideal S2x2x2816x1024 .f32) (G B : Vec Ideal S2x3x1024 .f32)

/-- The one batch. -/
theorem only (b : Fin 1) : 0 = b.val := by omega

theorem ref_scale (b : Fin 1) (s : Fin 4096) (k : Fin 1024) :
    val_main_v5 (F := Ideal) M (ix3 b s k) = 1 + M (ix3 b 1 k) := by
  rw [val_main_v5_apply, val_main_v4_apply, val_main_v3_apply, val_main_cst_apply, val_main_v2_apply,
    val_main_v1_apply, val_main_v0_apply]
  refine congrArg₂ (· + ·) Ideal.ofBits_one_f32 (at3 M _ b 1 k ?_ ?_ ?_)
  · exact only b
  · rfl
  · show (0 * 1024 + k.val) % 1024 = k.val; omega

theorem ref_shift (b : Fin 1) (s : Fin 4096) (k : Fin 1024) :
    val_main_v10 (F := Ideal) M (ix3 b s k) = M (ix3 b 0 k) := by
  rw [val_main_v10_apply, val_main_v9_apply, val_main_v8_apply, val_main_v7_apply]
  refine at3 M _ b 0 k ?_ ?_ ?_
  · exact only b
  · rfl
  · show (0 * 1024 + k.val) % 1024 = k.val; omega

theorem ref_gate (b : Fin 1) (s : Fin 4096) (k : Fin 1024) :
    val_main_v29 (F := Ideal) M (ix3 b s k) = M (ix3 b 2 k) := by
  rw [val_main_v29_apply, val_main_v28_apply, val_main_v27_apply, val_main_v26_apply]
  refine at3 M _ b 2 k ?_ ?_ ?_
  · exact only b
  · rfl
  · show (0 * 1024 + k.val) % 1024 = k.val; omega

theorem ref_hid (b : Fin 1) (s : Fin 4096) (k : Fin 1024) :
    val_main_v11 (F := Ideal) X M (ix3 b s k) = X (ix3 b s k) * (1 + M (ix3 b 1 k)) + M (ix3 b 0 k) := by
  rw [val_main_v11_apply, val_main_v6_apply, ref_scale, ref_shift]
  rfl

theorem ref_wi (k : Fin 1024) (j : Fin 5632) : val_main_v13 (F := Ideal) WI (ix2 k j) = WI (ix4 0 0 k j) := by
  rw [val_main_v13_apply, val_main_v12_apply]
  refine at4 WI _ 0 0 k j rfl rfl ?_ ?_
  · show (k.val * 5632 + j.val) / 5632 % 1024 = k.val; omega
  · show (k.val * 5632 + j.val) % 5632 = j.val; omega

theorem ref_wo (k : Fin 2816) (j : Fin 1024) : val_main_v20 (F := Ideal) WO (ix2 k j) = WO (ix4 0 0 k j) := by
  rw [val_main_v20_apply, val_main_v19_apply]
  refine at4 WO _ 0 0 k j rfl rfl ?_ ?_
  · show (k.val * 1024 + j.val) / 1024 % 2816 = k.val; omega
  · show (k.val * 1024 + j.val) % 1024 = j.val; omega

theorem ref_proj (b : Fin 1) (s : Fin 4096) (j : Fin 5632) :
    val_main_v14 (F := Ideal) X M WI (ix3 b s j) = projA X M WI 0 1 0 0 b s j := by
  rw [val_main_v14_apply]
  refine Finset.sum_congr rfl fun k _ => ?_
  rw [eq_ix3 (lidx_main_v14 (ix3 b s j) k) b s k rfl rfl rfl, eq_ix2 (ridx_main_v14 (ix3 b s j) k) k j rfl rfl,
    ref_hid, ref_wi]

theorem ref_gated (b : Fin 1) (s : Fin 4096) (j : Fin 2816) :
    val_main_v18 (F := Ideal) X M WI (ix3 b s j) = gatedA X M WI 0 1 0 0 b s j := by
  rw [val_main_v18_apply, val_main_v17_apply, val_main_call0_v5_apply, val_main_call0_v4_apply,
    val_main_call0_cst_0_apply, val_main_call0_v3_apply, val_main_call0_v2_apply, val_main_call0_cst_apply,
    val_main_call0_v1_apply, val_main_call0_v0_apply, val_main_v16_apply, val_main_v15_apply,
    eq_ix3 (idx_main_v15 (ix3 b s j)) b s ⟨j.val, by have := j.isLt; omega⟩ rfl rfl rfl,
    eq_ix3 (idx_main_v16 (ix3 b s j)) b s ⟨2816 + j.val, by have := j.isLt; omega⟩ rfl rfl rfl,
    ref_proj, ref_proj]
  show projA X M WI 0 1 0 0 b s _ * (projA X M WI 0 1 0 0 b s _ * Ideal.div (Ideal.ofBits .f32 0x3F800000#32)
    (Ideal.ofBits .f32 0x3F800000#32 + Ideal.exp (-(projA X M WI 0 1 0 0 b s _)))) = _
  rw [Ideal.ofBits_one_f32]
  rfl

theorem ref_keep (b : Fin 1) (s : Fin 4096) (d : Fin 1024) :
    val_main_v31 (F := Ideal) X M WI WO (ix3 b s d) = keepA X M WI WO 0 1 2 0 0 b s d := by
  rw [val_main_v31_apply, val_main_v25_apply, val_main_v24_apply, val_main_cst_1_apply, val_main_v30_apply, ref_gate,
    val_main_v23_apply, val_main_v22_apply, val_main_cst_0_apply, val_main_v21_apply]
  have e : ∑ k : Fin 2816, (val_main_v18 (F := Ideal) X M WI) (lidx_main_v21 (ix3 b s d) k)
        * (val_main_v20 (F := Ideal) WO) (ridx_main_v21 (ix3 b s d) k)
      = ∑ k : Fin 2816, gatedA X M WI 0 1 0 0 b s k * WO (ix4 0 0 k d) :=
    Finset.sum_congr rfl fun k _ => by
      rw [eq_ix3 (lidx_main_v21 (ix3 b s d) k) b s k rfl rfl rfl, eq_ix2 (ridx_main_v21 (ix3 b s d) k) k d rfl rfl,
        ref_gated, ref_wo]
  rw [e]
  rfl

theorem ref_mean (b : Fin 1) (s : Fin 4096) (u : Fin 1) :
    val_main_v39 (F := Ideal) X M WI WO (ix3 b s u) = rowMean (fun k => keepA X M WI WO 0 1 2 0 0 b s k) := by
  rw [val_main_v39_apply, val_main_v38_apply, val_main_cst_3_apply, val_main_v37_apply, val_main_v36_apply,
    val_main_cst_2_apply]
  have e : ∑ k : Fin 1024, (val_main_v31 (F := Ideal) X M WI WO) (idx_main_v36 (idx_main_v37 (ix3 b s u)) k)
      = ∑ k : Fin 1024, keepA X M WI WO 0 1 2 0 0 b s k :=
    Finset.sum_congr rfl fun k _ => by
      rw [eq_ix3 (idx_main_v36 (idx_main_v37 (ix3 b s u)) k) b s k (only b) rfl rfl, ref_keep]
  rw [e]
  show Ideal.div (Ideal.ofBits .f32 0x00000000#32 + _) _ = _
  rw [Ideal.ofBits_zero_f32, zero_add]
  rfl

theorem ref_var (b : Fin 1) (s : Fin 4096) (u : Fin 1) :
    val_main_v46 (F := Ideal) X M WI WO (ix3 b s u)
      = rowMean (fun k => (keepA X M WI WO 0 1 2 0 0 b s k - rowMean (fun k => keepA X M WI WO 0 1 2 0 0 b s k))
          * (keepA X M WI WO 0 1 2 0 0 b s k - rowMean (fun k => keepA X M WI WO 0 1 2 0 0 b s k))) := by
  rw [val_main_v46_apply, val_main_v45_apply, val_main_cst_5_apply, val_main_v44_apply, val_main_v43_apply,
    val_main_cst_4_apply]
  have e : ∑ k : Fin 1024, (val_main_v42 (F := Ideal) X M WI WO) (idx_main_v43 (idx_main_v44 (ix3 b s u)) k)
      = ∑ k : Fin 1024, (keepA X M WI WO 0 1 2 0 0 b s k - rowMean (fun k => keepA X M WI WO 0 1 2 0 0 b s k))
          * (keepA X M WI WO 0 1 2 0 0 b s k - rowMean (fun k => keepA X M WI WO 0 1 2 0 0 b s k)) :=
    Finset.sum_congr rfl fun k _ => by
      rw [eq_ix3 (idx_main_v43 (idx_main_v44 (ix3 b s u)) k) b s k (only b) rfl rfl, val_main_v42_apply,
        val_main_v41_apply, ref_keep, val_main_v40_apply, eq_ix3 (idx_main_v40 (ix3 b s k)) b s 0 (only b) rfl rfl, ref_mean]
      rfl
  rw [e]
  show Ideal.div (Ideal.ofBits .f32 0x00000000#32 + _) _ = _
  rw [Ideal.ofBits_zero_f32, zero_add]
  rfl

theorem ref_gain (b : Fin 1) (s : Fin 4096) (d : Fin 1024) :
    val_main_v55 (F := Ideal) G (ix3 b s d) = G (ix3 0 0 d) := by
  rw [val_main_v55_apply, val_main_v54_apply, val_main_v33_apply, val_main_v32_apply]
  refine at3 G _ 0 0 d ?_ ?_ ?_
  · rfl
  · rfl
  · show d.val % 1024 = d.val; omega

theorem ref_bias (b : Fin 1) (s : Fin 4096) (d : Fin 1024) :
    val_main_v58 (F := Ideal) B (ix3 b s d) = B (ix3 0 0 d) := by
  rw [val_main_v58_apply, val_main_v57_apply, val_main_v35_apply, val_main_v34_apply]
  refine at3 B _ 0 0 d ?_ ?_ ?_
  · rfl
  · rfl
  · show d.val % 1024 = d.val; omega

/-- The reference's result array is the same function of its arguments as the kernel's. -/
theorem ref_result : val_main_v59 (F := Ideal) X M WI WO G B = ffnA X M WI WO G B 0 1 2 0 0 0 := by
  funext i
  obtain ⟨b, s, d, rfl⟩ : ∃ b s d, i = ix3 b s d := ⟨i 0, i 1, i 2, eq_ix3 i _ _ _ rfl rfl rfl⟩
  rw [val_main_v59_apply, val_main_v56_apply, ref_gain, ref_bias, val_main_v53_apply, val_main_v48_apply, ref_keep,
    val_main_v47_apply, eq_ix3 (idx_main_v47 (ix3 b s d)) b s 0 (only b) rfl rfl, ref_mean, val_main_v52_apply,
    eq_ix3 (idx_main_v52 (ix3 b s d)) b s 0 (only b) rfl rfl, val_main_v51_apply, val_main_v50_apply, ref_var,
    val_main_v49_apply, val_main_cst_6_apply]
  rfl

end Cert.FfnCtxValue
end
-- ==== Proof.FfnCtxClaim.lean ====
module

public import proofs.«01_k».proof.Defs
public import proofs.«01_k».proof.Proof.FfnCtxRefValue
public import proofs.«01_k».proof.Proof.Gen.FfnCtx.Frame

/-! The claims of the feed-forward call over the context. -/

@[expose] public section

set_option maxRecDepth 16384

noncomputable section

open Idealize.ShloMosaic Idealize.ShloMosaic.TcCoe Idealize.SL.Sem

namespace Cert.FfnCtxValue

theorem frame_ffnCtx : Cert.quiescent_FfnCtx := fun m ρ _ => Cert.FfnCtx.Gen.frame m ρ

theorem frame_ffnCtxIdeal : Cert.quiescent_FfnCtxIdeal := fun m ρ _ => Cert.FfnCtxIdeal.Gen.frame m ρ

theorem frame_ffnCtxRef : Cert.quiescent_FfnCtxRefIdeal := fun m ρ _ =>
  (θ_run Cert.FfnCtxRefIdeal.defs _ _).mono (fun r h => ⟨fun c => (h c).2, sem_eq_zero_of_no_sems (by decide) r.2⟩)
    (Cert.FfnCtxRefIdeal.Value.run (F := Ideal) m ρ)

/-- From memories that agree on the arguments, the kernel and the reference both end with `ffnA` of them, slab 0 and modulation rows 0 to 2. -/
theorem algebraic : Cert.algebraic_FfnCtxIdeal_FfnCtxRefIdeal := by
  intro m ρ m' ρ' _ hagree
  refine ⟨fun c => result m c, ?_, ?_⟩
  · refine (θ_run Cert.FfnCtxIdeal.defs _ _).mono (fun _ h c => ?_) (Cert.FfnCtxIdeal.Value.run_blocks m ρ)
    exact ⟨(h c).1.trans (final m c), (h c).2⟩
  · refine (θ_run Cert.FfnCtxRefIdeal.defs _ _).mono (fun _ h c => ?_) (Cert.FfnCtxRefIdeal.Value.run (F := Ideal) m' ρ')
    refine ⟨(h c).1.trans ((Cert.FfnCtxRefIdeal.Read.val_main_v59_eq m' c).trans ?_), (h c).2⟩
    obtain ⟨e0, e1, e2, e3, e4, e5⟩ := hagree c
    rw [e0, e1, e2, e3, e4, e5]
    exact ref_result _ _ _ _ _ _

end Cert.FfnCtxValue
end
-- ==== Proof.DftFoldPoint.lean ====
module

public import proofs.«01_k».proof.Proof.Gen.DftFoldIdeal.Value
public import proofs.«01_k».proof.Proof.QkvPoint
public import proofs.«01_k».proof.Proof.QkvRefValue
public import Idealize.ShloMosaic.Lib.KernelVsHost

/-! What one grid point of the folding of the Fourier transform leaves in its two output blocks. -/

@[expose] public section

set_option maxRecDepth 16384

noncomputable section

open Idealize.ShloMosaic Idealize.ShloMosaic.TcCoe Idealize.SL.Sem

namespace Cert.DftFoldValue

open Cert.DftFoldIdeal Cert.DftFoldIdeal.Gen

theorem hz4 : (![0, 0, 0, 0] : Fin 4 → Nat) = fun _ => 0 := funext fun a => by fin_cases a <;> rfl

/-- The modulated lower half. -/
theorem low_apply (x : Vec Ideal S1x1x1024x1024 .f32) (s c : Vec Ideal S1x1x1024 .f32) (r k : Fin 1024) :
    k0_pay4 x s c (ix2 r k) = x (ix4 0 0 r k) * (1 + c (ix3 0 0 k)) + s (ix3 0 0 k) := by
  unfold_payloads
  pointwise

/-- The modulated upper half. -/
theorem high_apply (x : Vec Ideal S1x1x1024x1024 .f32) (s c : Vec Ideal S1x1x1024 .f32) (r k : Fin 1024) :
    k0_pay5 x s c (ix2 r k) = x (ix4 0 0 r k) * (1 + c (ix3 0 0 k)) + s (ix3 0 0 k) := by
  unfold_payloads
  pointwise

/-! ## Rows reversed -/

/-- The product with the reversal matrix picks out one entry. -/
theorem pick (w t : Fin 256 → EReal) (r : Fin 256) (hw : ∀ j : Fin 256, w j = if r.val + j.val = 255 then 1 else 0) :
    ∑ j : Fin 256, w j * t j = t ⟨255 - r.val, by omega⟩ := by
  rw [Finset.sum_eq_single (⟨255 - r.val, by omega⟩ : Fin 256)]
  · rw [hw, if_pos (by show r.val + (255 - r.val) = 255; omega), one_mul]
  · intro j _ hj
    rw [hw, if_neg (fun h => hj (Fin.ext (by show j.val = 255 - r.val; omega))), zero_mul]
  · exact fun h => absurd (Finset.mem_univ _) h

/-- A window of rows at an entry. -/
theorem rows_apply {m n w : Nat} (o : Nat) (u : FVec Ideal ⟨2, ![m, n]⟩ .f32)
    (h : (⟨2, ![m, n]⟩ : Shape).Slices (![o, 0] : Fin 2 → Nat) ⟨2, ![w, n]⟩) (r : Fin w) (d : Fin n) (r' : Fin m) (hr : r'.val = o + r.val) :
    extractStridedSlice ⟨2, ![w, n]⟩ ![o, 0] u h (ix2 r d) = u (ix2 r' d) :=
  extractStridedSlice_apply _ _ _ _ _ fun a => by
    match a with
    | ⟨0, _⟩ => exact hr
    | ⟨1, _⟩ => show d.val = 0 + d.val; omega

/-- The four groups of 256 rows, last first. -/
def rowGroup (u : FVec Ideal S1024x1024 .bf16) : Fin 4 → FVec Ideal S256x1024 .bf16 := fun n => match n with
  | ⟨0, _⟩ => extractStridedSlice S256x1024 ![768, 0] u slices_S1024x1024_o768_0_S256x1024
  | ⟨1, _⟩ => extractStridedSlice S256x1024 ![512, 0] u slices_S1024x1024_o512_0_S256x1024
  | ⟨2, _⟩ => extractStridedSlice S256x1024 ![256, 0] u slices_S1024x1024_o256_0_S256x1024
  | ⟨3, _⟩ => extractStridedSlice S256x1024 ![0, 0] u slices_S1024x1024_o0_0_S256x1024

theorem rowGroup_apply (u : FVec Ideal S1024x1024 .bf16) (n : Fin 4) (r : Fin 256) (d : Fin 1024) :
    rowGroup u n (ix2 r d) = u (ix2 ⟨768 - 256 * n.val + r.val, by omega⟩ d) := by
  match n with
  | ⟨0, _⟩ => exact rows_apply 768 u slices_S1024x1024_o768_0_S256x1024 r d _ rfl
  | ⟨1, _⟩ => exact rows_apply 512 u slices_S1024x1024_o512_0_S256x1024 r d _ rfl
  | ⟨2, _⟩ => exact rows_apply 256 u slices_S1024x1024_o256_0_S256x1024 r d _ rfl
  | ⟨3, _⟩ => exact rows_apply 0 u slices_S1024x1024_o0_0_S256x1024 r d _ rfl

/-- A group's rows times a 256 by 256 matrix. -/
def turnRows (w : Vec Ideal S256x256 .bf16) (u : FVec Ideal S256x1024 .bf16) : FVec Ideal S256x1024 .f32 :=
  matmul dot_S256x256_S256x1024_S256x1024_1_0_0_1_n_n none (shapeCast S256x256 w shapeCasts_S256x256_S256x256 : FVec Ideal S256x256 .bf16) u
    (constant S256x1024 .f32 0x00000000#32)

theorem turnRows_apply (w : Vec Ideal S256x256 .bf16) (u : FVec Ideal S256x1024 .bf16) (r : Fin 256) (d : Fin 1024) :
    turnRows w u (ix2 r d) = ∑ j : Fin 256, w (ix2 r j) * u (ix2 j d) := by
  unfold turnRows
  pointwise

/-- All rows in reverse order. -/
def reversed (w : Vec Ideal S256x256 .bf16) (u : FVec Ideal S1024x1024 .bf16) : FVec Ideal S1024x1024 .f32 :=
  concatenate S1024x1024 0 (List.ofFn fun n : Fin 4 => (⟨S256x1024, turnRows w (rowGroup u n)⟩ : (s : Shape) × (s.Idx → EReal)))
    concatenates_S256x1024_S256x1024_S256x1024_S256x1024_S1024x1024_d0

theorem reversed_apply (w : Vec Ideal S256x256 .bf16) (hw : ∀ r j : Fin 256, w (ix2 r j) = if r.val + j.val = 255 then 1 else 0)
    (u : FVec Ideal S1024x1024 .bf16) (i d : Fin 1024) : reversed w u (ix2 i d) = u (ix2 ⟨1023 - i.val, by omega⟩ d) := by
  unfold reversed
  refine (concatenate_ofFn_apply (t := S1024x1024) (s₁ := S256x1024) (0 : Fin 2) _ _ rfl 256 rfl (ix2 i d) (⟨i.val / 256, by omega⟩ : Fin 4) rfl
    (ix2 ⟨i.val % 256, by omega⟩ d) rfl (fun b hb => ?_)).trans ?_
  · match b with
    | ⟨0, _⟩ => exact absurd rfl hb
    | ⟨1, _⟩ => rfl
  rw [turnRows_apply, pick _ _ (⟨i.val % 256, by omega⟩ : Fin 256) (fun j => hw _ j), rowGroup_apply]
  exact congrArg u (congrArg (fun a => ix2 a d) (Fin.ext (by
    show 768 - 256 * (i.val / 256) + (255 - i.val % 256) = 1023 - i.val
    have := i.isLt
    omega)))

/-- The rows the lower half is folded with: the row carried at the first place, the others in reverse order. -/
theorem partner_apply (u : FVec Ideal S1024x1024 .bf16) (z : Vec Ideal S1x1024 .f32) (w : Vec Ideal S256x256 .bf16)
    (hw : ∀ r j : Fin 256, w (ix2 r j) = if r.val + j.val = 255 then 1 else 0) (i d : Fin 1024) :
    k0_pay6 u z w w w w (ix2 i d) = if h : i.val = 0 then z (ix2 0 d) else u (ix2 ⟨1024 - i.val, by omega⟩ d) := by
  have e : k0_pay6 u z w w w w = select (cmpi .eq (iota .tc S1024x1024 32 [0] iota_S1024x1024_d0_w32) (broadcast S1024x1024 0#32))
      (broadcastTo S1024x1024 (shapeCast S1x1024 z shapeCasts_S1x1024_S1x1024) broadcasts_S1x1024_S1024x1024)
      (dynamicRotate 0 1#32 none (reversed w u) rotates_S1024x1024_d0) := rfl
  rw [e, ValueIdx.select_apply]
  have hc : cmpi .eq (iota .tc S1024x1024 32 [0] iota_S1024x1024_d0_w32) (broadcast S1024x1024 0#32) (ix2 i d)
      = IntOp.cmpi .eq (BitVec.ofNat 32 i.val) (BitVec.ofNat 32 0) := by
    show IntOp.cmpi .eq (BitVec.ofNat 32 (0 * 1024 + i.val)) _ = _
    rw [Nat.zero_mul, Nat.zero_add]
    rfl
  rw [hc]
  have hi := i.isLt
  by_cases h0 : i.val = 0
  · rw [dif_pos h0, (WordCmp.cmpi_eq_ofNat_eq_one_iff (by omega) (by omega)).mpr h0, WordCmp.select_one]
    pointwise
  · rw [dif_neg h0, (WordCmp.cmpi_eq_ofNat_eq_zero_iff (by omega) (by omega)).mpr h0, WordCmp.select_zero]
    refine (dynamicRotate_apply 0 1#32 (reversed w u) _ (ix2 i d) (ix2 ⟨i.val - 1, by omega⟩ d) fun q => ?_).trans ?_
    · match q with
      | ⟨0, _⟩ => show i.val - 1 = (i.val + 1024 - 1 % 1024) % 1024; omega
      | ⟨1, _⟩ => rfl
    · rw [reversed_apply w hw]
      exact congrArg u (congrArg (fun a => ix2 a d) (Fin.ext (by show 1023 - (i.val - 1) = 1024 - i.val; omega)))

/-! ## The transform within a head -/

/-- The four heads' columns. -/
def head (u : FVec Ideal S1024x1024 .bf16) : Fin 4 → FVec Ideal S1024x256 .bf16 := fun n => match n with
  | ⟨0, _⟩ => extractStridedSlice S1024x256 ![0, 0] u slices_S1024x1024_o0_0_S1024x256
  | ⟨1, _⟩ => extractStridedSlice S1024x256 ![0, 256] u slices_S1024x1024_o0_256_S1024x256
  | ⟨2, _⟩ => extractStridedSlice S1024x256 ![0, 512] u slices_S1024x1024_o0_512_S1024x256
  | ⟨3, _⟩ => extractStridedSlice S1024x256 ![0, 768] u slices_S1024x1024_o0_768_S1024x256

theorem head_apply (u : FVec Ideal S1024x1024 .bf16) (n : Fin 4) (r : Fin 1024) (d : Fin 256) :
    head u n (ix2 r d) = u (ix2 r ⟨256 * n.val + d.val, by omega⟩) := by
  match n with
  | ⟨0, _⟩ => exact Cert.QkvValue.cut_apply 0 u slices_S1024x1024_o0_0_S1024x256 r d _ (by show 256 * 0 + d.val = _; omega)
  | ⟨1, _⟩ => exact Cert.QkvValue.cut_apply 256 u slices_S1024x1024_o0_256_S1024x256 r d _ (by show 256 * 1 + d.val = _; omega)
  | ⟨2, _⟩ => exact Cert.QkvValue.cut_apply 512 u slices_S1024x1024_o0_512_S1024x256 r d _ (by show 256 * 2 + d.val = _; omega)
  | ⟨3, _⟩ => exact Cert.QkvValue.cut_apply 768 u slices_S1024x1024_o0_768_S1024x256 r d _ (by show 256 * 3 + d.val = _; omega)

/-- The heads of the first eight rows. -/
def head8 (u : FVec Ideal S8x1024 .bf16) : Fin 4 → FVec Ideal S8x256 .bf16 := fun n => match n with
  | ⟨0, _⟩ => extractStridedSlice S8x256 ![0, 0] u slices_S8x1024_o0_0_S8x256
  | ⟨1, _⟩ => extractStridedSlice S8x256 ![0, 256] u slices_S8x1024_o0_256_S8x256
  | ⟨2, _⟩ => extractStridedSlice S8x256 ![0, 512] u slices_S8x1024_o0_512_S8x256
  | ⟨3, _⟩ => extractStridedSlice S8x256 ![0, 768] u slices_S8x1024_o0_768_S8x256

theorem head8_apply (u : FVec Ideal S8x1024 .bf16) (n : Fin 4) (r : Fin 8) (d : Fin 256) :
    head8 u n (ix2 r d) = u (ix2 r ⟨256 * n.val + d.val, by omega⟩) := by
  match n with
  | ⟨0, _⟩ => exact Cert.QkvValue.cut_apply 0 u slices_S8x1024_o0_0_S8x256 r d _ (by show 256 * 0 + d.val = _; omega)
  | ⟨1, _⟩ => exact Cert.QkvValue.cut_apply 256 u slices_S8x1024_o0_256_S8x256 r d _ (by show 256 * 1 + d.val = _; omega)
  | ⟨2, _⟩ => exact Cert.QkvValue.cut_apply 512 u slices_S8x1024_o0_512_S8x256 r d _ (by show 256 * 2 + d.val = _; omega)
  | ⟨3, _⟩ => exact Cert.QkvValue.cut_apply 768 u slices_S8x1024_o0_768_S8x256 r d _ (by show 256 * 3 + d.val = _; omega)

def table (w : Vec Ideal S256x256 .bf16) (u : FVec Ideal S1024x256 .bf16) : FVec Ideal S1024x256 .f32 :=
  matmul dot_S1024x256_S256x256_S1024x256_1_0_0_1_n_n none u (shapeCast S256x256 w shapeCasts_S256x256_S256x256 : FVec Ideal S256x256 .bf16)
    (constant S1024x256 .f32 0x00000000#32)

theorem table_apply (w : Vec Ideal S256x256 .bf16) (u : FVec Ideal S1024x256 .bf16) (r : Fin 1024) (d : Fin 256) :
    table w u (ix2 r d) = ∑ k : Fin 256, u (ix2 r k) * w (ix2 k d) := by
  unfold table
  pointwise

def table8 (w : Vec Ideal S256x256 .bf16) (u : FVec Ideal S8x256 .bf16) : FVec Ideal S8x256 .f32 :=
  matmul dot_S8x256_S256x256_S8x256_1_0_0_1_n_n none u (shapeCast S256x256 w shapeCasts_S256x256_S256x256 : FVec Ideal S256x256 .bf16)
    (constant S8x256 .f32 0x00000000#32)

theorem table8_apply (w : Vec Ideal S256x256 .bf16) (u : FVec Ideal S8x256 .bf16) (r : Fin 8) (d : Fin 256) :
    table8 w u (ix2 r d) = ∑ k : Fin 256, u (ix2 r k) * w (ix2 k d) := by
  unfold table8
  pointwise

/-- Every head of 256 columns times a table. -/
def chan (w : Vec Ideal S256x256 .bf16) (u : FVec Ideal S1024x1024 .bf16) : FVec Ideal S1024x1024 .f32 :=
  concatenate S1024x1024 1 (List.ofFn fun n : Fin 4 => (⟨S1024x256, table w (head u n)⟩ : (s : Shape) × (s.Idx → EReal)))
    concatenates_S1024x256_S1024x256_S1024x256_S1024x256_S1024x1024_d1

def chan8 (w : Vec Ideal S256x256 .bf16) (u : FVec Ideal S8x1024 .bf16) : FVec Ideal S8x1024 .f32 :=
  concatenate S8x1024 1 (List.ofFn fun n : Fin 4 => (⟨S8x256, table8 w (head8 u n)⟩ : (s : Shape) × (s.Idx → EReal)))
    concatenates_S8x256_S8x256_S8x256_S8x256_S8x1024_d1

/-- The transform within a head, of one row: the head's entries against a column of the table. -/
def headSum (t : Fin 1024 → EReal) (w : Fin 256 → Fin 256 → EReal) (d : Fin 1024) : EReal :=
  ∑ k : Fin 256, t ⟨256 * (d.val / 256) + k.val, by omega⟩ * w k ⟨d.val % 256, by omega⟩

theorem chan_apply (w : Vec Ideal S256x256 .bf16) (u : FVec Ideal S1024x1024 .bf16) (r d : Fin 1024) :
    chan w u (ix2 r d) = headSum (fun k => u (ix2 r k)) (fun k e => w (ix2 k e)) d := by
  unfold chan headSum
  refine (concatenate_ofFn_apply (t := S1024x1024) (s₁ := S1024x256) (1 : Fin 2) _ _ rfl 256 rfl (ix2 r d) (⟨d.val / 256, by omega⟩ : Fin 4) rfl
    (ix2 r ⟨d.val % 256, by omega⟩) rfl (fun b hb => ?_)).trans ?_
  · match b with
    | ⟨0, _⟩ => rfl
    | ⟨1, _⟩ => exact absurd rfl hb
  rw [table_apply]
  exact Finset.sum_congr rfl fun k _ => congrArg (· * w (ix2 k _)) (head_apply u _ r k)

theorem chan8_apply (w : Vec Ideal S256x256 .bf16) (u : FVec Ideal S8x1024 .bf16) (r : Fin 8) (d : Fin 1024) :
    chan8 w u (ix2 r d) = headSum (fun k => u (ix2 r k)) (fun k e => w (ix2 k e)) d := by
  unfold chan8 headSum
  refine (concatenate_ofFn_apply (t := S8x1024) (s₁ := S8x256) (1 : Fin 2) _ _ rfl 256 rfl (ix2 r d) (⟨d.val / 256, by omega⟩ : Fin 4) rfl
    (ix2 r ⟨d.val % 256, by omega⟩) rfl (fun b hb => ?_)).trans ?_
  · match b with
    | ⟨0, _⟩ => rfl
    | ⟨1, _⟩ => exact absurd rfl hb
  rw [table8_apply]
  exact Finset.sum_congr rfl fun k _ => congrArg (· * w (ix2 k _)) (head8_apply u _ r k)

/-! ## The three values stored -/

theorem first_apply (a : FVec Ideal S1024x1024 .f32) (u : FVec Ideal S1024x1024 .bf16) (z : Vec Ideal S1x1024 .f32) (w c : Vec Ideal S256x256 .bf16)
    (r d : Fin 1024) :
    k0_pay11 (k0_pay8 a u z w w w w) (k0_pay9 a u z w w w w c) (k0_pay10 a u z w w w w c) c c (ix4 0 0 r d)
      = headSum (fun k => a (ix2 r k) + k0_pay6 u z w w w w (ix2 r k)) (fun k e => c (ix2 k e)) d := by
  have e : k0_pay11 (k0_pay8 a u z w w w w) (k0_pay9 a u z w w w w c) (k0_pay10 a u z w w w w c) c c
      = shapeCast S1x1x1024x1024 (chan c (k0_pay8 a u z w w w w)) shapeCasts_S1024x1024_S1x1x1024x1024 := rfl
  rw [e]
  refine (shapeCast_apply _ _ (ix4 0 0 r d) (ix2 r d) ?_).trans ?_
  · rw [Shape.rowMajor_val_two, Shape.rowMajor_val_four]
    show r.val * 1024 + d.val = ((0 * 1 + 0) * 1024 + r.val) * 1024 + d.val
    omega
  exact chan_apply c _ r d

theorem second_apply (a p : FVec Ideal S1024x1024 .f32) (c : Vec Ideal S256x256 .bf16) (r d : Fin 1024) :
    k0_pay1 (k0_pay12 a p c c c c) (ix4 0 0 r d) = headSum (fun k => a (ix2 r k) - p (ix2 r k)) (fun k e => c (ix2 k e)) d := by
  have e : k0_pay1 (k0_pay12 a p c c c c)
      = shapeCast S1x1x1024x1024 (chan c (subf a p)) shapeCasts_S1024x1024_S1x1x1024x1024 := rfl
  rw [e]
  refine (shapeCast_apply _ _ (ix4 0 0 r d) (ix2 r d) ?_).trans ?_
  · rw [Shape.rowMajor_val_two, Shape.rowMajor_val_four]
    show r.val * 1024 + d.val = ((0 * 1 + 0) * 1024 + r.val) * 1024 + d.val
    omega
  exact chan_apply c _ r d

theorem third_apply (u : FVec Ideal S1024x1024 .bf16) (c : Vec Ideal S256x256 .bf16) (r : Fin 8) (d : Fin 1024) :
    k0_pay2 u c c c c (ix3 0 r d) = headSum (fun k => u (ix2 (⟨r.val, by omega⟩ : Fin 1024) k)) (fun k e => c (ix2 k e)) d := by
  have e : k0_pay2 u c c c c = shapeCast S1x8x1024 (chan8 c (extractStridedSlice S8x1024 ![0, 0] u slices_S1024x1024_o0_0_S8x1024))
      shapeCasts_S8x1024_S1x8x1024 := rfl
  rw [e]
  refine (shapeCast_apply _ _ (ix3 0 r d) (ix2 r d) ?_).trans ?_
  · rw [Shape.rowMajor_val_two, Shape.rowMajor_val_three]
    show r.val * 1024 + d.val = (0 * 8 + r.val) * 1024 + d.val
    omega
  rw [chan8_apply]
  exact congrArg (fun t => headSum t _ d) (funext fun k => rows_apply 0 u _ r k _ (by show r.val = 0 + r.val; omega))

/-! ## The two blocks -/

/-- A load of a whole rank-four block. -/
theorem ld4_apply {e : EltTy} (X : Vec Ideal S1x1x1024x1024 e)
    (inb : ∀ a, (![0, 0, 0, 0] : Fin 4 → Nat) a + (![1, 1, 1024, 1024] : Fin 4 → Nat) a ≤ S1x1x1024x1024.size a) :
    View.ld X (Rect.unit ![0, 0, 0, 0] ![1, 1, 1024, 1024] inb) = X := View.ld_unit_zero (S := S1x1x1024x1024) hz4 inb X

section Block
variable (x0 x1 : Vec Ideal S1x1x1024x1024 .f32) (x2 : Vec Ideal S1x9x1024 .f32) (x3 x4 : Vec Ideal S256x256 .bf16)

/-- A row modulated. -/
def modRow (x : Vec Ideal S1x1x1024x1024 .f32) (r k : Fin 1024) : EReal := x (ix4 0 0 r k) * (1 + x2 (ix3 0 4 k)) + x2 (ix3 0 3 k)

/-- The row folded with: nothing at the first place, the upper half's rows backwards after it. -/
def partner (r k : Fin 1024) : EReal := if h : r.val = 0 then 0 else modRow x2 x1 ⟨1024 - r.val, by omega⟩ k

/-- The two transforms, of the sums and of the differences. -/
def folded : Vec Ideal S1x2x1024x1024 .bf16 := fun i =>
  if (i 1).val = 0 then headSum (fun k => modRow x2 x0 (i 2) k + partner x1 x2 (i 2) k) (fun k e => x3 (ix2 k e)) (i 3)
  else headSum (fun k => modRow x2 x0 (i 2) k - partner x1 x2 (i 2) k) (fun k e => x4 (ix2 k e)) (i 3)

/-- The partner the body forms from its loads, with a row of zeros carried. -/
theorem partner_ld (z : Vec Ideal S1x1024 .f32) (hz : ∀ k : Fin 1024, z (ix2 0 k) = 0) (w : Vec Ideal S256x256 .bf16)
    (hw : ∀ r j : Fin 256, w (ix2 r j) = if r.val + j.val = 255 then 1 else 0) (r k : Fin 1024) :
    k0_pay6 (k0_pay5 x1 (View.ld x2 (Rect.unit ![0, 3, 0] ![1, 1, 1024] inb_S1x9x1024_S1x1x1024_0_3_0))
      (View.ld x2 (Rect.unit ![0, 4, 0] ![1, 1, 1024] inb_S1x9x1024_S1x1x1024_0_4_0))) z w w w w (ix2 r k) = partner x1 x2 r k := by
  rw [partner_apply _ z w hw]
  unfold partner modRow
  by_cases h : r.val = 0
  · rw [dif_pos h, dif_pos h, hz]
  · rw [dif_neg h, dif_neg h, high_apply, Cert.FfnValue.ld3_apply x2 3 0 _ 0 k 3 k rfl (by omega), Cert.FfnValue.ld3_apply x2 4 0 _ 0 k 4 k rfl (by omega)]

theorem low_ld (r k : Fin 1024) :
    k0_pay4 x0 (View.ld x2 (Rect.unit ![0, 3, 0] ![1, 1, 1024] inb_S1x9x1024_S1x1x1024_0_3_0))
      (View.ld x2 (Rect.unit ![0, 4, 0] ![1, 1, 1024] inb_S1x9x1024_S1x1x1024_0_4_0)) (ix2 r k) = modRow x2 x0 r k := by
  rw [low_apply, Cert.FfnValue.ld3_apply x2 3 0 _ 0 k 3 k rfl (by omega), Cert.FfnValue.ld3_apply x2 4 0 _ 0 k 4 k rfl (by omega)]
  rfl

theorem folded_first (r d : Fin 1024) : folded x0 x1 x2 x3 x4 (ix4 0 0 r d)
    = headSum (fun k => modRow x2 x0 r k + partner x1 x2 r k) (fun k e => x3 (ix2 k e)) d := if_pos rfl

theorem folded_second (r d : Fin 1024) : folded x0 x1 x2 x3 x4 (ix4 0 1 r d)
    = headSum (fun k => modRow x2 x0 r k - partner x1 x2 r k) (fun k e => x4 (ix2 k e)) d := if_neg Nat.one_ne_zero

theorem emb_first (r d : Fin 1024) :
    (Rect.unit (s := S1x2x1024x1024) ![0, 0, 0, 0] ![1, 1, 1024, 1024] inb_S1x2x1024x1024_S1x1x1024x1024_0_0_0_0).emb (ix4 0 0 r d) = ix4 0 0 r d :=
  Cert.QkvValue.eq_i4 _ _ _ _ _ rfl rfl (by show 0 + 1 * r.val = r.val; omega) (by show 0 + 1 * d.val = d.val; omega)

theorem emb_second (r d : Fin 1024) :
    (Rect.unit (s := S1x2x1024x1024) ![0, 1, 0, 0] ![1, 1, 1024, 1024] inb_S1x2x1024x1024_S1x1x1024x1024_0_1_0_0).emb (ix4 0 0 r d) = ix4 0 1 r d :=
  Cert.QkvValue.eq_i4 _ _ _ _ _ rfl rfl (by show 0 + 1 * r.val = r.val; omega) (by show 0 + 1 * d.val = d.val; omega)

theorem one_one (x : S1x1x1024x1024.Idx) : ∃ r d : Fin 1024, x = ix4 0 0 r d :=
  ⟨x 2, x 3, Cert.QkvValue.eq_i4 _ _ _ _ _ (by have h : (x 0).val < 1 := (x 0).isLt; show (x 0).val = 0; omega)
    (by have h : (x 1).val < 1 := (x 1).isLt; show (x 1).val = 0; omega) rfl rfl⟩

end Block

/-- The first block: the two transforms. -/
theorem out6 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x9x1024 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x2x1024x1024 .bf16) (harg8 : arg8.IsWhole) (arg9 : Memref sig .tc .vmem S1x8x1024 .f32) (harg9 : arg9.IsWhole) (arg10 : Memref sig .tc .vmem S8x1024 .f32) (harg10 : arg10.IsWhole) (hc0 : cond0_0 i)
    (x0 : Vec Ideal S1x1x1024x1024 .f32) (x1 : Vec Ideal S1x1x1024x1024 .f32) (x2 : Vec Ideal S1x9x1024 .f32) (x3 : Vec Ideal S256x256 .bf16) (x4 : Vec Ideal S256x256 .bf16) (x5 : Vec Ideal S256x256 .bf16)
    (hw : ∀ r j : Fin 256, x5 (ix2 r j) = if r.val + j.val = 255 then 1 else 0) :
    out0_A_6 c i arg2 harg2 arg3 harg3 arg4 harg4 arg5 harg5 arg6 harg6 arg7 harg7 arg8 harg8 arg9 harg9 arg10 harg10 hc0 x0 x1 x2 x3 x4 x5 = folded x0 x1 x2 x3 x4 := by
  funext y
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  refine View.canon_apply_of_pieces (folded x0 x1 x2 x3 x4) _ ?_ y (cover0_A_6 c i arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  simp only [View.readAt_eq_ld, harg2.read_unread, harg3.read_unread, harg4.read_unread, harg5.read_unread, harg6.read_unread, harg7.read_unread]
  simp only [View.ld_unit_zero (S := S256x256) Cert.FfnValue.hz2]
  generalize hzv : arg10.view.readCov (Val := Elt Ideal) [⟨Rect.unit ![0, 0] ![8, 1024] inb_S8x1024_S8x1024_0_0, k0_pay3 (F := Ideal)⟩]
      (Rect.unit ![0, 0] ![1, 1024] inb_S8x1024_S1x1024_0_0).toLoadRect = z
  have hz : ∀ k : Fin 1024, z (ix2 0 k) = 0 := by
    intro k
    rw [← hzv, View.readCov_eq_canon', View.canon_unit_zero Cert.FfnValue.hz2]
    unfold_payloads
    pointwise
  refine View.PiecesOf.mem ⟨?_, ?_, trivial⟩
  · intro x
    obtain ⟨r, d, rfl⟩ := one_one x
    refine (second_apply _ _ x4 r d).trans ?_
    refine Eq.trans ?_ ((congrArg (folded x0 x1 x2 x3 x4) (emb_second r d)).trans (folded_second x0 x1 x2 x3 x4 r d)).symm
    refine congrArg (fun t => headSum t (fun k e => x4 (ix2 k e)) d) (funext fun k => ?_)
    rw [ld4_apply x0, ld4_apply x1, partner_ld x1 x2 z hz x5 hw r k, low_ld x0 x2 r k]
  · intro x
    obtain ⟨r, d, rfl⟩ := one_one x
    refine (first_apply _ _ z x5 x3 r d).trans ?_
    refine Eq.trans ?_ ((congrArg (folded x0 x1 x2 x3 x4) (emb_first r d)).trans (folded_first x0 x1 x2 x3 x4 r d)).symm
    refine congrArg (fun t => headSum t (fun k e => x3 (ix2 k e)) d) (funext fun k => ?_)
    rw [ld4_apply x0, ld4_apply x1, partner_ld x1 x2 z hz x5 hw r k, low_ld x0 x2 r k]

/-- The second block: the transform of the upper half's first eight rows. -/
theorem out7 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x9x1024 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1x2x1024x1024 .bf16) (harg8 : arg8.IsWhole) (arg9 : Memref sig .tc .vmem S1x8x1024 .f32) (harg9 : arg9.IsWhole) (arg10 : Memref sig .tc .vmem S8x1024 .f32) (harg10 : arg10.IsWhole) (hc0 : cond0_0 i)
    (x0 : Vec Ideal S1x1x1024x1024 .f32) (x1 : Vec Ideal S1x1x1024x1024 .f32) (x2 : Vec Ideal S1x9x1024 .f32) (x3 : Vec Ideal S256x256 .bf16) (x4 : Vec Ideal S256x256 .bf16) (x5 : Vec Ideal S256x256 .bf16)
    (r : Fin 8) (d : Fin 1024) :
    out0_A_7 c i arg2 harg2 arg3 harg3 arg4 harg4 arg5 harg5 arg6 harg6 arg7 harg7 arg8 harg8 arg9 harg9 arg10 harg10 hc0 x0 x1 x2 x3 x4 x5 (ix3 0 r d)
      = headSum (fun k => modRow x2 x1 ⟨r.val, by omega⟩ k) (fun k e => x3 (ix2 k e)) d := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero Cert.FfnValue.hz3]
  simp only [View.readAt_eq_ld, harg3.read_unread, harg4.read_unread, harg5.read_unread]
  rw [View.ld_unit_zero (S := S256x256) Cert.FfnValue.hz2, third_apply]
  refine congrArg (fun t => headSum t _ d) (funext fun k => ?_)
  rw [high_apply, ld4_apply x1, Cert.FfnValue.ld3_apply x2 3 0 _ 0 k 3 k rfl (by omega), Cert.FfnValue.ld3_apply x2 4 0 _ 0 k 4 k rfl (by omega)]
  rfl

end Cert.DftFoldValue
end
-- ==== Proof.DftFoldValue.lean ====
module

public import proofs.«01_k».proof.Proof.DftFoldPoint
public import proofs.«01_k».proof.Proof.Gen.DftFoldRefIdeal.Read
public import Idealize.ShloMosaic.Lib.StableHlo.Run

/-! The folding of the Fourier transform: the two result arrays, and the reference at an entry. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.DftFoldValue

open Cert.DftFoldIdeal Cert.DftFoldIdeal.Gen

/-! ## Where each block sits -/

variable (m : (ℓ : Loc nD τ sig) → Buf (Elt Ideal) ℓ)

theorem idx0 : ∀ t : Fin cfg0.N, win0_0.index t 0 = t.val ∧ win0_0.index t 1 = 0 ∧ win0_0.index t 2 = 0 ∧ win0_0.index t 3 = 0 := by decide +kernel
theorem idx1 : ∀ t : Fin cfg0.N, win0_1.index t 0 = t.val ∧ win0_1.index t 1 = 1 ∧ win0_1.index t 2 = 0 ∧ win0_1.index t 3 = 0 := by decide +kernel
theorem idx2 : ∀ t : Fin cfg0.N, win0_2.index t 0 = t.val ∧ win0_2.index t 1 = 0 ∧ win0_2.index t 2 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = t.val ∧ win0_6.index t 1 = 0 ∧ win0_6.index t 2 = 0 ∧ win0_6.index t 3 = 0 := by decide +kernel
theorem idx7 : ∀ t : Fin cfg0.N, win0_7.index t 0 = t.val ∧ win0_7.index t 1 = 0 ∧ win0_7.index t 2 = 0 := by decide +kernel
theorem flush6 : ∀ t : Fin cfg0.N, (cfg0.win 6).flush t = true := by decide +kernel
theorem flush7 : ∀ t : Fin cfg0.N, (cfg0.win 7).flush t = true := by decide +kernel

/-- The batch of a point. -/
abbrev bOf (t : Fin cfg0.N) : Fin 16 := ⟨t.val, lt_of_lt_of_eq t.isLt (show cfg0.N = 16 from N_0)⟩

/-- The input seen as two halves of 1024 rows. -/
theorem V_x (c : Dev nD) (b : Fin 16) (h : Fin 2) (r k : Fin 1024) :
    V m c main_v10 (ix4 b h r k) = (m ((c : Thread nD τ).loc main_arg0) : Vec Ideal S16x2048x1024 .f32) (ix3 b ⟨1024 * h.val + r.val, by omega⟩ k) := by
  have e : V m c main_v10 = shapeCast S16x2x1024x1024 (m ((c : Thread nD τ).loc main_arg0) : Vec Ideal S16x2048x1024 .f32)
      shapeCasts_S16x2048x1024_S16x2x1024x1024 := by
    show StableHlo.after hostOps0 _ _ = _
    after_results
    rfl
  rw [e]
  refine shapeCast_apply _ _ (ix4 b h r k) (ix3 b ⟨1024 * h.val + r.val, by omega⟩ k) ?_
  rw [Shape.rowMajor_val_three, Shape.rowMajor_val_four]
  show (b.val * 2048 + (1024 * h.val + r.val)) * 1024 + k.val = ((b.val * 2 + h.val) * 1024 + r.val) * 1024 + k.val
  omega

theorem V_c (c : Dev nD) : V m c main_v11 = (m ((c : Thread nD τ).loc main_arg2) : Vec Ideal S256x256 .f32) := by
  show StableHlo.after hostOps0 _ _ = _
  after_results
  rfl

theorem V_s (c : Dev nD) : V m c main_v12 = (m ((c : Thread nD τ).loc main_arg3) : Vec Ideal S256x256 .f32) := by
  show StableHlo.after hostOps0 _ _ = _
  after_results
  rfl

/-- The reversal matrix: one where the two positions add up to the last, zero elsewhere. -/
theorem V_flip (c : Dev nD) (r j : Fin 256) : (V m c main_v9 : Vec Ideal S256x256 .bf16) (ix2 r j) = (if r.val + j.val = 255 then 1 else 0 : EReal) := by
  have e : (V m c main_v9 : Vec Ideal S256x256 .bf16) (ix2 r j)
      = FloatOps.uitofp (F := Ideal) .bf16 (IntOp.cmpi .eq (BitVec.ofNat 32 r.val + BitVec.ofNat 32 j.val) (BitVec.ofNat 32 255)) := by
    show StableHlo.after hostOps0 _ _ _ = _
    after_results
    pointwise
    rfl
  rw [e, ← BitVec.ofNat_add, WordCmp.cmpi_eq_ofNat (by omega) (by omega)]
  by_cases h : r.val + j.val = 255
  · rw [if_pos h, decide_eq_true h]
    show (((1 : Nat) : ℝ) : EReal) = 1
    norm_num
  · rw [if_neg h, decide_eq_false h]
    show (((0 : Nat) : ℝ) : EReal) = 0
    norm_num

theorem blk0 (c : Dev nD) (t : Fin cfg0.N) (r k : Fin 1024) :
    (iblk m c 0 t : Vec Ideal S1x1x1024x1024 .f32) (ix4 0 0 r k)
      = (m ((c : Thread nD τ).loc main_arg0) : Vec Ideal S16x2048x1024 .f32) (ix3 (bOf t) ⟨r.val, by omega⟩ k) := by
  have e := V_x m c (bOf t) 0 r k
  unfold iblk
  rw [View.read_apply]
  show V m c main_v10 _ = _
  refine (congrArg (V m c main_v10) (Cert.QkvValue.eq_i4 _ (bOf t) (0 : Fin 2) r k ?_ ?_ ?_ ?_)).trans (e.trans ?_)
  · show win0_0.index t 0 * 1 + 1 * 0 = t.val; rw [(idx0 t).1]; omega
  · show win0_0.index t 1 * 1 + 1 * 0 = 0; rw [(idx0 t).2.1]
  · show win0_0.index t 2 * 1024 + 1 * r.val = r.val; rw [(idx0 t).2.2.1]; omega
  · show win0_0.index t 3 * 1024 + 1 * k.val = k.val; rw [(idx0 t).2.2.2]; omega
  · exact congrArg (fun a => (m ((c : Thread nD τ).loc main_arg0) : Vec Ideal S16x2048x1024 .f32) (ix3 (bOf t) a k))
      (Fin.ext (by show 1024 * 0 + r.val = r.val; omega))

theorem blk1 (c : Dev nD) (t : Fin cfg0.N) (r k : Fin 1024) :
    (iblk m c 1 t : Vec Ideal S1x1x1024x1024 .f32) (ix4 0 0 r k)
      = (m ((c : Thread nD τ).loc main_arg0) : Vec Ideal S16x2048x1024 .f32) (ix3 (bOf t) ⟨1024 + r.val, by omega⟩ k) := by
  have e := V_x m c (bOf t) 1 r k
  unfold iblk
  rw [View.read_apply]
  show V m c main_v10 _ = _
  refine (congrArg (V m c main_v10) (Cert.QkvValue.eq_i4 _ (bOf t) (1 : Fin 2) r k ?_ ?_ ?_ ?_)).trans (e.trans ?_)
  · show win0_1.index t 0 * 1 + 1 * 0 = t.val; rw [(idx1 t).1]; omega
  · show win0_1.index t 1 * 1 + 1 * 0 = 1; rw [(idx1 t).2.1]
  · show win0_1.index t 2 * 1024 + 1 * r.val = r.val; rw [(idx1 t).2.2.1]; omega
  · show win0_1.index t 3 * 1024 + 1 * k.val = k.val; rw [(idx1 t).2.2.2]; omega
  · exact congrArg (fun a => (m ((c : Thread nD τ).loc main_arg0) : Vec Ideal S16x2048x1024 .f32) (ix3 (bOf t) a k))
      (Fin.ext (by show 1024 * 1 + r.val = 1024 + r.val; omega))

theorem blk2 (c : Dev nD) (t : Fin cfg0.N) (q : Fin 9) (k : Fin 1024) :
    (iblk m c 2 t : Vec Ideal S1x9x1024 .f32) (ix3 0 q k) = (m ((c : Thread nD τ).loc main_arg1) : Vec Ideal S16x9x1024 .f32) (ix3 (bOf t) q k) := by
  unfold iblk
  rw [View.read_apply]
  show V m c main_arg1 _ = _
  rw [V_main_arg1]
  refine congrArg (m ((c : Thread nD τ).loc main_arg1) : Vec Ideal S16x9x1024 .f32) (funext fun a => Fin.ext ?_)
  match a with
  | ⟨0, _⟩ => show win0_2.index t 0 * 1 + 1 * 0 = t.val; rw [(idx2 t).1]; omega
  | ⟨1, _⟩ => show win0_2.index t 1 * 9 + 1 * q.val = q.val; rw [(idx2 t).2.1]; omega
  | ⟨2, _⟩ => show win0_2.index t 2 * 1024 + 1 * k.val = k.val; rw [(idx2 t).2.2]; omega

theorem blk3 (c : Dev nD) (t : Fin cfg0.N) (k j : Fin 256) :
    (iblk m c 3 t : Vec Ideal S256x256 .bf16) (ix2 k j) = (m ((c : Thread nD τ).loc main_arg2) : Vec Ideal S256x256 .f32) (ix2 k j) := by
  unfold iblk
  rw [View.read_apply]
  show V m c main_v11 _ = _
  rw [V_c]
  refine congrArg (m ((c : Thread nD τ).loc main_arg2) : Vec Ideal S256x256 .f32) (funext fun a => Fin.ext ?_)
  match a with
  | ⟨0, _⟩ => show win0_3.index t 0 * 256 + 1 * k.val = k.val; rw [(idx3 t).1]; omega
  | ⟨1, _⟩ => show win0_3.index t 1 * 256 + 1 * j.val = j.val; rw [(idx3 t).2]; omega

theorem blk4 (c : Dev nD) (t : Fin cfg0.N) (k j : Fin 256) :
    (iblk m c 4 t : Vec Ideal S256x256 .bf16) (ix2 k j) = (m ((c : Thread nD τ).loc main_arg3) : Vec Ideal S256x256 .f32) (ix2 k j) := by
  unfold iblk
  rw [View.read_apply]
  show V m c main_v12 _ = _
  rw [V_s]
  refine congrArg (m ((c : Thread nD τ).loc main_arg3) : Vec Ideal S256x256 .f32) (funext fun a => Fin.ext ?_)
  match a with
  | ⟨0, _⟩ => show win0_4.index t 0 * 256 + 1 * k.val = k.val; rw [(idx4 t).1]; omega
  | ⟨1, _⟩ => show win0_4.index t 1 * 256 + 1 * j.val = j.val; rw [(idx4 t).2]; omega

theorem blk5 (c : Dev nD) (t : Fin cfg0.N) (r j : Fin 256) :
    (iblk m c 5 t : Vec Ideal S256x256 .bf16) (ix2 r j) = (if r.val + j.val = 255 then 1 else 0 : EReal) := by
  rw [← V_flip m c r j]
  unfold iblk
  rw [View.read_apply]
  show V m c main_v9 _ = _
  refine congrArg (V m c main_v9) (funext fun a => Fin.ext ?_)
  match a with
  | ⟨0, _⟩ => show win0_5.index t 0 * 256 + 1 * r.val = r.val; rw [(idx5 t).1]; omega
  | ⟨1, _⟩ => show win0_5.index t 1 * 256 + 1 * j.val = j.val; rw [(idx5 t).2]; omega

/-! ## The results over the four arrays -/

section Spec
variable (X : Vec Ideal S16x2048x1024 .f32) (M : Vec Ideal S16x9x1024 .f32) (C S : Vec Ideal S256x256 .f32)

/-- A row of the input modulated. -/
def rowA (b : Fin 16) (l : Fin 2048) (k : Fin 1024) : EReal := X (ix3 b l k) * (1 + M (ix3 b 4 k)) + M (ix3 b 3 k)

/-- The row that lower row `r` is folded with: row `2048 - r`, nothing for the first. -/
def mirrorA (b : Fin 16) (r k : Fin 1024) : EReal := if h : r.val = 0 then 0 else rowA X M b ⟨2048 - r.val, by omega⟩ k

/-- The cosine transform of the sums and the sine transform of the differences, within each head. -/
def abA : Vec Ideal S16x2x1024x1024 .bf16 := fun i =>
  if (i 1).val = 0 then headSum (fun k => rowA X M (i 0) ⟨(i 2).val, lt_of_lt_of_le (i 2).isLt (by decide)⟩ k + mirrorA X M (i 0) (i 2) k) (fun k e => C (ix2 k e)) (i 3)
  else headSum (fun k => rowA X M (i 0) ⟨(i 2).val, lt_of_lt_of_le (i 2).isLt (by decide)⟩ k - mirrorA X M (i 0) (i 2) k) (fun k e => S (ix2 k e)) (i 3)

/-- The cosine transform of the upper half's first eight rows, within each head. -/
def anA : Vec Ideal S16x8x1024 .f32 := fun i =>
  headSum (fun k => rowA X M (i 0) ⟨1024 + (i 1).val, by have h : (i 1).val < 8 := (i 1).isLt; omega⟩ k) (fun k e => C (ix2 k e)) (i 2)

end Spec

/-- The first result's array, over the arguments as launched. -/
abbrev resultAb (c : Dev nD) : Vec Ideal S16x2x1024x1024 .bf16 :=
  abA (m ((c : Thread nD τ).loc main_arg0)) (m ((c : Thread nD τ).loc main_arg1)) (m ((c : Thread nD τ).loc main_arg2)) (m ((c : Thread nD τ).loc main_arg3))

/-- The second result's array, over the arguments as launched. -/
abbrev resultAn (c : Dev nD) : Vec Ideal S16x8x1024 .f32 :=
  anA (m ((c : Thread nD τ).loc main_arg0)) (m ((c : Thread nD τ).loc main_arg1)) (m ((c : Thread nD τ).loc main_arg2))

theorem low_eq (c : Dev nD) (t : Fin cfg0.N) (r k : Fin 1024) : modRow (iblk m c 2 t) (iblk m c 0 t) r k
    = rowA (m ((c : Thread nD τ).loc main_arg0)) (m ((c : Thread nD τ).loc main_arg1)) (bOf t) ⟨r.val, by omega⟩ k :=
  congrArg₂ (· + ·) (congrArg₂ (· * ·) (blk0 m c t r k) (congrArg (1 + ·) (blk2 m c t 4 k))) (blk2 m c t 3 k)

theorem high_eq (c : Dev nD) (t : Fin cfg0.N) (r k : Fin 1024) : modRow (iblk m c 2 t) (iblk m c 1 t) r k
    = rowA (m ((c : Thread nD τ).loc main_arg0)) (m ((c : Thread nD τ).loc main_arg1)) (bOf t) ⟨1024 + r.val, by omega⟩ k :=
  congrArg₂ (· + ·) (congrArg₂ (· * ·) (blk1 m c t r k) (congrArg (1 + ·) (blk2 m c t 4 k))) (blk2 m c t 3 k)

theorem mirror_eq (c : Dev nD) (t : Fin cfg0.N) (r k : Fin 1024) : partner (iblk m c 1 t) (iblk m c 2 t) r k
    = mirrorA (m ((c : Thread nD τ).loc main_arg0)) (m ((c : Thread nD τ).loc main_arg1)) (bOf t) r k := by
  unfold partner mirrorA
  by_cases h : r.val = 0
  · rw [dif_pos h, dif_pos h]
  · rw [dif_neg h, dif_neg h, high_eq]
    exact congrArg (fun a => rowA (m ((c : Thread nD τ).loc main_arg0)) (m ((c : Thread nD τ).loc main_arg1)) (bOf t) a k)
      (Fin.ext (by show 1024 + (1024 - r.val) = 2048 - r.val; omega))

theorem folded_eq (c : Dev nD) (t : Fin cfg0.N) (q : Fin 2) (r d : Fin 1024) :
    folded (iblk m c 0 t) (iblk m c 1 t) (iblk m c 2 t) (iblk m c 3 t) (iblk m c 4 t) (ix4 0 q r d) = resultAb m c (ix4 (bOf t) q r d) := by
  unfold folded resultAb abA
  by_cases h : q.val = 0
  · refine (if_pos h).trans (Eq.trans ?_ (if_pos h).symm)
    exact congrArg₂ (fun a b => headSum a b d) (funext fun k => congrArg₂ (· + ·) (low_eq m c t r k) (mirror_eq m c t r k))
      (funext fun k => funext fun e => blk3 m c t k e)
  · refine (if_neg h).trans (Eq.trans ?_ (if_neg h).symm)
    exact congrArg₂ (fun a b => headSum a b d) (funext fun k => congrArg₂ (· - ·) (low_eq m c t r k) (mirror_eq m c t r k))
      (funext fun k => funext fun e => blk4 m c t k e)

theorem flushedAb (c : Dev nD) (t : Fin cfg0.N) (hf : (cfg0.win 6).flush t = true) :
    (dats m 0 c).flushed 6 t = ((cfg0.win 6).blk t).view.read (Elt Ideal) (resultAb m c) := by
  rw [Cert.DftFoldIdeal.Value.flushed6_A, out6 _ _ _ _ _ _ _ _ _ _ _ _ _ _ _ _ _ _ _ _ _ _ _ _ _ _ _ (blk5 m c t)]
  refine funext fun y => ?_
  show folded _ _ _ _ _ y = resultAb m c (((cfg0.win 6).blk t).view.emb y)
  obtain ⟨q, r, d, rfl⟩ : ∃ (q : Fin 2) (r d : Fin 1024), y = ix4 0 q r d :=
    ⟨y 1, y 2, y 3, Cert.QkvValue.eq_i4 _ _ _ _ _ (by have h : (y 0).val < 1 := (y 0).isLt; show (y 0).val = 0; omega) rfl rfl rfl⟩
  have ei : ((cfg0.win 6).blk t).view.emb (ix4 0 q r d) = ix4 (bOf t) q r d := Cert.QkvValue.eq_i4 _ _ _ _ _
    (by show win0_6.index t 0 * 1 + 1 * 0 = t.val; rw [(idx6 t).1]; omega)
    (by show win0_6.index t 1 * 2 + 1 * q.val = q.val; rw [(idx6 t).2.1]; omega)
    (by show win0_6.index t 2 * 1024 + 1 * r.val = r.val; rw [(idx6 t).2.2.1]; omega)
    (by show win0_6.index t 3 * 1024 + 1 * d.val = d.val; rw [(idx6 t).2.2.2]; omega)
  exact (folded_eq m c t q r d).trans (congrArg (resultAb m c) ei).symm

theorem flushedAn (c : Dev nD) (t : Fin cfg0.N) (hf : (cfg0.win 7).flush t = true) :
    (dats m 0 c).flushed 7 t = ((cfg0.win 7).blk t).view.read (Elt Ideal) (resultAn m c) := by
  rw [Cert.DftFoldIdeal.Value.flushed7_A]
  refine funext fun y => ?_
  show out0_A_7 _ _ _ _ _ _ _ _ _ _ _ _ _ _ _ _ _ _ _ _ _ _ _ _ _ _ _ y = resultAn m c (((cfg0.win 7).blk t).view.emb y)
  obtain ⟨r, d, rfl⟩ : ∃ (r : Fin 8) (d : Fin 1024), y = ix3 0 r d :=
    ⟨y 1, y 2, Cert.FfnValue.eq_ix3 _ _ _ _ (by have h : (y 0).val < 1 := (y 0).isLt; show (y 0).val = 0; omega) rfl rfl⟩
  have ei : ((cfg0.win 7).blk t).view.emb (ix3 0 r d) = ix3 (bOf t) r d := Cert.FfnValue.eq_ix3 _ _ _ _
    (by show win0_7.index t 0 * 1 + 1 * 0 = t.val; rw [(idx7 t).1]; omega)
    (by show win0_7.index t 1 * 8 + 1 * r.val = r.val; rw [(idx7 t).2.1]; omega)
    (by show win0_7.index t 2 * 1024 + 1 * d.val = d.val; rw [(idx7 t).2.2]; omega)
  rw [out7]
  refine Eq.trans ?_ (congrArg (resultAn m c) ei).symm
  exact congrArg₂ (fun a b => headSum a b d) (funext fun k => high_eq m c t ⟨r.val, by omega⟩ k) (funext fun k => funext fun e => blk3 m c t k e)

/-- The first result's blocks cover its array. -/
theorem finalAb (c : Dev nD) : (dats m 0 c).arrAt 6 cfg0.N = resultAb m c :=
  (dats m 0 c).arrAt_eq_of_cover 6 (resultAb m c) (flushedAb m c) fun i => by
    have h0 : (i 0 : Nat) < 16 := (i 0).isLt
    have h1 : (i 1 : Nat) < 2 := (i 1).isLt
    have h2 : (i 2 : Nat) < 1024 := (i 2).isLt
    have h3 : (i 3 : Nat) < 1024 := (i 3).isLt
    have hN : cfg0.N = 16 := N_0
    refine ⟨⟨(i 0).val, by omega⟩, flush6 _, ?_⟩
    generalize ht : (⟨(i 0).val, by omega⟩ : Fin cfg0.N) = t
    have htv : t.val = (i 0).val := by rw [← ht]
    show i ∈ ((View.whole main_v13_0).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [(idx6 t).1]; omega
    | ⟨1, _⟩ => show win0_6.index t 1 * 2 ≤ (i 1 : Nat) ∧ (i 1 : Nat) < win0_6.index t 1 * 2 + 2
                rw [(idx6 t).2.1]; omega
    | ⟨2, _⟩ => show win0_6.index t 2 * 1024 ≤ (i 2 : Nat) ∧ (i 2 : Nat) < win0_6.index t 2 * 1024 + 1024
                rw [(idx6 t).2.2.1]; omega
    | ⟨3, _⟩ => show win0_6.index t 3 * 1024 ≤ (i 3 : Nat) ∧ (i 3 : Nat) < win0_6.index t 3 * 1024 + 1024
                rw [(idx6 t).2.2.2]; omega

/-- The second result's blocks cover its array. -/
theorem finalAn (c : Dev nD) : (dats m 0 c).arrAt 7 cfg0.N = resultAn m c :=
  (dats m 0 c).arrAt_eq_of_cover 7 (resultAn m c) (flushedAn m c) fun i => by
    have h0 : (i 0 : Nat) < 16 := (i 0).isLt
    have h1 : (i 1 : Nat) < 8 := (i 1).isLt
    have h2 : (i 2 : Nat) < 1024 := (i 2).isLt
    have hN : cfg0.N = 16 := N_0
    refine ⟨⟨(i 0).val, by omega⟩, flush7 _, ?_⟩
    generalize ht : (⟨(i 0).val, by omega⟩ : Fin cfg0.N) = t
    have htv : t.val = (i 0).val := by rw [← ht]
    show i ∈ ((View.whole main_v13_1).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [(idx7 t).1]; omega
    | ⟨1, _⟩ => show win0_7.index t 1 * 8 ≤ (i 1 : Nat) ∧ (i 1 : Nat) < win0_7.index t 1 * 8 + 8
                rw [(idx7 t).2.1]; omega
    | ⟨2, _⟩ => show win0_7.index t 2 * 1024 ≤ (i 2 : Nat) ∧ (i 2 : Nat) < win0_7.index t 2 * 1024 + 1024
                rw [(idx7 t).2.2]; omega

/-! ## The reference -/

section Ref
open Cert.DftFoldRefIdeal.Read
open Cert.QkvValue (eq_i4)
variable (X : Vec Ideal S16x2048x1024 .f32) (M : Vec Ideal S16x9x1024 .f32) (C S : Vec Ideal S256x256 .f32)

theorem ref_scale (b : Fin 16) (l : Fin 2048) (k : Fin 1024) : val_main_v5 (F := Ideal) M (ix3 b l k) = 1 + M (ix3 b 4 k) := by
  rw [val_main_v5_apply, val_main_v4_apply, val_main_v3_apply, val_main_cst_apply, val_main_v2_apply,
    val_main_v1_apply, val_main_v0_apply]
  refine congrArg₂ (· + ·) Ideal.ofBits_one_f32 (Cert.FfnValue.at3 M _ b 4 k ?_ ?_ ?_)
  · show (b.val * 1024 + k.val) / 1024 = b.val; omega
  · rfl
  · show (b.val * 1024 + k.val) % 1024 = k.val; omega

theorem ref_shift (b : Fin 16) (l : Fin 2048) (k : Fin 1024) : val_main_v10 (F := Ideal) M (ix3 b l k) = M (ix3 b 3 k) := by
  rw [val_main_v10_apply, val_main_v9_apply, val_main_v8_apply, val_main_v7_apply]
  refine Cert.FfnValue.at3 M _ b 3 k ?_ ?_ ?_
  · show (b.val * 1024 + k.val) / 1024 = b.val; omega
  · rfl
  · show (b.val * 1024 + k.val) % 1024 = k.val; omega

theorem ref_row (b : Fin 16) (l : Fin 2048) (k : Fin 1024) : val_main_v11 (F := Ideal) X M (ix3 b l k) = rowA X M b l k := by
  rw [val_main_v11_apply, val_main_v6_apply, ref_scale, ref_shift]
  rfl

theorem ref_low (b : Fin 16) (r k : Fin 1024) : val_main_v12 (F := Ideal) X M (ix3 b r k) = rowA X M b ⟨r.val, by omega⟩ k := by
  rw [val_main_v12_apply, Cert.FfnValue.eq_ix3 (idx_main_v12 (ix3 b r k)) b ⟨r.val, by omega⟩ k rfl rfl rfl, ref_row]

theorem ref_high (b : Fin 16) (r k : Fin 1024) : val_main_v13 (F := Ideal) X M (ix3 b r k) = rowA X M b ⟨1024 + r.val, by omega⟩ k := by
  rw [val_main_v13_apply, Cert.FfnValue.eq_ix3 (idx_main_v13 (ix3 b r k)) b ⟨1024 + r.val, by omega⟩ k rfl rfl rfl, ref_row]

/-- The upper half's rows but the first, backwards. -/
theorem ref_back (b : Fin 16) (r : Fin 1023) (k : Fin 1024) :
    val_main_v16 (F := Ideal) X M (ix3 b r k) = rowA X M b ⟨2047 - r.val, by omega⟩ k := by
  unfold val_main_v16
  rw [Host.reverse_apply]
  refine (congrArg (val_main_v15 (F := Ideal) X M) (Cert.FfnValue.eq_ix3 _ b (⟨1022 - r.val, by omega⟩ : Fin 1023) k rfl ?_ rfl)).trans ?_
  · show 1023 - (r.val + 1) = 1022 - r.val; omega
  · rw [val_main_v15_apply, Cert.FfnValue.eq_ix3 (idx_main_v15 (ix3 b ⟨1022 - r.val, by omega⟩ k)) b (⟨1023 - r.val, by omega⟩ : Fin 1024) k rfl
      (by show 1 + (1022 - r.val) = 1023 - r.val; omega) rfl, ref_high]
    exact congrArg (fun a => rowA X M b a k) (Fin.ext (by show 1024 + (1023 - r.val) = 2047 - r.val; omega))

theorem ref_mirror (b : Fin 16) (r k : Fin 1024) : val_main_v17 (F := Ideal) X M (ix3 b r k) = mirrorA X M b r k := by
  unfold val_main_v17 mirrorA
  have hr := r.isLt
  by_cases h : r.val = 0
  · rw [dif_pos h]
    refine (concatenate_pair_apply_left (s₁ := Cert.DftFoldRefIdeal.S16x1x1024) (1 : Fin 3) (val_main_v14 (F := Ideal)) _ _ (ix3 b r k) rfl (ix3 b (0 : Fin 1) k) fun q => ?_).trans ?_
    · match q with
      | ⟨0, _⟩ => rfl
      | ⟨1, _⟩ => exact h.symm
      | ⟨2, _⟩ => rfl
    · rw [val_main_v14_apply, val_main_cst_0_apply]
      exact Ideal.ofBits_zero_f32
  · rw [dif_neg h]
    refine (concatenate_pair_apply_right (s₂ := Cert.DftFoldRefIdeal.S16x1023x1024) (1 : Fin 3) (val_main_v14 (F := Ideal)) (val_main_v16 (F := Ideal) X M) _ (ix3 b r k) rfl rfl (ix3 b (⟨r.val - 1, by omega⟩ : Fin 1023) k) (fun q hq => ?_) ?_).trans ?_
    · match q with
      | ⟨0, _⟩ => rfl
      | ⟨1, _⟩ => exact absurd rfl hq
      | ⟨2, _⟩ => rfl
    · show r.val - 1 + 1 = r.val; omega
    · rw [ref_back]
      exact congrArg (fun a => rowA X M b a k) (Fin.ext (by show 2047 - (r.val - 1) = 2048 - r.val; omega))

/-- A row through the cosine table, within each head. -/
theorem ref_sum (b : Fin 16) (r d : Fin 1024) : val_main_v21 (F := Ideal) X M C (ix3 b r d)
    = headSum (fun k => rowA X M b ⟨r.val, by omega⟩ k + mirrorA X M b r k) (fun k e => C (ix2 k e)) d := by
  rw [val_main_v21_apply, eq_i4 (idx_main_v21 (ix3 b r d)) b r (⟨d.val / 256, by omega⟩ : Fin 4) (⟨d.val % 256, by omega⟩ : Fin 256)
    (by show ((b.val * 1024 + r.val) * 1024 + d.val) / 1048576 = b.val; omega)
    (by show ((b.val * 1024 + r.val) * 1024 + d.val) / 1024 % 1024 = r.val; omega)
    (by show ((b.val * 1024 + r.val) * 1024 + d.val) / 256 % 4 = d.val / 256; omega)
    (by show ((b.val * 1024 + r.val) * 1024 + d.val) % 256 = d.val % 256; omega), val_main_v20_apply]
  unfold headSum
  refine Finset.sum_congr rfl fun k _ => congrArg₂ (· * ·) ?_ (congrArg C (Cert.FfnValue.eq_ix2 _ k (⟨d.val % 256, by omega⟩ : Fin 256) rfl rfl))
  rw [val_main_v19_apply, Cert.FfnValue.eq_ix3 (idx_main_v19 _) b r (⟨256 * (d.val / 256) + k.val, by omega⟩ : Fin 1024)
    (by show (((b.val * 1024 + r.val) * 4 + d.val / 256) * 256 + k.val) / 1048576 = b.val; omega)
    (by show (((b.val * 1024 + r.val) * 4 + d.val / 256) * 256 + k.val) / 1024 % 1024 = r.val; omega)
    (by show (((b.val * 1024 + r.val) * 4 + d.val / 256) * 256 + k.val) % 1024 = 256 * (d.val / 256) + k.val; omega),
    val_main_v18_apply, ref_low, ref_mirror]
  rfl

/-- The same through the sine table, of the differences. -/
theorem ref_diff (b : Fin 16) (r d : Fin 1024) : val_main_v25 (F := Ideal) X M S (ix3 b r d)
    = headSum (fun k => rowA X M b ⟨r.val, by omega⟩ k - mirrorA X M b r k) (fun k e => S (ix2 k e)) d := by
  rw [val_main_v25_apply, eq_i4 (idx_main_v25 (ix3 b r d)) b r (⟨d.val / 256, by omega⟩ : Fin 4) (⟨d.val % 256, by omega⟩ : Fin 256)
    (by show ((b.val * 1024 + r.val) * 1024 + d.val) / 1048576 = b.val; omega)
    (by show ((b.val * 1024 + r.val) * 1024 + d.val) / 1024 % 1024 = r.val; omega)
    (by show ((b.val * 1024 + r.val) * 1024 + d.val) / 256 % 4 = d.val / 256; omega)
    (by show ((b.val * 1024 + r.val) * 1024 + d.val) % 256 = d.val % 256; omega), val_main_v24_apply]
  unfold headSum
  refine Finset.sum_congr rfl fun k _ => congrArg₂ (· * ·) ?_ (congrArg S (Cert.FfnValue.eq_ix2 _ k (⟨d.val % 256, by omega⟩ : Fin 256) rfl rfl))
  rw [val_main_v23_apply, Cert.FfnValue.eq_ix3 (idx_main_v23 _) b r (⟨256 * (d.val / 256) + k.val, by omega⟩ : Fin 1024)
    (by show (((b.val * 1024 + r.val) * 4 + d.val / 256) * 256 + k.val) / 1048576 = b.val; omega)
    (by show (((b.val * 1024 + r.val) * 4 + d.val / 256) * 256 + k.val) / 1024 % 1024 = r.val; omega)
    (by show (((b.val * 1024 + r.val) * 4 + d.val / 256) * 256 + k.val) % 1024 = 256 * (d.val / 256) + k.val; omega),
    val_main_v22_apply, ref_low, ref_mirror]
  rfl

/-- The reference's first result. -/
theorem ref_ab : val_main_v29 (F := Ideal) X M C S = abA X M C S := by
  refine funext fun i => ?_
  obtain ⟨b, q, r, d, rfl⟩ : ∃ (b : Fin 16) (q : Fin 2) (r d : Fin 1024), i = ix4 b q r d :=
    ⟨i 0, i 1, i 2, i 3, eq_i4 _ _ _ _ _ rfl rfl rfl rfl⟩
  rw [val_main_v29_apply]
  show val_main_v28 (F := Ideal) X M C S (ix4 b q r d) = _
  unfold val_main_v28 abA
  by_cases h : q.val = 0
  · refine Eq.trans ?_ (if_pos h).symm
    refine (concatenate_pair_apply_left (s₁ := Cert.DftFoldRefIdeal.S16x1x1024x1024) (1 : Fin 4) (val_main_v26 (F := Ideal) X M C) (val_main_v27 (F := Ideal) X M S) _
      (ix4 b q r d) rfl (ix4 b (0 : Fin 1) r d) fun a => ?_).trans ?_
    · match a with
      | ⟨0, _⟩ => rfl
      | ⟨1, _⟩ => exact h.symm
      | ⟨2, _⟩ => rfl
      | ⟨3, _⟩ => rfl
    · rw [val_main_v26_apply, Cert.FfnValue.eq_ix3 (idx_main_v26 _) b r d rfl rfl rfl, ref_sum]
      rfl
  · refine Eq.trans ?_ (if_neg h).symm
    refine (concatenate_pair_apply_right (s₂ := Cert.DftFoldRefIdeal.S16x1x1024x1024) (1 : Fin 4) (val_main_v26 (F := Ideal) X M C) (val_main_v27 (F := Ideal) X M S) _
      (ix4 b q r d) rfl rfl (ix4 b (0 : Fin 1) r d) (fun a ha => ?_) ?_).trans ?_
    · match a with
      | ⟨0, _⟩ => rfl
      | ⟨1, _⟩ => exact absurd rfl ha
      | ⟨2, _⟩ => rfl
      | ⟨3, _⟩ => rfl
    · have hq := q.isLt
      show 0 + 1 = q.val; omega
    · rw [val_main_v27_apply, Cert.FfnValue.eq_ix3 (idx_main_v27 _) b r d rfl rfl rfl, ref_diff]
      rfl

/-- The reference's second result. -/
theorem ref_an : val_main_v33 (F := Ideal) X M C = anA X M C := by
  refine funext fun i => ?_
  obtain ⟨b, r, d, rfl⟩ : ∃ (b : Fin 16) (r : Fin 8) (d : Fin 1024), i = ix3 b r d := ⟨i 0, i 1, i 2, Cert.FfnValue.eq_ix3 _ _ _ _ rfl rfl rfl⟩
  rw [val_main_v33_apply, eq_i4 (idx_main_v33 (ix3 b r d)) b r (⟨d.val / 256, by omega⟩ : Fin 4) (⟨d.val % 256, by omega⟩ : Fin 256)
    (by show ((b.val * 8 + r.val) * 1024 + d.val) / 8192 = b.val; omega)
    (by show ((b.val * 8 + r.val) * 1024 + d.val) / 1024 % 8 = r.val; omega)
    (by show ((b.val * 8 + r.val) * 1024 + d.val) / 256 % 4 = d.val / 256; omega)
    (by show ((b.val * 8 + r.val) * 1024 + d.val) % 256 = d.val % 256; omega), val_main_v32_apply]
  unfold anA headSum
  refine Finset.sum_congr rfl fun k _ => congrArg₂ (· * ·) ?_ (congrArg C (Cert.FfnValue.eq_ix2 _ k (⟨d.val % 256, by omega⟩ : Fin 256) rfl rfl))
  rw [val_main_v31_apply, Cert.FfnValue.eq_ix3 (idx_main_v31 _) b r (⟨256 * (d.val / 256) + k.val, by omega⟩ : Fin 1024)
    (by show (((b.val * 8 + r.val) * 4 + d.val / 256) * 256 + k.val) / 8192 = b.val; omega)
    (by show (((b.val * 8 + r.val) * 4 + d.val / 256) * 256 + k.val) / 1024 % 8 = r.val; omega)
    (by show (((b.val * 8 + r.val) * 4 + d.val / 256) * 256 + k.val) % 1024 = 256 * (d.val / 256) + k.val; omega),
    val_main_v30_apply, Cert.FfnValue.eq_ix3 (idx_main_v30 _) b (⟨r.val, by omega⟩ : Fin 1024) (⟨256 * (d.val / 256) + k.val, by omega⟩ : Fin 1024) rfl rfl rfl,
    ref_high]
  rfl

end Ref

end Cert.DftFoldValue
end
-- ==== Proof.DftFoldClaim.lean ====
module

public import proofs.«01_k».proof.Defs
public import proofs.«01_k».proof.Proof.Gen.DftFold
public import proofs.«01_k».proof.Proof.Gen.DftFold.Frame
public import proofs.«01_k».proof.Proof.Gen.DftFoldIdeal
public import proofs.«01_k».proof.Proof.Gen.DftFoldIdeal.Value
public import proofs.«01_k».proof.Proof.Gen.DftFoldRefIdeal
public import proofs.«01_k».proof.Proof.DftFoldValue

/-! The claims of the folding of the Fourier transform. -/

@[expose] public section

set_option maxRecDepth 16384

noncomputable section

open Idealize.ShloMosaic Idealize.ShloMosaic.TcCoe Idealize.SL.Sem

namespace Cert.DftFoldValue

theorem frame_dftFold : Cert.quiescent_DftFold := fun m ρ _ => Cert.DftFold.Gen.frame m ρ

theorem frame_dftFoldIdeal : Cert.quiescent_DftFoldIdeal := fun m ρ _ => Cert.DftFoldIdeal.Gen.frame m ρ

theorem frame_dftFoldRef : Cert.quiescent_DftFoldRefIdeal := fun m ρ _ =>
  (θ_run Cert.DftFoldRefIdeal.defs _ _).mono (fun r h => ⟨fun c => (h c).2.2, sem_eq_zero_of_no_sems (by decide) r.2⟩)
    (Cert.DftFoldRefIdeal.Value.run (F := Ideal) m ρ)

/-- The kernel's two arrays are the reference's, from arguments that agree. -/
theorem algebraic : Cert.algebraic_DftFoldIdeal_DftFoldRefIdeal := by
  intro m ρ m' ρ' _ hagree
  refine ⟨fun c => resultAb m c, fun c => resultAn m c, ?_, ?_⟩
  · refine (θ_run Cert.DftFoldIdeal.defs _ _).mono (fun _ h c => ?_) (Cert.DftFoldIdeal.Value.run_blocks m ρ)
    exact ⟨(h c).1.trans (finalAb m c), (h c).2.1.trans (finalAn m c), (h c).2.2⟩
  · refine (θ_run Cert.DftFoldRefIdeal.defs _ _).mono (fun _ h c => ?_) (Cert.DftFoldRefIdeal.Value.run (F := Ideal) m' ρ')
    refine ⟨(h c).1.trans ((Cert.DftFoldRefIdeal.Read.val_main_v29_eq m' c).trans ?_),
      (h c).2.1.trans ((Cert.DftFoldRefIdeal.Read.val_main_v33_eq _ _ _).trans ?_), (h c).2.2⟩
    · obtain ⟨e0, e1, e2, e3⟩ := hagree c
      rw [e0, e1, e2, e3]; exact ref_ab _ _ _ _
    · obtain ⟨e0, e1, e2, e3⟩ := hagree c
      rw [e0, e1, e2]; exact ref_an _ _ _

end Cert.DftFoldValue
end
-- ==== Proof.DftSeqPay.lean ====
module

public import proofs.«01_k».proof.Proof.Gen.DftSeqIdeal.Skeleton
public import proofs.«01_k».proof.Proof.DftFoldPoint

/-! The values one grid point of the transform over positions forms, at an entry. -/

@[expose] public section

set_option maxRecDepth 16384

noncomputable section

open Idealize.ShloMosaic Idealize.ShloMosaic.TcCoe Idealize.SL.Sem

namespace Cert.DftSeqValue

open Cert.DftSeqIdeal Cert.DftSeqIdeal.Gen Cert.Layer

/-- Plus one at the even positions, minus one at the odd ones, as the words compute it. -/
def sgn (p : Nat) : EReal :=
  FloatOps.sitofp (F := Ideal) .f32 (IntOp.subi 1#32 (IntOp.muli 2#32 (IntOp.andi (BitVec.ofNat 32 p) 1#32)))

/-- One over the root of the transform's length. -/
abbrev ν : EReal := Ideal.ofBits .f32 0x3AB504F3#32

/-- A row of the output map's result added to the stream and normed. -/
def postRow (f x g0 : Fin 1024 → EReal) (wo : Fin 1024 → Fin 1024 → EReal) (g b : Fin 1024 → EReal) (d : Fin 1024) : EReal :=
  rowNorm (fun k => Ideal.ofBits .f32 0x3FB504F3#32 * x k + g0 k * ∑ j : Fin 1024, f j * wo j k) g b d

theorem low_apply (i : grid0.Coords) (v0 : Vec Ideal S1x2048x1024 .bf16) (v2 : Vec Ideal S1x1x1024 .f32) (v5 : Vec Ideal S512x2048 .bf16)
    (r : Fin 512) (d : Fin 1024) :
    k0_pay3 i v0 v2 v5 (ix2 r d)
      = ((∑ k : Fin 2048, v5 (ix2 r k) * v0 (ix3 0 k d)) + sgn ((i 1).val * 512 + r.val) * v2 (ix3 0 0 d)) * ν := by
  unfold sgn
  rw [BitVec.ofNat_add, BitVec.ofNat_mul]
  unfold_payloads
  pointwise
  rfl

theorem mir_apply (i : grid0.Coords) (v0 : Vec Ideal S1x2048x1024 .bf16) (v2 : Vec Ideal S1x1x1024 .f32) (v24 : Vec Ideal S512x2048 .bf16)
    (q : Nat) (hq : q + (i 1).val = 1) (r : Fin 512) (d : Fin 1024) :
    k0_pay7 (k0_pay2 v2) (k0_pay4 v0 v24) (k0_pay5 i) k0_pay6 (ix2 r d)
      = ((∑ k : Fin 2048, v24 (ix2 r k) * v0 (ix3 0 k d)) + sgn (q * 512 + r.val) * v2 (ix3 0 0 d)) * ν := by
  have hs : BitVec.ofNat 32 q = 1#32 - BitVec.ofNat 32 (i 1).val := by
    rcases (show (i 1).val = 0 ∨ (i 1).val = 1 by omega) with h | h
    · have : q = 1 := by omega
      rw [h, this]; decide
    · have : q = 0 := by omega
      rw [h, this]; decide
  unfold sgn
  rw [BitVec.ofNat_add, BitVec.ofNat_mul, hs]
  unfold_payloads
  pointwise
  rfl

theorem mid_apply (v0 : Vec Ideal S1x2048x1024 .bf16) (v2 : Vec Ideal S1x1x1024 .f32) (v150 : Vec Ideal S8x2048 .bf16) (d : Fin 1024) :
    k0_pay8 (k0_pay1 v0) (k0_pay2 v2) v150 (ix2 0 d)
      = ((∑ k : Fin 2048, v150 (ix2 0 k) * v0 (ix3 0 k d)) + v2 (ix3 0 0 d)) * ν := by
  unfold_payloads
  pointwise

theorem kept_apply (v3 : FVec Ideal S1x1024 .f32) (v26 : FVec Ideal S512x1024 .f32) (v34 v35 : IVec S512x1 32) (d : Fin 1024) :
    k0_pay9 v3 v26 v34 v35 (ix2 0 d) = k0_pay7 v3 v26 v34 v35 (ix2 0 d) := by
  unfold k0_pay9
  pointwise

theorem post_low (f : FVec Ideal S512x1024 .f32) (wo : Vec Ideal S1024x1024 .bf16) (x : Vec Ideal S1x1x512x1024 .f32) (m : Vec Ideal S1x1x1024 .f32)
    (g b : Vec Ideal S1x1024 .f32) (r : Fin 512) (d : Fin 1024) :
    k0_pay14 (k0_pay13 (k0_pay10 f wo) x m g b) (ix4 0 0 r d)
      = postRow (fun j => f (ix2 r j)) (fun k => x (ix4 0 0 r k)) (fun k => m (ix3 0 0 k)) (fun j k => wo (ix2 j k)) (fun k => g (ix2 0 k)) (fun k => b (ix2 0 k)) d := by
  unfold postRow
  unfold_payloads
  pointwise
  rfl

theorem post_up (f : FVec Ideal S512x1024 .bf16) (wo : Vec Ideal S1024x1024 .bf16) (x : Vec Ideal S1x1x512x1024 .f32) (m : Vec Ideal S1x1x1024 .f32)
    (g b : Vec Ideal S1x1024 .f32) (r : Fin 512) (d : Fin 1024) :
    k0_pay15 (k0_pay12 f wo) x m g b (ix4 0 0 r d)
      = postRow (fun j => f (ix2 r j)) (fun k => x (ix4 0 0 r k)) (fun k => m (ix3 0 0 k)) (fun j k => wo (ix2 j k)) (fun k => g (ix2 0 k)) (fun k => b (ix2 0 k)) d := by
  unfold postRow
  unfold_payloads
  pointwise
  rfl

/-! ## Rows reversed and shifted by one -/

/-- The two groups of 256 rows, last first. -/
def rowGroup (u : FVec Ideal S512x1024 .bf16) : Fin 2 → FVec Ideal S256x1024 .bf16 := fun n => match n with
  | ⟨0, _⟩ => extractStridedSlice S256x1024 ![256, 0] u slices_S512x1024_o256_0_S256x1024
  | ⟨1, _⟩ => extractStridedSlice S256x1024 ![0, 0] u slices_S512x1024_o0_0_S256x1024

theorem rowGroup_apply (u : FVec Ideal S512x1024 .bf16) (n : Fin 2) (r : Fin 256) (d : Fin 1024) :
    rowGroup u n (ix2 r d) = u (ix2 ⟨256 - 256 * n.val + r.val, by omega⟩ d) := by
  match n with
  | ⟨0, _⟩ => exact Cert.DftFoldValue.rows_apply 256 u slices_S512x1024_o256_0_S256x1024 r d _ rfl
  | ⟨1, _⟩ => exact Cert.DftFoldValue.rows_apply 0 u slices_S512x1024_o0_0_S256x1024 r d _ rfl

/-- All rows in reverse order. -/
def reversed (w : Vec Ideal S256x256 .bf16) (u : FVec Ideal S512x1024 .bf16) : FVec Ideal S512x1024 .f32 :=
  concatenate S512x1024 0 (List.ofFn fun n : Fin 2 => (⟨S256x1024, Cert.DftFoldValue.turnRows w (rowGroup u n)⟩ : (s : Shape) × (s.Idx → EReal)))
    concatenates_S256x1024_S256x1024_S512x1024_d0

theorem reversed_apply (w : Vec Ideal S256x256 .bf16) (hw : ∀ r j : Fin 256, w (ix2 r j) = if r.val + j.val = 255 then 1 else 0)
    (u : FVec Ideal S512x1024 .bf16) (i : Fin 512) (d : Fin 1024) : reversed w u (ix2 i d) = u (ix2 ⟨511 - i.val, by omega⟩ d) := by
  unfold reversed
  refine (concatenate_ofFn_apply (t := S512x1024) (s₁ := S256x1024) (0 : Fin 2) _ _ rfl 256 rfl (ix2 i d) (⟨i.val / 256, by omega⟩ : Fin 2) rfl
    (ix2 ⟨i.val % 256, by omega⟩ d) rfl (fun b hb => ?_)).trans ?_
  · match b with
    | ⟨0, _⟩ => exact absurd rfl hb
    | ⟨1, _⟩ => rfl
  rw [Cert.DftFoldValue.turnRows_apply, Cert.DftFoldValue.pick _ _ (⟨i.val % 256, by omega⟩ : Fin 256) (fun j => hw _ j), rowGroup_apply]
  exact congrArg u (congrArg (fun a => ix2 a d) (Fin.ext (by
    show 256 - 256 * (i.val / 256) + (255 - i.val % 256) = 511 - i.val
    have := i.isLt
    omega)))

/-- The upper half's rows: the row carried at the first place, the mirror rows backwards after it. -/
theorem up_apply (v3 : FVec Ideal S1x1024 .f32) (v26 : FVec Ideal S512x1024 .f32) (v34 v35 : IVec S512x1 32) (z : Vec Ideal S1x1024 .f32)
    (w : Vec Ideal S256x256 .bf16) (hw : ∀ r j : Fin 256, w (ix2 r j) = if r.val + j.val = 255 then 1 else 0) (i : Fin 512) (d : Fin 1024) :
    k0_pay11 v3 v26 v34 v35 z w w (ix2 i d)
      = if h : i.val = 0 then z (ix2 0 d) else k0_pay7 v3 v26 v34 v35 (ix2 ⟨512 - i.val, by omega⟩ d) := by
  generalize hu : k0_pay7 v3 v26 v34 v35 = u
  have e : k0_pay11 v3 v26 v34 v35 z w w = truncf (F := Ideal) (φ := .f32) .bf16 (select (cmpi .eq (iota .tc S512x1024 32 [0] iota_S512x1024_d0_w32) (broadcast S512x1024 0#32))
      (broadcastTo S512x1024 (shapeCast S1x1024 z shapeCasts_S1x1024_S1x1024) broadcasts_S1x1024_S512x1024)
      (dynamicRotate 0 1#32 none (reversed w u) rotates_S512x1024_d0)) bitsLt_bf16_f32 := by rw [← hu]; rfl
  rw [e]
  show select _ _ _ (ix2 i d) = _
  rw [ValueIdx.select_apply]
  have hc : cmpi .eq (iota .tc S512x1024 32 [0] iota_S512x1024_d0_w32) (broadcast S512x1024 0#32) (ix2 i d)
      = IntOp.cmpi .eq (BitVec.ofNat 32 i.val) (BitVec.ofNat 32 0) := by
    show IntOp.cmpi .eq (BitVec.ofNat 32 (0 * 512 + i.val)) _ = _
    rw [Nat.zero_mul, Nat.zero_add]
    rfl
  rw [hc]
  have hi := i.isLt
  by_cases h0 : i.val = 0
  · rw [dif_pos h0, (WordCmp.cmpi_eq_ofNat_eq_one_iff (by omega) (by omega)).mpr h0, WordCmp.select_one]
    pointwise
  · rw [dif_neg h0, (WordCmp.cmpi_eq_ofNat_eq_zero_iff (by omega) (by omega)).mpr h0, WordCmp.select_zero]
    refine (dynamicRotate_apply 0 1#32 (reversed w u) _ (ix2 i d) (ix2 ⟨i.val - 1, by omega⟩ d) fun q => ?_).trans ?_
    · match q with
      | ⟨0, _⟩ => show i.val - 1 = (i.val + 512 - 1 % 512) % 512; omega
      | ⟨1, _⟩ => rfl
    · rw [reversed_apply w hw]
      exact congrArg u (congrArg (fun a => ix2 a d) (Fin.ext (by show 511 - (i.val - 1) = 512 - i.val; omega)))

end Cert.DftSeqValue
end
-- ==== Proof.DftSeqPoint.lean ====
module

public import proofs.«01_k».proof.Proof.Gen.DftSeqIdeal.Value
public import proofs.«01_k».proof.Proof.DftSeqPay

/-! What one grid point of the transform over positions leaves in its output block and in the carried rows. -/

@[expose] public section

set_option maxRecDepth 16384

noncomputable section

open Idealize.ShloMosaic Idealize.ShloMosaic.TcCoe Idealize.SL.Sem

namespace Cert.DftSeqValue

open Cert.DftSeqIdeal Cert.DftSeqIdeal.Gen Cert.Layer

section Block
variable (w : Vec Ideal S512x2048 .bf16) (x2 : Vec Ideal S1x2048x1024 .bf16) (x3 : Vec Ideal S1x8x1024 .f32)
  (x4 : Vec Ideal S8x2048 .bf16) (x6 : Vec Ideal S1x2x512x1024 .f32) (x7 : Vec Ideal S1x9x1024 .f32) (x8 : Vec Ideal S1024x1024 .bf16)
  (x9 x10 : Vec Ideal S1x1024 .f32)

/-- A row of a table against the folded rows, with the last folded row under the sign of the position. -/
def rowB (p : Nat) (r : Fin 512) (d : Fin 1024) : EReal :=
  ((∑ k : Fin 2048, w (ix2 r k) * x2 (ix3 0 k d)) + sgn (p * 512 + r.val) * x3 (ix3 0 0 d)) * ν

/-- The middle row. -/
def midB (d : Fin 1024) : EReal := ((∑ k : Fin 2048, x4 (ix2 0 k) * x2 (ix3 0 k d)) + x3 (ix3 0 0 d)) * ν

/-- The upper half's rows: the row carried, then the mirror rows backwards. -/
def upB (q : Nat) (z : Fin 1024 → EReal) (r : Fin 512) (d : Fin 1024) : EReal :=
  if h : r.val = 0 then z d else rowB w x2 x3 q ⟨512 - r.val, by omega⟩ d

/-- The output map and the norm over a block's rows. -/
def blockB (lo up : Fin 512 → Fin 1024 → EReal) : Vec Ideal S1x2x512x1024 .f32 := fun y =>
  if (y 1).val = 0 then postRow (lo (y 2)) (fun k => x6 (ix4 0 0 (y 2) k)) (fun k => x7 (ix3 0 5 k)) (fun j k => x8 (ix2 j k))
    (fun k => x9 (ix2 0 k)) (fun k => x10 (ix2 0 k)) (y 3)
  else postRow (up (y 2)) (fun k => x6 (ix4 0 1 (y 2) k)) (fun k => x7 (ix3 0 5 k)) (fun j k => x8 (ix2 j k))
    (fun k => x9 (ix2 0 k)) (fun k => x10 (ix2 0 k)) (y 3)

theorem emb_first (r : Fin 512) (d : Fin 1024) :
    (Rect.unit (s := S1x2x512x1024) ![0, 0, 0, 0] ![1, 1, 512, 1024] inb_S1x2x512x1024_S1x1x512x1024_0_0_0_0).emb (ix4 0 0 r d) = ix4 0 0 r d :=
  Cert.QkvValue.eq_i4 _ _ _ _ _ rfl rfl (by show 0 + 1 * r.val = r.val; omega) (by show 0 + 1 * d.val = d.val; omega)

theorem emb_second (r : Fin 512) (d : Fin 1024) :
    (Rect.unit (s := S1x2x512x1024) ![0, 1, 0, 0] ![1, 1, 512, 1024] inb_S1x2x512x1024_S1x1x512x1024_0_1_0_0).emb (ix4 0 0 r d) = ix4 0 1 r d :=
  Cert.QkvValue.eq_i4 _ _ _ _ _ rfl rfl (by show 0 + 1 * r.val = r.val; omega) (by show 0 + 1 * d.val = d.val; omega)

theorem one_one (x : S1x1x512x1024.Idx) : ∃ (r : Fin 512) (d : Fin 1024), x = ix4 0 0 r d :=
  ⟨x 2, x 3, Cert.QkvValue.eq_i4 _ _ _ _ _ (by have h : (x 0).val < 1 := (x 0).isLt; show (x 0).val = 0; omega)
    (by have h : (x 1).val < 1 := (x 1).isLt; show (x 1).val = 0; omega) rfl rfl⟩

theorem ld_last (d : Fin 1024) : View.ld x3 (Rect.unit ![0, 0, 0] ![1, 1, 1024] inb_S1x8x1024_S1x1x1024_0_0_0) (ix3 0 0 d) = x3 (ix3 0 0 d) :=
  Cert.FfnValue.ld3_apply x3 0 0 _ 0 d 0 d rfl (by omega)

theorem low_ld (i : grid0.Coords) (r : Fin 512) (d : Fin 1024) :
    k0_pay3 i x2 (View.ld x3 (Rect.unit ![0, 0, 0] ![1, 1, 1024] inb_S1x8x1024_S1x1x1024_0_0_0)) w (ix2 r d) = rowB w x2 x3 (i 1).val r d := by
  rw [low_apply, ld_last]
  rfl

theorem mir_ld (i : grid0.Coords) (q : Nat) (hq : q + (i 1).val = 1) (r : Fin 512) (d : Fin 1024) :
    k0_pay7 (k0_pay2 (View.ld x3 (Rect.unit ![0, 0, 0] ![1, 1, 1024] inb_S1x8x1024_S1x1x1024_0_0_0))) (k0_pay4 x2 w) (k0_pay5 i) k0_pay6 (ix2 r d)
      = rowB w x2 x3 q r d := by
  rw [mir_apply i x2 _ w q hq, ld_last]
  rfl

theorem up_ld (i : grid0.Coords) (q : Nat) (hq : q + (i 1).val = 1) (z : Vec Ideal S1x1024 .f32) (zz : Fin 1024 → EReal) (hz : ∀ d, z (ix2 0 d) = zz d)
    (f : Vec Ideal S256x256 .bf16) (hf : ∀ r j : Fin 256, f (ix2 r j) = (if r.val + j.val = 255 then 1 else 0 : EReal)) (r : Fin 512) (d : Fin 1024) :
    k0_pay11 (k0_pay2 (View.ld x3 (Rect.unit ![0, 0, 0] ![1, 1, 1024] inb_S1x8x1024_S1x1x1024_0_0_0))) (k0_pay4 x2 w) (k0_pay5 i) k0_pay6 z f f (ix2 r d)
      = upB w x2 x3 q zz r d := by
  rw [up_apply _ _ _ _ z f hf]
  unfold upB
  by_cases h : r.val = 0
  · rw [dif_pos h, dif_pos h, hz]
  · rw [dif_neg h, dif_neg h, mir_ld w x2 x3 i q hq]

/-- The first piece stored. -/
theorem piece_low (f : FVec Ideal S512x1024 .f32) (lo up : Fin 512 → Fin 1024 → EReal) (hlo : ∀ r d, f (ix2 r d) = lo r d) (x : S1x1x512x1024.Idx) :
    k0_pay14 (k0_pay13 (k0_pay10 f x8) (View.ld x6 (Rect.unit ![0, 0, 0, 0] ![1, 1, 512, 1024] inb_S1x2x512x1024_S1x1x512x1024_0_0_0_0))
      (View.ld x7 (Rect.unit ![0, 5, 0] ![1, 1, 1024] inb_S1x9x1024_S1x1x1024_0_5_0)) x9 x10) x
      = blockB x6 x7 x8 x9 x10 lo up ((Rect.unit (s := S1x2x512x1024) ![0, 0, 0, 0] ![1, 1, 512, 1024] inb_S1x2x512x1024_S1x1x512x1024_0_0_0_0).emb x) := by
  obtain ⟨r, d, rfl⟩ := one_one x
  rw [post_low, emb_first]
  refine Eq.trans ?_ (if_pos rfl).symm
  have hx : ∀ k : Fin 1024, View.ld x6 (Rect.unit ![0, 0, 0, 0] ![1, 1, 512, 1024] inb_S1x2x512x1024_S1x1x512x1024_0_0_0_0) (ix4 0 0 r k) = x6 (ix4 0 0 r k) :=
    fun k => congrArg x6 (emb_first r k)
  have hm : ∀ k : Fin 1024, View.ld x7 (Rect.unit ![0, 5, 0] ![1, 1, 1024] inb_S1x9x1024_S1x1x1024_0_5_0) (ix3 0 0 k) = x7 (ix3 0 5 k) :=
    fun k => Cert.FfnValue.ld3_apply x7 5 0 _ 0 k 5 k rfl (by omega)
  simp only [hx, hm, hlo]
  rfl

/-- The second piece stored. -/
theorem piece_up (f : FVec Ideal S512x1024 .bf16) (lo up : Fin 512 → Fin 1024 → EReal) (hup : ∀ r d, f (ix2 r d) = up r d) (x : S1x1x512x1024.Idx) :
    k0_pay15 (k0_pay12 f x8) (View.ld x6 (Rect.unit ![0, 1, 0, 0] ![1, 1, 512, 1024] inb_S1x2x512x1024_S1x1x512x1024_0_1_0_0))
      (View.ld x7 (Rect.unit ![0, 5, 0] ![1, 1, 1024] inb_S1x9x1024_S1x1x1024_0_5_0)) x9 x10 x
      = blockB x6 x7 x8 x9 x10 lo up ((Rect.unit (s := S1x2x512x1024) ![0, 1, 0, 0] ![1, 1, 512, 1024] inb_S1x2x512x1024_S1x1x512x1024_0_1_0_0).emb x) := by
  obtain ⟨r, d, rfl⟩ := one_one x
  rw [post_up, emb_second]
  refine Eq.trans ?_ (if_neg Nat.one_ne_zero).symm
  have hx : ∀ k : Fin 1024, View.ld x6 (Rect.unit ![0, 1, 0, 0] ![1, 1, 512, 1024] inb_S1x2x512x1024_S1x1x512x1024_0_1_0_0) (ix4 0 0 r k) = x6 (ix4 0 1 r k) :=
    fun k => congrArg x6 (emb_second r k)
  have hm : ∀ k : Fin 1024, View.ld x7 (Rect.unit ![0, 5, 0] ![1, 1, 1024] inb_S1x9x1024_S1x1x1024_0_5_0) (ix3 0 0 k) = x7 (ix3 0 5 k) :=
    fun k => Cert.FfnValue.ld3_apply x7 5 0 _ 0 k 5 k rfl (by omega)
  simp only [hx, hm, hup]
  rfl

end Block

/-- The block left where the middle row is formed. -/
theorem out_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x2048x1024 .bf16) (harg4 : arg4.IsWhole) (arg5 : Memref sig .tc .vmem S1x8x1024 .f32) (harg5 : arg5.IsWhole) (arg6 : Memref sig .tc .vmem S8x2048 .bf16) (harg6 : arg6.IsWhole) (arg7 : Memref sig .tc .vmem S256x256 .bf16) (harg7 : arg7.IsWhole) (arg8 : Memref sig .tc .vmem S1x2x512x1024 .f32) (harg8 : arg8.IsWhole) (arg9 : Memref sig .tc .vmem S1x9x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x2x512x1024 .f32) (harg13 : arg13.IsWhole) (arg14 : Memref sig .tc .vmem S8x1024 .f32) (harg14 : arg14.IsWhole) (hc0 : cond0_0 i)
    (x0 : Vec Ideal S512x2048 .bf16) (x1 : Vec Ideal S512x2048 .bf16) (x2 : Vec Ideal S1x2048x1024 .bf16) (x3 : Vec Ideal S1x8x1024 .f32) (x4 : Vec Ideal S8x2048 .bf16) (x5 : Vec Ideal S256x256 .bf16) (x6 : Vec Ideal S1x2x512x1024 .f32) (x7 : Vec Ideal S1x9x1024 .f32) (x8 : Vec Ideal S1024x1024 .bf16) (x9 : Vec Ideal S1x1024 .f32) (x10 : Vec Ideal S1x1024 .f32)
    (hw : ∀ r j : Fin 256, x5 (ix2 r j) = (if r.val + j.val = 255 then 1 else 0 : EReal)) (q : Nat) (hq : q + (i 1).val = 1) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = blockB x6 x7 x8 x9 x10 (rowB x0 x2 x3 (i 1).val) (upB x1 x2 x3 q (midB x2 x3 x4)) := by
  funext y
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  refine View.canon_apply_of_pieces (blockB x6 x7 x8 x9 x10 (rowB x0 x2 x3 (i 1).val) (upB x1 x2 x3 q (midB x2 x3 x4))) _ ?_ y (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  simp only [View.ld_unit_zero (S := S256x256) Cert.FfnValue.hz2, View.ld_unit_zero (S := S1024x1024) Cert.FfnValue.hz2, View.ld_unit_zero (S := S1x1024) Cert.FfnValue.hz2,
    View.ld_unit_zero (S := S512x2048) Cert.FfnValue.hz2, View.ld_unit_zero (S := S8x2048) Cert.FfnValue.hz2, View.ld_unit_zero (S := S1x2048x1024) Cert.FfnValue.hz3]
  refine View.PiecesOf.mem ⟨?_, ?_, trivial⟩
  · refine fun x => piece_up x6 x7 x8 x9 x10 _ _ _ (fun r d => up_ld x1 x2 x3 i q hq _ _ (fun d => ?_) x5 hw r d) x
    rw [View.readCov_cons_toLoadRect, mid_apply, ld_last]
    rfl
  · exact fun x => piece_low x6 x7 x8 x9 x10 _ _ _ (fun r d => low_ld x0 x2 x3 i r d) x

/-- The row carried on. -/
theorem kept_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x2048x1024 .bf16) (harg4 : arg4.IsWhole) (arg5 : Memref sig .tc .vmem S1x8x1024 .f32) (harg5 : arg5.IsWhole) (arg6 : Memref sig .tc .vmem S8x2048 .bf16) (harg6 : arg6.IsWhole) (arg7 : Memref sig .tc .vmem S256x256 .bf16) (harg7 : arg7.IsWhole) (arg8 : Memref sig .tc .vmem S1x2x512x1024 .f32) (harg8 : arg8.IsWhole) (arg9 : Memref sig .tc .vmem S1x9x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x2x512x1024 .f32) (harg13 : arg13.IsWhole) (arg14 : Memref sig .tc .vmem S8x1024 .f32) (harg14 : arg14.IsWhole) (hc0 : cond0_0 i)
    (x0 : Vec Ideal S512x2048 .bf16) (x1 : Vec Ideal S512x2048 .bf16) (x2 : Vec Ideal S1x2048x1024 .bf16) (x3 : Vec Ideal S1x8x1024 .f32) (x4 : Vec Ideal S8x2048 .bf16) (x5 : Vec Ideal S256x256 .bf16) (x6 : Vec Ideal S1x2x512x1024 .f32) (x7 : Vec Ideal S1x9x1024 .f32) (x8 : Vec Ideal S1024x1024 .bf16) (x9 : Vec Ideal S1x1024 .f32) (x10 : Vec Ideal S1x1024 .f32)
    (q : Nat) (hq : q + (i 1).val = 1) (d : Fin 1024) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 (ix2 0 d) = rowB x1 x2 x3 q 0 d := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero Cert.FfnValue.hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  simp only [View.ld_unit_zero (S := S512x2048) Cert.FfnValue.hz2, View.ld_unit_zero (S := S1x2048x1024) Cert.FfnValue.hz3]
  exact (kept_apply _ _ _ _ d).trans (mir_ld x1 x2 x3 i q hq 0 d)

/-- The block left where the row carried is read. -/
theorem out_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x2048x1024 .bf16) (harg4 : arg4.IsWhole) (arg5 : Memref sig .tc .vmem S1x8x1024 .f32) (harg5 : arg5.IsWhole) (arg6 : Memref sig .tc .vmem S8x2048 .bf16) (harg6 : arg6.IsWhole) (arg7 : Memref sig .tc .vmem S256x256 .bf16) (harg7 : arg7.IsWhole) (arg8 : Memref sig .tc .vmem S1x2x512x1024 .f32) (harg8 : arg8.IsWhole) (arg9 : Memref sig .tc .vmem S1x9x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x2x512x1024 .f32) (harg13 : arg13.IsWhole) (arg14 : Memref sig .tc .vmem S8x1024 .f32) (harg14 : arg14.IsWhole) (hc0 : ¬cond0_0 i)
    (x0 : Vec Ideal S512x2048 .bf16) (x1 : Vec Ideal S512x2048 .bf16) (x2 : Vec Ideal S1x2048x1024 .bf16) (x3 : Vec Ideal S1x8x1024 .f32) (x4 : Vec Ideal S8x2048 .bf16) (x5 : Vec Ideal S256x256 .bf16) (x6 : Vec Ideal S1x2x512x1024 .f32) (x7 : Vec Ideal S1x9x1024 .f32) (x8 : Vec Ideal S1024x1024 .bf16) (x9 : Vec Ideal S1x1024 .f32) (x10 : Vec Ideal S1x1024 .f32) (xs0 : Vec Ideal S8x1024 .f32)
    (hw : ∀ r j : Fin 256, x5 (ix2 r j) = (if r.val + j.val = 255 then 1 else 0 : EReal)) (q : Nat) (hq : q + (i 1).val = 1) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 = blockB x6 x7 x8 x9 x10 (rowB x0 x2 x3 (i 1).val) (upB x1 x2 x3 q (fun d => xs0 (ix2 0 d))) := by
  funext y
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0)]
  refine View.canon_apply_of_pieces (blockB x6 x7 x8 x9 x10 (rowB x0 x2 x3 (i 1).val) (upB x1 x2 x3 q (fun d => xs0 (ix2 0 d)))) _ ?_ y (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  simp only [View.ld_unit_zero (S := S256x256) Cert.FfnValue.hz2, View.ld_unit_zero (S := S1024x1024) Cert.FfnValue.hz2, View.ld_unit_zero (S := S1x1024) Cert.FfnValue.hz2,
    View.ld_unit_zero (S := S512x2048) Cert.FfnValue.hz2, View.ld_unit_zero (S := S1x2048x1024) Cert.FfnValue.hz3]
  refine View.PiecesOf.mem ⟨?_, ?_, trivial⟩
  · refine fun x => piece_up x6 x7 x8 x9 x10 _ _ _ (fun r d => up_ld x1 x2 x3 i q hq _ _ (fun d => ?_) x5 hw r d) x
    exact congrArg xs0 (Cert.FfnValue.eq_ix2 _ (0 : Fin 8) d rfl (by show 0 + 1 * d.val = d.val; omega))
  · exact fun x => piece_low x6 x7 x8 x9 x10 _ _ _ (fun r d => low_ld x0 x2 x3 i r d) x

end Cert.DftSeqValue
end
-- ==== Proof.DftSeqMath.lean ====
module

public import proofs.«01_k».proof.Proof.DftSeqPay

/-! The transform over positions with its output map and norm, over the arguments. -/

@[expose] public section

set_option maxRecDepth 16384

noncomputable section

open Idealize.ShloMosaic Idealize.ShloMosaic.TcCoe Idealize.SL.Sem

namespace Cert.DftSeqValue

open Cert.DftSeqIdeal Cert.DftSeqIdeal.Gen Cert.Layer

variable (C S : Vec Ideal S1024x1024 .f32) (A : Vec Ideal S8x2048 .f32) (AB : Vec Ideal S16x2x1024x1024 .bf16) (AN : Vec Ideal S16x8x1024 .f32)
  (X : Vec Ideal S16x2048x1024 .f32) (M : Vec Ideal S16x9x1024 .f32) (W : Vec Ideal S1x1024x1024 .f32) (G B : Vec Ideal S2x3x1024 .f32)

/-- Two tables side by side. -/
def joined (T : Fin 1024 → Fin 1024 → EReal) (l : Fin 1024) (k : Fin 2048) : EReal :=
  if h : k.val < 1024 then C (ix2 l ⟨k.val, h⟩) else T l ⟨k.val - 1024, by omega⟩

/-- Two tables concatenated are side by side. -/
theorem joined_apply (C T : Vec Ideal S1024x1024 .f32) (h : Shape.Concatenates [S1024x1024, S1024x1024] S1024x2048 1) (l : Fin 1024) (k : Fin 2048) :
    concatenate S1024x2048 1 [⟨S1024x1024, C⟩, ⟨S1024x1024, T⟩] h (ix2 l k) = joined C (fun l k => T (ix2 l k)) l k := by
  unfold joined
  by_cases hk : k.val < 1024
  · rw [dif_pos hk]
    refine concatenate_pair_apply_left (s₁ := S1024x1024) (1 : Fin 2) C T _ (ix2 l k) rfl (ix2 l ⟨k.val, hk⟩) fun a => ?_
    match a with
    | ⟨0, _⟩ => rfl
    | ⟨1, _⟩ => rfl
  · rw [dif_neg hk]
    refine concatenate_pair_apply_right (s₂ := S1024x1024) (1 : Fin 2) C T _ (ix2 l k) rfl rfl (ix2 l ⟨k.val - 1024, by omega⟩) (fun a ha => ?_) ?_
    · match a with
      | ⟨0, _⟩ => rfl
      | ⟨1, _⟩ => exact absurd rfl ha
    · show k.val - 1024 + 1024 = k.val; omega

/-- The lower rows' table: the cosines, then the sines negated. -/
def wLow : Fin 1024 → Fin 2048 → EReal := joined C fun l k => -S (ix2 l k)

/-- The mirror rows' table: the cosines, then the sines. -/
def wUp : Fin 1024 → Fin 2048 → EReal := joined C fun l k => S (ix2 l k)

/-- The folded rows, both halves. -/
def abA (b : Fin 16) (k : Fin 2048) (d : Fin 1024) : EReal := AB (ix4 b ⟨k.val / 1024, by omega⟩ ⟨k.val % 1024, by omega⟩ d)

/-- A row of the transform by a table. -/
def rowA (w : Fin 1024 → Fin 2048 → EReal) (b : Fin 16) (l d : Fin 1024) : EReal :=
  ((∑ k : Fin 2048, w l k * abA AB b k d) + sgn l.val * AN (ix3 b 0 d)) * ν

/-- The middle row. -/
def midA (b : Fin 16) (d : Fin 1024) : EReal := ((∑ k : Fin 2048, A (ix2 0 k) * abA AB b k d) + AN (ix3 b 0 d)) * ν

/-- The transform at a position: the lower rows, the middle row, then the mirror rows backwards. -/
def fA (b : Fin 16) (l : Fin 2048) (d : Fin 1024) : EReal :=
  if h : l.val < 1024 then rowA AB AN (wLow C S) b ⟨l.val, h⟩ d
  else if h' : l.val = 1024 then midA A AB AN b d else rowA AB AN (wUp C S) b ⟨2048 - l.val, by omega⟩ d

/-- The result at a position. -/
def outRow (b : Fin 16) (l : Fin 2048) (d : Fin 1024) : EReal :=
  postRow (fA C S A AB AN b l) (fun k => X (ix3 b l k)) (fun k => M (ix3 b 5 k)) (fun j k => W (ix3 0 j k)) (fun k => G (ix3 1 1 k)) (fun k => B (ix3 1 1 k)) d

/-- The result, in two halves. -/
def outA : Vec Ideal S16x2x1024x1024 .f32 := fun i =>
  outRow C S A AB AN X M W G B (i 0) ⟨1024 * (i 1).val + (i 2).val, by
    have h1 : (i 1).val < 2 := (i 1).isLt
    have h2 : (i 2).val < 1024 := (i 2).isLt
    omega⟩ (i 3)

theorem fA_low (b : Fin 16) (l : Fin 2048) (l' d : Fin 1024) (h : l.val = l'.val) : fA C S A AB AN b l d = rowA AB AN (wLow C S) b l' d := by
  unfold fA
  rw [dif_pos (by omega)]
  exact congrArg (fun a => rowA AB AN (wLow C S) b a d) (Fin.ext h)

theorem fA_mid (b : Fin 16) (l : Fin 2048) (d : Fin 1024) (h : l.val = 1024) : fA C S A AB AN b l d = midA A AB AN b d := by
  unfold fA
  rw [dif_neg (by omega), dif_pos h]

theorem fA_up (b : Fin 16) (l : Fin 2048) (l' d : Fin 1024) (h : l.val + l'.val = 2048) :
    fA C S A AB AN b l d = rowA AB AN (wUp C S) b l' d := by
  unfold fA
  rw [dif_neg (by omega), dif_neg (by omega)]
  exact congrArg (fun a => rowA AB AN (wUp C S) b a d) (Fin.ext (by show 2048 - l.val = l'.val; omega))

end Cert.DftSeqValue
end
-- ==== Proof.DftSeqArray.lean ====
module

public import proofs.«01_k».proof.Proof.DftSeqPoint
public import proofs.«01_k».proof.Proof.DftSeqMath
public import proofs.«01_k».proof.Proof.Gen.DftSeqIdeal.Value
public import Idealize.ShloMosaic.Lib.StableHlo.Run

/-! The transform over positions: the array its grid points leave. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.DftSeqValue

open Cert.DftSeqIdeal Cert.DftSeqIdeal.Gen
open Cert.QkvValue (eq_i4)
open Cert.FfnValue (eq_ix2 eq_ix3)

variable (m : (ℓ : Loc nD τ sig) → Buf (Elt Ideal) ℓ)

theorem idx0 : ∀ t : Fin cfg0.N, win0_0.index t 0 = t.val % 2 ∧ win0_0.index t 1 = 0 := by decide +kernel
theorem idx1 : ∀ t : Fin cfg0.N, win0_1.index t 0 = 1 - t.val % 2 ∧ win0_1.index t 1 = 0 := by decide +kernel
theorem idx2 : ∀ t : Fin cfg0.N, win0_2.index t 0 = t.val / 2 ∧ win0_2.index t 1 = 0 ∧ win0_2.index t 2 = 0 := by decide +kernel
theorem idx3 : ∀ t : Fin cfg0.N, win0_3.index t 0 = t.val / 2 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = t.val / 2 ∧ win0_6.index t 1 = 0 ∧ win0_6.index t 2 = t.val % 2 ∧ win0_6.index t 3 = 0 := by decide +kernel
theorem idx7 : ∀ t : Fin cfg0.N, win0_7.index t 0 = t.val / 2 ∧ win0_7.index t 1 = 0 ∧ win0_7.index t 2 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = t.val / 2 ∧ win0_11.index t 1 = 0 ∧ win0_11.index t 2 = t.val % 2 ∧ win0_11.index t 3 = 0 := by decide +kernel
theorem flush11 : ∀ t : Fin cfg0.N, (cfg0.win 11).flush t = true := by decide +kernel
theorem half_eq : ∀ t : Fin cfg0.N, ((grid0.coords t) 1).val = t.val % 2 := by decide +kernel

theorem t_lt (t : Fin cfg0.N) : t.val < 32 := lt_of_lt_of_eq t.isLt (show cfg0.N = 32 from N_0)

/-- The batch of a point. -/
abbrev bOf (t : Fin cfg0.N) : Fin 16 := ⟨t.val / 2, by have h := t_lt t; omega⟩

abbrev aC (c : Dev nD) : Vec Ideal S1024x1024 .f32 := m ((c : Thread nD τ).loc main_arg0)
abbrev aS (c : Dev nD) : Vec Ideal S1024x1024 .f32 := m ((c : Thread nD τ).loc main_arg1)
abbrev aA (c : Dev nD) : Vec Ideal S8x2048 .f32 := m ((c : Thread nD τ).loc main_arg2)
abbrev aAB (c : Dev nD) : Vec Ideal S16x2x1024x1024 .bf16 := m ((c : Thread nD τ).loc main_arg3)
abbrev aAN (c : Dev nD) : Vec Ideal S16x8x1024 .f32 := m ((c : Thread nD τ).loc main_arg4)
abbrev aX (c : Dev nD) : Vec Ideal S16x2048x1024 .f32 := m ((c : Thread nD τ).loc main_arg5)
abbrev aM (c : Dev nD) : Vec Ideal S16x9x1024 .f32 := m ((c : Thread nD τ).loc main_arg6)
abbrev aW (c : Dev nD) : Vec Ideal S1x1024x1024 .f32 := m ((c : Thread nD τ).loc main_arg7)
abbrev aG (c : Dev nD) : Vec Ideal S2x3x1024 .f32 := m ((c : Thread nD τ).loc main_arg8)
abbrev aB (c : Dev nD) : Vec Ideal S2x3x1024 .f32 := m ((c : Thread nD τ).loc main_arg9)

/-- The lower rows' table. -/
theorem V_low (c : Dev nD) (l : Fin 1024) (k : Fin 2048) : (V m c main_v2 : Vec Ideal S1024x2048 .bf16) (ix2 l k) = wLow (aC m c) (aS m c) l k := by
  have e : (V m c main_v2 : Vec Ideal S1024x2048 .bf16) = fun i => concatenate S1024x2048 1 [⟨S1024x1024, (aC m c)⟩, ⟨S1024x1024, (Host.negf (F := Ideal) (s := S1024x1024) (φ := .f32) (aS m c) : FVec Ideal S1024x1024 .f32)⟩]
      concatenates_S1024x1024_S1024x1024_S1024x2048_d1 i := by
    show StableHlo.after hostOps0 _ _ = _
    after_results
    rfl
  rw [e]
  exact joined_apply (aC m c) (Host.negf (F := Ideal) (s := S1024x1024) (φ := .f32) (aS m c) : FVec Ideal S1024x1024 .f32) _ l k

/-- The mirror rows' table. -/
theorem V_up (c : Dev nD) (l : Fin 1024) (k : Fin 2048) : (V m c main_v4 : Vec Ideal S1024x2048 .bf16) (ix2 l k) = wUp (aC m c) (aS m c) l k := by
  have e : (V m c main_v4 : Vec Ideal S1024x2048 .bf16) = fun i => concatenate S1024x2048 1 [⟨S1024x1024, (aC m c)⟩, ⟨S1024x1024, (aS m c)⟩]
      concatenates_S1024x1024_S1024x1024_S1024x2048_d1 i := by
    show StableHlo.after hostOps0 _ _ = _
    after_results
    rfl
  rw [e]
  exact joined_apply (aC m c) (aS m c) _ l k

theorem V_ab (c : Dev nD) (b : Fin 16) (k : Fin 2048) (d : Fin 1024) :
    (V m c main_v16 : Vec Ideal S16x2048x1024 .bf16) (ix3 b k d) = abA (aAB m c) b k d := by
  have e : (V m c main_v16 : Vec Ideal S16x2048x1024 .bf16) = shapeCast S16x2048x1024 (aAB m c) shapeCasts_S16x2x1024x1024_S16x2048x1024 := by
    show StableHlo.after hostOps0 _ _ = _
    after_results
    rfl
  rw [e]
  refine shapeCast_apply _ _ (ix3 b k d) (ix4 b ⟨k.val / 1024, by omega⟩ ⟨k.val % 1024, by omega⟩ d) ?_
  rw [Shape.rowMajor_val_four, Shape.rowMajor_val_three]
  show ((b.val * 2 + k.val / 1024) * 1024 + k.val % 1024) * 1024 + d.val = (b.val * 2048 + k.val) * 1024 + d.val
  omega

theorem V_x (c : Dev nD) (b : Fin 16) (h : Fin 2) (r k : Fin 1024) :
    (V m c main_v15 : Vec Ideal S16x2x1024x1024 .f32) (ix4 b h r k) = (aX m c) (ix3 b ⟨1024 * h.val + r.val, by omega⟩ k) := by
  have e : V m c main_v15 = shapeCast S16x2x1024x1024 (aX m c) shapeCasts_S16x2048x1024_S16x2x1024x1024 := by
    show StableHlo.after hostOps0 _ _ = _
    after_results
    rfl
  rw [e]
  refine shapeCast_apply _ _ (ix4 b h r k) (ix3 b ⟨1024 * h.val + r.val, by omega⟩ k) ?_
  rw [Shape.rowMajor_val_three, Shape.rowMajor_val_four]
  show (b.val * 2048 + (1024 * h.val + r.val)) * 1024 + k.val = ((b.val * 2 + h.val) * 1024 + r.val) * 1024 + k.val
  omega

theorem V_alt (c : Dev nD) : V m c main_v17 = (aA m c) := by
  show StableHlo.after hostOps0 _ _ = _
  after_results
  rfl

theorem V_wo (c : Dev nD) (j k : Fin 1024) : (V m c main_v19 : Vec Ideal S1024x1024 .bf16) (ix2 j k) = (aW m c) (ix3 0 j k) := by
  have e : (V m c main_v19 : Vec Ideal S1024x1024 .bf16) = shapeCast S1024x1024 (aW m c) shapeCasts_S1x1024x1024_S1024x1024 := by
    show StableHlo.after hostOps0 _ _ = _
    after_results
    rfl
  rw [e]
  refine shapeCast_apply _ _ (ix2 j k) (ix3 0 j k) ?_
  rw [Shape.rowMajor_val_three, Shape.rowMajor_val_two]
  show (0 * 1024 + j.val) * 1024 + k.val = j.val * 1024 + k.val
  omega

/-- The layer's second row of a table of gains or biases, as one row. -/
theorem row_apply (G : Vec Ideal S2x3x1024 .f32) (k : Fin 1024) :
    shapeCast S1x1024 (shapeCast S1024 (extractStridedSlice S1x1x1024 ![1, 1, 0] G slices_S2x3x1024_S1x1x1024_1_1_0) shapeCasts_S1x1x1024_S1024)
      shapeCasts_S1024_S1x1024 (ix2 0 k) = G (ix3 1 1 k) := by
  refine (shapeCast_apply _ _ (ix2 0 k) (ix1 k) ?_).trans ((shapeCast_apply _ _ (ix1 k) (ix3 0 0 k) ?_).trans
    (extractStridedSlice_apply ![1, 1, 0] G _ (ix3 0 0 k) (ix3 1 1 k) fun a => ?_))
  · rw [Shape.rowMajor_val_one, Shape.rowMajor_val_two]
    show k.val = 0 * 1024 + k.val; omega
  · rw [Shape.rowMajor_val_three, Shape.rowMajor_val_one]
    show (0 * 1 + 0) * 1024 + k.val = k.val; omega
  · match a with
    | ⟨0, _⟩ => rfl
    | ⟨1, _⟩ => rfl
    | ⟨2, _⟩ => show k.val = 0 + k.val; omega

theorem V_gain (c : Dev nD) (k : Fin 1024) : (V m c main_v24 : Vec Ideal S1x1024 .f32) (ix2 0 k) = (aG m c) (ix3 1 1 k) := by
  rw [← row_apply (aG m c) k]
  show StableHlo.after hostOps0 _ _ _ = _
  after_results
  rfl

theorem V_bias (c : Dev nD) (k : Fin 1024) : (V m c main_v25 : Vec Ideal S1x1024 .f32) (ix2 0 k) = (aB m c) (ix3 1 1 k) := by
  rw [← row_apply (aB m c) k]
  show StableHlo.after hostOps0 _ _ _ = _
  after_results
  rfl

/-- The reversal matrix: one where the two positions add up to the last, zero elsewhere. -/
theorem V_flip (c : Dev nD) (r j : Fin 256) : (V m c main_v14 : Vec Ideal S256x256 .bf16) (ix2 r j) = (if r.val + j.val = 255 then 1 else 0 : EReal) := by
  have e : (V m c main_v14 : Vec Ideal S256x256 .bf16) (ix2 r j)
      = FloatOps.uitofp (F := Ideal) .bf16 (IntOp.cmpi .eq (BitVec.ofNat 32 r.val + BitVec.ofNat 32 j.val) (BitVec.ofNat 32 255)) := by
    show StableHlo.after hostOps0 _ _ _ = _
    after_results
    pointwise
    rfl
  rw [e, ← BitVec.ofNat_add, WordCmp.cmpi_eq_ofNat (by omega) (by omega)]
  by_cases h : r.val + j.val = 255
  · rw [if_pos h, decide_eq_true h]
    show (((1 : Nat) : ℝ) : EReal) = 1
    norm_num
  · rw [if_neg h, decide_eq_false h]
    show (((0 : Nat) : ℝ) : EReal) = 0
    norm_num

theorem blk0 (c : Dev nD) (t : Fin cfg0.N) (r : Fin 512) (k : Fin 2048) :
    (iblk m c 0 t : Vec Ideal S512x2048 .bf16) (ix2 r k) = wLow (aC m c) (aS m c) ⟨(t.val % 2) * 512 + r.val, by omega⟩ k := by
  have ht := t_lt t
  unfold iblk
  rw [View.read_apply]
  show V m c main_v2 _ = _
  refine (congrArg (V m c main_v2) (eq_ix2 _ (⟨(t.val % 2) * 512 + r.val, by omega⟩ : Fin 1024) k ?_ ?_)).trans (V_low m c _ k)
  · show win0_0.index t 0 * 512 + 1 * r.val = (t.val % 2) * 512 + r.val; rw [(idx0 t).1]; omega
  · show win0_0.index t 1 * 2048 + 1 * k.val = k.val; rw [(idx0 t).2]; omega

theorem blk1 (c : Dev nD) (t : Fin cfg0.N) (r : Fin 512) (k : Fin 2048) :
    (iblk m c 1 t : Vec Ideal S512x2048 .bf16) (ix2 r k) = wUp (aC m c) (aS m c) ⟨(1 - t.val % 2) * 512 + r.val, by omega⟩ k := by
  have ht := t_lt t
  unfold iblk
  rw [View.read_apply]
  show V m c main_v4 _ = _
  refine (congrArg (V m c main_v4) (eq_ix2 _ (⟨(1 - t.val % 2) * 512 + r.val, by omega⟩ : Fin 1024) k ?_ ?_)).trans (V_up m c _ k)
  · show win0_1.index t 0 * 512 + 1 * r.val = (1 - t.val % 2) * 512 + r.val; rw [(idx1 t).1]; omega
  · show win0_1.index t 1 * 2048 + 1 * k.val = k.val; rw [(idx1 t).2]; omega

theorem blk2 (c : Dev nD) (t : Fin cfg0.N) (k : Fin 2048) (d : Fin 1024) :
    (iblk m c 2 t : Vec Ideal S1x2048x1024 .bf16) (ix3 0 k d) = abA (aAB m c) (bOf t) k d := by
  have ht := t_lt t
  unfold iblk
  rw [View.read_apply]
  show V m c main_v16 _ = _
  refine (congrArg (V m c main_v16) (eq_ix3 _ (bOf t) k d ?_ ?_ ?_)).trans (V_ab m c _ k d)
  · show win0_2.index t 0 * 1 + 1 * 0 = t.val / 2; rw [(idx2 t).1]; omega
  · show win0_2.index t 1 * 2048 + 1 * k.val = k.val; rw [(idx2 t).2.1]; omega
  · show win0_2.index t 2 * 1024 + 1 * d.val = d.val; rw [(idx2 t).2.2]; omega

theorem blk3 (c : Dev nD) (t : Fin cfg0.N) (q : Fin 8) (d : Fin 1024) :
    (iblk m c 3 t : Vec Ideal S1x8x1024 .f32) (ix3 0 q d) = (aAN m c) (ix3 (bOf t) q d) := by
  have ht := t_lt t
  unfold iblk
  rw [View.read_apply]
  show V m c main_arg4 _ = _
  refine (congrArg (V m c main_arg4) (eq_ix3 _ (bOf t) q d ?_ ?_ ?_)).trans (by rw [V_main_arg4])
  · show win0_3.index t 0 * 1 + 1 * 0 = t.val / 2; rw [(idx3 t).1]; omega
  · show win0_3.index t 1 * 8 + 1 * q.val = q.val; rw [(idx3 t).2.1]; omega
  · show win0_3.index t 2 * 1024 + 1 * d.val = d.val; rw [(idx3 t).2.2]; omega

theorem blk4 (c : Dev nD) (t : Fin cfg0.N) (q : Fin 8) (k : Fin 2048) :
    (iblk m c 4 t : Vec Ideal S8x2048 .bf16) (ix2 q k) = (aA m c) (ix2 q k) := by
  have ht := t_lt t
  unfold iblk
  rw [View.read_apply]
  show V m c main_v17 _ = _
  refine (congrArg (V m c main_v17) (eq_ix2 _ q k ?_ ?_)).trans (by rw [V_alt])
  · show win0_4.index t 0 * 8 + 1 * q.val = q.val; rw [(idx4 t).1]; omega
  · show win0_4.index t 1 * 2048 + 1 * k.val = k.val; rw [(idx4 t).2]; omega

theorem blk5 (c : Dev nD) (t : Fin cfg0.N) (r j : Fin 256) :
    (iblk m c 5 t : Vec Ideal S256x256 .bf16) (ix2 r j) = (if r.val + j.val = 255 then 1 else 0 : EReal) := by
  have ht := t_lt t
  unfold iblk
  rw [View.read_apply]
  show V m c main_v14 _ = _
  refine (congrArg (V m c main_v14) (eq_ix2 _ r j ?_ ?_)).trans (V_flip m c r j)
  · show win0_5.index t 0 * 256 + 1 * r.val = r.val; rw [(idx5 t).1]; omega
  · show win0_5.index t 1 * 256 + 1 * j.val = j.val; rw [(idx5 t).2]; omega

theorem blk6 (c : Dev nD) (t : Fin cfg0.N) (h : Fin 2) (r : Fin 512) (k : Fin 1024) :
    (iblk m c 6 t : Vec Ideal S1x2x512x1024 .f32) (ix4 0 h r k) = (aX m c) (ix3 (bOf t) ⟨1024 * h.val + (512 * (t.val % 2) + r.val), by omega⟩ k) := by
  have ht := t_lt t
  unfold iblk
  rw [View.read_apply]
  show V m c main_v15 _ = _
  refine (congrArg (V m c main_v15) (eq_i4 _ (bOf t) h (⟨512 * (t.val % 2) + r.val, by omega⟩ : Fin 1024) k ?_ ?_ ?_ ?_)).trans (V_x m c _ h _ k)
  · show win0_6.index t 0 * 1 + 1 * 0 = t.val / 2; rw [(idx6 t).1]; omega
  · show win0_6.index t 1 * 2 + 1 * h.val = h.val; rw [(idx6 t).2.1]; omega
  · show win0_6.index t 2 * 512 + 1 * r.val = 512 * (t.val % 2) + r.val; rw [(idx6 t).2.2.1]; omega
  · show win0_6.index t 3 * 1024 + 1 * k.val = k.val; rw [(idx6 t).2.2.2]; omega

theorem blk7 (c : Dev nD) (t : Fin cfg0.N) (q : Fin 9) (k : Fin 1024) :
    (iblk m c 7 t : Vec Ideal S1x9x1024 .f32) (ix3 0 q k) = (aM m c) (ix3 (bOf t) q k) := by
  have ht := t_lt t
  unfold iblk
  rw [View.read_apply]
  show V m c main_arg6 _ = _
  refine (congrArg (V m c main_arg6) (eq_ix3 _ (bOf t) q k ?_ ?_ ?_)).trans (by rw [V_main_arg6])
  · show win0_7.index t 0 * 1 + 1 * 0 = t.val / 2; rw [(idx7 t).1]; omega
  · show win0_7.index t 1 * 9 + 1 * q.val = q.val; rw [(idx7 t).2.1]; omega
  · show win0_7.index t 2 * 1024 + 1 * k.val = k.val; rw [(idx7 t).2.2]; omega

theorem blk8 (c : Dev nD) (t : Fin cfg0.N) (j k : Fin 1024) :
    (iblk m c 8 t : Vec Ideal S1024x1024 .bf16) (ix2 j k) = (aW m c) (ix3 0 j k) := by
  have ht := t_lt t
  unfold iblk
  rw [View.read_apply]
  show V m c main_v19 _ = _
  refine (congrArg (V m c main_v19) (eq_ix2 _ j k ?_ ?_)).trans (V_wo m c j k)
  · show win0_8.index t 0 * 1024 + 1 * j.val = j.val; rw [(idx8 t).1]; omega
  · show win0_8.index t 1 * 1024 + 1 * k.val = k.val; rw [(idx8 t).2]; omega

theorem blk9 (c : Dev nD) (t : Fin cfg0.N) (k : Fin 1024) :
    (iblk m c 9 t : Vec Ideal S1x1024 .f32) (ix2 0 k) = (aG m c) (ix3 1 1 k) := by
  have ht := t_lt t
  unfold iblk
  rw [View.read_apply]
  show V m c main_v24 _ = _
  refine (congrArg (V m c main_v24) (eq_ix2 _ (0 : Fin 1) k ?_ ?_)).trans (V_gain m c k)
  · show win0_9.index t 0 * 1 + 1 * 0 = 0; rw [(idx9 t).1]
  · show win0_9.index t 1 * 1024 + 1 * k.val = k.val; rw [(idx9 t).2]; omega

theorem blk10 (c : Dev nD) (t : Fin cfg0.N) (k : Fin 1024) :
    (iblk m c 10 t : Vec Ideal S1x1024 .f32) (ix2 0 k) = (aB m c) (ix3 1 1 k) := by
  have ht := t_lt t
  unfold iblk
  rw [View.read_apply]
  show V m c main_v25 _ = _
  refine (congrArg (V m c main_v25) (eq_ix2 _ (0 : Fin 1) k ?_ ?_)).trans (V_bias m c k)
  · show win0_10.index t 0 * 1 + 1 * 0 = 0; rw [(idx10 t).1]
  · show win0_10.index t 1 * 1024 + 1 * k.val = k.val; rw [(idx10 t).2]; omega

/-- The transform at a position of a point's batch, over the arguments as launched. -/
abbrev fT (c : Dev nD) (b : Fin 16) (l : Fin 2048) (d : Fin 1024) : EReal := fA (aC m c) (aS m c) (aA m c) (aAB m c) (aAN m c) b l d

/-- The result's array, over the arguments as launched. -/
abbrev resultOf (c : Dev nD) : Vec Ideal S16x2x1024x1024 .f32 :=
  outA (aC m c) (aS m c) (aA m c) (aAB m c) (aAN m c) (aX m c) (aM m c) (aW m c) (aG m c) (aB m c)

theorem low_eq (c : Dev nD) (t : Fin cfg0.N) (r : Fin 512) (d : Fin 1024) : rowB (iblk m c 0 t) (iblk m c 2 t) (iblk m c 3 t) (t.val % 2) r d
    = rowA (aAB m c) (aAN m c) (wLow (aC m c) (aS m c)) (bOf t) ⟨(t.val % 2) * 512 + r.val, by omega⟩ d := by
  unfold rowB rowA
  exact congrArg (· * ν) (congrArg₂ (· + ·) (Finset.sum_congr rfl fun k _ => congrArg₂ (· * ·) (blk0 m c t r k) (blk2 m c t k d))
    (congrArg (_ * ·) (blk3 m c t 0 d)))

theorem up_eq (c : Dev nD) (t : Fin cfg0.N) (r : Fin 512) (d : Fin 1024) : rowB (iblk m c 1 t) (iblk m c 2 t) (iblk m c 3 t) (1 - t.val % 2) r d
    = rowA (aAB m c) (aAN m c) (wUp (aC m c) (aS m c)) (bOf t) ⟨(1 - t.val % 2) * 512 + r.val, by omega⟩ d := by
  unfold rowB rowA
  exact congrArg (· * ν) (congrArg₂ (· + ·) (Finset.sum_congr rfl fun k _ => congrArg₂ (· * ·) (blk1 m c t r k) (blk2 m c t k d))
    (congrArg (_ * ·) (blk3 m c t 0 d)))

theorem mid_eq (c : Dev nD) (t : Fin cfg0.N) (d : Fin 1024) : midB (iblk m c 2 t) (iblk m c 3 t) (iblk m c 4 t) d
    = midA (aA m c) (aAB m c) (aAN m c) (bOf t) d := by
  unfold midB midA
  exact congrArg (· * ν) (congrArg₂ (· + ·) (Finset.sum_congr rfl fun k _ => congrArg₂ (· * ·) (blk4 m c t 0 k) (blk2 m c t k d)) (blk3 m c t 0 d))

/-- A block's rows are the result's, when its transformed rows are. -/
theorem block_eq (c : Dev nD) (t : Fin cfg0.N) (lo up : Fin 512 → Fin 1024 → EReal)
    (hlo : ∀ (r : Fin 512) (d : Fin 1024), lo r d = fT m c (bOf t) ⟨512 * (t.val % 2) + r.val, by omega⟩ d)
    (hup : ∀ (r : Fin 512) (d : Fin 1024), up r d = fT m c (bOf t) ⟨1024 + (512 * (t.val % 2) + r.val), by omega⟩ d)
    (h : Fin 2) (r : Fin 512) (d : Fin 1024) :
    blockB (iblk m c 6 t) (iblk m c 7 t) (iblk m c 8 t) (iblk m c 9 t) (iblk m c 10 t) lo up (ix4 0 h r d)
      = resultOf m c (ix4 (bOf t) h ⟨512 * (t.val % 2) + r.val, by omega⟩ d) := by
  have key : ∀ (f : Fin 1024 → EReal) (h : Fin 2) (_ : ∀ j, f j = fT m c (bOf t) ⟨1024 * h.val + (512 * (t.val % 2) + r.val), by omega⟩ j),
      postRow f (fun k => (iblk m c 6 t : Vec Ideal S1x2x512x1024 .f32) (ix4 0 h r k)) (fun k => (iblk m c 7 t : Vec Ideal S1x9x1024 .f32) (ix3 0 5 k))
        (fun j k => (iblk m c 8 t : Vec Ideal S1024x1024 .bf16) (ix2 j k)) (fun k => (iblk m c 9 t : Vec Ideal S1x1024 .f32) (ix2 0 k))
        (fun k => (iblk m c 10 t : Vec Ideal S1x1024 .f32) (ix2 0 k)) d
      = resultOf m c (ix4 (bOf t) h ⟨512 * (t.val % 2) + r.val, by omega⟩ d) := by
    intro f h hf
    rw [funext hf, funext (blk6 m c t h r), funext (blk7 m c t 5), funext (fun j => funext (blk8 m c t j)), funext (blk9 m c t), funext (blk10 m c t)]
    rfl
  unfold blockB
  match h with
  | ⟨0, _⟩ =>
    refine (if_pos rfl).trans (key _ 0 fun j => (hlo r j).trans ?_)
    exact congrArg (fun a => fT m c (bOf t) a j) (Fin.ext (by show 512 * (t.val % 2) + r.val = 1024 * 0 + (512 * (t.val % 2) + r.val); omega))
  | ⟨1, _⟩ =>
    refine (if_neg Nat.one_ne_zero).trans (key _ 1 fun j => (hup r j).trans ?_)
    exact congrArg (fun a => fT m c (bOf t) a j) (Fin.ext (by show 1024 + (512 * (t.val % 2) + r.val) = 1024 * 1 + (512 * (t.val % 2) + r.val); omega))

theorem lower_eq (c : Dev nD) (t : Fin cfg0.N) (r : Fin 512) (d : Fin 1024) :
    rowB (iblk m c 0 t) (iblk m c 2 t) (iblk m c 3 t) ((grid0.coords t) 1).val r d = fT m c (bOf t) ⟨512 * (t.val % 2) + r.val, by omega⟩ d := by
  rw [half_eq t, low_eq]
  exact (fA_low _ _ _ _ _ _ _ _ _ (by show 512 * (t.val % 2) + r.val = (t.val % 2) * 512 + r.val; omega)).symm

theorem upper_eq (c : Dev nD) (t : Fin cfg0.N) (z : Fin 1024 → EReal)
    (hz : ∀ d, z d = fT m c (bOf t) ⟨1024 + 512 * (t.val % 2), by omega⟩ d) (r : Fin 512) (d : Fin 1024) :
    upB (iblk m c 1 t) (iblk m c 2 t) (iblk m c 3 t) (1 - t.val % 2) z r d = fT m c (bOf t) ⟨1024 + (512 * (t.val % 2) + r.val), by omega⟩ d := by
  unfold upB
  by_cases h : r.val = 0
  · rw [dif_pos h, hz]
    exact congrArg (fun a => fT m c (bOf t) a d) (Fin.ext (by show 1024 + 512 * (t.val % 2) = 1024 + (512 * (t.val % 2) + r.val); omega))
  · rw [dif_neg h, up_eq]
    exact (fA_up _ _ _ _ _ _ _ _ _ (by
      show 1024 + (512 * (t.val % 2) + r.val) + ((1 - t.val % 2) * 512 + (512 - r.val)) = 2048
      have := r.isLt
      omega)).symm

/-- The row a point keeps for the next one. -/
theorem kept_eq (c : Dev nD) (t : Fin cfg0.N) (h0 : t.val % 2 = 0) (d : Fin 1024) :
    ((outsAt0 m c t.val t.isLt).2 : Vec Ideal S8x1024 .f32) (ix2 0 d) = fT m c (bOf t) ⟨1536, by omega⟩ d := by
  rw [outsAt0_A m c t h0]
  dsimp only
  refine (kept_A _ _ _ _ _ _ _ _ _ _ _ _ _ _ _ _ _ _ _ _ _ _ _ _ _ _ _ _ _ _ _ _ _ _ _ _ _ _ _ _ (1 - t.val % 2)
    (by have := half_eq t; omega) d).trans ?_
  rw [up_eq]
  exact (fA_up _ _ _ _ _ _ _ _ _ (by show 1536 + ((1 - t.val % 2) * 512 + 0) = 2048; omega)).symm

/-- What a point writes back is the result's block. -/
theorem flushed_eq (c : Dev nD) (t : Fin cfg0.N) (hf : (cfg0.win 11).flush t = true) :
    (dats m 0 c).flushed 11 t = ((cfg0.win 11).blk t).view.read (Elt Ideal) (resultOf m c) := by
  have ht := t_lt t
  have hh := half_eq t
  have main : ∃ lo up : Fin 512 → Fin 1024 → EReal, ((dats m 0 c).flushed 11 t : Vec Ideal S1x2x512x1024 .f32)
        = blockB (iblk m c 6 t) (iblk m c 7 t) (iblk m c 8 t) (iblk m c 9 t) (iblk m c 10 t) lo up
      ∧ (∀ (r : Fin 512) (d : Fin 1024), lo r d = fT m c (bOf t) ⟨512 * (t.val % 2) + r.val, by omega⟩ d)
      ∧ (∀ (r : Fin 512) (d : Fin 1024), up r d = fT m c (bOf t) ⟨1024 + (512 * (t.val % 2) + r.val), by omega⟩ d) := by
    by_cases h0 : t.val % 2 = 0
    · rw [Cert.DftSeqIdeal.Value.flushed11_A m c t h0, out_A _ _ _ _ _ _ _ _ _ _ _ _ _ _ _ _ _ _ _ _ _ _ _ _ _ _ _ _ _ _ _ _ _ _ _ _ _ _ _ _ (blk5 m c t) (1 - t.val % 2) (by omega)]
      exact ⟨_, _, rfl, lower_eq m c t, upper_eq m c t _ fun d => (mid_eq m c t d).trans
        (fA_mid _ _ _ _ _ _ _ _ (by show 1024 + 512 * (t.val % 2) = 1024; omega)).symm⟩
    · rw [Cert.DftSeqIdeal.Value.flushed11_B m c t h0, out_B _ _ _ _ _ _ _ _ _ _ _ _ _ _ _ _ _ _ _ _ _ _ _ _ _ _ _ _ _ _ _ _ _ _ _ _ _ _ _ _ _ (blk5 m c t) (1 - t.val % 2) (by omega)]
      refine ⟨_, _, rfl, lower_eq m c t, upper_eq m c t _ fun d => ?_⟩
      have e := kept_eq m c ⟨t.val - 1, by have := t.isLt; omega⟩ (by show (t.val - 1) % 2 = 0; omega) d
      refine e.trans (congrArg₂ (fun a b => fT m c a b d) (Fin.ext ?_) (Fin.ext ?_))
      · show (t.val - 1) / 2 = t.val / 2; omega
      · show 1536 = 1024 + 512 * (t.val % 2); omega
  obtain ⟨lo, up, e, hlo, hup⟩ := main
  refine e.trans (funext fun y => ?_)
  show blockB _ _ _ _ _ lo up y = resultOf m c (((cfg0.win 11).blk t).view.emb y)
  obtain ⟨h, r, d, rfl⟩ : ∃ (h : Fin 2) (r : Fin 512) (d : Fin 1024), y = ix4 0 h r d :=
    ⟨y 1, y 2, y 3, eq_i4 _ _ _ _ _ (by have h : (y 0).val < 1 := (y 0).isLt; show (y 0).val = 0; omega) rfl rfl rfl⟩
  have ei : ((cfg0.win 11).blk t).view.emb (ix4 0 h r d) = ix4 (bOf t) h (⟨512 * (t.val % 2) + r.val, by omega⟩ : Fin 1024) d := eq_i4 _ _ _ _ _
    (by show win0_11.index t 0 * 1 + 1 * 0 = t.val / 2; rw [(idx11 t).1]; omega)
    (by show win0_11.index t 1 * 2 + 1 * h.val = h.val; rw [(idx11 t).2.1]; omega)
    (by show win0_11.index t 2 * 512 + 1 * r.val = 512 * (t.val % 2) + r.val; rw [(idx11 t).2.2.1]; omega)
    (by show win0_11.index t 3 * 1024 + 1 * d.val = d.val; rw [(idx11 t).2.2.2]; omega)
  exact (block_eq m c t lo up hlo hup h r d).trans (congrArg (resultOf m c) ei).symm

/-- The points' blocks cover the array. -/
theorem final (c : Dev nD) : (dats m 0 c).arrAt 11 cfg0.N = resultOf m c :=
  (dats m 0 c).arrAt_eq_of_cover 11 (resultOf m c) (flushed_eq m c) fun i => by
    have h0 : (i 0 : Nat) < 16 := (i 0).isLt
    have h1 : (i 1 : Nat) < 2 := (i 1).isLt
    have h2 : (i 2 : Nat) < 1024 := (i 2).isLt
    have h3 : (i 3 : Nat) < 1024 := (i 3).isLt
    have hN : cfg0.N = 32 := N_0
    refine ⟨⟨2 * (i 0).val + (i 2).val / 512, by omega⟩, flush11 _, ?_⟩
    generalize ht : (⟨2 * (i 0).val + (i 2).val / 512, by omega⟩ : Fin cfg0.N) = t
    have htv : t.val = 2 * (i 0).val + (i 2).val / 512 := by rw [← ht]
    show i ∈ ((View.whole main_v26).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [(idx11 t).1]; omega
    | ⟨1, _⟩ => show win0_11.index t 1 * 2 ≤ (i 1 : Nat) ∧ (i 1 : Nat) < win0_11.index t 1 * 2 + 2
                rw [(idx11 t).2.1]; omega
    | ⟨2, _⟩ => show win0_11.index t 2 * 512 ≤ (i 2 : Nat) ∧ (i 2 : Nat) < win0_11.index t 2 * 512 + 512
                rw [(idx11 t).2.2.1]; omega
    | ⟨3, _⟩ => show win0_11.index t 3 * 1024 ≤ (i 3 : Nat) ∧ (i 3 : Nat) < win0_11.index t 3 * 1024 + 1024
                rw [(idx11 t).2.2.2]; omega

end Cert.DftSeqValue
end
-- ==== Proof.DftSeqRefValue.lean ====
module

public import proofs.«01_k».proof.Proof.DftSeqMath
public import proofs.«01_k».proof.Proof.Gen.DftSeqRefIdeal.Read
public import proofs.«01_k».proof.Proof.FfnRefValue

/-! The transform over positions: the reference at an entry. -/

@[expose] public section

set_option maxRecDepth 16384

noncomputable section

open Idealize.ShloMosaic Idealize.ShloMosaic.TcCoe Idealize.SL.Sem

namespace Cert.DftSeqValue

open Cert.DftSeqRefIdeal Cert.DftSeqRefIdeal.Read Cert.Layer
open Cert.QkvValue (eq_i4)
open Cert.FfnValue (eq_ix2 eq_ix3 at3)

variable (C S : Vec Ideal S1024x1024 .f32) (A : Vec Ideal S8x2048 .f32) (AB : Vec Ideal S16x2x1024x1024 .bf16) (AN : Vec Ideal S16x8x1024 .f32)
  (X : Vec Ideal S16x2048x1024 .f32) (M : Vec Ideal S16x9x1024 .f32) (W : Vec Ideal S1x1024x1024 .f32) (G B : Vec Ideal S2x3x1024 .f32)

theorem ref_ab (b : Fin 16) (k : Fin 2048) (d : Fin 1024) : val_main_v1 (F := Ideal) AB (ix3 b k d) = abA AB b k d := by
  rw [val_main_v1_apply, val_main_v0_apply]
  refine congrArg AB (eq_i4 _ b (⟨k.val / 1024, by omega⟩ : Fin 2) (⟨k.val % 1024, by omega⟩ : Fin 1024) d ?_ ?_ ?_ ?_)
  · show ((b.val * 2048 + k.val) * 1024 + d.val) / 2097152 = b.val; omega
  · show ((b.val * 2048 + k.val) * 1024 + d.val) / 1048576 % 2 = k.val / 1024; omega
  · show ((b.val * 2048 + k.val) * 1024 + d.val) / 1024 % 1024 = k.val % 1024; omega
  · show ((b.val * 2048 + k.val) * 1024 + d.val) % 1024 = d.val; omega

theorem ref_sign (j : S1x1024x1.Idx) : val_main_v11 (F := Ideal) j = sgn (j 1).val := by
  rw [val_main_v11_apply, val_main_v10_apply, val_main_v9_apply, val_main_v8_apply, val_main_c_1_apply, val_main_v7_apply, val_main_v6_apply,
    val_main_c_0_apply, val_main_v5_apply, val_main_v4_apply, val_main_c_apply, val_main_v3_apply]
  rfl

theorem ref_last (b : Fin 16) (u : Fin 1) (d : Fin 1024) : val_main_v2 (F := Ideal) AN (ix3 b u d) = AN (ix3 b 0 d) := by
  rw [val_main_v2_apply]
  exact congrArg AN (eq_ix3 _ b (0 : Fin 8) d rfl (by show u.val = 0; omega) rfl)

/-- A lower row. -/
theorem ref_low (b : Fin 16) (l d : Fin 1024) : val_main_v21 (F := Ideal) C S AB AN (ix3 b l d) = rowA AB AN (wLow C S) b l d := by
  have e : val_main_v15 (F := Ideal) C S AB (ix3 b l d) = ∑ k : Fin 2048, wLow C S l k * abA AB b k d := by
    rw [val_main_v15_apply, val_main_v14_apply]
    refine Finset.sum_congr rfl fun k _ => ?_
    rw [eq_ix3 (lidx_main_v14 _ k) b k d rfl rfl rfl, eq_ix2 (ridx_main_v14 _ k) l k rfl rfl, ref_ab, mul_comm]
    exact congrArg (· * abA AB b k d) (joined_apply C (val_main_v12 (F := Ideal) S) _ l k)
  rw [val_main_v21_apply, val_main_v19_apply, e, val_main_v18_apply, val_main_v16_apply, ref_sign, val_main_v17_apply,
    eq_ix3 (idx_main_v17 (ix3 b l d)) b (0 : Fin 1) d rfl rfl rfl, ref_last, val_main_v20_apply, val_main_cst_apply]
  rfl

/-- A mirror row, before they are turned around. -/
theorem ref_up (b : Fin 16) (l d : Fin 1024) : val_main_v30 (F := Ideal) C S AB AN (ix3 b l d) = rowA AB AN (wUp C S) b l d := by
  have e : val_main_v24 (F := Ideal) C S AB (ix3 b l d) = ∑ k : Fin 2048, wUp C S l k * abA AB b k d := by
    rw [val_main_v24_apply, val_main_v23_apply]
    refine Finset.sum_congr rfl fun k _ => ?_
    rw [eq_ix3 (lidx_main_v23 _ k) b k d rfl rfl rfl, eq_ix2 (ridx_main_v23 _ k) l k rfl rfl, ref_ab, mul_comm]
    exact congrArg (· * abA AB b k d) (joined_apply C S _ l k)
  rw [val_main_v30_apply, val_main_v28_apply, e, val_main_v27_apply, val_main_v25_apply, ref_sign, val_main_v26_apply,
    eq_ix3 (idx_main_v26 (ix3 b l d)) b (0 : Fin 1) d rfl rfl rfl, ref_last, val_main_v29_apply, val_main_cst_2_apply]
  rfl

theorem ref_mid (b : Fin 16) (d : Fin 1024) : val_main_v36 (F := Ideal) A AB AN (ix3 b 0 d) = midA A AB AN b d := by
  have e : val_main_v33 (F := Ideal) A AB (ix3 b 0 d) = ∑ k : Fin 2048, A (ix2 0 k) * abA AB b k d := by
    rw [val_main_v33_apply, val_main_v32_apply]
    refine Finset.sum_congr rfl fun k _ => ?_
    rw [eq_ix3 (lidx_main_v32 _ k) b k d rfl rfl rfl, ref_ab, mul_comm, val_main_v31_apply]
    exact congrArg (· * abA AB b k d) (congrArg A (eq_ix2 _ (0 : Fin 8) k rfl rfl))
  rw [val_main_v36_apply, val_main_v34_apply, e, ref_last, val_main_v35_apply, val_main_cst_3_apply]
  rfl

theorem ref_back (b : Fin 16) (r : Fin 1023) (d : Fin 1024) :
    val_main_v38 (F := Ideal) C S AB AN (ix3 b r d) = rowA AB AN (wUp C S) b ⟨1023 - r.val, by omega⟩ d := by
  unfold val_main_v38
  rw [Host.reverse_apply]
  refine (congrArg (val_main_v37 (F := Ideal) C S AB AN) (eq_ix3 _ b (⟨1022 - r.val, by omega⟩ : Fin 1023) d rfl ?_ rfl)).trans ?_
  · show 1023 - (r.val + 1) = 1022 - r.val; omega
  · rw [val_main_v37_apply, eq_ix3 (idx_main_v37 (ix3 b ⟨1022 - r.val, by omega⟩ d)) b (⟨1023 - r.val, by omega⟩ : Fin 1024) d rfl
      (by show 1 + (1022 - r.val) = 1023 - r.val; omega) rfl, ref_up]

/-- Three runs of rows one after the other. -/
theorem runs_apply (P : Vec Ideal S16x1024x1024 .f32) (Q : Vec Ideal S16x1x1024 .f32) (R : Vec Ideal S16x1023x1024 .f32)
    (h : Shape.Concatenates [S16x1024x1024, S16x1x1024, S16x1023x1024] S16x2048x1024 1) (b : Fin 16) (l : Fin 2048) (d : Fin 1024) :
    concatenate S16x2048x1024 1 [⟨S16x1024x1024, P⟩, ⟨S16x1x1024, Q⟩, ⟨S16x1023x1024, R⟩] h (ix3 b l d)
      = if h : l.val < 1024 then P (ix3 b ⟨l.val, h⟩ d) else if h' : l.val = 1024 then Q (ix3 b 0 d) else R (ix3 b ⟨l.val - 1025, by omega⟩ d) := by
  split_ifs with h1 h2
  · refine concatenate_apply_piece (t := S16x2048x1024) (1 : Fin 3) [⟨S16x1024x1024, P⟩, ⟨S16x1x1024, Q⟩, ⟨S16x1023x1024, R⟩] h (ix3 b l d) 0 (show 0 < 3 by decide)
      S16x1024x1024 P rfl rfl 0 rfl (ix3 b ⟨l.val, h1⟩ d) (fun a ha => ?_) (by show 0 + l.val = l.val; omega)
    match a with
    | ⟨0, _⟩ => rfl
    | ⟨1, _⟩ => exact absurd rfl ha
    | ⟨2, _⟩ => rfl
  · refine concatenate_apply_piece (t := S16x2048x1024) (1 : Fin 3) [⟨S16x1024x1024, P⟩, ⟨S16x1x1024, Q⟩, ⟨S16x1023x1024, R⟩] h (ix3 b l d) 1 (show 1 < 3 by decide)
      S16x1x1024 Q rfl rfl 1024 rfl (ix3 b 0 d) (fun a ha => ?_) (by show 1024 + 0 = l.val; omega)
    match a with
    | ⟨0, _⟩ => rfl
    | ⟨1, _⟩ => exact absurd rfl ha
    | ⟨2, _⟩ => rfl
  · refine concatenate_apply_piece (t := S16x2048x1024) (1 : Fin 3) [⟨S16x1024x1024, P⟩, ⟨S16x1x1024, Q⟩, ⟨S16x1023x1024, R⟩] h (ix3 b l d) 2 (show 2 < 3 by decide)
      S16x1023x1024 R rfl rfl 1025 rfl (ix3 b ⟨l.val - 1025, by omega⟩ d) (fun a ha => ?_) (by show 1025 + (l.val - 1025) = l.val; omega)
    match a with
    | ⟨0, _⟩ => rfl
    | ⟨1, _⟩ => exact absurd rfl ha
    | ⟨2, _⟩ => rfl

/-- The transform at a position. -/
theorem ref_f (b : Fin 16) (l : Fin 2048) (d : Fin 1024) : val_main_v39 (F := Ideal) C S A AB AN (ix3 b l d) = fA C S A AB AN b l d := by
  refine (runs_apply _ _ _ _ b l d).trans ?_
  unfold fA
  have hl := l.isLt
  split_ifs with h1 h2
  · exact ref_low C S AB AN b _ d
  · exact ref_mid A AB AN b d
  · refine (ref_back C S AB AN b _ d).trans (congrArg (fun a => rowA AB AN (wUp C S) b a d) (Fin.ext ?_))
    show 1023 - (l.val - 1025) = 2048 - l.val
    omega

/-- The output map's result added to the stream. -/
abbrev sumA (b : Fin 16) (l : Fin 2048) (k : Fin 1024) : EReal :=
  Ideal.ofBits .f32 0x3FB504F3#32 * X (ix3 b l k) + M (ix3 b 5 k) * ∑ j : Fin 1024, fA C S A AB AN b l j * W (ix3 0 j k)

theorem ref_sum (b : Fin 16) (l : Fin 2048) (k : Fin 1024) : val_main_v49 (F := Ideal) C S A AB AN X M W (ix3 b l k) = sumA C S A AB AN X M W b l k := by
  have em : val_main_v47 (F := Ideal) M (ix3 b l k) = M (ix3 b 5 k) := by
    rw [val_main_v47_apply, val_main_v44_apply, val_main_v43_apply, val_main_v42_apply]
    refine at3 M _ b 5 k ?_ ?_ ?_
    · show (b.val * 1024 + k.val) / 1024 = b.val; omega
    · rfl
    · show (b.val * 1024 + k.val) % 1024 = k.val; omega
  have eo : val_main_v46 (F := Ideal) C S A AB AN W (ix3 b l k) = ∑ j : Fin 1024, fA C S A AB AN b l j * W (ix3 0 j k) := by
    rw [val_main_v46_apply]
    refine Finset.sum_congr rfl fun j _ => ?_
    rw [eq_ix3 (lidx_main_v46 _ j) b l j rfl rfl rfl, ref_f, val_main_v45_apply]
    refine congrArg (_ * ·) (at3 W _ 0 j k rfl ?_ ?_)
    · show (j.val * 1024 + k.val) / 1024 % 1024 = j.val; omega
    · show (j.val * 1024 + k.val) % 1024 = k.val; omega
  rw [val_main_v49_apply, val_main_v41_apply, val_main_v40_apply, val_main_cst_4_apply, val_main_v48_apply, em, eo]
  rfl

theorem ref_mean (b : Fin 16) (l : Fin 2048) (u : Fin 1) :
    val_main_v57 (F := Ideal) C S A AB AN X M W (ix3 b l u) = rowMean (sumA C S A AB AN X M W b l) := by
  rw [val_main_v57_apply, val_main_v56_apply, val_main_cst_6_apply, val_main_v55_apply, val_main_v54_apply, val_main_cst_5_apply]
  have e : ∑ k : Fin 1024, (val_main_v49 (F := Ideal) C S A AB AN X M W) (idx_main_v54 (idx_main_v55 (ix3 b l u)) k)
      = ∑ k : Fin 1024, sumA C S A AB AN X M W b l k :=
    Finset.sum_congr rfl fun k _ => by rw [eq_ix3 (idx_main_v54 (idx_main_v55 (ix3 b l u)) k) b l k rfl rfl rfl, ref_sum]
  rw [e]
  show Ideal.div (Ideal.ofBits .f32 0x00000000#32 + _) _ = _
  rw [Ideal.ofBits_zero_f32, zero_add]
  rfl

theorem ref_var (b : Fin 16) (l : Fin 2048) (u : Fin 1) : val_main_v64 (F := Ideal) C S A AB AN X M W (ix3 b l u)
    = rowMean (fun k => (sumA C S A AB AN X M W b l k - rowMean (sumA C S A AB AN X M W b l))
        * (sumA C S A AB AN X M W b l k - rowMean (sumA C S A AB AN X M W b l))) := by
  rw [val_main_v64_apply, val_main_v63_apply, val_main_cst_8_apply, val_main_v62_apply, val_main_v61_apply, val_main_cst_7_apply]
  have e : ∑ k : Fin 1024, (val_main_v60 (F := Ideal) C S A AB AN X M W) (idx_main_v61 (idx_main_v62 (ix3 b l u)) k)
      = ∑ k : Fin 1024, (sumA C S A AB AN X M W b l k - rowMean (sumA C S A AB AN X M W b l))
          * (sumA C S A AB AN X M W b l k - rowMean (sumA C S A AB AN X M W b l)) :=
    Finset.sum_congr rfl fun k _ => by
      rw [eq_ix3 (idx_main_v61 (idx_main_v62 (ix3 b l u)) k) b l k rfl rfl rfl, val_main_v60_apply,
        val_main_v59_apply, ref_sum, val_main_v58_apply, eq_ix3 (idx_main_v58 (ix3 b l k)) b l 0 rfl rfl rfl, ref_mean]
      rfl
  rw [e]
  show Ideal.div (Ideal.ofBits .f32 0x00000000#32 + _) _ = _
  rw [Ideal.ofBits_zero_f32, zero_add]
  rfl

theorem ref_gain (b : Fin 16) (l : Fin 2048) (d : Fin 1024) : val_main_v73 (F := Ideal) G (ix3 b l d) = G (ix3 1 1 d) := by
  rw [val_main_v73_apply, val_main_v72_apply, val_main_v51_apply, val_main_v50_apply]
  exact at3 G _ 1 1 d rfl rfl (by show d.val % 1024 = d.val; omega)

theorem ref_bias (b : Fin 16) (l : Fin 2048) (d : Fin 1024) : val_main_v76 (F := Ideal) B (ix3 b l d) = B (ix3 1 1 d) := by
  rw [val_main_v76_apply, val_main_v75_apply, val_main_v53_apply, val_main_v52_apply]
  exact at3 B _ 1 1 d rfl rfl (by show d.val % 1024 = d.val; omega)

theorem ref_normed (b : Fin 16) (l : Fin 2048) (d : Fin 1024) :
    val_main_v77 (F := Ideal) C S A AB AN X M W G B (ix3 b l d) = outRow C S A AB AN X M W G B b l d := by
  rw [val_main_v77_apply, val_main_v74_apply, ref_gain, ref_bias, val_main_v71_apply, val_main_v66_apply, ref_sum,
    val_main_v65_apply, eq_ix3 (idx_main_v65 (ix3 b l d)) b l 0 rfl rfl rfl, ref_mean, val_main_v70_apply,
    eq_ix3 (idx_main_v70 (ix3 b l d)) b l 0 rfl rfl rfl, val_main_v69_apply, val_main_v68_apply, ref_var,
    val_main_v67_apply, val_main_cst_9_apply]
  rfl

/-- The reference's result is the kernel's. -/
theorem ref_result : val_main_v78 (F := Ideal) C S A AB AN X M W G B = outA C S A AB AN X M W G B := by
  refine funext fun i => ?_
  obtain ⟨b, h, r, d, rfl⟩ : ∃ (b : Fin 16) (h : Fin 2) (r d : Fin 1024), i = ix4 b h r d := ⟨i 0, i 1, i 2, i 3, eq_i4 _ _ _ _ _ rfl rfl rfl rfl⟩
  rw [val_main_v78_apply, eq_ix3 (idx_main_v78 (ix4 b h r d)) b (⟨1024 * h.val + r.val, by omega⟩ : Fin 2048) d
    (by show (((b.val * 2 + h.val) * 1024 + r.val) * 1024 + d.val) / 2097152 = b.val; omega)
    (by show (((b.val * 2 + h.val) * 1024 + r.val) * 1024 + d.val) / 1024 % 2048 = 1024 * h.val + r.val; omega)
    (by show (((b.val * 2 + h.val) * 1024 + r.val) * 1024 + d.val) % 1024 = d.val; omega), ref_normed]
  rfl

end Cert.DftSeqValue
end
-- ==== Proof.DftSeqClaim.lean ====
module

public import proofs.«01_k».proof.Defs
public import proofs.«01_k».proof.Proof.Gen.DftSeq
public import proofs.«01_k».proof.Proof.Gen.DftSeq.Frame
public import proofs.«01_k».proof.Proof.Gen.DftSeqIdeal
public import proofs.«01_k».proof.Proof.Gen.DftSeqIdeal.Value
public import proofs.«01_k».proof.Proof.Gen.DftSeqRefIdeal
public import proofs.«01_k».proof.Proof.DftSeqArray
public import proofs.«01_k».proof.Proof.DftSeqRefValue

/-! The claims of the transform over positions with its output map and norm. -/

@[expose] public section

set_option maxRecDepth 16384

noncomputable section

open Idealize.ShloMosaic Idealize.ShloMosaic.TcCoe Idealize.SL.Sem

namespace Cert.DftSeqValue

theorem frame_dftSeq : Cert.quiescent_DftSeq := fun m ρ _ => Cert.DftSeq.Gen.frame m ρ

theorem frame_dftSeqIdeal : Cert.quiescent_DftSeqIdeal := fun m ρ _ => Cert.DftSeqIdeal.Gen.frame m ρ

theorem frame_dftSeqRef : Cert.quiescent_DftSeqRefIdeal := fun m ρ _ =>
  (θ_run Cert.DftSeqRefIdeal.defs _ _).mono (fun r h => ⟨fun c => (h c).2, sem_eq_zero_of_no_sems (by decide) r.2⟩)
    (Cert.DftSeqRefIdeal.Value.run (F := Ideal) m ρ)

/-- The kernel's array is the reference's, from arguments that agree. -/
theorem algebraic : Cert.algebraic_DftSeqIdeal_DftSeqRefIdeal := by
  intro m ρ m' ρ' _ hagree
  refine ⟨fun c => resultOf m c, ?_, ?_⟩
  · refine (θ_run Cert.DftSeqIdeal.defs _ _).mono (fun _ h c => ?_) (Cert.DftSeqIdeal.Value.run_blocks m ρ)
    exact ⟨(h c).1.trans (final m c), (h c).2⟩
  · refine (θ_run Cert.DftSeqRefIdeal.defs _ _).mono (fun _ h c => ?_) (Cert.DftSeqRefIdeal.Value.run (F := Ideal) m' ρ')
    refine ⟨(h c).1.trans ((Cert.DftSeqRefIdeal.Read.val_main_v78_eq m' c).trans ?_), (h c).2⟩
    obtain ⟨e0, e1, e2, e3, e4, e5, e6, e7, e8, e9⟩ := hagree c
    rw [e0, e1, e2, e3, e4, e5, e6, e7, e8, e9]; exact ref_result _ _ _ _ _ _ _ _ _ _

end Cert.DftSeqValue
end
-- ==== Proof.lean ====
module

public import proofs.«01_k».proof.Defs
public import proofs.«01_k».proof.Proof.Gen.Kernel
public import proofs.«01_k».proof.Proof.AttnFrame
public import proofs.«01_k».proof.Proof.Gen.KernelIdeal
public import proofs.«01_k».proof.Proof.AttnIdealFrame
public import proofs.«01_k».proof.Proof.Gen.ReferenceIdeal
public import proofs.«01_k».proof.Proof.Gen.ReferenceIdeal.Run
public import proofs.«01_k».proof.Proof.Gen.Ffn
public import proofs.«01_k».proof.Proof.Gen.FfnIdeal
public import proofs.«01_k».proof.Proof.Gen.FfnRefIdeal
public import proofs.«01_k».proof.Proof.FfnClaim
public import proofs.«01_k».proof.Proof.QkvClaim
public import proofs.«01_k».proof.Proof.KvCtxClaim
public import proofs.«01_k».proof.Proof.ModClaim
public import proofs.«01_k».proof.Proof.Gen.FfnFirst
public import proofs.«01_k».proof.Proof.Gen.FfnFirstIdeal
public import proofs.«01_k».proof.Proof.Gen.FfnFirstRefIdeal
public import proofs.«01_k».proof.Proof.Gen.FfnCtx
public import proofs.«01_k».proof.Proof.Gen.FfnCtxIdeal
public import proofs.«01_k».proof.Proof.Gen.FfnCtxRefIdeal
public import proofs.«01_k».proof.Proof.FfnFirstClaim
public import proofs.«01_k».proof.Proof.FfnCtxClaim
public import proofs.«01_k».proof.Proof.Gen.DftFold
public import proofs.«01_k».proof.Proof.Gen.DftFoldIdeal
public import proofs.«01_k».proof.Proof.Gen.DftFoldRefIdeal
public import proofs.«01_k».proof.Proof.DftFoldValue
public import proofs.«01_k».proof.Proof.DftFoldClaim
public import proofs.«01_k».proof.Proof.Gen.DftSeq
public import proofs.«01_k».proof.Proof.Gen.DftSeqIdeal
public import proofs.«01_k».proof.Proof.Gen.DftSeqRefIdeal
public import proofs.«01_k».proof.Proof.DftSeqClaim
public import Idealize.ShloMosaic.Adequacy
public import Idealize.ShloMosaic.Init

@[expose] public section

noncomputable section

namespace Cert.Proof

open Idealize.ShloMosaic Idealize.ShloMosaic.TcCoe Idealize.SL.Sem

theorem frame_attn : Cert.quiescent_Kernel := fun m ρ _ => Cert.Kernel.Gen.frame m ρ

theorem frame_attnIdeal : Cert.quiescent_KernelIdeal := fun m ρ _ => Cert.KernelIdeal.Gen.frame m ρ

theorem frame_attnRef : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves_attn : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl⟩

theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Qkv.Gen.facts, Cert.QkvIdeal.Gen.facts,
    Cert.QkvRefIdeal.Gen.facts, Cert.KvCtx.Gen.facts, Cert.KvCtxIdeal.Gen.facts, Cert.KvCtxRefIdeal.Gen.facts,
    Cert.Mod.Gen.facts, Cert.ModIdeal.Gen.facts, Cert.ModRefIdeal.Gen.facts,
    Cert.FfnFirst.Gen.facts, Cert.FfnFirstIdeal.Gen.facts, Cert.FfnFirstRefIdeal.Gen.facts,
    Cert.FfnCtx.Gen.facts, Cert.FfnCtxIdeal.Gen.facts, Cert.FfnCtxRefIdeal.Gen.facts,
    Cert.DftFold.Gen.facts, Cert.DftFoldIdeal.Gen.facts, Cert.DftFoldRefIdeal.Gen.facts,
    Cert.DftSeq.Gen.facts, Cert.DftSeqIdeal.Gen.facts, Cert.DftSeqRefIdeal.Gen.facts, frame_attn, frame_attnIdeal, frame_attnRef,
    Cert.FfnValue.frame_ffn, Cert.FfnValue.frame_ffnIdeal, Cert.FfnValue.frame_ffnRef,
    Cert.QkvValue.frame_qkv, Cert.QkvValue.frame_qkvIdeal, Cert.QkvValue.frame_qkvRef,
    Cert.KvCtxValue.frame_kvCtx, Cert.KvCtxValue.frame_kvCtxIdeal, Cert.KvCtxValue.frame_kvCtxRef,
    Cert.ModValue.frame_mod, Cert.ModValue.frame_modIdeal, Cert.ModValue.frame_modRef,
    Cert.FfnFirstValue.frame_ffnFirst, Cert.FfnFirstValue.frame_ffnFirstIdeal, Cert.FfnFirstValue.frame_ffnFirstRef,
    Cert.FfnCtxValue.frame_ffnCtx, Cert.FfnCtxValue.frame_ffnCtxIdeal, Cert.FfnCtxValue.frame_ffnCtxRef,
    Cert.DftFoldValue.frame_dftFold, Cert.DftFoldValue.frame_dftFoldIdeal, Cert.DftFoldValue.frame_dftFoldRef,
    Cert.DftSeqValue.frame_dftSeq, Cert.DftSeqValue.frame_dftSeqIdeal, Cert.DftSeqValue.frame_dftSeqRef, preserves_attn, trivial,
    Cert.FfnValue.algebraic, trivial, Cert.QkvValue.algebraic, trivial, Cert.KvCtxValue.algebraic, trivial, Cert.ModValue.algebraic,
    trivial, Cert.FfnFirstValue.algebraic, trivial, Cert.FfnCtxValue.algebraic, trivial, Cert.DftFoldValue.algebraic, trivial,
    Cert.DftSeqValue.algebraic⟩

end Cert.Proof

end
